-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelRms (m : (ℓ : Loc Cert.KernelRms.nD Cert.KernelRms.τ Cert.KernelRms.sig) → Buf (Elt Bits) ℓ) : Prop :=
  True

def Pre_KernelRmsIdeal (m : (ℓ : Loc Cert.KernelRmsIdeal.nD Cert.KernelRmsIdeal.τ Cert.KernelRmsIdeal.sig) → Buf (Elt Ideal) ℓ) : Prop :=
  True

def Pre_ReferenceRmsIdeal (m : (ℓ : Loc Cert.ReferenceRmsIdeal.nD Cert.ReferenceRmsIdeal.τ Cert.ReferenceRmsIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelAdam (m : (ℓ : Loc Cert.KernelAdam.nD Cert.KernelAdam.τ Cert.KernelAdam.sig) → Buf (Elt Bits) ℓ) : Prop :=
  True

def Pre_KernelAdamIdeal (m : (ℓ : Loc Cert.KernelAdamIdeal.nD Cert.KernelAdamIdeal.τ Cert.KernelAdamIdeal.sig) → Buf (Elt Ideal) ℓ) : Prop :=
  True

def Pre_ReferenceAdamIdeal (m : (ℓ : Loc Cert.ReferenceAdamIdeal.nD Cert.ReferenceAdamIdeal.τ Cert.ReferenceAdamIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_KernelRms [hKernelRms : Cert.KernelRms.Facts] : Prop :=
  ∀ (m : (ℓ : Loc Cert.KernelRms.nD Cert.KernelRms.τ Cert.KernelRms.sig) → Buf (Elt Bits) ℓ) (g : Dev Cert.KernelRms.nD → PrngReg), Pre_KernelRms m →
    θ_run (Cert.KernelRms.defs (F := Bits)) (onTc (τ := Cert.KernelRms.τ) (Cert.KernelRms.main (F := Bits))) ⟨m, fun _ => 0, g⟩ (fun r => (∀ c : Dev Cert.KernelRms.nD,
      r.2.mem ((c.tc : Thread Cert.KernelRms.nD Cert.KernelRms.τ).loc Cert.KernelRms.main_arg0) = m ((c.tc : Thread Cert.KernelRms.nD Cert.KernelRms.τ).loc Cert.KernelRms.main_arg0)
      ∧ r.2.mem ((c.tc : Thread Cert.KernelRms.nD Cert.KernelRms.τ).loc Cert.KernelRms.main_arg1) = m ((c.tc : Thread Cert.KernelRms.nD Cert.KernelRms.τ).loc Cert.KernelRms.main_arg1)
      ∧ r.2.mem ((c.tc : Thread Cert.KernelRms.nD Cert.KernelRms.τ).loc Cert.KernelRms.main_arg2) = m ((c.tc : Thread Cert.KernelRms.nD Cert.KernelRms.τ).loc Cert.KernelRms.main_arg2)
      ∧ r.2.mem ((c.tc : Thread Cert.KernelRms.nD Cert.KernelRms.τ).loc Cert.KernelRms.main_arg3) = m ((c.tc : Thread Cert.KernelRms.nD Cert.KernelRms.τ).loc Cert.KernelRms.main_arg3))
      ∧ r.2.sem = fun _ => 0)

def quiescent_KernelRmsIdeal [hKernelRmsIdeal : Cert.KernelRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg), Pre_KernelRmsIdeal m →
    θ_run (Cert.KernelRmsIdeal.defs (F := Ideal)) (onTc (τ := Cert.KernelRmsIdeal.τ) (Cert.KernelRmsIdeal.main (F := Ideal))) ⟨m, fun _ => 0, g⟩ (fun r => (∀ c : Dev Cert.KernelRmsIdeal.nD,
      r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
      ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1)
      ∧ r.2.mem ((c.tc : Thread Cert.KernelRmsIdeal.nD Cert.KernelRmsIdeal.τ).loc Cert.KernelRmsIdeal.main_arg2) = m ((c.tc : Thread Cert.KernelRmsIdeal.nD Cert.KernelRmsIdeal.τ).loc Cert.KernelRmsIdeal.main_arg2)
      ∧ r.2.mem ((c.tc : Thread Cert.KernelRmsIdeal.nD Cert.KernelRmsIdeal.τ).loc Cert.KernelRmsIdeal.main_arg3) = m ((c.tc : Thread Cert.KernelRmsIdeal.nD Cert.KernelRmsIdeal.τ).loc Cert.KernelRmsIdeal.main_arg3))
      ∧ r.2.sem = fun _ => 0)

def quiescent_ReferenceRmsIdeal [hReferenceRmsIdeal : Cert.ReferenceRmsIdeal.Facts] : Prop :=
  ∀ (m : (ℓ : Loc Cert.ReferenceRmsIdeal.nD Cert.ReferenceRmsIdeal.τ Cert.ReferenceRmsIdeal.sig) → Buf (Elt Ideal) ℓ) (g : Dev Cert.ReferenceRmsIdeal.nD → PrngReg), Pre_ReferenceRmsIdeal m →
    θ_run (Cert.ReferenceRmsIdeal.defs (F := Ideal)) (onTc (τ := Cert.ReferenceRmsIdeal.τ) (Cert.ReferenceRmsIdeal.main (F := Ideal))) ⟨m, fun _ => 0, g⟩ (fun r => (∀ c : Dev Cert.ReferenceRmsIdeal.nD,
      r.2.mem ((c.tc : Thread Cert.ReferenceRmsIdeal.nD Cert.ReferenceRmsIdeal.τ).loc Cert.ReferenceRmsIdeal.main_arg0) = m ((c.tc : Thread Cert.ReferenceRmsIdeal.nD Cert.ReferenceRmsIdeal.τ).loc Cert.ReferenceRmsIdeal.main_arg0)
      ∧ r.2.mem ((c.tc : Thread Cert.ReferenceRmsIdeal.nD Cert.ReferenceRmsIdeal.τ).loc Cert.ReferenceRmsIdeal.main_arg1) = m ((c.tc : Thread Cert.ReferenceRmsIdeal.nD Cert.ReferenceRmsIdeal.τ).loc Cert.ReferenceRmsIdeal.main_arg1)
      ∧ r.2.mem ((c.tc : Thread Cert.ReferenceRmsIdeal.nD Cert.ReferenceRmsIdeal.τ).loc Cert.ReferenceRmsIdeal.main_arg2) = m ((c.tc : Thread Cert.ReferenceRmsIdeal.nD Cert.ReferenceRmsIdeal.τ).loc Cert.ReferenceRmsIdeal.main_arg2)
      ∧ r.2.mem ((c.tc : Thread Cert.ReferenceRmsIdeal.nD Cert.ReferenceRmsIdeal.τ).loc Cert.ReferenceRmsIdeal.main_arg3) = m ((c.tc : Thread Cert.ReferenceRmsIdeal.nD Cert.ReferenceRmsIdeal.τ).loc Cert.ReferenceRmsIdeal.main_arg3))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3))
      ∧ r.2.sem = fun _ => 0)

def quiescent_KernelAdam [hKernelAdam : Cert.KernelAdam.Facts] : Prop :=
  ∀ (m : (ℓ : Loc Cert.KernelAdam.nD Cert.KernelAdam.τ Cert.KernelAdam.sig) → Buf (Elt Bits) ℓ) (g : Dev Cert.KernelAdam.nD → PrngReg), Pre_KernelAdam m →
    θ_run (Cert.KernelAdam.defs (F := Bits)) (onTc (τ := Cert.KernelAdam.τ) (Cert.KernelAdam.main (F := Bits))) ⟨m, fun _ => 0, g⟩ (fun r => (∀ c : Dev Cert.KernelAdam.nD,
      r.2.mem ((c.tc : Thread Cert.KernelAdam.nD Cert.KernelAdam.τ).loc Cert.KernelAdam.main_arg0) = m ((c.tc : Thread Cert.KernelAdam.nD Cert.KernelAdam.τ).loc Cert.KernelAdam.main_arg0)
      ∧ r.2.mem ((c.tc : Thread Cert.KernelAdam.nD Cert.KernelAdam.τ).loc Cert.KernelAdam.main_arg1) = m ((c.tc : Thread Cert.KernelAdam.nD Cert.KernelAdam.τ).loc Cert.KernelAdam.main_arg1)
      ∧ r.2.mem ((c.tc : Thread Cert.KernelAdam.nD Cert.KernelAdam.τ).loc Cert.KernelAdam.main_arg2) = m ((c.tc : Thread Cert.KernelAdam.nD Cert.KernelAdam.τ).loc Cert.KernelAdam.main_arg2)
      ∧ r.2.mem ((c.tc : Thread Cert.KernelAdam.nD Cert.KernelAdam.τ).loc Cert.KernelAdam.main_arg3) = m ((c.tc : Thread Cert.KernelAdam.nD Cert.KernelAdam.τ).loc Cert.KernelAdam.main_arg3))
      ∧ r.2.sem = fun _ => 0)

def quiescent_KernelAdamIdeal [hKernelAdamIdeal : Cert.KernelAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg), Pre_KernelAdamIdeal m →
    θ_run (Cert.KernelAdamIdeal.defs (F := Ideal)) (onTc (τ := Cert.KernelAdamIdeal.τ) (Cert.KernelAdamIdeal.main (F := Ideal))) ⟨m, fun _ => 0, g⟩ (fun r => (∀ c : Dev Cert.KernelAdamIdeal.nD,
      r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
      ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
      ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
      ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ r.2.sem = fun _ => 0)

def quiescent_ReferenceAdamIdeal [hReferenceAdamIdeal : Cert.ReferenceAdamIdeal.Facts] : Prop :=
  ∀ (m : (ℓ : Loc Cert.ReferenceAdamIdeal.nD Cert.ReferenceAdamIdeal.τ Cert.ReferenceAdamIdeal.sig) → Buf (Elt Ideal) ℓ) (g : Dev Cert.ReferenceAdamIdeal.nD → PrngReg), Pre_ReferenceAdamIdeal m →
    θ_run (Cert.ReferenceAdamIdeal.defs (F := Ideal)) (onTc (τ := Cert.ReferenceAdamIdeal.τ) (Cert.ReferenceAdamIdeal.main (F := Ideal))) ⟨m, fun _ => 0, g⟩ (fun r => (∀ c : Dev Cert.ReferenceAdamIdeal.nD,
      r.2.mem ((c.tc : Thread Cert.ReferenceAdamIdeal.nD Cert.ReferenceAdamIdeal.τ).loc Cert.ReferenceAdamIdeal.main_arg0) = m ((c.tc : Thread Cert.ReferenceAdamIdeal.nD Cert.ReferenceAdamIdeal.τ).loc Cert.ReferenceAdamIdeal.main_arg0)
      ∧ r.2.mem ((c.tc : Thread Cert.ReferenceAdamIdeal.nD Cert.ReferenceAdamIdeal.τ).loc Cert.ReferenceAdamIdeal.main_arg1) = m ((c.tc : Thread Cert.ReferenceAdamIdeal.nD Cert.ReferenceAdamIdeal.τ).loc Cert.ReferenceAdamIdeal.main_arg1)
      ∧ r.2.mem ((c.tc : Thread Cert.ReferenceAdamIdeal.nD Cert.ReferenceAdamIdeal.τ).loc Cert.ReferenceAdamIdeal.main_arg2) = m ((c.tc : Thread Cert.ReferenceAdamIdeal.nD Cert.ReferenceAdamIdeal.τ).loc Cert.ReferenceAdamIdeal.main_arg2)
      ∧ r.2.mem ((c.tc : Thread Cert.ReferenceAdamIdeal.nD Cert.ReferenceAdamIdeal.τ).loc Cert.ReferenceAdamIdeal.main_arg3) = m ((c.tc : Thread Cert.ReferenceAdamIdeal.nD Cert.ReferenceAdamIdeal.τ).loc Cert.ReferenceAdamIdeal.main_arg3))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v8_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v8_6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_v126) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)) →
    ∃ (v0 : (c : Dev Cert.KernelUpIdeal.nD) → Buf (Elt Ideal) ((c.tc : Thread Cert.KernelUpIdeal.nD Cert.KernelUpIdeal.τ).loc Cert.KernelUpIdeal.main_v4_0)) (v1 : (c : Dev Cert.KernelUpIdeal.nD) → Buf (Elt Ideal) ((c.tc : Thread Cert.KernelUpIdeal.nD Cert.KernelUpIdeal.τ).loc Cert.KernelUpIdeal.main_v4_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v4_0) = v0 c
          ∧ r.2.mem ((c.tc : Thread Cert.KernelUpIdeal.nD Cert.KernelUpIdeal.τ).loc Cert.KernelUpIdeal.main_v4_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v6) = v0 c
          ∧ r.2.mem ((c.tc : Thread Cert.ReferenceUpIdeal.nD Cert.ReferenceUpIdeal.τ).loc Cert.ReferenceUpIdeal.main_v24) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)) →
    ∃ (v0 : (c : Dev Cert.KernelFwdIdeal.nD) → Buf (Elt Ideal) ((c.tc : Thread Cert.KernelFwdIdeal.nD Cert.KernelFwdIdeal.τ).loc Cert.KernelFwdIdeal.main_v7)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v7) = v0 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v42) = v0 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)) →
    ∃ (v0 : (c : Dev Cert.KernelInIdeal.nD) → Buf (Elt Ideal) ((c.tc : Thread Cert.KernelInIdeal.nD Cert.KernelInIdeal.τ).loc Cert.KernelInIdeal.main_v4_0)) (v1 : (c : Dev Cert.KernelInIdeal.nD) → Buf (Elt Ideal) ((c.tc : Thread Cert.KernelInIdeal.nD Cert.KernelInIdeal.τ).loc Cert.KernelInIdeal.main_v4_1)) (v2 : (c : Dev Cert.KernelInIdeal.nD) → Buf (Elt Ideal) ((c.tc : Thread Cert.KernelInIdeal.nD Cert.KernelInIdeal.τ).loc Cert.KernelInIdeal.main_v5)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v4_0) = v0 c
          ∧ r.2.mem ((c.tc : Thread Cert.KernelInIdeal.nD Cert.KernelInIdeal.τ).loc Cert.KernelInIdeal.main_v4_1) = v1 c
          ∧ r.2.mem ((c.tc : Thread Cert.KernelInIdeal.nD Cert.KernelInIdeal.τ).loc Cert.KernelInIdeal.main_v5) = v2 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v28) = v0 c
          ∧ r.2.mem ((c.tc : Thread Cert.ReferenceInIdeal.nD Cert.ReferenceInIdeal.τ).loc Cert.ReferenceInIdeal.main_v27) = v1 c
          ∧ r.2.mem ((c.tc : Thread Cert.ReferenceInIdeal.nD Cert.ReferenceInIdeal.τ).loc Cert.ReferenceInIdeal.main_v15) = v2 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5))

def preserves_KernelRms_KernelRmsIdeal : Prop :=
  True

def algebraic_KernelRmsIdeal_ReferenceRmsIdeal [hKernelRmsIdeal : Cert.KernelRmsIdeal.Facts] [hReferenceRmsIdeal : Cert.ReferenceRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg)
    (m' : (ℓ : Loc Cert.ReferenceRmsIdeal.nD Cert.ReferenceRmsIdeal.τ Cert.ReferenceRmsIdeal.sig) → Buf (Elt Ideal) ℓ) (g' : Dev Cert.ReferenceRmsIdeal.nD → PrngReg), Pre_KernelRmsIdeal m →
    (∀ c : Dev Cert.KernelRmsIdeal.nD,
      m' ((c.tc : Thread Cert.ReferenceRmsIdeal.nD Cert.ReferenceRmsIdeal.τ).loc Cert.ReferenceRmsIdeal.main_arg0) = m ((c.tc : Thread Cert.KernelRmsIdeal.nD Cert.KernelRmsIdeal.τ).loc Cert.KernelRmsIdeal.main_arg0)
      ∧ m' ((c.tc : Thread Cert.ReferenceRmsIdeal.nD Cert.ReferenceRmsIdeal.τ).loc Cert.ReferenceRmsIdeal.main_arg1) = m ((c.tc : Thread Cert.KernelRmsIdeal.nD Cert.KernelRmsIdeal.τ).loc Cert.KernelRmsIdeal.main_arg1)
      ∧ m' ((c.tc : Thread Cert.ReferenceRmsIdeal.nD Cert.ReferenceRmsIdeal.τ).loc Cert.ReferenceRmsIdeal.main_arg2) = m ((c.tc : Thread Cert.KernelRmsIdeal.nD Cert.KernelRmsIdeal.τ).loc Cert.KernelRmsIdeal.main_arg2)
      ∧ m' ((c.tc : Thread Cert.ReferenceRmsIdeal.nD Cert.ReferenceRmsIdeal.τ).loc Cert.ReferenceRmsIdeal.main_arg3) = m ((c.tc : Thread Cert.KernelRmsIdeal.nD Cert.KernelRmsIdeal.τ).loc Cert.KernelRmsIdeal.main_arg3)) →
    ∃ (v0 : (c : Dev Cert.KernelRmsIdeal.nD) → Buf (Elt Ideal) ((c.tc : Thread Cert.KernelRmsIdeal.nD Cert.KernelRmsIdeal.τ).loc Cert.KernelRmsIdeal.main_v0_0)) (v1 : (c : Dev Cert.KernelRmsIdeal.nD) → Buf (Elt Ideal) ((c.tc : Thread Cert.KernelRmsIdeal.nD Cert.KernelRmsIdeal.τ).loc Cert.KernelRmsIdeal.main_v0_1)),
      θ_run (Cert.KernelRmsIdeal.defs (F := Ideal)) (onTc (τ := Cert.KernelRmsIdeal.τ) (Cert.KernelRmsIdeal.main (F := Ideal))) ⟨m, fun _ => 0, g⟩ (fun r => ∀ c : Dev Cert.KernelRmsIdeal.nD,
          r.2.mem ((c.tc : Thread Cert.KernelRmsIdeal.nD Cert.KernelRmsIdeal.τ).loc Cert.KernelRmsIdeal.main_v0_0) = v0 c
          ∧ r.2.mem ((c.tc : Thread Cert.KernelRmsIdeal.nD Cert.KernelRmsIdeal.τ).loc Cert.KernelRmsIdeal.main_v0_1) = v1 c
          ∧ r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
          ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1)
          ∧ r.2.mem ((c.tc : Thread Cert.KernelRmsIdeal.nD Cert.KernelRmsIdeal.τ).loc Cert.KernelRmsIdeal.main_arg2) = m ((c.tc : Thread Cert.KernelRmsIdeal.nD Cert.KernelRmsIdeal.τ).loc Cert.KernelRmsIdeal.main_arg2)
          ∧ r.2.mem ((c.tc : Thread Cert.KernelRmsIdeal.nD Cert.KernelRmsIdeal.τ).loc Cert.KernelRmsIdeal.main_arg3) = m ((c.tc : Thread Cert.KernelRmsIdeal.nD Cert.KernelRmsIdeal.τ).loc Cert.KernelRmsIdeal.main_arg3))
      ∧ θ_run (Cert.ReferenceRmsIdeal.defs (F := Ideal)) (onTc (τ := Cert.ReferenceRmsIdeal.τ) (Cert.ReferenceRmsIdeal.main (F := Ideal))) ⟨m', fun _ => 0, g'⟩ (fun r => ∀ c : Dev Cert.ReferenceRmsIdeal.nD,
          r.2.mem ((c.tc : Thread Cert.ReferenceRmsIdeal.nD Cert.ReferenceRmsIdeal.τ).loc Cert.ReferenceRmsIdeal.main_v34) = v0 c
          ∧ r.2.mem ((c.tc : Thread Cert.ReferenceRmsIdeal.nD Cert.ReferenceRmsIdeal.τ).loc Cert.ReferenceRmsIdeal.main_v17) = v1 c
          ∧ r.2.mem ((c.tc : Thread Cert.ReferenceRmsIdeal.nD Cert.ReferenceRmsIdeal.τ).loc Cert.ReferenceRmsIdeal.main_arg0) = m' ((c.tc : Thread Cert.ReferenceRmsIdeal.nD Cert.ReferenceRmsIdeal.τ).loc Cert.ReferenceRmsIdeal.main_arg0)
          ∧ r.2.mem ((c.tc : Thread Cert.ReferenceRmsIdeal.nD Cert.ReferenceRmsIdeal.τ).loc Cert.ReferenceRmsIdeal.main_arg1) = m' ((c.tc : Thread Cert.ReferenceRmsIdeal.nD Cert.ReferenceRmsIdeal.τ).loc Cert.ReferenceRmsIdeal.main_arg1)
          ∧ r.2.mem ((c.tc : Thread Cert.ReferenceRmsIdeal.nD Cert.ReferenceRmsIdeal.τ).loc Cert.ReferenceRmsIdeal.main_arg2) = m' ((c.tc : Thread Cert.ReferenceRmsIdeal.nD Cert.ReferenceRmsIdeal.τ).loc Cert.ReferenceRmsIdeal.main_arg2)
          ∧ r.2.mem ((c.tc : Thread Cert.ReferenceRmsIdeal.nD Cert.ReferenceRmsIdeal.τ).loc Cert.ReferenceRmsIdeal.main_arg3) = m' ((c.tc : Thread Cert.ReferenceRmsIdeal.nD Cert.ReferenceRmsIdeal.τ).loc Cert.ReferenceRmsIdeal.main_arg3))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)) (v3 : (c : Dev Cert.KernelLossIdeal.nD) → Buf (Elt Ideal) ((c.tc : Thread Cert.KernelLossIdeal.nD Cert.KernelLossIdeal.τ).loc Cert.KernelLossIdeal.main_v0_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_v0_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v30) = v0 c
          ∧ r.2.mem ((c.tc : Thread Cert.ReferenceLossIdeal.nD Cert.ReferenceLossIdeal.τ).loc Cert.ReferenceLossIdeal.main_v50) = v1 c
          ∧ r.2.mem ((c.tc : Thread Cert.ReferenceLossIdeal.nD Cert.ReferenceLossIdeal.τ).loc Cert.ReferenceLossIdeal.main_v33) = v2 c
          ∧ r.2.mem ((c.tc : Thread Cert.ReferenceLossIdeal.nD Cert.ReferenceLossIdeal.τ).loc Cert.ReferenceLossIdeal.main_v51) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3))

def preserves_KernelAdam_KernelAdamIdeal : Prop :=
  True

def algebraic_KernelAdamIdeal_ReferenceAdamIdeal [hKernelAdamIdeal : Cert.KernelAdamIdeal.Facts] [hReferenceAdamIdeal : Cert.ReferenceAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg)
    (m' : (ℓ : Loc Cert.ReferenceAdamIdeal.nD Cert.ReferenceAdamIdeal.τ Cert.ReferenceAdamIdeal.sig) → Buf (Elt Ideal) ℓ) (g' : Dev Cert.ReferenceAdamIdeal.nD → PrngReg), Pre_KernelAdamIdeal m →
    (∀ c : Dev Cert.KernelAdamIdeal.nD,
      m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0)
      ∧ m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1)
      ∧ m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2)
      ∧ m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)) →
    ∃ (v0 : (c : Dev Cert.KernelAdamIdeal.nD) → Buf (Elt Ideal) ((c.tc : Thread Cert.KernelAdamIdeal.nD Cert.KernelAdamIdeal.τ).loc Cert.KernelAdamIdeal.main_v0_0)) (v1 : (c : Dev Cert.KernelAdamIdeal.nD) → Buf (Elt Ideal) ((c.tc : Thread Cert.KernelAdamIdeal.nD Cert.KernelAdamIdeal.τ).loc Cert.KernelAdamIdeal.main_v0_1)) (v2 : (c : Dev Cert.KernelAdamIdeal.nD) → Buf (Elt Ideal) ((c.tc : Thread Cert.KernelAdamIdeal.nD Cert.KernelAdamIdeal.τ).loc Cert.KernelAdamIdeal.main_v0_2)) (v3 : (c : Dev Cert.KernelAdamIdeal.nD) → Buf (Elt Ideal) ((c.tc : Thread Cert.KernelAdamIdeal.nD Cert.KernelAdamIdeal.τ).loc Cert.KernelAdamIdeal.main_v0_3)),
      θ_run (Cert.KernelAdamIdeal.defs (F := Ideal)) (onTc (τ := Cert.KernelAdamIdeal.τ) (Cert.KernelAdamIdeal.main (F := Ideal))) ⟨m, fun _ => 0, g⟩ (fun r => ∀ c : Dev Cert.KernelAdamIdeal.nD,
          r.2.mem ((c.tc : Thread Cert.KernelAdamIdeal.nD Cert.KernelAdamIdeal.τ).loc Cert.KernelAdamIdeal.main_v0_0) = v0 c
          ∧ r.2.mem ((c.tc : Thread Cert.KernelAdamIdeal.nD Cert.KernelAdamIdeal.τ).loc Cert.KernelAdamIdeal.main_v0_1) = v1 c
          ∧ r.2.mem ((c.tc : Thread Cert.KernelAdamIdeal.nD Cert.KernelAdamIdeal.τ).loc Cert.KernelAdamIdeal.main_v0_2) = v2 c
          ∧ r.2.mem ((c.tc : Thread Cert.KernelAdamIdeal.nD Cert.KernelAdamIdeal.τ).loc Cert.KernelAdamIdeal.main_v0_3) = v3 c
          ∧ r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
          ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
          ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
          ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ θ_run (Cert.ReferenceAdamIdeal.defs (F := Ideal)) (onTc (τ := Cert.ReferenceAdamIdeal.τ) (Cert.ReferenceAdamIdeal.main (F := Ideal))) ⟨m', fun _ => 0, g'⟩ (fun r => ∀ c : Dev Cert.ReferenceAdamIdeal.nD,
          r.2.mem ((c.tc : Thread Cert.ReferenceAdamIdeal.nD Cert.ReferenceAdamIdeal.τ).loc Cert.ReferenceAdamIdeal.main_v1) = v0 c
          ∧ r.2.mem ((c.tc : Thread Cert.ReferenceAdamIdeal.nD Cert.ReferenceAdamIdeal.τ).loc Cert.ReferenceAdamIdeal.main_v25) = v1 c
          ∧ r.2.mem ((c.tc : Thread Cert.ReferenceAdamIdeal.nD Cert.ReferenceAdamIdeal.τ).loc Cert.ReferenceAdamIdeal.main_v6) = v2 c
          ∧ r.2.mem ((c.tc : Thread Cert.ReferenceAdamIdeal.nD Cert.ReferenceAdamIdeal.τ).loc Cert.ReferenceAdamIdeal.main_v12) = v3 c
          ∧ r.2.mem ((c.tc : Thread Cert.ReferenceAdamIdeal.nD Cert.ReferenceAdamIdeal.τ).loc Cert.ReferenceAdamIdeal.main_arg0) = m' ((c.tc : Thread Cert.ReferenceAdamIdeal.nD Cert.ReferenceAdamIdeal.τ).loc Cert.ReferenceAdamIdeal.main_arg0)
          ∧ r.2.mem ((c.tc : Thread Cert.ReferenceAdamIdeal.nD Cert.ReferenceAdamIdeal.τ).loc Cert.ReferenceAdamIdeal.main_arg1) = m' ((c.tc : Thread Cert.ReferenceAdamIdeal.nD Cert.ReferenceAdamIdeal.τ).loc Cert.ReferenceAdamIdeal.main_arg1)
          ∧ r.2.mem ((c.tc : Thread Cert.ReferenceAdamIdeal.nD Cert.ReferenceAdamIdeal.τ).loc Cert.ReferenceAdamIdeal.main_arg2) = m' ((c.tc : Thread Cert.ReferenceAdamIdeal.nD Cert.ReferenceAdamIdeal.τ).loc Cert.ReferenceAdamIdeal.main_arg2)
          ∧ r.2.mem ((c.tc : Thread Cert.ReferenceAdamIdeal.nD Cert.ReferenceAdamIdeal.τ).loc Cert.ReferenceAdamIdeal.main_arg3) = m' ((c.tc : Thread Cert.ReferenceAdamIdeal.nD Cert.ReferenceAdamIdeal.τ).loc Cert.ReferenceAdamIdeal.main_arg3))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)) (v3 : (c : Dev Cert.KernelAdamOutIdeal.nD) → Buf (Elt Ideal) ((c.tc : Thread Cert.KernelAdamOutIdeal.nD Cert.KernelAdamOutIdeal.τ).loc Cert.KernelAdamOutIdeal.main_v0_3)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_v0_3) = v3 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v1) = v0 c
          ∧ r.2.mem ((c.tc : Thread Cert.ReferenceAdamOutIdeal.nD Cert.ReferenceAdamOutIdeal.τ).loc Cert.ReferenceAdamOutIdeal.main_v25) = v1 c
          ∧ r.2.mem ((c.tc : Thread Cert.ReferenceAdamOutIdeal.nD Cert.ReferenceAdamOutIdeal.τ).loc Cert.ReferenceAdamOutIdeal.main_v6) = v2 c
          ∧ r.2.mem ((c.tc : Thread Cert.ReferenceAdamOutIdeal.nD Cert.ReferenceAdamOutIdeal.τ).loc Cert.ReferenceAdamOutIdeal.main_v12) = v3 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelFwd : Cert.KernelFwd.Facts) (hKernelFwdIdeal : Cert.KernelFwdIdeal.Facts) (hReferenceFwdIdeal : Cert.ReferenceFwdIdeal.Facts) (hKernelIn : Cert.KernelIn.Facts) (hKernelInIdeal : Cert.KernelInIdeal.Facts) (hReferenceInIdeal : Cert.ReferenceInIdeal.Facts) (hKernelRms : Cert.KernelRms.Facts) (hKernelRmsIdeal : Cert.KernelRmsIdeal.Facts) (hReferenceRmsIdeal : Cert.ReferenceRmsIdeal.Facts) (hKernelLoss : Cert.KernelLoss.Facts) (hKernelLossIdeal : Cert.KernelLossIdeal.Facts) (hReferenceLossIdeal : Cert.ReferenceLossIdeal.Facts) (hKernelAdam : Cert.KernelAdam.Facts) (hKernelAdamIdeal : Cert.KernelAdamIdeal.Facts) (hReferenceAdamIdeal : Cert.ReferenceAdamIdeal.Facts) (hKernelAdamOut : Cert.KernelAdamOut.Facts) (hKernelAdamOutIdeal : Cert.KernelAdamOutIdeal.Facts) (hReferenceAdamOutIdeal : Cert.ReferenceAdamOutIdeal.Facts),
    quiescent_Kernel (hKernel := hKernel)
    ∧ quiescent_KernelIdeal (hKernelIdeal := hKernelIdeal)
    ∧ quiescent_ReferenceIdeal (hReferenceIdeal := hReferenceIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelRms (hKernelRms := hKernelRms)
    ∧ quiescent_KernelRmsIdeal (hKernelRmsIdeal := hKernelRmsIdeal)
    ∧ quiescent_ReferenceRmsIdeal (hReferenceRmsIdeal := hReferenceRmsIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelAdam (hKernelAdam := hKernelAdam)
    ∧ quiescent_KernelAdamIdeal (hKernelAdamIdeal := hKernelAdamIdeal)
    ∧ quiescent_ReferenceAdamIdeal (hReferenceAdamIdeal := hReferenceAdamIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ preserves_Kernel_KernelIdeal
    ∧ algebraic_KernelIdeal_ReferenceIdeal (hKernelIdeal := hKernelIdeal) (hReferenceIdeal := hReferenceIdeal)
    ∧ preserves_KernelUp_KernelUpIdeal
    ∧ algebraic_KernelUpIdeal_ReferenceUpIdeal (hKernelUpIdeal := hKernelUpIdeal) (hReferenceUpIdeal := hReferenceUpIdeal)
    ∧ preserves_KernelFwd_KernelFwdIdeal
    ∧ algebraic_KernelFwdIdeal_ReferenceFwdIdeal (hKernelFwdIdeal := hKernelFwdIdeal) (hReferenceFwdIdeal := hReferenceFwdIdeal)
    ∧ preserves_KernelIn_KernelInIdeal
    ∧ algebraic_KernelInIdeal_ReferenceInIdeal (hKernelInIdeal := hKernelInIdeal) (hReferenceInIdeal := hReferenceInIdeal)
    ∧ preserves_KernelRms_KernelRmsIdeal
    ∧ algebraic_KernelRmsIdeal_ReferenceRmsIdeal (hKernelRmsIdeal := hKernelRmsIdeal) (hReferenceRmsIdeal := hReferenceRmsIdeal)
    ∧ preserves_KernelLoss_KernelLossIdeal
    ∧ algebraic_KernelLossIdeal_ReferenceLossIdeal (hKernelLossIdeal := hKernelLossIdeal) (hReferenceLossIdeal := hReferenceLossIdeal)
    ∧ preserves_KernelAdam_KernelAdamIdeal
    ∧ algebraic_KernelAdamIdeal_ReferenceAdamIdeal (hKernelAdamIdeal := hKernelAdamIdeal) (hReferenceAdamIdeal := hReferenceAdamIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
-- ==== Kernel.lean ====
abbrev S2048x1024 : Shape := ⟨2, ![2048, 1024]⟩
abbrev S1024x8192 : Shape := ⟨2, ![1024, 8192]⟩
abbrev S3x8192 : Shape := ⟨2, ![3, 8192]⟩
abbrev S1x8192 : Shape := ⟨2, ![1, 8192]⟩
abbrev S4096x1024 : Shape := ⟨2, ![4096, 1024]⟩
abbrev S1024x8x1024 : Shape := ⟨3, ![1024, 8, 1024]⟩
abbrev S8x1024x1024 : Shape := ⟨3, ![8, 1024, 1024]⟩
abbrev S3x8x1024 : Shape := ⟨3, ![3, 8, 1024]⟩
abbrev S8x3x1024 : Shape := ⟨3, ![8, 3, 1024]⟩
abbrev S2048x4096 : Shape := ⟨2, ![2048, 4096]⟩
abbrev S1x1024x256 : Shape := ⟨3, ![1, 1024, 256]⟩
abbrev S1x3x256 : Shape := ⟨3, ![1, 3, 256]⟩
abbrev S1x256 : Shape := ⟨2, ![1, 256]⟩
abbrev S256x1024 : Shape := ⟨2, ![256, 1024]⟩
abbrev S2048x256 : Shape := ⟨2, ![2048, 256]⟩
abbrev S2064x256 : Shape := ⟨2, ![2064, 256]⟩
abbrev S_ : Shape := ⟨0, ![]⟩
abbrev S8x256 : Shape := ⟨2, ![8, 256]⟩
abbrev S1024x256 : Shape := ⟨2, ![1024, 256]⟩
abbrev S1x1x256 : Shape := ⟨3, ![1, 1, 256]⟩
abbrev S272x256 : Shape := ⟨2, ![272, 256]⟩
abbrev S256x256 : Shape := ⟨2, ![256, 256]⟩
abbrev S256 : Shape := ⟨1, ![256]⟩
abbrev S4x3x1024 : Shape := ⟨3, ![4, 3, 1024]⟩
abbrev S1x4096 : Shape := ⟨2, ![1, 4096]⟩

abbrev nBuf : Space → Nat
  | .hbm => 27
  | .vmem => 34
  | .smem => 0
  | _ => 0

abbrev bufTy : (tb : Table) → Fin (tcTables nBuf tb) → BufTy
  | .hbm, ⟨0, _⟩ => ⟨S2048x1024, .f32⟩
  | .hbm, ⟨1, _⟩ => ⟨S1024x8192, .f32⟩
  | .hbm, ⟨2, _⟩ => ⟨S3x8192, .f32⟩
  | .hbm, ⟨3, _⟩ => ⟨S1x8192, .f32⟩
  | .hbm, ⟨4, _⟩ => ⟨S4096x1024, .f32⟩
  | .hbm, ⟨5, _⟩ => ⟨S2048x1024, .f32⟩
  | .hbm, ⟨6, _⟩ => ⟨S1024x8x1024, .f32⟩
  | .hbm, ⟨7, _⟩ => ⟨S8x1024x1024, .f32⟩
  | .hbm, ⟨8, _⟩ => ⟨S8x1024x1024, .bf16⟩
  | .hbm, ⟨9, _⟩ => ⟨S3x8x1024, .f32⟩
  | .hbm, ⟨10, _⟩ => ⟨S8x3x1024, .f32⟩
  | .hbm, ⟨11, _⟩ => ⟨S2048x1024, .bf16⟩
  | .hbm, ⟨12, _⟩ => ⟨S4096x1024, .bf16⟩
  | .hbm, ⟨13, _⟩ => ⟨S2048x1024, .bf16⟩
  | .hbm, ⟨14, _⟩ => ⟨S2048x4096, .bf16⟩
  | .hbm, ⟨15, _⟩ => ⟨S2048x4096, .bf16⟩
  | .hbm, ⟨16, _⟩ => ⟨S8x3x1024, .f32⟩
  | .hbm, ⟨17, _⟩ => ⟨S8x3x1024, .f32⟩
  | .hbm, ⟨18, _⟩ => ⟨S1x8192, .f32⟩
  | .hbm, ⟨19, _⟩ => ⟨S1x8192, .f32⟩
  | .hbm, ⟨20, _⟩ => ⟨S4096x1024, .bf16⟩
  | .hbm, ⟨21, _⟩ => ⟨S4x3x1024, .f32⟩
  | .hbm, ⟨22, _⟩ => ⟨S4x3x1024, .f32⟩
  | .hbm, ⟨23, _⟩ => ⟨S8x3x1024, .f32⟩
  | .hbm, ⟨24, _⟩ => ⟨S1x4096, .f32⟩
  | .hbm, ⟨25, _⟩ => ⟨S1x4096, .f32⟩
  | .hbm, ⟨26, _⟩ => ⟨S1x8192, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x3x256, .f32⟩
  | .local _ .vmem, ⟨5, _⟩ => ⟨S1x3x256, .f32⟩
  | .local _ .vmem, ⟨6, _⟩ => ⟨S1x3x256, .f32⟩
  | .local _ .vmem, ⟨7, _⟩ => ⟨S1x3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x1024, .bf16⟩
  | .local _ .vmem, ⟨13, _⟩ => ⟨S256x1024, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S1x3x256, .f32⟩
  | .local _ .vmem, ⟨19, _⟩ => ⟨S1x3x256, .f32⟩
  | .local _ .vmem, ⟨20, _⟩ => ⟨S1x3x256, .f32⟩
  | .local _ .vmem, ⟨21, _⟩ => ⟨S1x3x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S256x1024, .bf16⟩
  | .local _ .vmem, ⟨27, _⟩ => ⟨S256x1024, .bf16⟩
  | .local _ .vmem, ⟨28, _⟩ => ⟨S2048x1024, .bf16⟩
  | .local _ .vmem, ⟨29, _⟩ => ⟨S2048x1024, .bf16⟩
  | .local _ .vmem, ⟨30, _⟩ => ⟨S2064x256, .f32⟩
  | .local _ .vmem, ⟨31, _⟩ => ⟨S2064x256, .f32⟩
  | .local _ .vmem, ⟨32, _⟩ => ⟨S2064x256, .f32⟩
  | .local _ .vmem, ⟨33, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev main_v8_6 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_40 : BitVec 32 := 0#32
  let c8_i32 : BitVec 32 := 8#32
  let v38 : BitVec 32 := Scalar.addi c0_i32_40 c8_i32
  let c1_i32 : BitVec 32 := 1#32
  ⟨c0_i32_40, v38, c1_i32⟩
def k0_mult1 (k0_t1 : Fin k0_t1_loop.trips) : BitVec 32 :=
  let c0_i32_40 : BitVec 32 := 0#32
  let c1_i32 : BitVec 32 := 1#32
  let arg23 : BitVec 32 := Scf.iv c0_i32_40 c1_i32 k0_t1
  let c256_i32 : BitVec 32 := 256#32
  let v64 : BitVec 32 := Scalar.muli arg23 c256_i32
  v64
def k0_off1 (k0_t1 : Fin k0_t1_loop.trips) : Fin 2 → Nat :=
  let c0_i32_40 : BitVec 32 := 0#32
  let c1_i32 : BitVec 32 := 1#32
  let arg23 : BitVec 32 := Scf.iv c0_i32_40 c1_i32 k0_t1
  let c256_i32 : BitVec 32 := 256#32
  let v64 : BitVec 32 := Scalar.muli arg23 c256_i32
  let v65 : BitVec 32 := v64
  let v66 : Index := Scalar.indexCast v65
  let c0_69 : Index := 0#32
  ![v66.toNat, 0]
def k0_off2 (k0_t1 : Fin k0_t1_loop.trips) : Fin 2 → Nat :=
  let c0_i32_40 : BitVec 32 := 0#32
  let c1_i32 : BitVec 32 := 1#32
  let arg23 : BitVec 32 := Scf.iv c0_i32_40 c1_i32 k0_t1
  let c256_i32 : BitVec 32 := 256#32
  let v64 : BitVec 32 := Scalar.muli arg23 c256_i32
  let v65 : BitVec 32 := v64
  let v154 : Index := Scalar.indexCast v65
  let c0_87 : Index := 0#32
  ![v154.toNat, 0]
def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.addi c4_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.addi c4_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.addi c4_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2048x1024 : Shape := ⟨2, ![2048, 1024]⟩
abbrev S1024x8192 : Shape := ⟨2, ![1024, 8192]⟩
abbrev S3x8192 : Shape := ⟨2, ![3, 8192]⟩
abbrev S1x8192 : Shape := ⟨2, ![1, 8192]⟩
abbrev S4096x1024 : Shape := ⟨2, ![4096, 1024]⟩
abbrev S2048x8192 : Shape := ⟨2, ![2048, 8192]⟩
abbrev S_ : Shape := ⟨0, ![]⟩
abbrev S2x8192 : Shape := ⟨2, ![2, 8192]⟩
abbrev S2050x8192 : Shape := ⟨2, ![2050, 8192]⟩
abbrev S8192 : Shape := ⟨1, ![8192]⟩
abbrev S2048x4096 : Shape := ⟨2, ![2048, 4096]⟩
abbrev S1024x4096 : Shape := ⟨2, ![1024, 4096]⟩
abbrev S3x1024 : Shape := ⟨2, ![3, 1024]⟩
abbrev S1x3x1024 : Shape := ⟨3, ![1, 3, 1024]⟩
abbrev S8x3x1024 : Shape := ⟨3, ![8, 3, 1024]⟩

abbrev nBuf : Space → Nat
  | .hbm => 159
  | .vmem => 0
  | .smem => 0
  | _ => 0

abbrev hbmTy0_0 (i : Nat) : BufTy := match i % 128 with
  | 0 => ⟨S2048x1024, .f32⟩
  | 1 => ⟨S1024x8192, .f32⟩
  | 2 => ⟨S3x8192, .f32⟩
  | 3 => ⟨S1x8192, .f32⟩
  | 4 => ⟨S4096x1024, .f32⟩
  | 5 => ⟨S2048x1024, .f32⟩
  | 6 => ⟨S2048x8192, .f32⟩
  | 7 => ⟨S_, .f32⟩
  | 8 => ⟨S2x8192, .f32⟩
  | 9 => ⟨S2050x8192, .f32⟩
  | 10 => ⟨S_, .f32⟩
  | 11 => ⟨S2x8192, .f32⟩
  | 12 => ⟨S1x8192, .f32⟩
  | 13 => ⟨S8192, .f32⟩
  | 14 => ⟨S2048x8192, .f32⟩
  | 15 => ⟨S1x8192, .f32⟩
  | 16 => ⟨S2048x8192, .f32⟩
  | 17 => ⟨S2048x8192, .f32⟩
  | 18 => ⟨S_, .f32⟩
  | 19 => ⟨S2048x8192, .f32⟩
  | 20 => ⟨S2048x8192, .f32⟩
  | 21 => ⟨S1x8192, .f32⟩
  | 22 => ⟨S8192, .f32⟩
  | 23 => ⟨S2048x8192, .f32⟩
  | 24 => ⟨S1x8192, .f32⟩
  | 25 => ⟨S2048x8192, .f32⟩
  | 26 => ⟨S2048x8192, .f32⟩
  | 27 => ⟨S2048x8192, .f32⟩
  | 28 => ⟨S1x8192, .f32⟩
  | 29 => ⟨S8192, .f32⟩
  | 30 => ⟨S2048x8192, .f32⟩
  | 31 => ⟨S1x8192, .f32⟩
  | 32 => ⟨S2048x8192, .f32⟩
  | 33 => ⟨S2048x8192, .f32⟩
  | 34 => ⟨S2048x8192, .f32⟩
  | 35 => ⟨S2048x8192, .f32⟩
  | 36 => ⟨S2048x8192, .f32⟩
  | 37 => ⟨S2048x4096, .f32⟩
  | 38 => ⟨S2048x4096, .f32⟩
  | 39 => ⟨S2048x4096, .f32⟩
  | 40 => ⟨S2048x4096, .f32⟩
  | 41 => ⟨S2048x4096, .f32⟩
  | 42 => ⟨S_, .f32⟩
  | 43 => ⟨S2048x4096, .f32⟩
  | 44 => ⟨S2048x4096, .f32⟩
  | 45 => ⟨S_, .f32⟩
  | 46 => ⟨S2048x4096, .f32⟩
  | 47 => ⟨S2048x4096, .f32⟩
  | 48 => ⟨S2048x4096, .f32⟩
  | 49 => ⟨S_, .f32⟩
  | 50 => ⟨S2048x4096, .f32⟩
  | 51 => ⟨S2048x4096, .f32⟩
  | 52 => ⟨S2048x4096, .f32⟩
  | 53 => ⟨S_, .f32⟩
  | 54 => ⟨S2048x4096, .f32⟩
  | 55 => ⟨S2048x4096, .f32⟩
  | 56 => ⟨S_, .f32⟩
  | 57 => ⟨S2048x4096, .f32⟩
  | 58 => ⟨S2048x4096, .f32⟩
  | 59 => ⟨S2048x4096, .f32⟩
  | 60 => ⟨S_, .f32⟩
  | 61 => ⟨S2048x4096, .f32⟩
  | 62 => ⟨S2048x4096, .f32⟩
  | 63 => ⟨S_, .f32⟩
  | 64 => ⟨S2048x4096, .f32⟩
  | 65 => ⟨S2048x4096, .f32⟩
  | 66 => ⟨S2048x4096, .f32⟩
  | 67 => ⟨S2048x4096, .f32⟩
  | 68 => ⟨S2048x1024, .f32⟩
  | 69 => ⟨S1024x4096, .f32⟩
  | 70 => ⟨S4096x1024, .f32⟩
  | 71 => ⟨S2048x4096, .f32⟩
  | 72 => ⟨S2048x4096, .f32⟩
  | 73 => ⟨S2048x4096, .f32⟩
  | 74 => ⟨S2048x4096, .f32⟩
  | 75 => ⟨S2048x4096, .f32⟩
  | 76 => ⟨S_, .f32⟩
  | 77 => ⟨S2048x4096, .f32⟩
  | 78 => ⟨S2048x4096, .f32⟩
  | 79 => ⟨S2048x4096, .f32⟩
  | 80 => ⟨S_, .f32⟩
  | 81 => ⟨S2048x4096, .f32⟩
  | 82 => ⟨S2048x4096, .f32⟩
  | 83 => ⟨S2048x4096, .f32⟩
  | 84 => ⟨S_, .f32⟩
  | 85 => ⟨S2048x4096, .f32⟩
  | 86 => ⟨S2048x4096, .f32⟩
  | 87 => ⟨S2048x4096, .f32⟩
  | 88 => ⟨S2048x4096, .f32⟩
  | 89 => ⟨S2048x8192, .f32⟩
  | 90 => ⟨S_, .f32⟩
  | 91 => ⟨S8192, .f32⟩
  | 92 => ⟨S1x8192, .f32⟩
  | 93 => ⟨S2048x8192, .f32⟩
  | 94 => ⟨S2048x8192, .f32⟩
  | 95 => ⟨S2048x8192, .f32⟩
  | 96 => ⟨S_, .f32⟩
  | 97 => ⟨S8192, .f32⟩
  | 98 => ⟨S1x8192, .f32⟩
  | 99 => ⟨S_, .f32⟩
  | 100 => ⟨S8192, .f32⟩
  | 101 => ⟨S_, .f32⟩
  | 102 => ⟨S2050x8192, .f32⟩
  | 103 => ⟨S1x8192, .f32⟩
  | 104 => ⟨S_, .f32⟩
  | 105 => ⟨S3x8192, .f32⟩
  | 106 => ⟨S2048x8192, .f32⟩
  | 107 => ⟨S2048x8192, .f32⟩
  | 108 => ⟨S2048x8192, .f32⟩
  | 109 => ⟨S_, .f32⟩
  | 110 => ⟨S8192, .f32⟩
  | 111 => ⟨S1x8192, .f32⟩
  | 112 => ⟨S_, .f32⟩
  | 113 => ⟨S8192, .f32⟩
  | 114 => ⟨S_, .f32⟩
  | 115 => ⟨S2050x8192, .f32⟩
  | 116 => ⟨S2050x8192, .f32⟩
  | 117 => ⟨S1x8192, .f32⟩
  | 118 => ⟨S_, .f32⟩
  | 119 => ⟨S3x8192, .f32⟩
  | 120 => ⟨S3x8192, .f32⟩
  | 121 => ⟨S2048x8192, .f32⟩
  | 122 => ⟨S2048x8192, .f32⟩
  | 123 => ⟨S2048x8192, .f32⟩
  | 124 => ⟨S_, .f32⟩
  | 125 => ⟨S8192, .f32⟩
  | 126 => ⟨S1x8192, .f32⟩
  | 127 => ⟨S_, .f32⟩
  | _ => ⟨S2048x1024, .f32⟩

abbrev hbmTy0_1 (i : Nat) : BufTy := match i % 128 with
  | 0 => ⟨S8192, .f32⟩
  | 1 => ⟨S_, .f32⟩
  | 2 => ⟨S2050x8192, .f32⟩
  | 3 => ⟨S2050x8192, .f32⟩
  | 4 => ⟨S1x8192, .f32⟩
  | 5 => ⟨S_, .f32⟩
  | 6 => ⟨S3x8192, .f32⟩
  | 7 => ⟨S3x8192, .f32⟩
  | 8 => ⟨S2x8192, .f32⟩
  | 9 => ⟨S2048x8192, .f32⟩
  | 10 => ⟨S2048x8192, .bf16⟩
  | 11 => ⟨S2048x4096, .bf16⟩
  | 12 => ⟨S2048x4096, .bf16⟩
  | 13 => ⟨S3x1024, .f32⟩
  | 14 => ⟨S3x1024, .f32⟩
  | 15 => ⟨S3x1024, .f32⟩
  | 16 => ⟨S3x1024, .f32⟩
  | 17 => ⟨S3x1024, .f32⟩
  | 18 => ⟨S3x1024, .f32⟩
  | 19 => ⟨S3x1024, .f32⟩
  | 20 => ⟨S3x1024, .f32⟩
  | 21 => ⟨S1x3x1024, .f32⟩
  | 22 => ⟨S1x3x1024, .f32⟩
  | 23 => ⟨S1x3x1024, .f32⟩
  | 24 => ⟨S1x3x1024, .f32⟩
  | 25 => ⟨S1x3x1024, .f32⟩
  | 26 => ⟨S1x3x1024, .f32⟩
  | 27 => ⟨S1x3x1024, .f32⟩
  | 28 => ⟨S1x3x1024, .f32⟩
  | 29 => ⟨S8x3x1024, .f32⟩
  | 30 => ⟨S4096x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_10 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_11 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_12 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_13 : Ref sig .tc := ⟨.hbm, 96, rfl⟩
abbrev main_v76 : Ref sig .tc := ⟨.hbm, 97, rfl⟩
abbrev main_v77 : Ref sig .tc := ⟨.hbm, 98, rfl⟩
abbrev main_cst_14 : Ref sig .tc := ⟨.hbm, 99, rfl⟩
abbrev main_v78 : Ref sig .tc := ⟨.hbm, 100, rfl⟩
abbrev main_cst_15 : Ref sig .tc := ⟨.hbm, 101, rfl⟩
abbrev main_v79 : Ref sig .tc := ⟨.hbm, 102, rfl⟩
abbrev main_v80 : Ref sig .tc := ⟨.hbm, 103, rfl⟩
abbrev main_cst_16 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_17 : Ref sig .tc := ⟨.hbm, 109, rfl⟩
abbrev main_v85 : Ref sig .tc := ⟨.hbm, 110, rfl⟩
abbrev main_v86 : Ref sig .tc := ⟨.hbm, 111, rfl⟩
abbrev main_cst_18 : Ref sig .tc := ⟨.hbm, 112, rfl⟩
abbrev main_v87 : Ref sig .tc := ⟨.hbm, 113, rfl⟩
abbrev main_cst_19 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_20 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_21 : Ref sig .tc := ⟨.hbm, 124, rfl⟩
abbrev main_v96 : Ref sig .tc := ⟨.hbm, 125, rfl⟩
abbrev main_v97 : Ref sig .tc := ⟨.hbm, 126, rfl⟩
abbrev main_cst_22 : Ref sig .tc := ⟨.hbm, 127, rfl⟩
abbrev main_v98 : Ref sig .tc := ⟨.hbm, 128, rfl⟩
abbrev main_cst_23 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_24 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩

abbrev nD : Nat := 1
abbrev τ : Topo := Topo.v7x

variable {F : FTy → Type} [FloatOps F]
-- ==== KernelUp.lean ====
abbrev S2048x1024 : Shape := ⟨2, ![2048, 1024]⟩
abbrev S1024x8192 : Shape := ⟨2, ![1024, 8192]⟩
abbrev S2048x4096 : Shape := ⟨2, ![2048, 4096]⟩
abbrev S1024x8x1024 : Shape := ⟨3, ![1024, 8, 1024]⟩
abbrev S8x1024x1024 : Shape := ⟨3, ![8, 1024, 1024]⟩
abbrev S1x1024x256 : Shape := ⟨3, ![1, 1024, 256]⟩
abbrev S2048x256 : Shape := ⟨2, ![2048, 256]⟩
abbrev S1024x256 : Shape := ⟨2, ![1024, 256]⟩
abbrev S_ : Shape := ⟨0, ![]⟩
abbrev S2 : Shape := ⟨1, ![2]⟩
abbrev S1 : Shape := ⟨1, ![1]⟩
abbrev S2048x512 : Shape := ⟨2, ![2048, 512]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024x8192, .f32⟩
  | .hbm, ⟨2, _⟩ => ⟨S2048x4096, .bf16⟩
  | .hbm, ⟨3, _⟩ => ⟨S2048x4096, .bf16⟩
  | .hbm, ⟨4, _⟩ => ⟨S2048x1024, .bf16⟩
  | .hbm, ⟨5, _⟩ => ⟨S1024x8x1024, .f32⟩
  | .hbm, ⟨6, _⟩ => ⟨S8x1024x1024, .f32⟩
  | .hbm, ⟨7, _⟩ => ⟨S8x1024x1024, .bf16⟩
  | .hbm, ⟨8, _⟩ => ⟨S2048x1024, .f32⟩
  | .hbm, ⟨9, _⟩ => ⟨S8x1024x1024, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x1024, .bf16⟩
  | .local _ .vmem, ⟨9, _⟩ => ⟨S2048x1024, .f32⟩
  | .local _ .vmem, ⟨10, _⟩ => ⟨S1024x256, .bf16⟩
  | .local _ .vmem, ⟨11, _⟩ => ⟨S1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c4_i32 : BitVec 32 := 4#32
  let c0_i32_6 : BitVec 32 := 0#32
  let v6 : BitVec 1 := Scalar.cmpi .eq c4_i32 c0_i32_6
  let c1_i32 : BitVec 32 := 1#32
  let v7 : BitVec 32 := Scalar.select v6 c1_i32 c4_i32
  let v8 : BitVec 32 := Scalar.remsi arg0 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let c256_i32 : BitVec 32 := 256#32
  let v16 : BitVec 32 := Scalar.muli v15 c256_i32
  v16
def k0_off1 (i : grid0.Coords) : Fin 3 → Nat :=
  let arg0 : BitVec 32 := BitVec.ofNat 32 (i 0).val
  let c0_i32_11 : BitVec 32 := 0#32
  let v19 : BitVec 1 := Scalar.cmpi .sgt arg0 c0_i32_11
  let v20 : BitVec 32 := Scalar.extui v19
  let c0_i32_12 : BitVec 32 := 0#32
  let v21 : BitVec 1 := Scalar.cmpi .slt arg0 c0_i32_12
  let v22 : BitVec 32 := Scalar.extui v21
  let v23 : BitVec 32 := Scalar.subi v20 v22
  let c4_i32_10 : BitVec 32 := 4#32
  let c0_i32_13 : BitVec 32 := 0#32
  let v24 : BitVec 1 := Scalar.cmpi .sgt c4_i32_10 c0_i32_13
  let v25 : BitVec 32 := Scalar.extui v24
  let c0_i32_14 : BitVec 32 := 0#32
  let v26 : BitVec 1 := Scalar.cmpi .slt c4_i32_10 c0_i32_14
  let v27 : BitVec 32 := Scalar.extui v26
  let v28 : BitVec 32 := Scalar.subi v25 v27
  let v29 : BitVec 1 := Scalar.cmpi .ne v23 v28
  let v30 : BitVec 32 := Scalar.remsi arg0 c4_i32_10
  let c0_i32_15 : BitVec 32 := 0#32
  let v31 : BitVec 1 := Scalar.cmpi .ne v30 c0_i32_15
  let v32 : BitVec 1 := Scalar.andi v29 v31
  let v18 : BitVec 32 := Scalar.divsi arg0 c4_i32_10
  let c1_i32_16 : BitVec 32 := 1#32
  let v33 : BitVec 32 := Scalar.subi v18 c1_i32_16
  let v34 : BitVec 32 := Scalar.select v32 v33 v18
  let c0_i32_28 : BitVec 32 := 0#32
  let c4_i32 : BitVec 32 := 4#32
  let c0_i32_6 : BitVec 32 := 0#32
  let v6 : BitVec 1 := Scalar.cmpi .eq c4_i32 c0_i32_6
  let c1_i32 : BitVec 32 := 1#32
  let v7 : BitVec 32 := Scalar.select v6 c1_i32 c4_i32
  let v8 : BitVec 32 := Scalar.remsi arg0 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let c256_i32 : BitVec 32 := 256#32
  let v16 : BitVec 32 := Scalar.muli v15 c256_i32
  let v17 : BitVec 32 := v16
  ![v34.toNat, 0, v17.toNat]
def k0_off2 (i : grid0.Coords) : Fin 3 → Nat :=
  let c4_i32_24 : BitVec 32 := 4#32
  let arg0 : BitVec 32 := BitVec.ofNat 32 (i 0).val
  let c0_i32_18 : BitVec 32 := 0#32
  let v36 : BitVec 1 := Scalar.cmpi .sgt arg0 c0_i32_18
  let v37 : BitVec 32 := Scalar.extui v36
  let c0_i32_19 : BitVec 32 := 0#32
  let v38 : BitVec 1 := Scalar.cmpi .slt arg0 c0_i32_19
  let v39 : BitVec 32 := Scalar.extui v38
  let v40 : BitVec 32 := Scalar.subi v37 v39
  let c4_i32_17 : BitVec 32 := 4#32
  let c0_i32_20 : BitVec 32 := 0#32
  let v41 : BitVec 1 := Scalar.cmpi .sgt c4_i32_17 c0_i32_20
  let v42 : BitVec 32 := Scalar.extui v41
  let c0_i32_21 : BitVec 32 := 0#32
  let v43 : BitVec 1 := Scalar.cmpi .slt c4_i32_17 c0_i32_21
  let v44 : BitVec 32 := Scalar.extui v43
  let v45 : BitVec 32 := Scalar.subi v42 v44
  let v46 : BitVec 1 := Scalar.cmpi .ne v40 v45
  let v47 : BitVec 32 := Scalar.remsi arg0 c4_i32_17
  let c0_i32_22 : BitVec 32 := 0#32
  let v48 : BitVec 1 := Scalar.cmpi .ne v47 c0_i32_22
  let v49 : BitVec 1 := Scalar.andi v46 v48
  let v35 : BitVec 32 := Scalar.divsi arg0 c4_i32_17
  let c1_i32_23 : BitVec 32 := 1#32
  let v50 : BitVec 32 := Scalar.subi v35 c1_i32_23
  let v51 : BitVec 32 := Scalar.select v49 v50 v35
  let v52 : BitVec 32 := Scalar.addi c4_i32_24 v51
  let c0_i32_33 : BitVec 32 := 0#32
  let c4_i32 : BitVec 32 := 4#32
  let c0_i32_6 : BitVec 32 := 0#32
  let v6 : BitVec 1 := Scalar.cmpi .eq c4_i32 c0_i32_6
  let c1_i32 : BitVec 32 := 1#32
  let v7 : BitVec 32 := Scalar.select v6 c1_i32 c4_i32
  let v8 : BitVec 32 := Scalar.remsi arg0 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let c256_i32 : BitVec 32 := 256#32
  let v16 : BitVec 32 := Scalar.muli v15 c256_i32
  let v17 : BitVec 32 := v16
  ![v52.toNat, 0, v17.toNat]
def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.addi c4_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceUpIdeal.lean ====
abbrev S2048x1024 : Shape := ⟨2, ![2048, 1024]⟩
abbrev S1024x8192 : Shape := ⟨2, ![1024, 8192]⟩
abbrev S2048x4096 : Shape := ⟨2, ![2048, 4096]⟩
abbrev S2048x8192 : Shape := ⟨2, ![2048, 8192]⟩
abbrev S8192x1024 : Shape := ⟨2, ![8192, 1024]⟩
abbrev S1024x1024 : Shape := ⟨2, ![1024, 1024]⟩
abbrev S1x1024x1024 : Shape := ⟨3, ![1, 1024, 1024]⟩
abbrev S8x1024x1024 : Shape := ⟨3, ![8, 1024, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8192, .f32⟩
  | .hbm, ⟨2, _⟩ => ⟨S2048x4096, .bf16⟩
  | .hbm, ⟨3, _⟩ => ⟨S2048x4096, .bf16⟩
  | .hbm, ⟨4, _⟩ => ⟨S2048x4096, .f32⟩
  | .hbm, ⟨5, _⟩ => ⟨S2048x4096, .f32⟩
  | .hbm, ⟨6, _⟩ => ⟨S2048x8192, .f32⟩
  | .hbm, ⟨7, _⟩ => ⟨S2048x8192, .f32⟩
  | .hbm, ⟨8, _⟩ => ⟨S8192x1024, .f32⟩
  | .hbm, ⟨9, _⟩ => ⟨S1024x8192, .f32⟩
  | .hbm, ⟨10, _⟩ => ⟨S2048x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1x1024x1024, .f32⟩
  | .hbm, ⟨20, _⟩ => ⟨S1x1024x1024, .f32⟩
  | .hbm, ⟨21, _⟩ => ⟨S1x1024x1024, .f32⟩
  | .hbm, ⟨22, _⟩ => ⟨S1x1024x1024, .f32⟩
  | .hbm, ⟨23, _⟩ => ⟨S1x1024x1024, .f32⟩
  | .hbm, ⟨24, _⟩ => ⟨S1x1024x1024, .f32⟩
  | .hbm, ⟨25, _⟩ => ⟨S1x1024x1024, .f32⟩
  | .hbm, ⟨26, _⟩ => ⟨S1x1024x1024, .f32⟩
  | .hbm, ⟨27, _⟩ => ⟨S8x1024x1024, .f32⟩
  | .hbm, ⟨28, _⟩ => ⟨S8x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== KernelFwd.lean ====
abbrev S2048x1024 : Shape := ⟨2, ![2048, 1024]⟩
abbrev S1024x8192 : Shape := ⟨2, ![1024, 8192]⟩
abbrev S3x8192 : Shape := ⟨2, ![3, 8192]⟩
abbrev S1x8192 : Shape := ⟨2, ![1, 8192]⟩
abbrev S4096x1024 : Shape := ⟨2, ![4096, 1024]⟩
abbrev S1024x8x1024 : Shape := ⟨3, ![1024, 8, 1024]⟩
abbrev S8x1024x1024 : Shape := ⟨3, ![8, 1024, 1024]⟩
abbrev S3x8x1024 : Shape := ⟨3, ![3, 8, 1024]⟩
abbrev S8x3x1024 : Shape := ⟨3, ![8, 3, 1024]⟩
abbrev S1x1024x256 : Shape := ⟨3, ![1, 1024, 256]⟩
abbrev S1x3x256 : Shape := ⟨3, ![1, 3, 256]⟩
abbrev S1x256 : Shape := ⟨2, ![1, 256]⟩
abbrev S256x1024 : Shape := ⟨2, ![256, 1024]⟩
abbrev S1024x256 : Shape := ⟨2, ![1024, 256]⟩
abbrev S2048x256 : Shape := ⟨2, ![2048, 256]⟩
abbrev S1x1x256 : Shape := ⟨3, ![1, 1, 256]⟩

abbrev nBuf : Space → Nat
  | .hbm => 13
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024x8192, .f32⟩
  | .hbm, ⟨2, _⟩ => ⟨S3x8192, .f32⟩
  | .hbm, ⟨3, _⟩ => ⟨S1x8192, .f32⟩
  | .hbm, ⟨4, _⟩ => ⟨S4096x1024, .f32⟩
  | .hbm, ⟨5, _⟩ => ⟨S2048x1024, .bf16⟩
  | .hbm, ⟨6, _⟩ => ⟨S1024x8x1024, .f32⟩
  | .hbm, ⟨7, _⟩ => ⟨S8x1024x1024, .f32⟩
  | .hbm, ⟨8, _⟩ => ⟨S8x1024x1024, .bf16⟩
  | .hbm, ⟨9, _⟩ => ⟨S3x8x1024, .f32⟩
  | .hbm, ⟨10, _⟩ => ⟨S8x3x1024, .f32⟩
  | .hbm, ⟨11, _⟩ => ⟨S4096x1024, .bf16⟩
  | .hbm, ⟨12, _⟩ => ⟨S2048x1024, .f32⟩
  | .local _ .vmem, ⟨0, _⟩ => ⟨S2048x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x3x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S256x1024, .bf16⟩
  | .local _ .vmem, ⟨14, _⟩ => ⟨S256x1024, .bf16⟩
  | .local _ .vmem, ⟨15, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.addi c4_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.addi c4_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceFwdIdeal.lean ====
abbrev S2048x1024 : Shape := ⟨2, ![2048, 1024]⟩
abbrev S1024x8192 : Shape := ⟨2, ![1024, 8192]⟩
abbrev S3x8192 : Shape := ⟨2, ![3, 8192]⟩
abbrev S1x8192 : Shape := ⟨2, ![1, 8192]⟩
abbrev S4096x1024 : Shape := ⟨2, ![4096, 1024]⟩
abbrev S2048x8192 : Shape := ⟨2, ![2048, 8192]⟩
abbrev S_ : Shape := ⟨0, ![]⟩
abbrev S2050x8192 : Shape := ⟨2, ![2050, 8192]⟩
abbrev S8192 : Shape := ⟨1, ![8192]⟩
abbrev S2048x4096 : Shape := ⟨2, ![2048, 4096]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8192, .f32⟩
  | .hbm, ⟨2, _⟩ => ⟨S3x8192, .f32⟩
  | .hbm, ⟨3, _⟩ => ⟨S1x8192, .f32⟩
  | .hbm, ⟨4, _⟩ => ⟨S4096x1024, .f32⟩
  | .hbm, ⟨5, _⟩ => ⟨S2048x8192, .f32⟩
  | .hbm, ⟨6, _⟩ => ⟨S_, .i32⟩
  | .hbm, ⟨7, _⟩ => ⟨S_, .f32⟩
  | .hbm, ⟨8, _⟩ => ⟨S2050x8192, .f32⟩
  | .hbm, ⟨9, _⟩ => ⟨S1x8192, .f32⟩
  | .hbm, ⟨10, _⟩ => ⟨S8192, .f32⟩
  | .hbm, ⟨11, _⟩ => ⟨S2048x8192, .f32⟩
  | .hbm, ⟨12, _⟩ => ⟨S1x8192, .f32⟩
  | .hbm, ⟨13, _⟩ => ⟨S2048x8192, .f32⟩
  | .hbm, ⟨14, _⟩ => ⟨S2048x8192, .f32⟩
  | .hbm, ⟨15, _⟩ => ⟨S_, .f32⟩
  | .hbm, ⟨16, _⟩ => ⟨S2048x8192, .f32⟩
  | .hbm, ⟨17, _⟩ => ⟨S2048x8192, .f32⟩
  | .hbm, ⟨18, _⟩ => ⟨S1x8192, .f32⟩
  | .hbm, ⟨19, _⟩ => ⟨S8192, .f32⟩
  | .hbm, ⟨20, _⟩ => ⟨S2048x8192, .f32⟩
  | .hbm, ⟨21, _⟩ => ⟨S1x8192, .f32⟩
  | .hbm, ⟨22, _⟩ => ⟨S2048x8192, .f32⟩
  | .hbm, ⟨23, _⟩ => ⟨S2048x8192, .f32⟩
  | .hbm, ⟨24, _⟩ => ⟨S2048x8192, .f32⟩
  | .hbm, ⟨25, _⟩ => ⟨S1x8192, .f32⟩
  | .hbm, ⟨26, _⟩ => ⟨S8192, .f32⟩
  | .hbm, ⟨27, _⟩ => ⟨S2048x8192, .f32⟩
  | .hbm, ⟨28, _⟩ => ⟨S1x8192, .f32⟩
  | .hbm, ⟨29, _⟩ => ⟨S2048x8192, .f32⟩
  | .hbm, ⟨30, _⟩ => ⟨S2048x8192, .f32⟩
  | .hbm, ⟨31, _⟩ => ⟨S2048x8192, .f32⟩
  | .hbm, ⟨32, _⟩ => ⟨S2048x8192, .f32⟩
  | .hbm, ⟨33, _⟩ => ⟨S2048x8192, .f32⟩
  | .hbm, ⟨34, _⟩ => ⟨S2048x4096, .f32⟩
  | .hbm, ⟨35, _⟩ => ⟨S2048x4096, .f32⟩
  | .hbm, ⟨36, _⟩ => ⟨S2048x4096, .f32⟩
  | .hbm, ⟨37, _⟩ => ⟨S2048x4096, .f32⟩
  | .hbm, ⟨38, _⟩ => ⟨S_, .f32⟩
  | .hbm, ⟨39, _⟩ => ⟨S2048x4096, .f32⟩
  | .hbm, ⟨40, _⟩ => ⟨S2048x4096, .f32⟩
  | .hbm, ⟨41, _⟩ => ⟨S2048x4096, .f32⟩
  | .hbm, ⟨42, _⟩ => ⟨S_, .f32⟩
  | .hbm, ⟨43, _⟩ => ⟨S2048x4096, .f32⟩
  | .hbm, ⟨44, _⟩ => ⟨S2048x4096, .f32⟩
  | .hbm, ⟨45, _⟩ => ⟨S2048x4096, .f32⟩
  | .hbm, ⟨46, _⟩ => ⟨S_, .f32⟩
  | .hbm, ⟨47, _⟩ => ⟨S2048x4096, .f32⟩
  | .hbm, ⟨48, _⟩ => ⟨S2048x4096, .f32⟩
  | .hbm, ⟨49, _⟩ => ⟨S_, .f32⟩
  | .hbm, ⟨50, _⟩ => ⟨S2048x4096, .f32⟩
  | .hbm, ⟨51, _⟩ => ⟨S2048x4096, .f32⟩
  | .hbm, ⟨52, _⟩ => ⟨S2048x4096, .f32⟩
  | .hbm, ⟨53, _⟩ => ⟨S2048x4096, .f32⟩
  | .hbm, ⟨54, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_0 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== KernelIn.lean ====
abbrev S2048x1024 : Shape := ⟨2, ![2048, 1024]⟩
abbrev S1024x2560 : Shape := ⟨2, ![1024, 2560]⟩
abbrev S1x1792 : Shape := ⟨2, ![1, 1792]⟩
abbrev S2048x2560 : Shape := ⟨2, ![2048, 2560]⟩
abbrev S2048x768 : Shape := ⟨2, ![2048, 768]⟩
abbrev S2048x1792 : Shape := ⟨2, ![2048, 1792]⟩
abbrev S_ : Shape := ⟨0, ![]⟩
abbrev S1x768 : Shape := ⟨2, ![1, 768]⟩
abbrev S1x2560 : Shape := ⟨2, ![1, 2560]⟩
abbrev S1024x256 : Shape := ⟨2, ![1024, 256]⟩
abbrev S1x256 : Shape := ⟨2, ![1, 256]⟩
abbrev S2048x256 : Shape := ⟨2, ![2048, 256]⟩
abbrev S256 : Shape := ⟨1, ![256]⟩

abbrev nBuf : Space → Nat
  | .hbm => 15
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024x2560, .f32⟩
  | .hbm, ⟨2, _⟩ => ⟨S1x1792, .f32⟩
  | .hbm, ⟨3, _⟩ => ⟨S2048x2560, .f32⟩
  | .hbm, ⟨4, _⟩ => ⟨S2048x768, .f32⟩
  | .hbm, ⟨5, _⟩ => ⟨S2048x1792, .f32⟩
  | .hbm, ⟨6, _⟩ => ⟨S_, .f32⟩
  | .hbm, ⟨7, _⟩ => ⟨S1x768, .f32⟩
  | .hbm, ⟨8, _⟩ => ⟨S1x2560, .f32⟩
  | .hbm, ⟨9, _⟩ => ⟨S2048x1024, .bf16⟩
  | .hbm, ⟨10, _⟩ => ⟨S1024x2560, .bf16⟩
  | .hbm, ⟨11, _⟩ => ⟨S2048x1024, .f32⟩
  | .hbm, ⟨12, _⟩ => ⟨S1024x2560, .f32⟩
  | .hbm, ⟨13, _⟩ => ⟨S1x2560, .f32⟩
  | .hbm, ⟨14, _⟩ => ⟨S1x1792, .f32⟩
  | .local _ .vmem, ⟨0, _⟩ => ⟨S2048x1024, .bf16⟩
  | .local _ .vmem, ⟨1, _⟩ => ⟨S1024x256, .bf16⟩
  | .local _ .vmem, ⟨2, _⟩ => ⟨S1024x256, .bf16⟩
  | .local _ .vmem, ⟨3, _⟩ => ⟨S1x256, .f32⟩
  | .local _ .vmem, ⟨4, _⟩ => ⟨S1x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x1024, .f32⟩
  | .local _ .vmem, ⟨12, _⟩ => ⟨S1024x256, .f32⟩
  | .local _ .vmem, ⟨13, _⟩ => ⟨S1024x256, .f32⟩
  | .local _ .vmem, ⟨14, _⟩ => ⟨S1x256, .f32⟩
  | .local _ .vmem, ⟨15, _⟩ => ⟨S1x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c2_i32 : BitVec 32 := 2#32
  let v0 : BitVec 32 := Scalar.minsi arg0 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceInIdeal.lean ====
abbrev S2048x1024 : Shape := ⟨2, ![2048, 1024]⟩
abbrev S1024x2560 : Shape := ⟨2, ![1024, 2560]⟩
abbrev S1x1792 : Shape := ⟨2, ![1, 1792]⟩
abbrev S2048x2560 : Shape := ⟨2, ![2048, 2560]⟩
abbrev S2048x768 : Shape := ⟨2, ![2048, 768]⟩
abbrev S2048x1792 : Shape := ⟨2, ![2048, 1792]⟩
abbrev S_ : Shape := ⟨0, ![]⟩
abbrev S2047x1792 : Shape := ⟨2, ![2047, 1792]⟩
abbrev S1792 : Shape := ⟨1, ![1792]⟩
abbrev S2560x1024 : Shape := ⟨2, ![2560, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2560, .f32⟩
  | .hbm, ⟨2, _⟩ => ⟨S1x1792, .f32⟩
  | .hbm, ⟨3, _⟩ => ⟨S2048x2560, .f32⟩
  | .hbm, ⟨4, _⟩ => ⟨S2048x768, .f32⟩
  | .hbm, ⟨5, _⟩ => ⟨S2048x1792, .f32⟩
  | .hbm, ⟨6, _⟩ => ⟨S2048x768, .f32⟩
  | .hbm, ⟨7, _⟩ => ⟨S2048x1792, .f32⟩
  | .hbm, ⟨8, _⟩ => ⟨S1x1792, .f32⟩
  | .hbm, ⟨9, _⟩ => ⟨S_, .f32⟩
  | .hbm, ⟨10, _⟩ => ⟨S1x1792, .f32⟩
  | .hbm, ⟨11, _⟩ => ⟨S2047x1792, .f32⟩
  | .hbm, ⟨12, _⟩ => ⟨S2048x1792, .f32⟩
  | .hbm, ⟨13, _⟩ => ⟨S_, .f32⟩
  | .hbm, ⟨14, _⟩ => ⟨S1x1792, .f32⟩
  | .hbm, ⟨15, _⟩ => ⟨S2048x1792, .f32⟩
  | .hbm, ⟨16, _⟩ => ⟨S2048x1792, .f32⟩
  | .hbm, ⟨17, _⟩ => ⟨S2048x1792, .f32⟩
  | .hbm, ⟨18, _⟩ => ⟨S2048x1792, .f32⟩
  | .hbm, ⟨19, _⟩ => ⟨S2048x1792, .f32⟩
  | .hbm, ⟨20, _⟩ => ⟨S2048x1792, .f32⟩
  | .hbm, ⟨21, _⟩ => ⟨S2048x1792, .f32⟩
  | .hbm, ⟨22, _⟩ => ⟨S_, .f32⟩
  | .hbm, ⟨23, _⟩ => ⟨S1792, .f32⟩
  | .hbm, ⟨24, _⟩ => ⟨S1x1792, .f32⟩
  | .hbm, ⟨25, _⟩ => ⟨S2048x1792, .f32⟩
  | .hbm, ⟨26, _⟩ => ⟨S2048x1792, .f32⟩
  | .hbm, ⟨27, _⟩ => ⟨S2048x1792, .f32⟩
  | .hbm, ⟨28, _⟩ => ⟨S2048x1792, .f32⟩
  | .hbm, ⟨29, _⟩ => ⟨S1x1792, .f32⟩
  | .hbm, ⟨30, _⟩ => ⟨S2047x1792, .f32⟩
  | .hbm, ⟨31, _⟩ => ⟨S_, .f32⟩
  | .hbm, ⟨32, _⟩ => ⟨S2048x1792, .f32⟩
  | .hbm, ⟨33, _⟩ => ⟨S2048x1792, .f32⟩
  | .hbm, ⟨34, _⟩ => ⟨S2048x2560, .f32⟩
  | .hbm, ⟨35, _⟩ => ⟨S2048x2560, .f32⟩
  | .hbm, ⟨36, _⟩ => ⟨S2560x1024, .f32⟩
  | .hbm, ⟨37, _⟩ => ⟨S1024x2560, .f32⟩
  | .hbm, ⟨38, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== KernelRms.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceRmsIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== KernelLoss.lean ====
abbrev S2048x1024 : Shape := ⟨2, ![2048, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .hbm, ⟨6, _⟩ => ⟨S1x1024, .f32⟩
  | .hbm, ⟨7, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | .local _ .vmem, ⟨12, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceLossIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x1024, .f32⟩
  | .hbm, ⟨58, _⟩ => ⟨S2048x1024, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .bf16⟩
  | .hbm, ⟨71, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== KernelAdam.lean ====
abbrev S1024x320 : Shape := ⟨2, ![1024, 320]⟩
abbrev S4x1024x320 : Shape := ⟨3, ![4, 1024, 320]⟩
abbrev S256x320 : Shape := ⟨2, ![256, 320]⟩
abbrev S4x256x320 : Shape := ⟨3, ![4, 256, 320]⟩
abbrev S1x256x320 : Shape := ⟨3, ![1, 256, 320]⟩

abbrev nBuf : Space → Nat
  | .hbm => 8
  | .vmem => 16
  | .smem => 0
  | _ => 0

abbrev bufTy : (tb : Table) → Fin (tcTables nBuf tb) → BufTy
  | .hbm, ⟨0, _⟩ => ⟨S1024x320, .f32⟩
  | .hbm, ⟨1, _⟩ => ⟨S4x1024x320, .bf16⟩
  | .hbm, ⟨2, _⟩ => ⟨S1024x320, .f32⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S1024x320, .f32⟩
  | .hbm, ⟨7, _⟩ => ⟨S1024x320, .f32⟩
  | .local _ .vmem, ⟨0, _⟩ => ⟨S256x320, .f32⟩
  | .local _ .vmem, ⟨1, _⟩ => ⟨S256x320, .f32⟩
  | .local _ .vmem, ⟨2, _⟩ => ⟨S4x256x320, .bf16⟩
  | .local _ .vmem, ⟨3, _⟩ => ⟨S4x256x320, .bf16⟩
  | .local _ .vmem, ⟨4, _⟩ => ⟨S256x320, .f32⟩
  | .local _ .vmem, ⟨5, _⟩ => ⟨S256x320, .f32⟩
  | .local _ .vmem, ⟨6, _⟩ => ⟨S256x320, .f32⟩
  | .local _ .vmem, ⟨7, _⟩ => ⟨S256x320, .f32⟩
  | .local _ .vmem, ⟨8, _⟩ => ⟨S256x320, .f32⟩
  | .local _ .vmem, ⟨9, _⟩ => ⟨S256x320, .f32⟩
  | .local _ .vmem, ⟨10, _⟩ => ⟨S256x320, .f32⟩
  | .local _ .vmem, ⟨11, _⟩ => ⟨S256x320, .f32⟩
  | .local _ .vmem, ⟨12, _⟩ => ⟨S256x320, .f32⟩
  | .local _ .vmem, ⟨13, _⟩ => ⟨S256x320, .f32⟩
  | .local _ .vmem, ⟨14, _⟩ => ⟨S256x320, .f32⟩
  | .local _ .vmem, ⟨15, _⟩ => ⟨S256x320, .f32⟩
  | _, _ => ⟨S1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x320 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamIdeal.lean ====
abbrev S1024x320 : Shape := ⟨2, ![1024, 320]⟩
abbrev S4x1024x320 : Shape := ⟨3, ![4, 1024, 320]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x320, .f32⟩
  | .hbm, ⟨1, _⟩ => ⟨S4x1024x320, .bf16⟩
  | .hbm, ⟨2, _⟩ => ⟨S1024x320, .f32⟩
  | .hbm, ⟨3, _⟩ => ⟨S1024x320, .f32⟩
  | .hbm, ⟨4, _⟩ => ⟨S4x1024x320, .f32⟩
  | .hbm, ⟨5, _⟩ => ⟨S_, .f32⟩
  | .hbm, ⟨6, _⟩ => ⟨S1024x320, .f32⟩
  | .hbm, ⟨7, _⟩ => ⟨S_, .f32⟩
  | .hbm, ⟨8, _⟩ => ⟨S1024x320, .f32⟩
  | .hbm, ⟨9, _⟩ => ⟨S1024x320, .f32⟩
  | .hbm, ⟨10, _⟩ => ⟨S_, .f32⟩
  | .hbm, ⟨11, _⟩ => ⟨S1024x320, .f32⟩
  | .hbm, ⟨12, _⟩ => ⟨S1024x320, .f32⟩
  | .hbm, ⟨13, _⟩ => ⟨S1024x320, .f32⟩
  | .hbm, ⟨14, _⟩ => ⟨S_, .f32⟩
  | .hbm, ⟨15, _⟩ => ⟨S1024x320, .f32⟩
  | .hbm, ⟨16, _⟩ => ⟨S1024x320, .f32⟩
  | .hbm, ⟨17, _⟩ => ⟨S1024x320, .f32⟩
  | .hbm, ⟨18, _⟩ => ⟨S_, .f32⟩
  | .hbm, ⟨19, _⟩ => ⟨S1024x320, .f32⟩
  | .hbm, ⟨20, _⟩ => ⟨S1024x320, .f32⟩
  | .hbm, ⟨21, _⟩ => ⟨S1024x320, .f32⟩
  | .hbm, ⟨22, _⟩ => ⟨S_, .f32⟩
  | .hbm, ⟨23, _⟩ => ⟨S1024x320, .f32⟩
  | .hbm, ⟨24, _⟩ => ⟨S1024x320, .f32⟩
  | .hbm, ⟨25, _⟩ => ⟨S_, .f32⟩
  | .hbm, ⟨26, _⟩ => ⟨S1024x320, .f32⟩
  | .hbm, ⟨27, _⟩ => ⟨S1024x320, .f32⟩
  | .hbm, ⟨28, _⟩ => ⟨S1024x320, .f32⟩
  | .hbm, ⟨29, _⟩ => ⟨S_, .f32⟩
  | .hbm, ⟨30, _⟩ => ⟨S1024x320, .f32⟩
  | .hbm, ⟨31, _⟩ => ⟨S1024x320, .f32⟩
  | .hbm, ⟨32, _⟩ => ⟨S1024x320, .f32⟩
  | .hbm, ⟨33, _⟩ => ⟨S_, .f32⟩
  | .hbm, ⟨34, _⟩ => ⟨S1024x320, .f32⟩
  | .hbm, ⟨35, _⟩ => ⟨S1024x320, .f32⟩
  | .hbm, ⟨36, _⟩ => ⟨S1024x320, .f32⟩
  | .hbm, ⟨37, _⟩ => ⟨S_, .f32⟩
  | .hbm, ⟨38, _⟩ => ⟨S1024x320, .f32⟩
  | .hbm, ⟨39, _⟩ => ⟨S1024x320, .f32⟩
  | _, _ => ⟨S1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamOut.lean ====
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S4x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamOutIdeal.lean ====
abbrev S128x1024 : Shape := ⟨2, ![128, 1024]⟩
abbrev S4x128x1024 : Shape := ⟨3, ![4, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S4x128x1024, .bf16⟩
  | .hbm, ⟨2, _⟩ => ⟨S128x1024, .f32⟩
  | .hbm, ⟨3, _⟩ => ⟨S128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Loop.lean ====
/-
  The kernel's inner loop over eight row chunks: what one trip computes, as functions of the three padded buffers it
  reads, and the loop's invariant — the rows of the trips gone by are written in the three result buffers, the eight
  carried column sums are those of the trips gone by.
-/
module

public import proofs.«01_k».proof.Proof.Gen.KernelIdeal.Loops
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## One trip's values -/

/-- The coefficients a tile's trips share: the three taps of the gate's and the value's filter, and the two biases. -/
structure Coef (F : FTy → Type) where
  v24 : FVec F S1x256 .f32
  v25 : Vec F S1x1x256 .f32
  v27 : Vec F S1x1x256 .f32
  v29 : Vec F S1x1x256 .f32
  v31 : Vec F S1x1x256 .f32
  v33 : Vec F S1x1x256 .f32
  v35 : Vec F S1x256 .f32
  v36 : Vec F S1x256 .f32

/-- The 272 rows of a padded buffer trip `k` reads. -/
def chunk (X : Vec F S2064x256 .f32) (k : Fin k0_t1_loop.trips) : Vec F S272x256 .f32 :=
  View.ld X (Rect.unit (s := S2064x256) (k0_off1 k) S272x256.size (k0_off1_inb k))

section trip
variable (K : Coef F) (U G A : Vec F S2064x256 .f32) (k : Fin k0_t1_loop.trips)

/-- The gate after its filter. -/
def cvG : FVec F S272x256 .f32 := k0_pay9 K.v24 (k0_pay32 K.v25) (k0_pay33 K.v27) K.v35 (chunk U k)
/-- The value after its filter. -/
def cvV : FVec F S272x256 .f32 := k0_pay10 (k0_pay34 K.v29) (k0_pay35 K.v31) (k0_pay36 K.v33) K.v36 (chunk G k)
def sq3 : FVec F S272x256 .f32 := k0_pay11 K.v24 (k0_pay32 K.v25) (k0_pay33 K.v27) K.v35 (chunk U k)
def th : FVec F S272x256 .f32 := k0_pay12 K.v24 (k0_pay32 K.v25) (k0_pay33 K.v27) K.v35 (chunk U k)
def th1 : FVec F S272x256 .f32 := k0_pay13 K.v24 (k0_pay32 K.v25) (k0_pay33 K.v27) K.v35 (chunk U k)
/-- The cotangent of the filtered value. -/
def dcV : FVec F S272x256 .f32 := k0_pay17 (chunk A k) (cvG K U k) (th K U k)
/-- The cotangent of the filtered gate. -/
def dcG : FVec F S272x256 .f32 :=
  k0_pay18 (chunk A k) (cvG K U k) (cvV K G k) (sq3 K U k) (th K U k) (th1 K U k) (k0_pay14 (F := F))
/-- The activation rows written. -/
def outA : FVec F S256x256 .bf16 := k0_pay20 (cvG K U k) (cvV K G k) (th K U k)
/-- The gate's gradient rows written. -/
def outG : FVec F S256x256 .bf16 :=
  k0_pay38 (k0_pay21 K.v24 (k0_pay32 K.v25) (k0_pay33 K.v27) (chunk A k) (cvG K U k) (cvV K G k) (sq3 K U k) (th K U k)
    (th1 K U k) (k0_pay14 (F := F)))
/-- The value's gradient rows written. -/
def outV : FVec F S256x256 .bf16 :=
  k0_pay39 (k0_pay19 (k0_pay34 K.v29) (k0_pay35 K.v31) (k0_pay36 K.v33) (chunk A k) (cvG K U k) (th K U k))

/-- Eight column sums. -/
abbrev Acc (F : FTy → Type) : Type :=
  FVec F S1x256 .f32 × FVec F S1x256 .f32 × FVec F S1x256 .f32 × FVec F S1x256 .f32 × FVec F S1x256 .f32
    × FVec F S1x256 .f32 × FVec F S1x256 .f32 × FVec F S1x256 .f32

/-- The column sums after trip `k` from those before. -/
def accStep (a : Acc F) : Acc F :=
  (k0_pay40 a.1 (k0_pay6 (chunk U k)) (dcG K U G A k), k0_pay41 a.2.1 (k0_pay5 (chunk U k)) (dcG K U G A k),
    k0_pay42 a.2.2.1 (chunk U k) (dcG K U G A k), k0_pay43 a.2.2.2.1 (k0_pay8 (chunk G k)) (dcV K U A k),
    k0_pay44 a.2.2.2.2.1 (k0_pay7 (chunk G k)) (dcV K U A k), k0_pay45 a.2.2.2.2.2.1 (chunk G k) (dcV K U A k),
    k0_pay46 a.2.2.2.2.2.2.1 (dcG K U G A k), k0_pay47 a.2.2.2.2.2.2.2 (dcV K U A k))
end trip

/-- The column sums before trip `n`. -/
def accAt (K : Coef F) (U G A : Vec F S2064x256 .f32) (init : Acc F) : ℕ → Acc F
  | 0 => init
  | n + 1 => if h : n < k0_t1_loop.trips then accStep K U G A ⟨n, h⟩ (accAt K U G A init n) else accAt K U G A init n

/-- The pieces of the trips before `n`: 256 rows each. -/
def rowPieces (val : Fin k0_t1_loop.trips → FVec F S256x256 .bf16) : ℕ → List (View.Piece (Elt F) S2048x256 .bf16)
  | 0 => []
  | n + 1 => if h : n < k0_t1_loop.trips then
      (⟨Rect.unit (s := S2048x256) (k0_off2 ⟨n, h⟩) S256x256.size (k0_off2_inb ⟨n, h⟩), val ⟨n, h⟩⟩ : View.Piece (Elt F) S2048x256 .bf16) :: rowPieces val n
    else rowPieces val n

theorem rowPieces_succ (val : Fin k0_t1_loop.trips → FVec F S256x256 .bf16) (k : Fin k0_t1_loop.trips) :
    rowPieces val (k.val + 1) = (⟨Rect.unit (s := S2048x256) (k0_off2 k) S256x256.size (k0_off2_inb k), val k⟩ : View.Piece (Elt F) S2048x256 .bf16) :: rowPieces val k.val := by
  rw [rowPieces, dif_pos k.isLt]

theorem accAt_succ (K : Coef F) (U G A : Vec F S2064x256 .f32) (init : Acc F) (k : Fin k0_t1_loop.trips) :
    accAt K U G A init (k.val + 1) = accStep K U G A k (accAt K U G A init k.val) := by
  rw [accAt, dif_pos k.isLt]

/-- The buffers a trip holds. -/
abbrev TripPts (c : Dev nD) (arg10 : Memref sig .tc .vmem S2048x256 .bf16) (arg11 : Memref sig .tc .vmem S2048x256 .bf16)
    (arg19 : Memref sig .tc .vmem S2064x256 .f32) (arg20 : Memref sig .tc .vmem S2064x256 .f32) (arg21 : Memref sig .tc .vmem S2064x256 .f32)
    (arg22 : Memref sig .tc .vmem S2048x256 .bf16)
    (X19 : BufTy.Contents (Elt F) arg19.view.ty) (X20 : BufTy.Contents (Elt F) arg20.view.ty) (X21 : BufTy.Contents (Elt F) arg21.view.ty)
    (f10 : BufTy.Contents (Elt F) arg10.view.ty) (f11 : BufTy.Contents (Elt F) arg11.view.ty) (f22 : BufTy.Contents (Elt F) arg22.view.ty) : sProp 𝕄 :=
  iprop((arg19.view.loc (c : Thread nD τ) ↦[arg19.view.set]{fullShare} X19) ∗ (arg20.view.loc (c : Thread nD τ) ↦[arg20.view.set]{fullShare} X20)
    ∗ (arg21.view.loc (c : Thread nD τ) ↦[arg21.view.set]{fullShare} X21) ∗ (arg10.view.loc (c : Thread nD τ) ↦[arg10.view.set]{fullShare} f10)
    ∗ (arg11.view.loc (c : Thread nD τ) ↦[arg11.view.set]{fullShare} f11) ∗ (arg22.view.loc (c : Thread nD τ) ↦[arg22.view.set]{fullShare} f22))

set_option maxHeartbeats 4000000 in
/-- One trip: it yields `accStep` and writes its 256 rows in the three result buffers. -/
theorem trip (𝒱 : Variants) (c : Dev nD) (bd : Option 𝒱.V) (i : grid0.Coords) (arg1 : Memref sig .tc .hbm S2048x1024 .bf16) (harg1 : arg1.IsWhole) (arg2 : Memref sig .tc .vmem S1x1024x256 .bf16) (harg2 : arg2.IsWhole) (arg3 : Memref sig .tc .vmem S1x1024x256 .bf16) (harg3 : arg3.IsWhole) (arg4 : Memref sig .tc .vmem S1x3x256 .f32) (harg4 : arg4.IsWhole) (arg5 : Memref sig .tc .vmem S1x3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .bf16) (harg8 : arg8.IsWhole) (arg9 : Memref sig .tc .hbm S2048x1024 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S1x3x256 .f32) (harg12 : arg12.IsWhole) (arg13 : Memref sig .tc .vmem S1x3x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x1024 .bf16) (harg16 : arg16.IsWhole) (arg17 : Memref sig .tc .vmem S2048x1024 .bf16) (harg17 : arg17.IsWhole) (arg18 : Memref sig .tc .vmem S2048x1024 .bf16) (harg18 : arg18.IsWhole) (arg19 : Memref sig .tc .vmem S2064x256 .f32) (harg19 : arg19.IsWhole) (arg20 : Memref sig .tc .vmem S2064x256 .f32) (harg20 : arg20.IsWhole) (arg21 : Memref sig .tc .vmem S2064x256 .f32) (harg21 : arg21.IsWhole) (arg22 : Memref sig .tc .vmem S2048x256 .bf16) (harg22 : arg22.IsWhole) (v88_r0 : DmaSems sig S_) (v88_r1 : DmaSems sig S_) (v24 : FVec F S1x256 .f32) (v25 v27 v29 v31 v33 : Vec F S1x1x256 .f32) (v35 v36 : Vec F S1x256 .f32)
    (X19 : BufTy.Contents (Elt F) arg19.view.ty) (X20 : BufTy.Contents (Elt F) arg20.view.ty) (X21 : BufTy.Contents (Elt F) arg21.view.ty)
    (k : Fin k0_t1_loop.trips) (E : Set ℕ) (acc : Acc F)
    (f10 : BufTy.Contents (Elt F) arg10.view.ty) (f11 : BufTy.Contents (Elt F) arg11.view.ty) (f22 : BufTy.Contents (Elt F) arg22.view.ty) :
    TripPts (F := F) c arg10 arg11 arg19 arg20 arg21 arg22 X19 X20 X21 f10 f11 f22
    ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v88_r0 v88_r1 v24 v25 v27 v29 v31 v33 v35 v36 k acc)
        (fun yld => iprop(⌜yld = accStep ⟨v24, v25, v27, v29, v31, v33, v35, v36⟩ (arg19.view.read (Elt F) X19) (arg20.view.read (Elt F) X20) (arg21.view.read (Elt F) X21) k acc⌝
          ∗ TripPts (F := F) c arg10 arg11 arg19 arg20 arg21 arg22 X19 X20 X21
            (arg10.view.writes (Elt F) f10 [⟨Rect.unit (s := S2048x256) (k0_off2 k) S256x256.size (k0_off2_inb k), outG ⟨v24, v25, v27, v29, v31, v33, v35, v36⟩ (arg19.view.read (Elt F) X19) (arg20.view.read (Elt F) X20) (arg21.view.read (Elt F) X21) k⟩])
            (arg11.view.writes (Elt F) f11 [⟨Rect.unit (s := S2048x256) (k0_off2 k) S256x256.size (k0_off2_inb k), outV ⟨v24, v25, v27, v29, v31, v33, v35, v36⟩ (arg19.view.read (Elt F) X19) (arg21.view.read (Elt F) X21) k⟩])
            (arg22.view.writes (Elt F) f22 [⟨Rect.unit (s := S2048x256) (k0_off2 k) S256x256.size (k0_off2_inb k), outA ⟨v24, v25, v27, v29, v31, v33, v35, v36⟩ (arg19.view.read (Elt F) X19) (arg20.view.read (Elt F) X20) k⟩]))) := by
  have hk : k.val < 8 := Nat.lt_of_lt_of_le k.isLt k0_t1_abs.2.1
  unfold k0_t1_body
  iintro ⟨HR19, HR20, HR21, HW10, HW11, HW22⟩
  sl_exec
  sl_step
  isplitr; · ipureintro; rfl
  isplitl [HR19]; · iexact HR19
  isplitl [HR20]; · iexact HR20
  isplitl [HR21]; · iexact HR21
  isplitl [HW10]; · iexact HW10
  isplitl [HW11]; · iexact HW11
  iexact HW22

/-- The invariant before trip `k`. -/
abbrev inv (c : Dev nD) (arg10 : Memref sig .tc .vmem S2048x256 .bf16) (arg11 : Memref sig .tc .vmem S2048x256 .bf16)
    (arg19 : Memref sig .tc .vmem S2064x256 .f32) (arg20 : Memref sig .tc .vmem S2064x256 .f32) (arg21 : Memref sig .tc .vmem S2064x256 .f32)
    (arg22 : Memref sig .tc .vmem S2048x256 .bf16) (K : Coef F)
    (X19 : BufTy.Contents (Elt F) arg19.view.ty) (X20 : BufTy.Contents (Elt F) arg20.view.ty) (X21 : BufTy.Contents (Elt F) arg21.view.ty)
    (G10 : BufTy.Contents (Elt F) arg10.view.ty) (G11 : BufTy.Contents (Elt F) arg11.view.ty) (G22 : BufTy.Contents (Elt F) arg22.view.ty)
    (init : Acc F) (k : ℕ) (acc : Acc F) : sProp 𝕄 :=
  iprop((arg19.view.loc (c : Thread nD τ) ↦[arg19.view.set]{fullShare} X19) ∗ (arg20.view.loc (c : Thread nD τ) ↦[arg20.view.set]{fullShare} X20)
    ∗ (arg21.view.loc (c : Thread nD τ) ↦[arg21.view.set]{fullShare} X21)
    ∗ (∃ f, (arg10.view.loc (c : Thread nD τ) ↦[arg10.view.set]{fullShare} f)
        ∗ ⌜f = arg10.view.writes (Elt F) G10 (rowPieces (outG K (arg19.view.read (Elt F) X19) (arg20.view.read (Elt F) X20) (arg21.view.read (Elt F) X21)) k)⌝)
    ∗ (∃ f, (arg11.view.loc (c : Thread nD τ) ↦[arg11.view.set]{fullShare} f)
        ∗ ⌜f = arg11.view.writes (Elt F) G11 (rowPieces (outV K (arg19.view.read (Elt F) X19) (arg21.view.read (Elt F) X21)) k)⌝)
    ∗ (∃ f, (arg22.view.loc (c : Thread nD τ) ↦[arg22.view.set]{fullShare} f)
        ∗ ⌜f = arg22.view.writes (Elt F) G22 (rowPieces (outA K (arg19.view.read (Elt F) X19) (arg20.view.read (Elt F) X20)) k)⌝)
    ∗ ⌜acc = accAt K (arg19.view.read (Elt F) X19) (arg20.view.read (Elt F) X20) (arg21.view.read (Elt F) X21) init k⌝)

set_option maxHeartbeats 4000000 in
set_option warn.classDefReducibility false in
/-- The loop by its invariant. -/
@[sl_loop] def loopInv (𝒱 : Variants) (c : Dev nD) (bd : Option 𝒱.V) (E : Set ℕ) (i : grid0.Coords) (arg1 : Memref sig .tc .hbm S2048x1024 .bf16) (harg1 : arg1.IsWhole) (arg2 : Memref sig .tc .vmem S1x1024x256 .bf16) (harg2 : arg2.IsWhole) (arg3 : Memref sig .tc .vmem S1x1024x256 .bf16) (harg3 : arg3.IsWhole) (arg4 : Memref sig .tc .vmem S1x3x256 .f32) (harg4 : arg4.IsWhole) (arg5 : Memref sig .tc .vmem S1x3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .bf16) (harg8 : arg8.IsWhole) (arg9 : Memref sig .tc .hbm S2048x1024 .bf16) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S1x3x256 .f32) (harg12 : arg12.IsWhole) (arg13 : Memref sig .tc .vmem S1x3x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x1024 .bf16) (harg16 : arg16.IsWhole) (arg17 : Memref sig .tc .vmem S2048x1024 .bf16) (harg17 : arg17.IsWhole) (arg18 : Memref sig .tc .vmem S2048x1024 .bf16) (harg18 : arg18.IsWhole) (arg19 : Memref sig .tc .vmem S2064x256 .f32) (harg19 : arg19.IsWhole) (arg20 : Memref sig .tc .vmem S2064x256 .f32) (harg20 : arg20.IsWhole) (arg21 : Memref sig .tc .vmem S2064x256 .f32) (harg21 : arg21.IsWhole) (arg22 : Memref sig .tc .vmem S2048x256 .bf16) (harg22 : arg22.IsWhole) (v88_r0 : DmaSems sig S_) (v88_r1 : DmaSems sig S_) (v24 : FVec F S1x256 .f32) (v25 v27 v29 v31 v33 : Vec F S1x1x256 .f32) (v35 v36 : Vec F S1x256 .f32)
    (X19 : BufTy.Contents (Elt F) arg19.view.ty) (X20 : BufTy.Contents (Elt F) arg20.view.ty) (X21 : BufTy.Contents (Elt F) arg21.view.ty)
    (G10 : BufTy.Contents (Elt F) arg10.view.ty) (G11 : BufTy.Contents (Elt F) arg11.view.ty) (G22 : BufTy.Contents (Elt F) arg22.view.ty)
    (init : Acc F) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v88_r0 v88_r1 v24 v25 v27 v29 v31 v33 v35 v36 init where
  inv := inv c arg10 arg11 arg19 arg20 arg21 arg22 ⟨v24, v25, v27, v29, v31, v33, v35, v36⟩ X19 X20 X21 G10 G11 G22 init
  step k acc := by
    iintro ⟨HR19, HR20, HR21, ⟨%f10, HW10, %h10⟩, ⟨%f11, HW11, %h11⟩, ⟨%f22, HW22, %h22⟩, %hacc⟩
    subst hacc
    iapply (wp_wand_r Idealize.ShloMosaic.frame (wpE (defs₀ (F := F)) 𝒱 (c : Thread nD τ) bd) E)
    isplitl [HR19 HR20 HR21 HW10 HW11 HW22]
    · iapply (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v88_r0 v88_r1 v24 v25 v27 v29 v31 v33 v35 v36 X19 X20 X21 k E _ f10 f11 f22)
      isplitl [HR19]; · iexact HR19
      isplitl [HR20]; · iexact HR20
      isplitl [HR21]; · iexact HR21
      isplitl [HW10]; · iexact HW10
      isplitl [HW11]; · iexact HW11
      iexact HW22
    · iintro %yld ⟨%hres, HR19, HR20, HR21, HW10, HW11, HW22⟩
      isplitl [HR19]; · iexact HR19
      isplitl [HR20]; · iexact HR20
      isplitl [HR21]; · iexact HR21
      simp only [rowPieces_succ, accAt_succ]
      isplitl [HW10]
      · iexists _; isplitl [HW10]; · iexact HW10
        ipureintro; rw [h10, ← View.writes_append]; rfl
      isplitl [HW11]
      · iexists _; isplitl [HW11]; · iexact HW11
        ipureintro; rw [h11, ← View.writes_append]; rfl
      isplitl [HW22]
      · iexists _; isplitl [HW22]; · iexact HW22
        ipureintro; rw [h22, ← View.writes_append]; rfl
      ipureintro; rw [hres]

end Cert.KernelIdeal.Hand

end
-- ==== Proof.Body.lean ====
/-
  The kernel body at one grid point, at the first point (it copies the two operands left in HBM into their buffers and
  zeroes the halo rows of the three padded buffers) and at a later one (it finds them there): what it leaves in each
  result's buffer, as a function of the blocks it reads.
-/
module

public import proofs.«01_k».proof.Proof.Loop
public import proofs.«01_k».proof.Proof.Gen.KernelIdeal.Launch
public import proofs.«01_k».proof.Proof.Gen.KernelIdeal.Points
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The operands -/

abbrev hbM0 : Memref sig .tc .hbm S2048x1024 .bf16 := Memref.whole main_v5
abbrev hbM1 : Memref sig .tc .hbm S2048x1024 .bf16 := Memref.whole main_v7
abbrev scM0 : Memref sig .tc .vmem S2048x1024 .bf16 := Memref.whole cc0_scratch0
abbrev scM1 : Memref sig .tc .vmem S2048x1024 .bf16 := Memref.whole cc0_scratch1
abbrev scM2 : Memref sig .tc .vmem S2064x256 .f32 := Memref.whole cc0_scratch2
abbrev scM3 : Memref sig .tc .vmem S2064x256 .f32 := Memref.whole cc0_scratch3
abbrev scM4 : Memref sig .tc .vmem S2064x256 .f32 := Memref.whole cc0_scratch4
abbrev scM5 : Memref sig .tc .vmem S2048x256 .bf16 := Memref.whole cc0_scratch5
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-! ## What the buffers hold -/

/-- The zero the halo rows are filled with. -/
def z0 : Elt F .f32 := Scalar.ofBits .f32 0x00000000#32

/-- A padded buffer whose halo rows are zero. -/
def Halo (d : Vec F S2064x256 .f32) : Prop := ∀ x : S2064x256.Idx, (x 0).val < 8 ∨ 2056 ≤ (x 0).val → d x = z0

/-- A product padded by eight zero rows above and below. -/
def padded (M : Vec F S2048x256 .f32) : Vec F S2064x256 .f32 := fun x =>
  if h : 8 ≤ (x 0).val ∧ (x 0).val < 2056 then M (fun a => match a with | ⟨0, _⟩ => ⟨(x 0).val - 8, by show _ < 2048; omega⟩ | ⟨1, _⟩ => x 1)
  else z0

theorem halo_padded (M : Vec F S2048x256 .f32) : Halo (padded M) := fun x h => by
  unfold padded; rw [dif_neg (by omega)]

theorem read_landed {sp : Space} (v : View sig .tc sp S2048x1024 .bf16) (f : v.ty.Contents (Elt F)) (w : FVec F S2048x1024 .bf16) :
    v.read (Elt F) (v.writes (Elt F) f [⟨Rect.whole S2048x1024, w⟩]) = w :=
  View.read_writes_full v f (off := fun _ => 0) (fun _ => by simp) w []

theorem read_padded (v : View sig .tc .vmem S2064x256 .f32) (X : v.ty.Contents (Elt F)) (M : FVec F S2048x256 .f32)
    (L : List (View.Piece (Elt F) S2064x256 .f32)) (hX : Halo (v.read (Elt F) (v.writes (Elt F) X L))) :
    v.read (Elt F) (v.writes (Elt F) X ((⟨Rect.unit (s := S2064x256) ![8, 0] S2048x256.size inb_S2064x256_S2048x256_8_0, M⟩ : View.Piece (Elt F) S2064x256 .f32) :: L)) = padded M := by
  funext x
  unfold padded
  by_cases h : 8 ≤ (x 0).val ∧ (x 0).val < 2056
  · rw [dif_pos h]
    exact View.read_writes_cons_rows_of_mem v X _ M L x _ rfl (by show (x 0).val = 8 + ((x 0).val - 8); omega) rfl
  · rw [dif_neg h]
    exact (View.read_writes_cons_rows_of_not_mem v X inb_S2064x256_S2048x256_8_0 M L x (o := 8) (W := 2048) rfl rfl (by omega)).trans (hX x (by omega))

theorem halo_zeroed (v : View sig .tc .vmem S2064x256 .f32) (X : v.ty.Contents (Elt F)) (p q : FVec F S8x256 .f32)
    (hp : ∀ x, p x = z0) (hq : ∀ x, q x = z0) :
    Halo (v.read (Elt F) (v.writes (Elt F) X [⟨Rect.unit (s := S2064x256) ![2056, 0] S8x256.size inb_S2064x256_S8x256_2056_0, q⟩,
      ⟨Rect.unit (s := S2064x256) ![0, 0] S8x256.size inb_S2064x256_S8x256_0_0, p⟩])) := by
  intro x h
  have hx : (x 0).val < 2064 := (x 0).isLt
  by_cases h2 : 2056 ≤ (x 0).val
  · exact (View.read_writes_cons_rows_of_mem v X inb_S2064x256_S8x256_2056_0 q _ x (fun a => match a with | ⟨0, _⟩ => ⟨(x 0).val - 2056, by show _ < 8; omega⟩ | ⟨1, _⟩ => x 1) (o := 2056) rfl
      (by show (x 0).val = 2056 + ((x 0).val - 2056); omega) rfl).trans (hq _)
  · refine (View.read_writes_cons_rows_of_not_mem v X inb_S2064x256_S8x256_2056_0 q _ x (o := 2056) (W := 8) rfl rfl (by omega)).trans ?_
    exact (View.read_writes_cons_rows_of_mem v X inb_S2064x256_S8x256_0_0 p _ x (fun a => match a with | ⟨0, _⟩ => ⟨(x 0).val, by show _ < 8; omega⟩ | ⟨1, _⟩ => x 1) (o := 0) rfl
      (by show (x 0).val = 0 + (x 0).val; omega) rfl).trans (hp _)

theorem trips_eq : k0_t1_loop.trips = 8 := by decide +kernel
theorem off2_eq : ∀ k : Fin k0_t1_loop.trips, k0_off2 k = ![256 * k.val, 0] := by decide +kernel
theorem off1_eq : ∀ k : Fin k0_t1_loop.trips, k0_off1 k = ![256 * k.val, 0] := by decide +kernel

/-- The trip a row of a result is written by, and its place among the trip's rows. -/
def tripOf (r : Fin 2048) : Fin k0_t1_loop.trips := ⟨r.val / 256, by rw [trips_eq]; omega⟩
def rowIn (x : S2048x256.Idx) : S256x256.Idx := fun a => match a with | ⟨0, _⟩ => ⟨(x 0).val % 256, by show _ < 256; omega⟩ | ⟨1, _⟩ => x 1

/-- The rows of all the trips. -/
def rowsOf (val : Fin k0_t1_loop.trips → FVec F S256x256 .bf16) : Vec F S2048x256 .bf16 := fun x => val (tripOf (x 0)) (rowIn x)

theorem read_rowPieces (v : View sig .tc .vmem S2048x256 .bf16) (X : v.ty.Contents (Elt F)) (val : Fin k0_t1_loop.trips → FVec F S256x256 .bf16)
    (n : ℕ) (hn : n ≤ 8) (x : S2048x256.Idx) (hx : (x 0).val < 256 * n) :
    v.read (Elt F) (v.writes (Elt F) X (rowPieces val n)) x = rowsOf val x := by
  induction n with
  | zero => omega
  | succ n ih =>
    have ht : n < k0_t1_loop.trips := by rw [trips_eq]; omega
    rw [rowPieces, dif_pos ht]
    by_cases h : 256 * n ≤ (x 0).val
    · have e : (⟨n, ht⟩ : Fin k0_t1_loop.trips) = tripOf (x 0) := Fin.ext (by show n = (x 0).val / 256; omega)
      refine (View.read_writes_cons_rows_of_mem v X (k0_off2_inb ⟨n, ht⟩) (val ⟨n, ht⟩) _ x (rowIn x) (o := 256 * n) (off2_eq ⟨n, ht⟩)
        (by show (x 0).val = 256 * n + (x 0).val % 256; omega) rfl).trans ?_
      unfold rowsOf; rw [e]
    · refine (View.read_writes_cons_rows_of_not_mem v X (k0_off2_inb ⟨n, ht⟩) (val ⟨n, ht⟩) _ x (o := 256 * n) (W := 256) (off2_eq ⟨n, ht⟩) rfl (by omega)).trans ?_
      exact ih (by omega) (by omega)

theorem read_rows (v : View sig .tc .vmem S2048x256 .bf16) (X : v.ty.Contents (Elt F)) (val : Fin k0_t1_loop.trips → FVec F S256x256 .bf16) :
    v.read (Elt F) (v.writes (Elt F) X (rowPieces val k0_t1_loop.trips)) = rowsOf val := by
  funext x
  rw [trips_eq]
  exact read_rowPieces v X val 8 le_rfl x (by have : (x 0).val < 2048 := (x 0).isLt; omega)

/-! ## What the body leaves, as functions of the blocks it reads -/

/-- The rows of the filters' taps and the biases, as the body loads them. -/
def coefOf (x4 x5 : Vec F S1x3x256 .f32) (x6 x7 : Vec F S1x256 .f32) : Coef F where
  v24 := k0_pay31 (View.ld x4 (Rect.unit (s := S1x3x256) ![0, 0, 0] S1x1x256.size inb_S1x3x256_S1x1x256_0_0_0))
  v25 := View.ld x4 (Rect.unit (s := S1x3x256) ![0, 1, 0] S1x1x256.size inb_S1x3x256_S1x1x256_0_1_0)
  v27 := View.ld x4 (Rect.unit (s := S1x3x256) ![0, 2, 0] S1x1x256.size inb_S1x3x256_S1x1x256_0_2_0)
  v29 := View.ld x5 (Rect.unit (s := S1x3x256) ![0, 0, 0] S1x1x256.size inb_S1x3x256_S1x1x256_0_0_0)
  v31 := View.ld x5 (Rect.unit (s := S1x3x256) ![0, 1, 0] S1x1x256.size inb_S1x3x256_S1x1x256_0_1_0)
  v33 := View.ld x5 (Rect.unit (s := S1x3x256) ![0, 2, 0] S1x1x256.size inb_S1x3x256_S1x1x256_0_2_0)
  v35 := View.ld x6 (Rect.unit (s := S1x256) ![0, 0] S1x256.size inb_S1x256_S1x256_0_0)
  v36 := View.ld x7 (Rect.unit (s := S1x256) ![0, 0] S1x256.size inb_S1x256_S1x256_0_0)

/-- A whole load's rectangle read back is the operand. -/
abbrev ldH (x : Vec F S2048x1024 .bf16) : Vec F S2048x1024 .bf16 :=
  View.ld x (Rect.unit (s := S2048x1024) ![0, 0] S2048x1024.size inb_S2048x1024_S2048x1024_0_0)
abbrev ldW (x : Vec F S1x1024x256 .bf16) : Vec F S1x1024x256 .bf16 :=
  View.ld x (Rect.unit (s := S1x1024x256) ![0, 0, 0] S1x1024x256.size inb_S1x1024x256_S1x1024x256_0_0_0)
abbrev ldD (x : Vec F S256x1024 .bf16) : Vec F S256x1024 .bf16 :=
  View.ld x (Rect.unit (s := S256x1024) ![0, 0] S256x1024.size inb_S256x1024_S256x1024_0_0)

section outs
variable (xh xd : Vec F S2048x1024 .bf16) (x2 : Vec F S1x1024x256 .bf16) (x3 : Vec F S1x1024x256 .bf16) (x4 : Vec F S1x3x256 .f32) (x5 : Vec F S1x3x256 .f32) (x6 : Vec F S1x256 .f32) (x7 : Vec F S1x256 .f32) (x8 : Vec F S256x1024 .bf16)

def padU : Vec F S2064x256 .f32 := padded (k0_pay28 (ldH xh) (ldW x2))
def padG : Vec F S2064x256 .f32 := padded (k0_pay29 (ldH xh) (ldW x3))
def padA : Vec F S2064x256 .f32 := padded (k0_pay30 (ldH xd) (ldD x8))

/-- The eight column sums. -/
def sums : Acc F :=
  accAt (coefOf x4 x5 x6 x7) (padU xh x2) (padG xh x3) (padA xd x8)
    (k0_pay37, k0_pay37, k0_pay37, k0_pay37, k0_pay37, k0_pay37, k0_pay37, k0_pay37) k0_t1_loop.trips

/-- Three rows of column sums. -/
def rows3 (p q r : FVec F S1x1x256 .f32) : Vec F S1x3x256 .f32 := fun x =>
  let y : S1x1x256.Idx := fun a => match a with | ⟨0, _⟩ => x 0 | ⟨1, _⟩ => (0 : Fin 1) | ⟨2, _⟩ => x 2
  if (x 1).val = 0 then p y else if (x 1).val = 1 then q y else r y

def out10 : Vec F S2048x256 .bf16 := rowsOf (outG (coefOf x4 x5 x6 x7) (padU xh x2) (padG xh x3) (padA xd x8))
def out11 : Vec F S2048x256 .bf16 := rowsOf (outV (coefOf x4 x5 x6 x7) (padU xh x2) (padA xd x8))
def out12 : Vec F S1x3x256 .f32 :=
  rows3 (k0_pay48 (sums xh xd x2 x3 x4 x5 x6 x7 x8).1) (k0_pay50 (sums xh xd x2 x3 x4 x5 x6 x7 x8).2.1) (k0_pay2 (sums xh xd x2 x3 x4 x5 x6 x7 x8).2.2.1)
def out13 : Vec F S1x3x256 .f32 :=
  rows3 (k0_pay49 (sums xh xd x2 x3 x4 x5 x6 x7 x8).2.2.2.1) (k0_pay1 (sums xh xd x2 x3 x4 x5 x6 x7 x8).2.2.2.2.1) (k0_pay3 (sums xh xd x2 x3 x4 x5 x6 x7 x8).2.2.2.2.2.1)
def out14 : Vec F S1x256 .f32 := (sums xh xd x2 x3 x4 x5 x6 x7 x8).2.2.2.2.2.2.1
def out15 : Vec F S1x256 .f32 := (sums xh xd x2 x3 x4 x5 x6 x7 x8).2.2.2.2.2.2.2
def actRows : Vec F S2048x256 .bf16 := rowsOf (outA (coefOf x4 x5 x6 x7) (padU xh x2) (padG xh x3))
def out16 : Vec F S256x1024 .bf16 :=
  k0_pay4 (ldH xd) (View.ld (actRows xh x2 x3 x4 x5 x6 x7) (Rect.unit (s := S2048x256) ![0, 0] S2048x256.size inb_S2048x256_S2048x256_0_0))
end outs

theorem read_rows3 (v : View sig .tc .vmem S1x3x256 .f32) (X : v.ty.Contents (Elt F)) (p q r : FVec F S1x1x256 .f32) :
    v.read (Elt F) (v.writes (Elt F) X [⟨Rect.unit (s := S1x3x256) ![0, 2, 0] S1x1x256.size inb_S1x3x256_S1x1x256_0_2_0, r⟩,
      ⟨Rect.unit (s := S1x3x256) ![0, 1, 0] S1x1x256.size inb_S1x3x256_S1x1x256_0_1_0, q⟩,
      ⟨Rect.unit (s := S1x3x256) ![0, 0, 0] S1x1x256.size inb_S1x3x256_S1x1x256_0_0_0, p⟩]) = rows3 p q r := by
  funext x
  have hx : (x 1).val < 3 := (x 1).isLt
  have hx0 : (x 0).val < 1 := (x 0).isLt
  unfold rows3
  by_cases h2 : (x 1).val = 2
  · rw [if_neg (by omega), if_neg (by omega)]
    exact View.read_writes_cons_unit_of_mem v X inb_S1x3x256_S1x1x256_0_2_0 r _ x _ (off' := ![0, 2, 0]) rfl
      (fun a => match a with | ⟨0, _⟩ => (Nat.zero_add _).symm | ⟨1, _⟩ => h2 | ⟨2, _⟩ => (Nat.zero_add _).symm)
  · refine (View.read_writes_cons_unit_of_not_mem v X inb_S1x3x256_S1x1x256_0_2_0 r _ x (off' := ![0, 2, 0]) rfl (1 : Fin 3)
      (Or.inl (by show (x 1).val < 2; omega))).trans ?_
    by_cases h1 : (x 1).val = 1
    · rw [if_neg (by omega), if_pos h1]
      exact View.read_writes_cons_unit_of_mem v X inb_S1x3x256_S1x1x256_0_1_0 q _ x _ (off' := ![0, 1, 0]) rfl
        (fun a => match a with | ⟨0, _⟩ => (Nat.zero_add _).symm | ⟨1, _⟩ => h1 | ⟨2, _⟩ => (Nat.zero_add _).symm)
    · refine (View.read_writes_cons_unit_of_not_mem v X inb_S1x3x256_S1x1x256_0_1_0 q _ x (off' := ![0, 1, 0]) rfl (1 : Fin 3)
        (Or.inl (by show (x 1).val < 1; omega))).trans ?_
      have h0 : (x 1).val = 0 := by omega
      rw [if_pos h0]
      exact View.read_writes_cons_unit_of_mem v X inb_S1x3x256_S1x1x256_0_0_0 p _ x _ (off' := ![0, 0, 0]) rfl
        (fun a => match a with | ⟨0, _⟩ => (Nat.zero_add _).symm | ⟨1, _⟩ => h0 | ⟨2, _⟩ => (Nat.zero_add _).symm)

section eqs
variable {xh xd : Vec F S2048x1024 .bf16} {x2 : Vec F S1x1024x256 .bf16} {x3 : Vec F S1x1024x256 .bf16} {x4 : Vec F S1x3x256 .f32} {x5 : Vec F S1x3x256 .f32} {x6 : Vec F S1x256 .f32} {x7 : Vec F S1x256 .f32} {x8 : Vec F S256x1024 .bf16}
  {K : Coef F} {U G A : Vec F S2064x256 .f32} {n : ℕ}

theorem read_out10 (v : View sig .tc .vmem S2048x256 .bf16) (X : v.ty.Contents (Elt F)) (hK : K = coefOf x4 x5 x6 x7)
    (hU : U = padU xh x2) (hG : G = padG xh x3) (hA : A = padA xd x8) (hn : n = k0_t1_loop.trips) :
    v.read (Elt F) (v.writes (Elt F) X (rowPieces (outG K U G A) n)) = out10 xh xd x2 x3 x4 x5 x6 x7 x8 := by
  subst hK hU hG hA hn; exact read_rows v X _
theorem read_out11 (v : View sig .tc .vmem S2048x256 .bf16) (X : v.ty.Contents (Elt F)) (hK : K = coefOf x4 x5 x6 x7)
    (hU : U = padU xh x2) (hA : A = padA xd x8) (hn : n = k0_t1_loop.trips) :
    v.read (Elt F) (v.writes (Elt F) X (rowPieces (outV K U A) n)) = out11 xh xd x2 x4 x5 x6 x7 x8 := by
  subst hK hU hA hn; exact read_rows v X _
theorem read_act (v : View sig .tc .vmem S2048x256 .bf16) (X : v.ty.Contents (Elt F)) (hK : K = coefOf x4 x5 x6 x7)
    (hU : U = padU xh x2) (hG : G = padG xh x3) (hn : n = k0_t1_loop.trips) :
    v.read (Elt F) (v.writes (Elt F) X (rowPieces (outA K U G) n)) = actRows xh x2 x3 x4 x5 x6 x7 := by
  subst hK hU hG hn; exact read_rows v X _
theorem sums_eq (hK : K = coefOf x4 x5 x6 x7) (hU : U = padU xh x2) (hG : G = padG xh x3) (hA : A = padA xd x8) (hn : n = k0_t1_loop.trips) :
    accAt K U G A (k0_pay37, k0_pay37, k0_pay37, k0_pay37, k0_pay37, k0_pay37, k0_pay37, k0_pay37) n = sums xh xd x2 x3 x4 x5 x6 x7 x8 := by
  subst hK hU hG hA hn; rfl
theorem read_out12 (v : View sig .tc .vmem S1x3x256 .f32) (X : v.ty.Contents (Elt F)) {a : Acc F} (ha : a = sums xh xd x2 x3 x4 x5 x6 x7 x8) :
    v.read (Elt F) (v.writes (Elt F) X [⟨Rect.unit (s := S1x3x256) ![0, 2, 0] S1x1x256.size inb_S1x3x256_S1x1x256_0_2_0, k0_pay2 a.2.2.1⟩,
      ⟨Rect.unit (s := S1x3x256) ![0, 1, 0] S1x1x256.size inb_S1x3x256_S1x1x256_0_1_0, k0_pay50 a.2.1⟩,
      ⟨Rect.unit (s := S1x3x256) ![0, 0, 0] S1x1x256.size inb_S1x3x256_S1x1x256_0_0_0, k0_pay48 a.1⟩]) = out12 xh xd x2 x3 x4 x5 x6 x7 x8 := by
  subst ha; exact read_rows3 v X _ _ _
theorem read_out13 (v : View sig .tc .vmem S1x3x256 .f32) (X : v.ty.Contents (Elt F)) {a : Acc F} (ha : a = sums xh xd x2 x3 x4 x5 x6 x7 x8) :
    v.read (Elt F) (v.writes (Elt F) X [⟨Rect.unit (s := S1x3x256) ![0, 2, 0] S1x1x256.size inb_S1x3x256_S1x1x256_0_2_0, k0_pay3 a.2.2.2.2.2.1⟩,
      ⟨Rect.unit (s := S1x3x256) ![0, 1, 0] S1x1x256.size inb_S1x3x256_S1x1x256_0_1_0, k0_pay1 a.2.2.2.2.1⟩,
      ⟨Rect.unit (s := S1x3x256) ![0, 0, 0] S1x1x256.size inb_S1x3x256_S1x1x256_0_0_0, k0_pay49 a.2.2.2.1⟩]) = out13 xh xd x2 x3 x4 x5 x6 x7 x8 := by
  subst ha; exact read_rows3 v X _ _ _
theorem read_out14 (v : View sig .tc .vmem S1x256 .f32) (X : v.ty.Contents (Elt F)) {a : Acc F} (ha : a = sums xh xd x2 x3 x4 x5 x6 x7 x8) :
    v.read (Elt F) (v.writes (Elt F) X [⟨Rect.unit (s := S1x256) ![0, 0] S1x256.size inb_S1x256_S1x256_0_0, a.2.2.2.2.2.2.1⟩]) = out14 xh xd x2 x3 x4 x5 x6 x7 x8 := by
  subst ha; exact View.read_writes_full v X inb_S1x256_S1x256_0_0 _ _
theorem read_out15 (v : View sig .tc .vmem S1x256 .f32) (X : v.ty.Contents (Elt F)) {a : Acc F} (ha : a = sums xh xd x2 x3 x4 x5 x6 x7 x8) :
    v.read (Elt F) (v.writes (Elt F) X [⟨Rect.unit (s := S1x256) ![0, 0] S1x256.size inb_S1x256_S1x256_0_0, a.2.2.2.2.2.2.2⟩]) = out15 xh xd x2 x3 x4 x5 x6 x7 x8 := by
  subst ha; exact View.read_writes_full v X inb_S1x256_S1x256_0_0 _ _
theorem read_out16 (v : View sig .tc .vmem S256x1024 .bf16) (X : v.ty.Contents (Elt F)) {y : Vec F S2048x1024 .bf16} {z : Vec F S2048x256 .bf16}
    (hy : y = ldH xd) (hz : z = actRows xh x2 x3 x4 x5 x6 x7) :
    v.read (Elt F) (v.writes (Elt F) X [⟨Rect.unit (s := S256x1024) ![0, 0] S256x1024.size inb_S256x1024_S256x1024_0_0,
      k0_pay4 y (View.ld z (Rect.unit (s := S2048x256) ![0, 0] S2048x256.size inb_S2048x256_S2048x256_0_0))⟩]) = out16 xh xd x2 x3 x4 x5 x6 x7 := by
  subst hy hz; exact View.read_writes_full v X inb_S256x1024_S256x1024_0_0 _ _
end eqs

set_option maxHeartbeats 16000000 in
/-- The body at a later point. -/
theorem run_later (c : Dev nD) (i : grid0.Coords) (hc : ¬ (Scalar.cmpi .ne (Scalar.extui (Scalar.cmpi .eq (BitVec.ofNat 32 (i 0).val) 0#32) : BitVec 32) 0#32 = 1#1))
    (arg2 : Memref sig .tc .vmem S1x1024x256 .bf16) (harg2 : arg2.IsWhole) (arg3 : Memref sig .tc .vmem S1x1024x256 .bf16) (harg3 : arg3.IsWhole) (arg4 : Memref sig .tc .vmem S1x3x256 .f32) (harg4 : arg4.IsWhole) (arg5 : Memref sig .tc .vmem S1x3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .bf16) (harg8 : arg8.IsWhole) (arg10 : Memref sig .tc .vmem S2048x256 .bf16) (harg10 : arg10.IsWhole) (arg11 : Memref sig .tc .vmem S2048x256 .bf16) (harg11 : arg11.IsWhole) (arg12 : Memref sig .tc .vmem S1x3x256 .f32) (harg12 : arg12.IsWhole) (arg13 : Memref sig .tc .vmem S1x3x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x1024 .bf16) (harg16 : arg16.IsWhole)
    (fh : HbBuf (F := F) c hbM0) (fd : HbBuf (F := F) c hbM1) (xh xd : Vec F S2048x1024 .bf16) (hxh : hbM0.view.read (Elt F) fh = xh) (hxd : hbM1.view.read (Elt F) fd = xd)
    (x2 : Vec F S1x1024x256 .bf16) (x3 : Vec F S1x1024x256 .bf16) (x4 : Vec F S1x3x256 .f32) (x5 : Vec F S1x3x256 .f32) (x6 : Vec F S1x256 .f32) (x7 : Vec F S1x256 .f32) (x8 : Vec F S256x1024 .bf16) (W : Waits sig Unit) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) scM0 fullShare xh ∗ owns (c : Thread nD τ) scM1 fullShare xd ∗ (∃ d, ⌜Halo d⌝ ∗ owns (c : Thread nD τ) scM2 fullShare d) ∗ (∃ d, ⌜Halo d⌝ ∗ owns (c : Thread nD τ) scM3 fullShare d) ∗ (∃ d, ⌜Halo d⌝ ∗ owns (c : Thread nD τ) scM4 fullShare d) ∗ (∃ d, owns (c : Thread nD τ) scM5 fullShare d) ∗ semVal ((c : Thread nD τ), SemLoc.dma 28) 0 ∗ semVal ((c : Thread nD τ), SemLoc.dma 29) 0 ∗ hbPt c hbM0 fh ∗ hbPt c hbM1 fd ∗ owes (c : Thread nD τ) 0 W
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg10 fullShare (out10 xh xd x2 x3 x4 x5 x6 x7 x8) ∗ owns (c : Thread nD τ) arg11 fullShare (out11 xh xd x2 x4 x5 x6 x7 x8) ∗ owns (c : Thread nD τ) arg12 fullShare (out12 xh xd x2 x3 x4 x5 x6 x7 x8) ∗ owns (c : Thread nD τ) arg13 fullShare (out13 xh xd x2 x3 x4 x5 x6 x7 x8) ∗ owns (c : Thread nD τ) arg14 fullShare (out14 xh xd x2 x3 x4 x5 x6 x7 x8) ∗ owns (c : Thread nD τ) arg15 fullShare (out15 xh xd x2 x3 x4 x5 x6 x7 x8) ∗ owns (c : Thread nD τ) arg16 fullShare (out16 xh xd x2 x3 x4 x5 x6 x7) ∗ owns (c : Thread nD τ) scM0 fullShare xh ∗ owns (c : Thread nD τ) scM1 fullShare xd ∗ (∃ d, ⌜Halo d⌝ ∗ owns (c : Thread nD τ) scM2 fullShare d) ∗ (∃ d, ⌜Halo d⌝ ∗ owns (c : Thread nD τ) scM3 fullShare d) ∗ (∃ d, ⌜Halo d⌝ ∗ owns (c : Thread nD τ) scM4 fullShare d) ∗ (∃ d, owns (c : Thread nD τ) scM5 fullShare d) ∗ semVal ((c : Thread nD τ), SemLoc.dma 28) 0 ∗ semVal ((c : Thread nD τ), SemLoc.dma 29) 0 ∗ hbPt c hbM0 fh ∗ hbPt c hbM1 fd ∗ (∃ W', owes (c : Thread nD τ) 0 W')) -∗ Q ⟨⟩))
      ⊢ wp frame (wpE (defs₀ (F := F)) Variants.none c none) Set.univ
          (cc0_ffn_bwd_mid i hbM0 (Memref.isWhole_whole _) arg2 harg2 arg3 harg3 arg4 harg4 arg5 harg5 arg6 harg6 arg7 harg7 arg8 harg8 hbM1 (Memref.isWhole_whole _) arg10 harg10 arg11 harg11 arg12 harg12 arg13 harg13 arg14 harg14 arg15 harg15 arg16 harg16 scM0 (Memref.isWhole_whole _) scM1 (Memref.isWhole_whole _) scM2 (Memref.isWhole_whole _) scM3 (Memref.isWhole_whole _) scM4 (Memref.isWhole_whole _) scM5 (Memref.isWhole_whole _) cc0_scoped0 cc0_scoped1) Q := by
  simp only [cc0_ffn_bwd_mid_eq_skeleton]; unfold cc0_ffn_bwd_mid_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fs0, %hs0, HS0⟩, ⟨%fs1, %hs1, HS1⟩, ⟨%ds2, %hz2, %fs2, %hs2, HS2⟩, ⟨%ds3, %hz3, %fs3, %hs3, HS3⟩, ⟨%ds4, %hz4, %fs4, %hs4, HS4⟩, ⟨%ds5, %fs5, -, HS5⟩, Hq0, Hq1, Hh0, Hh1, HW, Hk⟩
  subst h2 h3 h4 h5 h6 h7 h8 hs0 hs1
  sl_exec
  sl_step
  iapply Hk
  have e2 := read_padded scM2.view fs2 (k0_pay28 (scM0.view.readAt (Elt F) (Rect.unit (s := S2048x1024) ![0, 0] S2048x1024.size inb_S2048x1024_S2048x1024_0_0).toLoadRect fs0) (arg2.view.readAt (Elt F) (Rect.unit (s := S1x1024x256) ![0, 0, 0] S1x1024x256.size inb_S1x1024x256_S1x1024x256_0_0_0).toLoadRect f2)) [] (hs2 ▸ hz2)
  have e3 := read_padded scM3.view fs3 (k0_pay29 (scM0.view.readAt (Elt F) (Rect.unit (s := S2048x1024) ![0, 0] S2048x1024.size inb_S2048x1024_S2048x1024_0_0).toLoadRect fs0) (arg3.view.readAt (Elt F) (Rect.unit (s := S1x1024x256) ![0, 0, 0] S1x1024x256.size inb_S1x1024x256_S1x1024x256_0_0_0).toLoadRect f3)) [] (hs3 ▸ hz3)
  have e4 := read_padded scM4.view fs4 (k0_pay30 (scM1.view.readAt (Elt F) (Rect.unit (s := S2048x1024) ![0, 0] S2048x1024.size inb_S2048x1024_S2048x1024_0_0).toLoadRect fs1) (arg8.view.readAt (Elt F) (Rect.unit (s := S256x1024) ![0, 0] S256x1024.size inb_S256x1024_S256x1024_0_0).toLoadRect f8)) [] (hs4 ▸ hz4)
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H10]
  · iexists _; isplitr; swap; · iexact H10
    ipureintro; exact read_out10 _ _ rfl e2 e3 e4 rfl
  isplitl [H11]
  · iexists _; isplitr; swap; · iexact H11
    ipureintro; exact read_out11 _ _ rfl e2 e4 rfl
  isplitl [H12]
  · iexists _; isplitr; swap; · iexact H12
    ipureintro; unfold run_later.sl.r_3; generalize ha : accAt (F := F) _ _ _ _ _ _ = a; exact read_out12 _ _ (ha.symm.trans (sums_eq rfl e2 e3 e4 rfl))
  isplitl [H13]
  · iexists _; isplitr; swap; · iexact H13
    ipureintro; unfold run_later.sl.r_5; unfold run_later.sl.r_4; generalize ha : accAt (F := F) _ _ _ _ _ _ = a; exact read_out13 _ _ (ha.symm.trans (sums_eq rfl e2 e3 e4 rfl))
  isplitl [H14]
  · iexists _; isplitr; swap; · iexact H14
    ipureintro; unfold run_later.sl.r_6; generalize ha : accAt (F := F) _ _ _ _ _ _ = a; exact read_out14 _ _ (ha.symm.trans (sums_eq rfl e2 e3 e4 rfl))
  isplitl [H15]
  · iexists _; isplitr; swap; · iexact H15
    ipureintro; unfold run_later.sl.r_7; generalize ha : accAt (F := F) _ _ _ _ _ _ = a; exact read_out15 _ _ (ha.symm.trans (sums_eq rfl e2 e3 e4 rfl))
  isplitl [H16]
  · iexists _; isplitr; swap; · iexact H16
    ipureintro; exact read_out16 _ _ rfl (read_act _ _ rfl e2 e3 rfl)
  isplitl [HS0]
  · iexists _; isplitr; swap; · iexact HS0
    ipureintro; rfl
  isplitl [HS1]
  · iexists _; isplitr; swap; · iexact HS1
    ipureintro; rfl
  isplitl [HS2]
  · iexists _; isplitr; swap
    · iexists _; isplitr; swap; · iexact HS2
      ipureintro; rfl
    ipureintro; rw [e2]; exact halo_padded _
  isplitl [HS3]
  · iexists _; isplitr; swap
    · iexists _; isplitr; swap; · iexact HS3
      ipureintro; rfl
    ipureintro; rw [e3]; exact halo_padded _
  isplitl [HS4]
  · iexists _; isplitr; swap
    · iexists _; isplitr; swap; · iexact HS4
      ipureintro; rfl
    ipureintro; rw [e4]; exact halo_padded _
  isplitl [HS5]
  · iexists _, _; isplitr; swap; · iexact HS5
    ipureintro; rfl
  isplitl [Hq0]; · iexact Hq0
  isplitl [Hq1]; · iexact Hq1
  isplitl [Hh0]; · iexact Hh0
  isplitl [Hh1]; · iexact Hh1
  iexists _; iexact HW

set_option maxHeartbeats 16000000 in
/-- The body at the first point. -/
theorem run_first (c : Dev nD) (i : grid0.Coords) (hc : Scalar.cmpi .ne (Scalar.extui (Scalar.cmpi .eq (BitVec.ofNat 32 (i 0).val) 0#32) : BitVec 32) 0#32 = 1#1)
    (arg2 : Memref sig .tc .vmem S1x1024x256 .bf16) (harg2 : arg2.IsWhole) (arg3 : Memref sig .tc .vmem S1x1024x256 .bf16) (harg3 : arg3.IsWhole) (arg4 : Memref sig .tc .vmem S1x3x256 .f32) (harg4 : arg4.IsWhole) (arg5 : Memref sig .tc .vmem S1x3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .bf16) (harg8 : arg8.IsWhole) (arg10 : Memref sig .tc .vmem S2048x256 .bf16) (harg10 : arg10.IsWhole) (arg11 : Memref sig .tc .vmem S2048x256 .bf16) (harg11 : arg11.IsWhole) (arg12 : Memref sig .tc .vmem S1x3x256 .f32) (harg12 : arg12.IsWhole) (arg13 : Memref sig .tc .vmem S1x3x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x1024 .bf16) (harg16 : arg16.IsWhole)
    (fh : HbBuf (F := F) c hbM0) (fd : HbBuf (F := F) c hbM1) (xh xd : Vec F S2048x1024 .bf16) (hxh : hbM0.view.read (Elt F) fh = xh) (hxd : hbM1.view.read (Elt F) fd = xd)
    (x2 : Vec F S1x1024x256 .bf16) (x3 : Vec F S1x1024x256 .bf16) (x4 : Vec F S1x3x256 .f32) (x5 : Vec F S1x3x256 .f32) (x6 : Vec F S1x256 .f32) (x7 : Vec F S1x256 .f32) (x8 : Vec F S256x1024 .bf16) (W : Waits sig Unit) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ semVal ((c : Thread nD τ), SemLoc.dma 28) 0 ∗ semVal ((c : Thread nD τ), SemLoc.dma 29) 0 ∗ hbPt c hbM0 fh ∗ hbPt c hbM1 fd ∗ owes (c : Thread nD τ) 0 W
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg10 fullShare (out10 xh xd x2 x3 x4 x5 x6 x7 x8) ∗ owns (c : Thread nD τ) arg11 fullShare (out11 xh xd x2 x4 x5 x6 x7 x8) ∗ owns (c : Thread nD τ) arg12 fullShare (out12 xh xd x2 x3 x4 x5 x6 x7 x8) ∗ owns (c : Thread nD τ) arg13 fullShare (out13 xh xd x2 x3 x4 x5 x6 x7 x8) ∗ owns (c : Thread nD τ) arg14 fullShare (out14 xh xd x2 x3 x4 x5 x6 x7 x8) ∗ owns (c : Thread nD τ) arg15 fullShare (out15 xh xd x2 x3 x4 x5 x6 x7 x8) ∗ owns (c : Thread nD τ) arg16 fullShare (out16 xh xd x2 x3 x4 x5 x6 x7) ∗ owns (c : Thread nD τ) scM0 fullShare xh ∗ owns (c : Thread nD τ) scM1 fullShare xd ∗ (∃ d, ⌜Halo d⌝ ∗ owns (c : Thread nD τ) scM2 fullShare d) ∗ (∃ d, ⌜Halo d⌝ ∗ owns (c : Thread nD τ) scM3 fullShare d) ∗ (∃ d, ⌜Halo d⌝ ∗ owns (c : Thread nD τ) scM4 fullShare d) ∗ (∃ d, owns (c : Thread nD τ) scM5 fullShare d) ∗ semVal ((c : Thread nD τ), SemLoc.dma 28) 0 ∗ semVal ((c : Thread nD τ), SemLoc.dma 29) 0 ∗ hbPt c hbM0 fh ∗ hbPt c hbM1 fd ∗ (∃ W', owes (c : Thread nD τ) 0 W')) -∗ Q ⟨⟩))
      ⊢ wp frame (wpE (defs₀ (F := F)) Variants.none c none) Set.univ
          (cc0_ffn_bwd_mid i hbM0 (Memref.isWhole_whole _) arg2 harg2 arg3 harg3 arg4 harg4 arg5 harg5 arg6 harg6 arg7 harg7 arg8 harg8 hbM1 (Memref.isWhole_whole _) arg10 harg10 arg11 harg11 arg12 harg12 arg13 harg13 arg14 harg14 arg15 harg15 arg16 harg16 scM0 (Memref.isWhole_whole _) scM1 (Memref.isWhole_whole _) scM2 (Memref.isWhole_whole _) scM3 (Memref.isWhole_whole _) scM4 (Memref.isWhole_whole _) scM5 (Memref.isWhole_whole _) cc0_scoped0 cc0_scoped1) Q := by
  simp only [cc0_ffn_bwd_mid_eq_skeleton]; unfold cc0_ffn_bwd_mid_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hq0, Hq1, Hh0, Hh1, HW, Hk⟩
  subst h2 h3 h4 h5 h6 h7 h8 hxh hxd
  sl_exec
  sl_step
  iapply Hk
  have e0 := read_landed scM0.view scM0.view.junk (hbM0.view.read (Elt F) fh)
  have e1 := read_landed scM1.view scM1.view.junk (hbM1.view.read (Elt F) fd)
  have e2 := (read_padded scM2.view scM2.view.junk (k0_pay28 (scM0.view.readAt (Elt F) (Rect.unit (s := S2048x1024) ![0, 0] S2048x1024.size inb_S2048x1024_S2048x1024_0_0).toLoadRect (scM0.view.writes (Elt F) scM0.view.junk [⟨Rect.whole S2048x1024, hbM0.view.read (Elt F) fh⟩])) (arg2.view.readAt (Elt F) (Rect.unit (s := S1x1024x256) ![0, 0, 0] S1x1024x256.size inb_S1x1024x256_S1x1024x256_0_0_0).toLoadRect f2)) [⟨Rect.unit (s := S2064x256) ![2056, 0] S8x256.size inb_S2064x256_S8x256_2056_0, k0_pay23⟩, ⟨Rect.unit (s := S2064x256) ![0, 0] S8x256.size inb_S2064x256_S8x256_0_0, k0_pay22⟩] (halo_zeroed _ _ _ _ (fun _ => rfl) (fun _ => rfl))).trans (congrArg (fun y => padU y (arg2.view.read (Elt F) f2)) e0)
  have e3 := (read_padded scM3.view scM3.view.junk (k0_pay29 (scM0.view.readAt (Elt F) (Rect.unit (s := S2048x1024) ![0, 0] S2048x1024.size inb_S2048x1024_S2048x1024_0_0).toLoadRect (scM0.view.writes (Elt F) scM0.view.junk [⟨Rect.whole S2048x1024, hbM0.view.read (Elt F) fh⟩])) (arg3.view.readAt (Elt F) (Rect.unit (s := S1x1024x256) ![0, 0, 0] S1x1024x256.size inb_S1x1024x256_S1x1024x256_0_0_0).toLoadRect f3)) [⟨Rect.unit (s := S2064x256) ![2056, 0] S8x256.size inb_S2064x256_S8x256_2056_0, k0_pay25⟩, ⟨Rect.unit (s := S2064x256) ![0, 0] S8x256.size inb_S2064x256_S8x256_0_0, k0_pay24⟩] (halo_zeroed _ _ _ _ (fun _ => rfl) (fun _ => rfl))).trans (congrArg (fun y => padG y (arg3.view.read (Elt F) f3)) e0)
  have e4 := (read_padded scM4.view scM4.view.junk (k0_pay30 (scM1.view.readAt (Elt F) (Rect.unit (s := S2048x1024) ![0, 0] S2048x1024.size inb_S2048x1024_S2048x1024_0_0).toLoadRect (scM1.view.writes (Elt F) scM1.view.junk [⟨Rect.whole S2048x1024, hbM1.view.read (Elt F) fd⟩])) (arg8.view.readAt (Elt F) (Rect.unit (s := S256x1024) ![0, 0] S256x1024.size inb_S256x1024_S256x1024_0_0).toLoadRect f8)) [⟨Rect.unit (s := S2064x256) ![2056, 0] S8x256.size inb_S2064x256_S8x256_2056_0, k0_pay27⟩, ⟨Rect.unit (s := S2064x256) ![0, 0] S8x256.size inb_S2064x256_S8x256_0_0, k0_pay26⟩] (halo_zeroed _ _ _ _ (fun _ => rfl) (fun _ => rfl))).trans (congrArg (fun y => padA y (arg8.view.read (Elt F) f8)) e1)
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H10]
  · iexists _; isplitr; swap; · iexact H10
    ipureintro; exact read_out10 _ _ rfl e2 e3 e4 rfl
  isplitl [H11]
  · iexists _; isplitr; swap; · iexact H11
    ipureintro; exact read_out11 _ _ rfl e2 e4 rfl
  isplitl [H12]
  · iexists _; isplitr; swap; · iexact H12
    ipureintro; unfold run_first.sl.r_2; generalize ha : accAt (F := F) _ _ _ _ _ _ = a; exact read_out12 _ _ (ha.symm.trans (sums_eq rfl e2 e3 e4 rfl))
  isplitl [H13]
  · iexists _; isplitr; swap; · iexact H13
    ipureintro; unfold run_first.sl.r_4; unfold run_first.sl.r_3; generalize ha : accAt (F := F) _ _ _ _ _ _ = a; exact read_out13 _ _ (ha.symm.trans (sums_eq rfl e2 e3 e4 rfl))
  isplitl [H14]
  · iexists _; isplitr; swap; · iexact H14
    ipureintro; unfold run_first.sl.r_5; generalize ha : accAt (F := F) _ _ _ _ _ _ = a; exact read_out14 _ _ (ha.symm.trans (sums_eq rfl e2 e3 e4 rfl))
  isplitl [H15]
  · iexists _; isplitr; swap; · iexact H15
    ipureintro; unfold run_first.sl.r_6; generalize ha : accAt (F := F) _ _ _ _ _ _ = a; exact read_out15 _ _ (ha.symm.trans (sums_eq rfl e2 e3 e4 rfl))
  isplitl [H16]
  · iexists _; isplitr; swap; · iexact H16
    ipureintro; exact read_out16 _ _ (congrArg ldH e1) (read_act _ _ rfl e2 e3 rfl)
  isplitl [HS0]
  · iexists _; isplitr; swap; · iexact HS0
    ipureintro; exact e0
  isplitl [HS1]
  · iexists _; isplitr; swap; · iexact HS1
    ipureintro; exact e1
  isplitl [HS2]
  · iexists _; isplitr; swap
    · iexists _; isplitr; swap; · iexact HS2
      ipureintro; rfl
    ipureintro; exact Eq.mpr (congrArg Halo e2) (halo_padded _)
  isplitl [HS3]
  · iexists _; isplitr; swap
    · iexists _; isplitr; swap; · iexact HS3
      ipureintro; rfl
    ipureintro; exact Eq.mpr (congrArg Halo e3) (halo_padded _)
  isplitl [HS4]
  · iexists _; isplitr; swap
    · iexists _; isplitr; swap; · iexact HS4
      ipureintro; rfl
    ipureintro; exact Eq.mpr (congrArg Halo e4) (halo_padded _)
  isplitl [HS5]
  · iexists _, _; isplitr; swap; · iexact HS5
    ipureintro; rfl
  isplitl [Hq0]; · iexact Hq0
  isplitl [Hq1]; · iexact Hq1
  isplitl [Hh0]; · iexact Hh0
  isplitl [Hh1]; · iexact Hh1
  iexists _; iexact HW

end Cert.KernelIdeal.Hand

end
-- ==== Proof.Frame.lean ====
/-
  The region's run and the frame: the proof data of its pipeline (the two operands left in HBM are in their buffers and
  the halo rows are zero after the first point), the body obligation at every point off `run_first` and `run_later`,
  the program's run, and what it leaves in the arguments.
-/
module

public import proofs.«01_k».proof.Proof.Body
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

set_option maxHeartbeats 800000 in
/-- @main is the host lines, the region, the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The body's own semaphores: one for each of its two copies. -/
abbrev osem0 : Fin 2 → SemLoc sig := fun j => (![SemLoc.dma 28, SemLoc.dma 29] : Fin 2 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 28) 0 ∗ semVal ((c : Thread nD τ), SemLoc.dma 29) 0) := by
  rw [Pipeline.ownSems0_eq_of_list c osem0 [0, 1] (by decide) (by decide)]; rfl

/-- The operands left in HBM, which the body copies itself. -/
def H0 : Finset (Ref sig .tc) := {main_v5, main_v7}
theorem H0_sub : H0 ⊆ Pipeline.restRefs sig spec0 := by decide
theorem hbmPts_eq (c : Dev nD) :
    (bigSep H0 (fun b => ((c : Thread nD τ).loc b) ↦{fullShare} V m c b) : sProp 𝕄)
      = iprop(hbPt c hbM0 (V m c main_v5) ∗ hbPt c hbM1 (V m c main_v7)) := by
  rw [BI.bigSep_eq_bigSepL_of_eq [main_v5, main_v7] (by decide) (by decide)]; rfl

/-- The lines after the region touch neither of them. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  refine Pipeline.sub_tailRefsBut Pipeline.Prefetch.none spec0 H0 op ?_ (fun k => k.elim0) ?_
  · simp only [List.mem_cons, List.mem_nil_iff, or_false] at hops
    rcases hops with rfl
    exact (List.forall_iff_forall_mem.mp hostOps1_sub) op hop
  · simp only [List.mem_cons, List.mem_nil_iff, or_false] at hops
    rcases hops with rfl
    simp only [hostOps1, List.mem_cons, List.mem_nil_iff, or_false] at hop
    intro b hb
    simp only [H0, Finset.mem_insert, Finset.mem_singleton] at hb
    rcases hop with rfl | rfl | rfl | rfl | rfl | rfl <;> rcases hb with rfl | rfl <;>
      simp only [StableHlo.unary_bufs, StableHlo.binary_bufs, Finset.mem_insert, Finset.mem_singleton, not_or] <;>
      (repeat' apply And.intro) <;> exact StableHlo.devRef_ne_of_ne (by decide)

/-! ## The proof data -/

/-- What the two copies land. -/
def xh (c : Dev nD) : Vec F S2048x1024 .bf16 := hbM0.view.read (Elt F) (V m c main_v5)
def xd (c : Dev nD) : Vec F S2048x1024 .bf16 := hbM1.view.read (Elt F) (V m c main_v7)

/-- What the body leaves in each result's buffer at point `t`. -/
def dugAt (c : Dev nD) (t : Fin cfg0.N) : Vec F S2048x256 .bf16 := out10 (xh m c) (xd m c) (iblk m c 0 t) (iblk m c 1 t) (iblk m c 2 t) (iblk m c 3 t) (iblk m c 4 t) (iblk m c 5 t) (iblk m c 6 t)
def duvAt (c : Dev nD) (t : Fin cfg0.N) : Vec F S2048x256 .bf16 := out11 (xh m c) (xd m c) (iblk m c 0 t) (iblk m c 2 t) (iblk m c 3 t) (iblk m c 4 t) (iblk m c 5 t) (iblk m c 6 t)
def dcgAt (c : Dev nD) (t : Fin cfg0.N) : Vec F S1x3x256 .f32 := out12 (xh m c) (xd m c) (iblk m c 0 t) (iblk m c 1 t) (iblk m c 2 t) (iblk m c 3 t) (iblk m c 4 t) (iblk m c 5 t) (iblk m c 6 t)
def dcvAt (c : Dev nD) (t : Fin cfg0.N) : Vec F S1x3x256 .f32 := out13 (xh m c) (xd m c) (iblk m c 0 t) (iblk m c 1 t) (iblk m c 2 t) (iblk m c 3 t) (iblk m c 4 t) (iblk m c 5 t) (iblk m c 6 t)
def dbgAt (c : Dev nD) (t : Fin cfg0.N) : Vec F S1x256 .f32 := out14 (xh m c) (xd m c) (iblk m c 0 t) (iblk m c 1 t) (iblk m c 2 t) (iblk m c 3 t) (iblk m c 4 t) (iblk m c 5 t) (iblk m c 6 t)
def dbvAt (c : Dev nD) (t : Fin cfg0.N) : Vec F S1x256 .f32 := out15 (xh m c) (xd m c) (iblk m c 0 t) (iblk m c 1 t) (iblk m c 2 t) (iblk m c 3 t) (iblk m c 4 t) (iblk m c 5 t) (iblk m c 6 t)
def dwdAt (c : Dev nD) (t : Fin cfg0.N) : Vec F S256x1024 .bf16 := out16 (xh m c) (xd m c) (iblk m c 0 t) (iblk m c 1 t) (iblk m c 2 t) (iblk m c 3 t) (iblk m c 4 t) (iblk m c 5 t)

/-- The scratch buffers before point `t`: anything before the first point; afterwards the two operands are in theirs and the
    halo rows of the three padded buffers are zero. -/
def scratchAt (c : Dev nD) (t : Fin (cfg0.N + 1)) : sProp 𝕄 :=
  if t.val = 0 then iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d))
  else iprop(owns (c : Thread nD τ) scM0 fullShare (xh m c) ∗ owns (c : Thread nD τ) scM1 fullShare (xd m c) ∗ (∃ d, ⌜Halo d⌝ ∗ owns (c : Thread nD τ) scM2 fullShare d) ∗ (∃ d, ⌜Halo d⌝ ∗ owns (c : Thread nD τ) scM3 fullShare d) ∗ (∃ d, ⌜Halo d⌝ ∗ owns (c : Thread nD τ) scM4 fullShare d) ∗ (∃ d, owns (c : Thread nD τ) scM5 fullShare d))

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dugAt m c t
    | ⟨8, _⟩ => duvAt m c t
    | ⟨9, _⟩ => dcgAt m c t
    | ⟨10, _⟩ => dcvAt m c t
    | ⟨11, _⟩ => dbgAt m c t
    | ⟨12, _⟩ => dbvAt m c t
    | ⟨13, _⟩ => dwdAt m c t
  Φ t := iprop(scratchAt m c t ∗ (∃ r, prngReg c r)
    ∗ iprop(semVal ((c : Thread nD τ), SemLoc.dma 28) 0 ∗ semVal ((c : Thread nD τ), SemLoc.dma 29) 0)
    ∗ iprop(hbPt c hbM0 (V m c main_v5) ∗ hbPt c hbM1 (V m c main_v7)))
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = dugAt m c t := by dsimp only [dats]
theorem after_8 (c : Dev nD) (t : Fin cfg0.N) : (dats m 0 c).after 8 t = duvAt m c t := by dsimp only [dats]
theorem after_9 (c : Dev nD) (t : Fin cfg0.N) : (dats m 0 c).after 9 t = dcgAt m c t := by dsimp only [dats]
theorem after_10 (c : Dev nD) (t : Fin cfg0.N) : (dats m 0 c).after 10 t = dcvAt m c t := by dsimp only [dats]
theorem after_11 (c : Dev nD) (t : Fin cfg0.N) : (dats m 0 c).after 11 t = dbgAt m c t := by dsimp only [dats]
theorem after_12 (c : Dev nD) (t : Fin cfg0.N) : (dats m 0 c).after 12 t = dbvAt m c t := by dsimp only [dats]
theorem after_13 (c : Dev nD) (t : Fin cfg0.N) : (dats m 0 c).after 13 t = dwdAt m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-- The guard of the first point's work holds at the first point only. -/
theorem guard_iff : ∀ t : Fin grid0.N, (Scalar.cmpi .ne (Scalar.extui (Scalar.cmpi .eq (BitVec.ofNat 32 (grid0.coords t 0).val) 0#32) : BitVec 32) 0#32 = 1#1) ↔ t.val = 0 := by
  decide +kernel

theorem scratchAt_first (c : Dev nD) (t : Fin (cfg0.N + 1)) (h : t.val = 0) :
    scratchAt m c t = iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d)) := if_pos h
theorem scratchAt_later (c : Dev nD) (t : Fin (cfg0.N + 1)) (h : t.val ≠ 0) :
    scratchAt m c t = iprop(owns (c : Thread nD τ) scM0 fullShare (xh m c) ∗ owns (c : Thread nD τ) scM1 fullShare (xd m c) ∗ (∃ d, ⌜Halo d⌝ ∗ owns (c : Thread nD τ) scM2 fullShare d) ∗ (∃ d, ⌜Halo d⌝ ∗ owns (c : Thread nD τ) scM3 fullShare d) ∗ (∃ d, ⌜Halo d⌝ ∗ owns (c : Thread nD τ) scM4 fullShare d) ∗ (∃ d, owns (c : Thread nD τ) scM5 fullShare d)) := if_neg h

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t) ∗ owns (c : Thread nD τ) (win0_13.stage (cfg0.slots t 13)) fullShare ((dats m 0 c).after 13 t))

theorem Phi_eq (c : Dev nD) (t : Fin (cfg0.N + 1)) : (dats m 0 c).Φ t = iprop(scratchAt m c t ∗ (∃ r, prngReg c r)
    ∗ iprop(semVal ((c : Thread nD τ), SemLoc.dma 28) 0 ∗ semVal ((c : Thread nD τ), SemLoc.dma 29) 0)
    ∗ iprop(hbPt c hbM0 (V m c main_v5) ∗ hbPt c hbM1 (V m c main_v7))) := by dsimp only [dats]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  unfold Dat.owesAt Pipeline.owesWithin
  rw [show (dats m 0 c).owed t.castSucc = 0 from rfl, show (dats m 0 c).owed t.succ = 0 from rfl]
  rw [Phi_eq, Phi_eq, after_0, after_1, after_2, after_3, after_4, after_5, after_6, after_7, after_8, after_9, after_10, after_11, after_12, after_13]
  simp only [before_0, before_1, before_2, before_3, before_4, before_5, before_6]
  rw [scratchAt_later m c t.succ (Nat.succ_ne_zero _)]
  unfold dugAt duvAt dcgAt dcvAt dbgAt dbvAt dwdAt
  by_cases h : t.val = 0
  · have hc := (guard_iff t).2 h
    rw [scratchAt_first m c t.castSucc h]
    iintro ⟨⟨⟨HS0, HS1, HS2, HS3, HS4, HS5⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_first c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (V m c main_v5) (V m c main_v7) (xh m c) (xd m c) rfl rfl (iblk m c 0 t) (iblk m c 1 t) (iblk m c 2 t) (iblk m c 3 t) (iblk m c 4 t) (iblk m c 5 t) (iblk m c 6 t) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    isplitl [HS4]; · iexact HS4
    isplitl [HS5]; · iexact HS5
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, H5, H6, H7, H8, H9, H10, H11, H12, H13, HS0, HS1, HS2, HS3, HS4, HS5, Hq0, Hq1, Hh0, Hh1, ⟨%W', HW'⟩⟩
    isplitl [HS0 HS1 HS2 HS3 HS4 HS5 Hg Hq0 Hq1 Hh0 Hh1]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · have hc := fun e => h ((guard_iff t).1 e)
    rw [scratchAt_later m c t.castSucc h]
    iintro ⟨⟨⟨HS0, HS1, HS2, HS3, HS4, HS5⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_later c (grid0.coords t) hc (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (V m c main_v5) (V m c main_v7) (xh m c) (xd m c) rfl rfl (iblk m c 0 t) (iblk m c 1 t) (iblk m c 2 t) (iblk m c 3 t) (iblk m c 4 t) (iblk m c 5 t) (iblk m c 6 t) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    isplitl [HS4]; · iexact HS4
    isplitl [HS5]; · iexact HS5
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, H5, H6, H7, H8, H9, H10, H11, H12, H13, HS0, HS1, HS2, HS3, HS4, HS5, Hq0, Hq1, Hh0, Hh1, ⟨%W', HW'⟩⟩
    isplitl [HS0 HS1 HS2 HS3 HS4 HS5 Hg Hq0 Hq1 Hh0 Hh1]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem PhiD_eq (c : Dev nD) : (Pipeline.ΦD osem0 spec0 H0 (V m) c : sProp 𝕄)
    = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d)) ∗ (∃ r, prngReg c r)
      ∗ iprop(semVal ((c : Thread nD τ), SemLoc.dma 28) 0 ∗ semVal ((c : Thread nD τ), SemLoc.dma 29) 0)
      ∗ iprop(hbPt c hbM0 (V m c main_v5) ∗ hbPt c hbM1 (V m c main_v7))) := by
  rw [Pipeline.ΦD_eq, scopedRest0_eq, ownSems_eq, hbmPts_eq]
  simp only [scM0, scM1, scM2, scM3, scM4, scM5, owns_whole]; try rfl

theorem enter (c : Dev nD) : Pipeline.ΦD osem0 spec0 H0 (V m) c ⊢ (dats m 0 c).Φ 0 := by
  rw [PhiD_eq, Phi_eq, scratchAt_first m c 0 rfl]

theorem leave (c : Dev nD) : (dats m 0 c).Φ (Fin.last cfg0.N) ⊢ Pipeline.ΦD osem0 spec0 H0 (V m) c := by
  rw [PhiD_eq, Phi_eq, scratchAt_later m c (Fin.last cfg0.N) (by show grid0.N ≠ 0; rw [N_0]; decide)]
  iintro ⟨⟨HS0, HS1, ⟨%d2, -, HS2⟩, ⟨%d3, -, HS3⟩, ⟨%d4, -, HS4⟩, HS5⟩, Hg, Hq, Hh⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexact HS5
  isplitl [Hg]; · iexact Hg
  isplitl [Hq]; · iexact Hq
  iexact Hh

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V₀ := V0 m) (opss := [hostOps1]) (hsub := tail_sub) (hfresh := sfx_fresh) (hkeep := sfx_keeps)
    (hmain := hmain m Variants.none) (hA := A_eq m) (hin := enter m) (hout := leave m)

theorem tail_arg0 (c : Dev nD) : Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall,
        StableHlo.unary_writes, StableHlo.binary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem tail_arg1 (c : Dev nD) : Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall,
        StableHlo.unary_writes, StableHlo.binary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem tail_arg2 (c : Dev nD) : Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall,
        StableHlo.unary_writes, StableHlo.binary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem tail_arg4 (c : Dev nD) : Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall,
        StableHlo.unary_writes, StableHlo.binary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem tail_arg5 (c : Dev nD) : Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall,
        StableHlo.unary_writes, StableHlo.binary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- The arguments end as launched and every counter is at zero. -/
theorem args_kept {r : PUnit × MemSt nD τ sig (Elt F)}
    (h : Pipeline.FramePost cfgs (dats m) 0 (Pipeline.afterTail₀ cfgs (dats m) 0 (V0 m) [hostOps1]) r ∧ r.2.sem = fun _ => 0) :
    (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0 :=
  ⟨fun c => ⟨((h.1 c).2 main_arg0 (Pipeline.mem_restRefs_of main_arg0 (by decide) (by decide))).trans (tail_arg0 m c),
      ((h.1 c).2 main_arg1 (Pipeline.mem_restRefs_of main_arg1 (by decide) (by decide))).trans (tail_arg1 m c),
      ((h.1 c).2 main_arg2 (Pipeline.mem_restRefs_of main_arg2 (by decide) (by decide))).trans (tail_arg2 m c),
      ((h.1 c).1 5).trans (((dats m 0 c).arrAt_in 5 rfl _).trans ((A_eq m c 5).trans (V_main_arg3 m c))),
      ((h.1 c).2 main_arg4 (Pipeline.mem_restRefs_of main_arg4 (by decide) (by decide))).trans (tail_arg4 m c),
      ((h.1 c).2 main_arg5 (Pipeline.mem_restRefs_of main_arg5 (by decide) (by decide))).trans (tail_arg5 m c)⟩, h.2⟩

end Cert.KernelIdeal.Hand

end
-- ==== Proof.Scalar.lean ====
/-
  The mathematics both programs share, one number at a time, over the extended reals: the three-tap filter, the tanh form
  of the gelu, the gated product's two cotangents; a column read at a natural-number row, zero outside it; and the
  summation of a column in eight runs of 256 rows.
-/
module

public import Idealize.ShloMosaic.PureOps.Ideal
public import Idealize.ShloMosaic.PureOps.Ideal.Laws

@[expose] public section

noncomputable section

namespace Cert.Maths

open Idealize.ShloMosaic

def zero : EReal := FloatOps.ofBits (F := Ideal) .f32 0x00000000#32
def one : EReal := FloatOps.ofBits (F := Ideal) .f32 0x3F800000#32
def half : EReal := FloatOps.ofBits (F := Ideal) .f32 0x3F000000#32
def three : EReal := FloatOps.ofBits (F := Ideal) .f32 0x40400000#32
/-- The cubic coefficient of the gelu's tanh form. -/
def cubic : EReal := FloatOps.ofBits (F := Ideal) .f32 0x3D372713#32
/-- The square root of two over pi, rounded. -/
def slope : EReal := FloatOps.ofBits (F := Ideal) .f32 0x3F4C422A#32

theorem zero_eq : zero = 0 := Ideal.ofBits_zero_f32

/-- The filter: the bias and three taps. -/
def taps (b w0 w1 w2 x2 x1 x0 : EReal) : EReal := ((b + w0 * x2) + w1 * x1) + w2 * x0

/-- The tanh of the gelu. -/
def th (g : EReal) : EReal := FloatOps.tanh (F := Ideal) (φ := .f32) (slope * (g + cubic * (g * (g * g))))

/-- The gelu. -/
def gelu (g : EReal) : EReal := g * (half * (one + th g))

/-- The value's cotangent. -/
def dVal (a g : EReal) : EReal := gelu g * a

/-- The chain through the tanh. -/
def chain (a g v : EReal) : EReal := slope * ((half * (g * (a * v))) * ((one + th g) * (one - th g)))

/-- The gate's cotangent. -/
def dGate (a g v : EReal) : EReal :=
  ((a * v) * (half * (one + th g)) + chain a g v) + (cubic * chain a g v) * (three * (g * g))

theorem dVal_zero (g : EReal) : dVal 0 g = 0 := by unfold dVal; rw [mul_zero]

theorem dGate_zero (g v : EReal) : dGate 0 g v = 0 := by
  unfold dGate chain
  simp only [zero_mul, mul_zero, add_zero]

/-- A column moved down by `s` rows, zero above. -/
def down (s : ℕ) (u : ℕ → EReal) (n : ℕ) : EReal := if n < s then 0 else u (n - s)

theorem down_down (s s' : ℕ) (u : ℕ → EReal) (n : ℕ) : down (s + s') u (n + s') = down s u n := by
  unfold down
  by_cases h : n < s
  · rw [if_pos h, if_pos (by omega)]
  · rw [if_neg h, if_neg (by omega)]; congr 1; omega

/-- A column of 2048 rows read at any row, zero past its end. -/
def col (f : Fin 2048 → EReal) (n : ℕ) : EReal := if h : n < 2048 then f ⟨n, h⟩ else 0

theorem col_at (f : Fin 2048 → EReal) (n : Fin 2048) : col f n.val = f n := by unfold col; rw [dif_pos n.isLt]

theorem col_past (f : Fin 2048 → EReal) (n : ℕ) (h : 2048 ≤ n) : col f n = 0 := by unfold col; rw [dif_neg (by omega)]

/-- A column of products, its bias and its three taps. -/
structure Half where
  b : EReal
  w0 : EReal
  w1 : EReal
  w2 : EReal
  u : ℕ → EReal

namespace Half

/-- The column filtered: each row, the row above it and the row above that. -/
def y (H : Half) (n : ℕ) : EReal := taps H.b H.w0 H.w1 H.w2 (down 2 H.u n) (down 1 H.u n) (H.u n)
/-- The filter run backwards over a cotangent column. -/
def back (H : Half) (d : ℕ → EReal) (n : ℕ) : EReal := (H.w2 * d n + H.w1 * d (n + 1)) + H.w0 * d (n + 2)
/-- The cotangent of the tap that reads `s` rows above. -/
def tap (H : Half) (d : ℕ → EReal) (s : ℕ) : EReal := ∑ n : Fin 2048, d n.val * down s H.u n.val

end Half

/-- The gate's cotangent column, the value's, and the gated product, of a gate `G`, a value `V` and the product's cotangent. -/
def dG (G V : Half) (a : ℕ → EReal) (n : ℕ) : EReal := dGate (a n) (G.y n) (V.y n)
def dV (G : Half) (a : ℕ → EReal) (n : ℕ) : EReal := dVal (a n) (G.y n)
def act (G V : Half) (n : ℕ) : EReal := gelu (G.y n) * V.y n

/-- `K` runs of 256 rows are `K * 256` rows. -/
theorem sum_runs (f : ℕ → EReal) (K : ℕ) :
    ∑ k ∈ Finset.range K, ∑ q ∈ Finset.range 256, f (256 * k + q) = ∑ n ∈ Finset.range (256 * K), f n := by
  induction K with
  | zero => simp
  | succ K ih => rw [Finset.sum_range_succ, ih, Nat.mul_succ, Finset.sum_range_add]

end Cert.Maths

end
-- ==== Proof.Tile.lean ====
/-
  What the body computes on one tile of 256 columns, over the extended reals, an entry at a time: each result as the
  filter, the gelu and their cotangents (the module Scalar) of the tile's three columns of products.
-/
module

public import proofs.«01_k».proof.Proof.Body
public import proofs.«01_k».proof.Proof.Scalar
public import Idealize.ShloMosaic.Lib.KernelVsHost
public import Idealize.ShloMosaic.Lib.ValueIdx
public import Idealize.ShloMosaic.Lib.ValueLayout
public import Idealize.ShloMosaic.Lib.Pipeline.ValueKit
public import Idealize.ShloMosaic.Lib.Pointwise

@[expose] public section

noncomputable section

namespace Cert.KernelIdeal.Hand

open Cert.KernelIdeal Cert.KernelIdeal.Gen Cert.Maths
open Idealize.ShloMosaic Idealize.SL.Sem

/-! ## The vectors' operations at an entry -/

/-- A padded buffer's column `j` at row `n`. -/
def pcol (X : Vec Ideal S2064x256 .f32) (j : Fin 256) (n : ℕ) : EReal := if h : n < 2064 then X (ix2 ⟨n, h⟩ j) else 0

theorem trips_lt (k : Fin k0_t1_loop.trips) : k.val < 8 := Nat.lt_of_lt_of_eq k.isLt trips_eq

theorem chunk_apply (X : Vec Ideal S2064x256 .f32) (k : Fin k0_t1_loop.trips) (r : Fin 272) (j : Fin 256) :
    chunk X k (ix2 r j) = pcol X j (256 * k.val + r.val) := by
  have hk := trips_lt k
  unfold pcol
  rw [dif_pos (by omega)]
  unfold chunk
  refine View.ld_unit_apply_of X _ _ _ _ _ fun a => ?_
  have e := congrFun (off1_eq k) a
  match a with
  | ⟨0, _⟩ => exact (congrArg (· + r.val) e).symm
  | ⟨1, _⟩ => exact ((congrArg (· + j.val) e).trans (Nat.zero_add _)).symm

theorem row_apply (x : FVec Ideal S1x256 .f32) (h) (r : Fin 272) (j : Fin 256) :
    broadcastTo S272x256 x h (ix2 r j) = x (ix2 0 j) := by
  refine broadcastTo_apply x h _ _ fun a => ?_
  match a with
  | ⟨0, _⟩ => rfl
  | ⟨1, _⟩ => rfl

theorem rot_apply (s : BitVec 32) (x : FVec Ideal S272x256 .f32) (h) (r r' : Fin 272) (j : Fin 256)
    (hr : r'.val = (r.val + 272 - s.toNat % 272) % 272) :
    dynamicRotate 0 s none x h (ix2 r j) = x (ix2 r' j) := by
  refine dynamicRotate_apply 0 s x h _ _ fun b => ?_
  match b with
  | ⟨0, _⟩ => exact hr
  | ⟨1, _⟩ => rfl

theorem mid_apply (x : FVec Ideal S272x256 .f32) (h) (q : Fin 256) (j : Fin 256) :
    extractStridedSlice S256x256 ![8, 0] x h (ix2 q j) = x (ix2 ⟨8 + q.val, by omega⟩ j) := by
  refine extractStridedSlice_apply _ x h _ _ fun a => ?_
  match a with
  | ⟨0, _⟩ => rfl
  | ⟨1, _⟩ => show j.val = 0 + j.val; omega

theorem colsum_apply (x : FVec Ideal S256x256 .f32) (h) (h1) (h2) (h3) (j : Fin 256) :
    shapeCast S1x256 (multiReduction .add [0] S256 x 0x00000000#32 h h1 h2) h3 (ix2 0 j) = ∑ q : Fin 256, x (ix2 q j) := by
  rw [shapeCast_apply (s := S256) (t := S1x256) _ h3 (ix2 0 j) (ix1 j) (by
    rw [Shape.rowMajor_val_one, Shape.rowMajor_val_two]; show j.val = 0 * 256 + j.val; omega)]
  rw [multiReduction_add_apply, Ideal.reduceAdd_def, Ideal.reduceAdd_r2_a0]
  rfl

/-- Rounding to a shorter format does nothing to an extended real. -/
theorem truncf_id {s : Shape} (x : FVec Ideal s .f32) (h) : (truncf .bf16 x h : FVec Ideal s .bf16) = (x : s.Idx → EReal) := rfl

theorem drop1_apply (x : FVec Ideal S1x1x256 .f32) (h) (j : Fin 256) : shapeCast S1x256 x h (ix2 0 j) = x (ix3 0 0 j) :=
  ValueIdx.shapeCast_1ab_ab_apply x h 0 j

theorem add1_apply (x : FVec Ideal S1x256 .f32) (h) (j : Fin 256) : shapeCast S1x1x256 x h (ix3 0 0 j) = x (ix2 0 j) :=
  ValueIdx.shapeCast_ab_1ab_apply x h 0 0 j

/-! ## One trip at an entry -/

section trip
variable (K : Coef Ideal) (U G A : Vec Ideal S2064x256 .f32) (k : Fin k0_t1_loop.trips) (j : Fin 256)

/-- The filtered gate at padded row `n`. -/
def gAt (n : ℕ) : EReal :=
  taps (K.v35 (ix2 0 j)) (K.v24 (ix2 0 j)) (K.v25 (ix3 0 0 j)) (K.v27 (ix3 0 0 j)) (pcol U j (n - 2)) (pcol U j (n - 1)) (pcol U j n)
/-- The filtered value at padded row `n`. -/
def vAt (n : ℕ) : EReal :=
  taps (K.v36 (ix2 0 j)) (K.v29 (ix3 0 0 j)) (K.v31 (ix3 0 0 j)) (K.v33 (ix3 0 0 j)) (pcol G j (n - 2)) (pcol G j (n - 1)) (pcol G j n)
/-- The two cotangents at padded row `n`. -/
def dgAt (n : ℕ) : EReal := dGate (pcol A j n) (gAt K U j n) (vAt K G j n)
def dvAt (n : ℕ) : EReal := dVal (pcol A j n) (gAt K U j n)

theorem down1_apply (X : Vec Ideal S2064x256 .f32) (h) (r : Fin 272) (hr : 2 ≤ r.val) :
    dynamicRotate 0 1#32 none (chunk X k) h (ix2 r j) = pcol X j (256 * k.val + r.val - 1) := by
  rw [rot_apply 1#32 _ h r ⟨r.val - 1, by omega⟩ j (by show r.val - 1 = (r.val + 272 - 1) % 272; omega), chunk_apply]
  congr 1; show 256 * k.val + (r.val - 1) = _; omega

theorem down2_apply (X : Vec Ideal S2064x256 .f32) (h) (r : Fin 272) (hr : 2 ≤ r.val) :
    dynamicRotate 0 2#32 none (chunk X k) h (ix2 r j) = pcol X j (256 * k.val + r.val - 2) := by
  rw [rot_apply 2#32 _ h r ⟨r.val - 2, by omega⟩ j (by show r.val - 2 = (r.val + 272 - 2) % 272; omega), chunk_apply]
  congr 1; show 256 * k.val + (r.val - 2) = _; omega

theorem cvG_apply (r : Fin 272) (hr : 2 ≤ r.val) : cvG K U k (ix2 r j) = gAt K U j (256 * k.val + r.val) := by
  unfold cvG k0_pay9 k0_pay6 k0_pay5 k0_pay32 k0_pay33 gAt taps
  dsimp only [addf, mulf, Vector.zipWith]
  simp only [row_apply, drop1_apply, down1_apply k j U (by decide) r hr, down2_apply k j U (by decide) r hr, chunk_apply, Ideal.addf_def, Ideal.mulf_def]

theorem cvV_apply (r : Fin 272) (hr : 2 ≤ r.val) : cvV K G k (ix2 r j) = vAt K G j (256 * k.val + r.val) := by
  unfold cvV k0_pay10 k0_pay8 k0_pay7 k0_pay34 k0_pay35 k0_pay36 vAt taps
  dsimp only [addf, mulf]
  simp only [row_apply, drop1_apply, down1_apply k j G (by decide) r hr, down2_apply k j G (by decide) r hr, chunk_apply, Ideal.addf_def, Ideal.mulf_def]

theorem th_apply (r : Fin 272) (hr : 2 ≤ r.val) : Hand.th K U k (ix2 r j) = Maths.th (gAt K U j (256 * k.val + r.val)) := by
  unfold Hand.th k0_pay12 Maths.th
  rw [← cvG_apply K U k j r hr]
  rfl

theorem dcV_apply (r : Fin 272) (hr : 2 ≤ r.val) : dcV K U A k (ix2 r j) = dvAt K U A j (256 * k.val + r.val) := by
  unfold dvAt dVal gelu
  rw [← th_apply K U k j r hr, ← cvG_apply K U k j r hr, ← chunk_apply]
  rfl

theorem dcG_apply (r : Fin 272) (hr : 2 ≤ r.val) : dcG K U G A k (ix2 r j) = dgAt K U G A j (256 * k.val + r.val) := by
  unfold dgAt dGate chain
  rw [← th_apply K U k j r hr, ← cvG_apply K U k j r hr, ← cvV_apply K G k j r hr, ← chunk_apply]
  rfl

theorem up1_apply (x : FVec Ideal S272x256 .f32) (h) (r : Fin 272) (hr : r.val + 1 < 272) :
    dynamicRotate 0 271#32 none x h (ix2 r j) = x (ix2 ⟨r.val + 1, hr⟩ j) :=
  rot_apply 271#32 _ h r ⟨r.val + 1, hr⟩ j (by show r.val + 1 = (r.val + 272 - 271) % 272; omega)

theorem up2_apply (x : FVec Ideal S272x256 .f32) (h) (r : Fin 272) (hr : r.val + 2 < 272) :
    dynamicRotate 0 270#32 none x h (ix2 r j) = x (ix2 ⟨r.val + 2, hr⟩ j) :=
  rot_apply 270#32 _ h r ⟨r.val + 2, hr⟩ j (by show r.val + 2 = (r.val + 272 - 270) % 272; omega)

/-- The three taps run backwards over a cotangent column. -/
def back (w0 w1 w2 : EReal) (d : ℕ → EReal) (n : ℕ) : EReal := (w2 * d n + w1 * d (n + 1)) + w0 * d (n + 2)

theorem outG_apply (q : Fin 256) :
    outG K U G A k (ix2 q j) = back (K.v24 (ix2 0 j)) (K.v25 (ix3 0 0 j)) (K.v27 (ix3 0 0 j)) (dgAt K U G A j) (256 * k.val + q.val + 8) := by
  have e : ∀ i, i + 8 + q.val < 272 → 256 * k.val + (8 + q.val + i) = 256 * k.val + q.val + 8 + i := by omega
  have hd (r : Fin 272) (hr : 2 ≤ r.val) := dcG_apply K U G A k j r hr
  unfold dcG at hd
  unfold outG k0_pay38 k0_pay21 k0_pay32 k0_pay33 back
  dsimp only
  rw [truncf_id, mid_apply]
  dsimp only [addf, mulf]
  simp only [row_apply, drop1_apply, Ideal.addf_def, Ideal.mulf_def]
  rw [up1_apply j _ _ _ (by show 8 + q.val + 1 < 272; omega), up2_apply j _ _ _ (by show 8 + q.val + 2 < 272; omega),
    hd _ (by show 2 ≤ 8 + q.val; omega), hd _ (by show 2 ≤ 8 + q.val + 1; omega), hd _ (by show 2 ≤ 8 + q.val + 2; omega)]
  have e0 : 256 * k.val + (8 + q.val) = 256 * k.val + q.val + 8 := by omega
  have e1 : 256 * k.val + (8 + q.val + 1) = 256 * k.val + q.val + 8 + 1 := by omega
  have e2 : 256 * k.val + (8 + q.val + 2) = 256 * k.val + q.val + 8 + 2 := by omega
  dsimp only
  rw [e0, e1, e2]

theorem outV_apply (q : Fin 256) :
    outV K U A k (ix2 q j) = back (K.v29 (ix3 0 0 j)) (K.v31 (ix3 0 0 j)) (K.v33 (ix3 0 0 j)) (dvAt K U A j) (256 * k.val + q.val + 8) := by
  have hd (r : Fin 272) (hr : 2 ≤ r.val) := dcV_apply K U A k j r hr
  unfold dcV at hd
  unfold outV k0_pay39 k0_pay19 k0_pay34 k0_pay35 k0_pay36 back
  dsimp only
  rw [truncf_id, mid_apply]
  dsimp only [addf, mulf]
  simp only [row_apply, drop1_apply, Ideal.addf_def, Ideal.mulf_def]
  rw [up1_apply j _ _ _ (by show 8 + q.val + 1 < 272; omega), up2_apply j _ _ _ (by show 8 + q.val + 2 < 272; omega),
    hd _ (by show 2 ≤ 8 + q.val; omega), hd _ (by show 2 ≤ 8 + q.val + 1; omega), hd _ (by show 2 ≤ 8 + q.val + 2; omega)]
  have e0 : 256 * k.val + (8 + q.val) = 256 * k.val + q.val + 8 := by omega
  have e1 : 256 * k.val + (8 + q.val + 1) = 256 * k.val + q.val + 8 + 1 := by omega
  have e2 : 256 * k.val + (8 + q.val + 2) = 256 * k.val + q.val + 8 + 2 := by omega
  dsimp only
  rw [e0, e1, e2]

/-- The activation at padded row `n`. -/
def actAt (n : ℕ) : EReal := gelu (gAt K U j n) * vAt K G j n

theorem outA_apply (q : Fin 256) : outA K U G k (ix2 q j) = actAt K U G j (256 * k.val + q.val + 8) := by
  unfold outA k0_pay20
  rw [shapeCast_self]
  rw [truncf_id, mid_apply]
  have e0 : 256 * k.val + q.val + 8 = 256 * k.val + (⟨8 + q.val, by omega⟩ : Fin 272).val := by show _ = 256 * k.val + (8 + q.val); omega
  have h2 : 2 ≤ (⟨8 + q.val, by omega⟩ : Fin 272).val := by show 2 ≤ 8 + q.val; omega
  unfold actAt gelu
  rw [e0, ← th_apply K U k j _ h2, ← cvG_apply K U k j _ h2, ← cvV_apply K G k j _ h2]
  rfl

/-! ## The column sums -/

/-- One trip adds, to a column sum, the 256 rows of its middle. -/
theorem acc_apply (p : Acc Ideal → FVec Ideal S1x256 .f32) (f : ℕ → EReal)
    (hstep : ∀ (k : Fin k0_t1_loop.trips) (a : Acc Ideal), p (accStep K U G A k a) (ix2 0 j)
      = p a (ix2 0 j) + ∑ q : Fin 256, f (256 * k.val + q.val + 8))
    (init : Acc Ideal) (hinit : p init (ix2 0 j) = 0) :
    p (accAt K U G A init k0_t1_loop.trips) (ix2 0 j) = ∑ n : Fin 2048, f (n.val + 8) := by
  have h : ∀ N : ℕ, N ≤ k0_t1_loop.trips → p (accAt K U G A init N) (ix2 0 j)
      = ∑ k ∈ Finset.range N, ∑ q ∈ Finset.range 256, f (256 * k + q + 8) := by
    intro N
    induction N with
    | zero => intro _; rw [Finset.range_zero, Finset.sum_empty]; exact hinit
    | succ N ih =>
      intro hN
      rw [accAt_succ K U G A init ⟨N, hN⟩, hstep, ih (by omega), Finset.sum_range_succ,
        Finset.sum_range (fun q => f (256 * N + q + 8))]
  rw [h _ le_rfl, trips_eq, sum_runs (fun n => f (n + 8)) 8, Finset.sum_range (fun n => f (n + 8))]

theorem mid_prod (x y : FVec Ideal S272x256 .f32) (h) (h0) (h1) (h2) (h3) (f g : ℕ → EReal)
    (hx : ∀ r : Fin 272, 2 ≤ r.val → x (ix2 r j) = f (256 * k.val + r.val))
    (hy : ∀ r : Fin 272, 2 ≤ r.val → y (ix2 r j) = g (256 * k.val + r.val)) :
    shapeCast S1x256 (multiReduction .add [0] S256 (extractStridedSlice S256x256 ![8, 0] (mulf x y) h0) 0x00000000#32 h h1 h2) h3 (ix2 0 j)
      = ∑ q : Fin 256, f (256 * k.val + q.val + 8) * g (256 * k.val + q.val + 8) := by
  rw [colsum_apply]
  refine Finset.sum_congr rfl fun q _ => ?_
  rw [mid_apply]
  show x _ * y _ = _
  have e : 256 * k.val + (8 + q.val) = 256 * k.val + q.val + 8 := by omega
  rw [hx _ (by show 2 ≤ 8 + q.val; omega), hy _ (by show 2 ≤ 8 + q.val; omega)]
  show f (256 * k.val + (8 + q.val)) * g (256 * k.val + (8 + q.val)) = _
  rw [e]

theorem mid_sum (x : FVec Ideal S272x256 .f32) (h) (h0) (h1) (h2) (h3) (f : ℕ → EReal)
    (hx : ∀ r : Fin 272, 2 ≤ r.val → x (ix2 r j) = f (256 * k.val + r.val)) :
    shapeCast S1x256 (multiReduction .add [0] S256 (extractStridedSlice S256x256 ![8, 0] x h0) 0x00000000#32 h h1 h2) h3 (ix2 0 j)
      = ∑ q : Fin 256, f (256 * k.val + q.val + 8) := by
  rw [colsum_apply]
  refine Finset.sum_congr rfl fun q _ => ?_
  rw [mid_apply, hx _ (by show 2 ≤ 8 + q.val; omega)]
  show f (256 * k.val + (8 + q.val)) = _
  congr 1; omega

end trip

section sums
variable (K : Coef Ideal) (U G A : Vec Ideal S2064x256 .f32) (j : Fin 256)

abbrev zeroAcc : Acc Ideal := (k0_pay37, k0_pay37, k0_pay37, k0_pay37, k0_pay37, k0_pay37, k0_pay37, k0_pay37)

theorem pay37_apply (j : Fin 256) : (k0_pay37 : FVec Ideal S1x256 .f32) (ix2 0 j) = 0 := Ideal.ofBits_zero_f32

abbrev accEnd : Acc Ideal := accAt K U G A zeroAcc k0_t1_loop.trips

theorem sum0 : (accEnd K U G A).1 (ix2 0 j) = ∑ n : Fin 2048, dgAt K U G A j (n.val + 8) * pcol U j (n.val + 8 - 2) :=
  acc_apply K U G A j (fun a => a.1) (fun n => dgAt K U G A j n * pcol U j (n - 2))
    (fun k a => congrArg (a.1 (ix2 0 j) + ·) (mid_prod k j _ _ _ _ _ _ _ (dgAt K U G A j) (fun n => pcol U j (n - 2))
      (fun r hr => dcG_apply K U G A k j r hr) (fun r hr => down2_apply k j U (by decide) r hr))) _ (pay37_apply j)
theorem sum1 : (accEnd K U G A).2.1 (ix2 0 j) = ∑ n : Fin 2048, dgAt K U G A j (n.val + 8) * pcol U j (n.val + 8 - 1) :=
  acc_apply K U G A j (fun a => a.2.1) (fun n => dgAt K U G A j n * pcol U j (n - 1))
    (fun k a => congrArg (a.2.1 (ix2 0 j) + ·) (mid_prod k j _ _ _ _ _ _ _ (dgAt K U G A j) (fun n => pcol U j (n - 1))
      (fun r hr => dcG_apply K U G A k j r hr) (fun r hr => down1_apply k j U (by decide) r hr))) _ (pay37_apply j)
theorem sum2 : (accEnd K U G A).2.2.1 (ix2 0 j) = ∑ n : Fin 2048, dgAt K U G A j (n.val + 8) * pcol U j (n.val + 8) :=
  acc_apply K U G A j (fun a => a.2.2.1) (fun n => dgAt K U G A j n * pcol U j n)
    (fun k a => congrArg (a.2.2.1 (ix2 0 j) + ·) (mid_prod k j _ _ _ _ _ _ _ (dgAt K U G A j) (fun n => pcol U j n)
      (fun r hr => dcG_apply K U G A k j r hr) (fun r hr => chunk_apply U k r j))) _ (pay37_apply j)
theorem sum3 : (accEnd K U G A).2.2.2.1 (ix2 0 j) = ∑ n : Fin 2048, dvAt K U A j (n.val + 8) * pcol G j (n.val + 8 - 2) :=
  acc_apply K U G A j (fun a => a.2.2.2.1) (fun n => dvAt K U A j n * pcol G j (n - 2))
    (fun k a => congrArg (a.2.2.2.1 (ix2 0 j) + ·) (mid_prod k j _ _ _ _ _ _ _ (dvAt K U A j) (fun n => pcol G j (n - 2))
      (fun r hr => dcV_apply K U A k j r hr) (fun r hr => down2_apply k j G (by decide) r hr))) _ (pay37_apply j)
theorem sum4 : (accEnd K U G A).2.2.2.2.1 (ix2 0 j) = ∑ n : Fin 2048, dvAt K U A j (n.val + 8) * pcol G j (n.val + 8 - 1) :=
  acc_apply K U G A j (fun a => a.2.2.2.2.1) (fun n => dvAt K U A j n * pcol G j (n - 1))
    (fun k a => congrArg (a.2.2.2.2.1 (ix2 0 j) + ·) (mid_prod k j _ _ _ _ _ _ _ (dvAt K U A j) (fun n => pcol G j (n - 1))
      (fun r hr => dcV_apply K U A k j r hr) (fun r hr => down1_apply k j G (by decide) r hr))) _ (pay37_apply j)
theorem sum5 : (accEnd K U G A).2.2.2.2.2.1 (ix2 0 j) = ∑ n : Fin 2048, dvAt K U A j (n.val + 8) * pcol G j (n.val + 8) :=
  acc_apply K U G A j (fun a => a.2.2.2.2.2.1) (fun n => dvAt K U A j n * pcol G j n)
    (fun k a => congrArg (a.2.2.2.2.2.1 (ix2 0 j) + ·) (mid_prod k j _ _ _ _ _ _ _ (dvAt K U A j) (fun n => pcol G j n)
      (fun r hr => dcV_apply K U A k j r hr) (fun r hr => chunk_apply G k r j))) _ (pay37_apply j)
theorem sum6 : (accEnd K U G A).2.2.2.2.2.2.1 (ix2 0 j) = ∑ n : Fin 2048, dgAt K U G A j (n.val + 8) :=
  acc_apply K U G A j (fun a => a.2.2.2.2.2.2.1) (dgAt K U G A j)
    (fun k a => congrArg (a.2.2.2.2.2.2.1 (ix2 0 j) + ·) (mid_sum k j _ _ _ _ _ _ (dgAt K U G A j)
      (fun r hr => dcG_apply K U G A k j r hr))) _ (pay37_apply j)
theorem sum7 : (accEnd K U G A).2.2.2.2.2.2.2 (ix2 0 j) = ∑ n : Fin 2048, dvAt K U A j (n.val + 8) :=
  acc_apply K U G A j (fun a => a.2.2.2.2.2.2.2) (dvAt K U A j)
    (fun k a => congrArg (a.2.2.2.2.2.2.2 (ix2 0 j) + ·) (mid_sum k j _ _ _ _ _ _ (dvAt K U A j)
      (fun r hr => dcV_apply K U A k j r hr))) _ (pay37_apply j)
end sums

end Cert.KernelIdeal.Hand

end
-- ==== Proof.Outs.lean ====
/-
  What the body leaves in each result's buffer at one grid point, an entry at a time: the tile's two halves (the gate's
  column of products and the value's, with their taps and biases) and the cotangent's column, and each result as the
  filter run backwards, a tap's cotangent, a bias's cotangent, or a product with the gated activation.
-/
module

public import proofs.«01_k».proof.Proof.Tile
public import Idealize.ShloMosaic.Lib.MatmulPlain
public import Idealize.ShloMosaic.Lib.Pointwise.Contract

@[expose] public section

noncomputable section

namespace Cert.KernelIdeal.Hand

open Cert.KernelIdeal Cert.KernelIdeal.Gen Cert.Maths
open Idealize.ShloMosaic Idealize.SL.Sem

/-! ## The products -/

theorem ldH_eq (x : Vec Ideal S2048x1024 .bf16) (n : Fin 2048) (k : Fin 1024) : ldH x (ix2 n k) = x (ix2 n k) :=
  View.ld_unit_apply_of x _ _ _ _ _ fun a => match a with | ⟨0, _⟩ => (Nat.zero_add _).symm | ⟨1, _⟩ => (Nat.zero_add _).symm
theorem ldW_eq (x : Vec Ideal S1x1024x256 .bf16) (k : Fin 1024) (j : Fin 256) : ldW x (ix3 0 k j) = x (ix3 0 k j) :=
  View.ld_unit_apply_of x _ _ _ _ _ fun a => match a with | ⟨0, _⟩ => (Nat.zero_add _).symm | ⟨1, _⟩ => (Nat.zero_add _).symm | ⟨2, _⟩ => (Nat.zero_add _).symm
theorem ldD_eq (x : Vec Ideal S256x1024 .bf16) (j : Fin 256) (k : Fin 1024) : ldD x (ix2 j k) = x (ix2 j k) :=
  View.ld_unit_apply_of x _ _ _ _ _ fun a => match a with | ⟨0, _⟩ => (Nat.zero_add _).symm | ⟨1, _⟩ => (Nat.zero_add _).symm

theorem ldA_eq (x : Vec Ideal S2048x256 .bf16) (n : Fin 2048) (j : Fin 256) :
    View.ld x (Rect.unit (s := S2048x256) ![0, 0] S2048x256.size inb_S2048x256_S2048x256_0_0) (ix2 n j) = x (ix2 n j) :=
  View.ld_unit_apply_of x _ _ _ _ _ fun a => match a with | ⟨0, _⟩ => (Nat.zero_add _).symm | ⟨1, _⟩ => (Nat.zero_add _).symm

theorem pay28_apply (x : Vec Ideal S2048x1024 .bf16) (w : Vec Ideal S1x1024x256 .bf16) (n : Fin 2048) (j : Fin 256) :
    k0_pay28 (ldH x) (ldW w) (ix2 n j) = ∑ k : Fin 1024, x (ix2 n k) * w (ix3 0 k j) := by
  unfold k0_pay28
  rw [shapeCast_self]
  refine (Ideal.matmul_plain_apply (M := 2048) (K := 1024) (N := 256) none (ldH x) (shapeCast S1024x256 (ldW w) shapeCasts_S1x1024x256_S1024x256) _ n j).trans ?_
  refine (congrArg (· + _) Ideal.ofBits_zero_f32).trans ((zero_add _).trans (Finset.sum_congr rfl fun k _ => ?_))
  show ldH x (ix2 n k) * shapeCast S1024x256 (ldW w) shapeCasts_S1x1024x256_S1024x256 (ix2 k j) = _
  exact congrArg₂ (· * ·) (ldH_eq x n k) ((ValueIdx.shapeCast_1ab_ab_apply (ldW w) shapeCasts_S1x1024x256_S1024x256 k j).trans (ldW_eq w k j))

theorem pay29_apply (x : Vec Ideal S2048x1024 .bf16) (w : Vec Ideal S1x1024x256 .bf16) (n : Fin 2048) (j : Fin 256) :
    k0_pay29 (ldH x) (ldW w) (ix2 n j) = ∑ k : Fin 1024, x (ix2 n k) * w (ix3 0 k j) := pay28_apply x w n j

theorem pay30_apply (x : Vec Ideal S2048x1024 .bf16) (w : Vec Ideal S256x1024 .bf16) (n : Fin 2048) (j : Fin 256) :
    k0_pay30 (ldH x) (ldD w) (ix2 n j) = ∑ k : Fin 1024, x (ix2 n k) * w (ix2 j k) := by
  unfold k0_pay30
  rw [shapeCast_self, shapeCast_self]
  refine (Ideal.matmul_transposedRhs_apply (M := 2048) (K := 1024) (N := 256) none (ldH x) (ldD w) _ n j).trans ?_
  refine (congrArg (· + _) Ideal.ofBits_zero_f32).trans ((zero_add _).trans (Finset.sum_congr rfl fun k _ => ?_))
  show ldH x (ix2 n k) * ldD w (ix2 j k) = _
  rw [ldH_eq, ldD_eq]

/-! ## The padded columns -/

theorem padded_in (M : Vec Ideal S2048x256 .f32) (x : S2064x256.Idx) (y : S2048x256.Idx) (h : 8 ≤ (x 0).val ∧ (x 0).val < 2056)
    (h0 : (y 0).val = (x 0).val - 8) (h1 : (y 1).val = (x 1).val) : padded M x = M y := by
  unfold padded
  rw [dif_pos h]
  exact congrArg M (funext fun a => Fin.ext (match a with | ⟨0, _⟩ => h0.symm | ⟨1, _⟩ => h1.symm))
theorem padded_out (M : Vec Ideal S2048x256 .f32) (x : S2064x256.Idx) (h : ¬ (8 ≤ (x 0).val ∧ (x 0).val < 2056)) : padded M x = 0 := by
  unfold padded
  rw [dif_neg h]
  exact Ideal.ofBits_zero_f32

theorem pcol_padded (M : Vec Ideal S2048x256 .f32) (j : Fin 256) (n : ℕ) :
    pcol (padded M) j n = down 8 (col fun n => M (ix2 n j)) n := by
  unfold pcol down col
  by_cases h : n < 2064
  · rw [dif_pos h]
    by_cases h8 : n < 8
    · rw [if_pos h8]; exact padded_out M _ (by show ¬ (8 ≤ n ∧ _); omega)
    · rw [if_neg h8]
      by_cases hp : n < 2056
      · rw [dif_pos (by omega)]; exact padded_in M _ _ ⟨by show 8 ≤ n; omega, hp⟩ rfl rfl
      · rw [dif_neg (by omega)]; exact padded_out M _ (by show ¬ (_ ∧ n < 2056); omega)
  · rw [dif_neg h, if_neg (by omega), dif_neg (by omega)]

section outs
variable (xh xd : Vec Ideal S2048x1024 .bf16) (x2 x3 : Vec Ideal S1x1024x256 .bf16) (x4 x5 : Vec Ideal S1x3x256 .f32)
  (x6 x7 : Vec Ideal S1x256 .f32) (x8 : Vec Ideal S256x1024 .bf16) (j : Fin 256)

/-- A tile's column of products with its bias and taps. -/
def half (xh : Vec Ideal S2048x1024 .bf16) (x2 : Vec Ideal S1x1024x256 .bf16) (x4 : Vec Ideal S1x3x256 .f32) (x6 : Vec Ideal S1x256 .f32) (j : Fin 256) : Half where
  b := x6 (ix2 0 j)
  w0 := x4 (ix3 0 0 j)
  w1 := x4 (ix3 0 1 j)
  w2 := x4 (ix3 0 2 j)
  u := col fun n => ∑ k : Fin 1024, xh (ix2 n k) * x2 (ix3 0 k j)
/-- A tile's column of the activation's cotangent. -/
def cot (xd : Vec Ideal S2048x1024 .bf16) (x8 : Vec Ideal S256x1024 .bf16) (j : Fin 256) : ℕ → EReal := col fun n => ∑ k : Fin 1024, xd (ix2 n k) * x8 (ix2 j k)

theorem padU_col (n : ℕ) : pcol (padU xh x2) j n = down 8 (half xh x2 x4 x6 j).u n :=
  (pcol_padded _ j n).trans (congrArg (fun f => down 8 (col f) n) (funext fun n => pay28_apply xh x2 n j))
theorem padG_col (n : ℕ) : pcol (padG xh x3) j n = down 8 (half xh x3 x5 x7 j).u n :=
  (pcol_padded _ j n).trans (congrArg (fun f => down 8 (col f) n) (funext fun n => pay29_apply xh x3 n j))
theorem padA_col (n : ℕ) : pcol (padA xd x8) j n = down 8 (cot xd x8 j) n :=
  (pcol_padded _ j n).trans (congrArg (fun f => down 8 (col f) n) (funext fun n => pay30_apply xd x8 n j))

theorem down8 (u : ℕ → EReal) (n : ℕ) : down 8 u (n + 8) = u n := by unfold down; rw [if_neg (by omega)]; rfl
theorem down8_1 (u : ℕ → EReal) (n : ℕ) : down 8 u (n + 8 - 1) = down 1 u n := by
  unfold down
  by_cases h : n < 1
  · rw [if_pos h, if_pos (by omega)]
  · rw [if_neg h, if_neg (by omega)]; congr 1
theorem down8_2 (u : ℕ → EReal) (n : ℕ) : down 8 u (n + 8 - 2) = down 2 u n := by
  unfold down
  by_cases h : n < 2
  · rw [if_pos h, if_pos (by omega)]
  · rw [if_neg h, if_neg (by omega)]; congr 1

/-! The coefficients the body loads. -/

theorem ldc_apply (x : Vec Ideal S1x3x256 .f32) (r : Fin 3) (off : Fin 3 → ℕ) (h) (ho : off = ![0, r.val, 0]) :
    View.ld x (Rect.unit (s := S1x3x256) off S1x1x256.size h) (ix3 0 0 j) = x (ix3 0 r j) := by
  subst ho
  exact View.ld_unit_apply_of x _ _ _ _ _ fun a => match a with | ⟨0, _⟩ => rfl | ⟨1, _⟩ => rfl | ⟨2, _⟩ => (Nat.zero_add _).symm
theorem ldb_apply (x : Vec Ideal S1x256 .f32) (h) : View.ld x (Rect.unit (s := S1x256) ![0, 0] S1x256.size h) (ix2 0 j) = x (ix2 0 j) :=
  View.ld_unit_apply_of x _ _ _ _ _ fun a => match a with | ⟨0, _⟩ => rfl | ⟨1, _⟩ => (Nat.zero_add _).symm

local notation "KK" => coefOf x4 x5 x6 x7

theorem c0 : (KK).v24 (ix2 0 j) = x4 (ix3 0 0 j) := (drop1_apply _ _ j).trans (ldc_apply j x4 0 _ _ rfl)
theorem c1 : (KK).v25 (ix3 0 0 j) = x4 (ix3 0 1 j) := ldc_apply j x4 1 _ _ rfl
theorem c2 : (KK).v27 (ix3 0 0 j) = x4 (ix3 0 2 j) := ldc_apply j x4 2 _ _ rfl
theorem c3 : (KK).v29 (ix3 0 0 j) = x5 (ix3 0 0 j) := ldc_apply j x5 0 _ _ rfl
theorem c4 : (KK).v31 (ix3 0 0 j) = x5 (ix3 0 1 j) := ldc_apply j x5 1 _ _ rfl
theorem c5 : (KK).v33 (ix3 0 0 j) = x5 (ix3 0 2 j) := ldc_apply j x5 2 _ _ rfl
theorem c6 : (KK).v35 (ix2 0 j) = x6 (ix2 0 j) := ldb_apply j x6 _
theorem c7 : (KK).v36 (ix2 0 j) = x7 (ix2 0 j) := ldb_apply j x7 _

/-! ## The filtered columns and the cotangents -/

theorem gAt_eq (n : ℕ) : gAt (KK) (padU xh x2) j (n + 8) = (half xh x2 x4 x6 j).y n := by
  unfold gAt Half.y
  rw [c0, c1, c2, c6, padU_col xh x2 x4 x6, padU_col xh x2 x4 x6, padU_col xh x2 x4 x6, down8, down8_1, down8_2]
  rfl
theorem vAt_eq (n : ℕ) : vAt (KK) (padG xh x3) j (n + 8) = (half xh x3 x5 x7 j).y n := by
  unfold vAt Half.y
  rw [c3, c4, c5, c7, padG_col xh x3 x5 x7, padG_col xh x3 x5 x7, padG_col xh x3 x5 x7, down8, down8_1, down8_2]
  rfl
theorem dgAt_eq (n : ℕ) : dgAt (KK) (padU xh x2) (padG xh x3) (padA xd x8) j (n + 8)
    = dG (half xh x2 x4 x6 j) (half xh x3 x5 x7 j) (cot xd x8 j) n := by
  unfold dgAt dG; rw [gAt_eq, vAt_eq, padA_col, down8]
theorem dvAt_eq (n : ℕ) : dvAt (KK) (padU xh x2) (padA xd x8) j (n + 8) = dV (half xh x2 x4 x6 j) (cot xd x8 j) n := by
  unfold dvAt dV; rw [gAt_eq, padA_col, down8]
theorem actAt_eq (n : ℕ) : actAt (KK) (padU xh x2) (padG xh x3) j (n + 8) = act (half xh x2 x4 x6 j) (half xh x3 x5 x7 j) n := by
  unfold actAt act; rw [gAt_eq, vAt_eq]

/-! ## The results -/

theorem rowsOf_apply (val : Fin k0_t1_loop.trips → FVec Ideal S256x256 .bf16) (f : ℕ → EReal)
    (h : ∀ k (q : Fin 256), val k (ix2 q j) = f (256 * k.val + q.val + 8)) (n : Fin 2048) : rowsOf val (ix2 n j) = f (n.val + 8) := by
  have e : rowIn (ix2 n j) = (ix2 (⟨n.val % 256, by omega⟩ : Fin 256) j : S256x256.Idx) := funext fun a => match a with | ⟨0, _⟩ => rfl | ⟨1, _⟩ => rfl
  show val (tripOf n) (rowIn (ix2 n j)) = _
  rw [e, h]
  show f (256 * (n.val / 256) + n.val % 256 + 8) = _
  congr 1; omega

theorem out10_apply (n : Fin 2048) : out10 xh xd x2 x3 x4 x5 x6 x7 x8 (ix2 n j)
    = (half xh x2 x4 x6 j).back (dG (half xh x2 x4 x6 j) (half xh x3 x5 x7 j) (cot xd x8 j)) n.val := by
  refine (rowsOf_apply j _ _ (fun k q => outG_apply (KK) _ _ _ k j q) n).trans ?_
  unfold back Half.back
  rw [show n.val + 8 + 1 = (n.val + 1) + 8 by omega, show n.val + 8 + 2 = (n.val + 2) + 8 by omega, dgAt_eq, dgAt_eq, dgAt_eq, c0, c1, c2]
  rfl
theorem out11_apply (n : Fin 2048) : out11 xh xd x2 x4 x5 x6 x7 x8 (ix2 n j)
    = (half xh x3 x5 x7 j).back (dV (half xh x2 x4 x6 j) (cot xd x8 j)) n.val := by
  refine (rowsOf_apply j _ _ (fun k q => outV_apply (KK) _ _ k j q) n).trans ?_
  unfold back Half.back
  rw [show n.val + 8 + 1 = (n.val + 1) + 8 by omega, show n.val + 8 + 2 = (n.val + 2) + 8 by omega, dvAt_eq, dvAt_eq, dvAt_eq, c3, c4, c5]
  rfl
theorem actRows_apply (n : Fin 2048) : actRows xh x2 x3 x4 x5 x6 x7 (ix2 n j) = act (half xh x2 x4 x6 j) (half xh x3 x5 x7 j) n.val :=
  (rowsOf_apply j _ _ (fun k q => outA_apply (KK) _ _ k j q) n).trans (actAt_eq ..)

theorem rows3_apply (p q r : FVec Ideal S1x1x256 .f32) (i : Fin 3) :
    rows3 p q r (ix3 0 i j) = if i.val = 0 then p (ix3 0 0 j) else if i.val = 1 then q (ix3 0 0 j) else r (ix3 0 0 j) := by
  have e : ∀ f : S1x1x256.Idx → EReal, f (fun a => match a with | ⟨0, _⟩ => (0 : Fin 1) | ⟨1, _⟩ => (0 : Fin 1) | ⟨2, _⟩ => j) = f (ix3 0 0 j) := fun f =>
    congrArg f (funext fun a => match a with | ⟨0, _⟩ => rfl | ⟨1, _⟩ => rfl | ⟨2, _⟩ => rfl)
  rw [← e p, ← e q, ← e r]
  rfl

set_option maxHeartbeats 1000000 in
theorem out12_apply (i : Fin 3) : out12 xh xd x2 x3 x4 x5 x6 x7 x8 (ix3 0 i j)
    = (half xh x2 x4 x6 j).tap (dG (half xh x2 x4 x6 j) (half xh x3 x5 x7 j) (cot xd x8 j)) (2 - i.val) := by
  have hi := i.isLt
  unfold Half.tap
  refine (rows3_apply j _ _ _ i).trans ?_
  by_cases h0 : i.val = 0
  · rw [if_pos h0, h0]
    refine (add1_apply _ _ j).trans ((sum0 (KK) (padU xh x2) (padG xh x3) (padA xd x8) j).trans ?_)
    exact Finset.sum_congr rfl fun n _ => by rw [dgAt_eq, padU_col xh x2 x4 x6, down8_2]
  rw [if_neg h0]
  by_cases h1 : i.val = 1
  · rw [if_pos h1, h1]
    refine (add1_apply _ _ j).trans ((sum1 (KK) (padU xh x2) (padG xh x3) (padA xd x8) j).trans ?_)
    exact Finset.sum_congr rfl fun n _ => by rw [dgAt_eq, padU_col xh x2 x4 x6, down8_1]
  · rw [if_neg h1, show 2 - i.val = 0 by omega]
    refine (add1_apply _ _ j).trans ((sum2 (KK) (padU xh x2) (padG xh x3) (padA xd x8) j).trans ?_)
    exact Finset.sum_congr rfl fun n _ => by rw [dgAt_eq, padU_col xh x2 x4 x6, down8]; rfl
set_option maxHeartbeats 1000000 in
theorem out13_apply (i : Fin 3) : out13 xh xd x2 x3 x4 x5 x6 x7 x8 (ix3 0 i j)
    = (half xh x3 x5 x7 j).tap (dV (half xh x2 x4 x6 j) (cot xd x8 j)) (2 - i.val) := by
  have hi := i.isLt
  unfold Half.tap
  refine (rows3_apply j _ _ _ i).trans ?_
  by_cases h0 : i.val = 0
  · rw [if_pos h0, h0]
    refine (add1_apply _ _ j).trans ((sum3 (KK) (padU xh x2) (padG xh x3) (padA xd x8) j).trans ?_)
    exact Finset.sum_congr rfl fun n _ => by rw [dvAt_eq, padG_col xh x3 x5 x7, down8_2]
  rw [if_neg h0]
  by_cases h1 : i.val = 1
  · rw [if_pos h1, h1]
    refine (add1_apply _ _ j).trans ((sum4 (KK) (padU xh x2) (padG xh x3) (padA xd x8) j).trans ?_)
    exact Finset.sum_congr rfl fun n _ => by rw [dvAt_eq, padG_col xh x3 x5 x7, down8_1]
  · rw [if_neg h1, show 2 - i.val = 0 by omega]
    refine (add1_apply _ _ j).trans ((sum5 (KK) (padU xh x2) (padG xh x3) (padA xd x8) j).trans ?_)
    exact Finset.sum_congr rfl fun n _ => by rw [dvAt_eq, padG_col xh x3 x5 x7, down8]; rfl
theorem out14_apply : out14 xh xd x2 x3 x4 x5 x6 x7 x8 (ix2 0 j)
    = ∑ n : Fin 2048, dG (half xh x2 x4 x6 j) (half xh x3 x5 x7 j) (cot xd x8 j) n.val :=
  (sum6 (KK) (padU xh x2) (padG xh x3) (padA xd x8) j).trans (Finset.sum_congr rfl fun n _ => dgAt_eq ..)
theorem out15_apply : out15 xh xd x2 x3 x4 x5 x6 x7 x8 (ix2 0 j) = ∑ n : Fin 2048, dV (half xh x2 x4 x6 j) (cot xd x8 j) n.val :=
  (sum7 (KK) (padU xh x2) (padG xh x3) (padA xd x8) j).trans (Finset.sum_congr rfl fun n _ => dvAt_eq ..)

theorem out16_apply (k : Fin 1024) : out16 xh xd x2 x3 x4 x5 x6 x7 (ix2 j k)
    = ∑ n : Fin 2048, act (half xh x2 x4 x6 j) (half xh x3 x5 x7 j) n.val * xd (ix2 n k) := by
  have hl (n : Fin 2048) := (ldA_eq (actRows xh x2 x3 x4 x5 x6 x7) n j).trans (actRows_apply xh x2 x3 x4 x5 x6 x7 j n)
  unfold out16 k0_pay4
  rw [truncf_id]
  refine (Ideal.matmul_apply₁_of dot_S2048x256_S2048x1024_S256x1024_0_0_1_1_n_n (a := 0) rfl (K := 2048) rfl _ _ _ _
    (fun n => ix2 n j) (fun n => ix2 n k) (fun n => by simp only [pointwise]) (fun n => by simp only [pointwise])).trans ?_
  refine (congrArg (· + _) Ideal.ofBits_zero_f32).trans ((zero_add _).trans (Finset.sum_congr rfl fun n _ => ?_))
  rw [hl, ldH_eq]
end outs

end Cert.KernelIdeal.Hand

end
-- ==== Proof.Spec.lean ====
/-
  The results both programs compute, an entry at a time, as functions of the six arguments read by coordinates: for each
  of the 4096 channels its gate's column of products, its value's and the activation's cotangent, and from them the
  cotangents of the products, of the filter's taps, of the biases and of the down projection; and the forward pass itself.
-/
module

public import proofs.«01_k».proof.Proof.Scalar

@[expose] public section

noncomputable section

namespace Cert.Maths

/-- The arguments: the hidden rows, the up projection, the taps, the biases, the down projection, the cotangent. -/
structure Args where
  h : Fin 2048 → Fin 1024 → EReal
  w : Fin 1024 → Fin 8192 → EReal
  cw : Fin 3 → Fin 8192 → EReal
  cb : Fin 8192 → EReal
  wd : Fin 4096 → Fin 1024 → EReal
  df : Fin 2048 → Fin 1024 → EReal

namespace Args
variable (A : Args)

/-- A column of the up projection with its bias and taps. -/
def chan (c : Fin 8192) : Half where
  b := A.cb c
  w0 := A.cw 0 c
  w1 := A.cw 1 c
  w2 := A.cw 2 c
  u := col fun n => ∑ k : Fin 1024, A.h n k * A.w k c

def gate (e : Fin 4096) : Half := A.chan ⟨e.val, by omega⟩
def value (e : Fin 4096) : Half := A.chan ⟨4096 + e.val, by omega⟩
def cot (e : Fin 4096) : ℕ → EReal := col fun n => ∑ k : Fin 1024, A.df n k * A.wd e k
/-- The cotangents of the filtered gate and value. -/
def dg (e : Fin 4096) : ℕ → EReal := dG (A.gate e) (A.value e) (A.cot e)
def dv (e : Fin 4096) : ℕ → EReal := dV (A.gate e) (A.cot e)

/-- The cotangents of the products. -/
def dUg (n : Fin 2048) (e : Fin 4096) : EReal := (A.gate e).back (A.dg e) n.val
def dUv (n : Fin 2048) (e : Fin 4096) : EReal := (A.value e).back (A.dv e) n.val
/-- The cotangents of the taps. -/
def dCg (r : Fin 3) (e : Fin 4096) : EReal := (A.gate e).tap (A.dg e) (2 - r.val)
def dCv (r : Fin 3) (e : Fin 4096) : EReal := (A.value e).tap (A.dv e) (2 - r.val)
/-- The cotangents of the biases. -/
def dBg (e : Fin 4096) : EReal := ∑ n : Fin 2048, A.dg e n.val
def dBv (e : Fin 4096) : EReal := ∑ n : Fin 2048, A.dv e n.val
/-- The cotangent of the down projection. -/
def dDown (e : Fin 4096) (k : Fin 1024) : EReal := ∑ n : Fin 2048, act (A.gate e) (A.value e) n.val * A.df n k

/-- The forward pass: the gated activations through the down projection. -/
def forward (n : Fin 2048) (k : Fin 1024) : EReal := ∑ e : Fin 4096, act (A.gate e) (A.value e) n.val * A.wd e k

/-- The taps' cotangents, eight slots of 1024 columns: the gate's in the first four, the value's in the last four. -/
def dCw (s : Fin 8) (r : Fin 3) (j : Fin 1024) : EReal :=
  if h : s.val < 4 then A.dCg r ⟨1024 * s.val + j.val, by omega⟩ else A.dCv r ⟨1024 * (s.val - 4) + j.val, by omega⟩
/-- The biases' cotangents, the gate's columns and then the value's. -/
def dCb (c : Fin 8192) : EReal :=
  if h : c.val < 4096 then A.dBg ⟨c.val, h⟩ else A.dBv ⟨c.val - 4096, by omega⟩

end Args

end Cert.Maths

end
-- ==== Proof.Blocks.lean ====
/-
  What the region finds: the operands' arrays as the host lines before it leave them (a re-indexing of the arguments),
  each window's block of them, and a tile's two halves and its cotangent as the channels of the arguments.
-/
module

public import proofs.«01_k».proof.Proof.Frame
public import proofs.«01_k».proof.Proof.Outs
public import proofs.«01_k».proof.Proof.Spec
public import Idealize.ShloMosaic.Lib.StableHlo.Run

@[expose] public section

set_option maxRecDepth 16384

noncomputable section

namespace Cert.KernelIdeal.Hand

open Cert.KernelIdeal Cert.KernelIdeal.Gen Cert.Maths
open Idealize.ShloMosaic Idealize.ShloMosaic.TcCoe Idealize.ShloMosaic.StableHlo Idealize.SL.Sem

variable (m : (ℓ : Loc nD τ sig) → Buf (Elt Ideal) ℓ) (c : Dev nD)

/-- The arguments a device is launched with. -/
def args : Args where
  h n k := (m ((c : Thread nD τ).loc main_arg0) : S2048x1024.Idx → EReal) (ix2 n k)
  w k j := (m ((c : Thread nD τ).loc main_arg1) : S1024x8192.Idx → EReal) (ix2 k j)
  cw r j := (m ((c : Thread nD τ).loc main_arg2) : S3x8192.Idx → EReal) (ix2 r j)
  cb j := (m ((c : Thread nD τ).loc main_arg3) : S1x8192.Idx → EReal) (ix2 0 j)
  wd e k := (m ((c : Thread nD τ).loc main_arg4) : S4096x1024.Idx → EReal) (ix2 e k)
  df n k := (m ((c : Thread nD τ).loc main_arg5) : S2048x1024.Idx → EReal) (ix2 n k)

/-! ## The arrays -/

theorem V_v2 : V m c main_v2 = truncf (F := Ideal) .bf16 (transpose S8x1024x1024 [1, 0, 2]
    (shapeCast S1024x8x1024 (m ((c : Thread nD τ).loc main_arg1) : FVec Ideal S1024x8192 .f32) shapeCasts_S1024x8192_S1024x8x1024)
    transposes_S1024x8x1024_S8x1024x1024_1_0_2) bitsLt_bf16_f32 := by
  show StableHlo.after hostOps0 _ (Proc.devRef .tc main_v2) = _
  after_results
  rfl
theorem V_v4 : V m c main_v4 = transpose S8x3x1024 [1, 0, 2]
    (shapeCast S3x8x1024 (m ((c : Thread nD τ).loc main_arg2) : FVec Ideal S3x8192 .f32) shapeCasts_S3x8192_S3x8x1024)
    transposes_S3x8x1024_S8x3x1024_1_0_2 := by
  show StableHlo.after hostOps0 _ (Proc.devRef .tc main_v4) = _
  after_results
  rfl
theorem V_v5 : V m c main_v5 = truncf (F := Ideal) .bf16 (m ((c : Thread nD τ).loc main_arg0) : FVec Ideal S2048x1024 .f32) bitsLt_bf16_f32 := by
  show StableHlo.after hostOps0 _ (Proc.devRef .tc main_v5) = _
  after_results
theorem V_v6 : V m c main_v6 = truncf (F := Ideal) .bf16 (m ((c : Thread nD τ).loc main_arg4) : FVec Ideal S4096x1024 .f32) bitsLt_bf16_f32 := by
  show StableHlo.after hostOps0 _ (Proc.devRef .tc main_v6) = _
  after_results
theorem V_v7 : V m c main_v7 = truncf (F := Ideal) .bf16 (m ((c : Thread nD τ).loc main_arg5) : FVec Ideal S2048x1024 .f32) bitsLt_bf16_f32 := by
  show StableHlo.after hostOps0 _ (Proc.devRef .tc main_v7) = _
  after_results

theorem v2_at (s : Fin 8) (k j : Fin 1024) :
    (V m c main_v2 : S8x1024x1024.Idx → EReal) (ix3 s k j) = (args m c).w k ⟨1024 * s.val + j.val, by omega⟩ := by
  rw [V_v2, truncf_id, transpose_apply [1, 0, 2] _ transposes_S1024x8x1024_S8x1024x1024_1_0_2 (ix3 s k j) (ix3 k s j)
    (fun a => match a with | ⟨0, _⟩ => rfl | ⟨1, _⟩ => rfl | ⟨2, _⟩ => rfl)]
  refine shapeCast_apply (s := S1024x8192) (t := S1024x8x1024) _ _ (ix3 k s j) (ix2 k ⟨1024 * s.val + j.val, by omega⟩) ?_
  rw [Shape.rowMajor_val_two, Shape.rowMajor_val_three]
  show k.val * 8192 + (1024 * s.val + j.val) = (k.val * 8 + s.val) * 1024 + j.val
  omega
theorem v4_at (s : Fin 8) (r : Fin 3) (j : Fin 1024) :
    (V m c main_v4 : S8x3x1024.Idx → EReal) (ix3 s r j) = (args m c).cw r ⟨1024 * s.val + j.val, by omega⟩ := by
  rw [V_v4, transpose_apply [1, 0, 2] _ transposes_S3x8x1024_S8x3x1024_1_0_2 (ix3 s r j) (ix3 r s j)
    (fun a => match a with | ⟨0, _⟩ => rfl | ⟨1, _⟩ => rfl | ⟨2, _⟩ => rfl)]
  refine shapeCast_apply (s := S3x8192) (t := S3x8x1024) _ _ (ix3 r s j) (ix2 r ⟨1024 * s.val + j.val, by omega⟩) ?_
  rw [Shape.rowMajor_val_two, Shape.rowMajor_val_three]
  show r.val * 8192 + (1024 * s.val + j.val) = (r.val * 8 + s.val) * 1024 + j.val
  omega

theorem xh_at (n : Fin 2048) (k : Fin 1024) : xh m c (ix2 n k) = (args m c).h n k := by
  unfold xh; rw [V_v5]; rfl
theorem xd_at (n : Fin 2048) (k : Fin 1024) : xd m c (ix2 n k) = (args m c).df n k := by
  unfold xd; rw [V_v7]; rfl

/-! ## The windows' blocks -/

theorem idx3 : ∀ t : Fin cfg0.N, win0_0.index t = ![t.val / 4, 0, t.val % 4] ∧ win0_1.index t = ![4 + t.val / 4, 0, t.val % 4]
    ∧ win0_2.index t = ![t.val / 4, 0, t.val % 4] ∧ win0_3.index t = ![4 + t.val / 4, 0, t.val % 4] :=
  (by decide +kernel : ∀ t : Fin grid0.N, _)
theorem idx2 : ∀ t : Fin cfg0.N, win0_4.index t = ![0, t.val] ∧ win0_5.index t = ![0, 16 + t.val] ∧ win0_6.index t = ![t.val, 0] :=
  (by decide +kernel : ∀ t : Fin grid0.N, _)

theorem lt16 (t : Fin cfg0.N) : t.val < 16 := t.isLt

theorem blk0 (t : Fin cfg0.N) (k : Fin 1024) (j : Fin 256) :
    (iblk m c 0 t : S1x1024x256.Idx → EReal) (ix3 0 k j) = (args m c).w k ⟨256 * t.val + j.val, by have := lt16 t; omega⟩ := by
  have ht := lt16 t
  refine Eq.trans ?_ ((v2_at m c ⟨t.val / 4, by omega⟩ k ⟨256 * (t.val % 4) + j.val, by omega⟩).trans ?_)
  · blk_ext [iblk, (idx3 t).1]
  · congr 1; apply Fin.ext; show 1024 * (t.val / 4) + (256 * (t.val % 4) + j.val) = 256 * t.val + j.val; omega

theorem blk1 (t : Fin cfg0.N) (k : Fin 1024) (j : Fin 256) :
    (iblk m c 1 t : S1x1024x256.Idx → EReal) (ix3 0 k j) = (args m c).w k ⟨4096 + (256 * t.val + j.val), by have := lt16 t; omega⟩ := by
  have ht := lt16 t
  refine Eq.trans ?_ ((v2_at m c ⟨4 + t.val / 4, by omega⟩ k ⟨256 * (t.val % 4) + j.val, by omega⟩).trans ?_)
  · blk_ext [iblk, (idx3 t).2.1]
  · congr 1; apply Fin.ext; show 1024 * (4 + t.val / 4) + (256 * (t.val % 4) + j.val) = 4096 + (256 * t.val + j.val); omega

theorem blk2 (t : Fin cfg0.N) (r : Fin 3) (j : Fin 256) :
    (iblk m c 2 t : S1x3x256.Idx → EReal) (ix3 0 r j) = (args m c).cw r ⟨256 * t.val + j.val, by have := lt16 t; omega⟩ := by
  have ht := lt16 t
  refine Eq.trans ?_ ((v4_at m c ⟨t.val / 4, by omega⟩ r ⟨256 * (t.val % 4) + j.val, by omega⟩).trans ?_)
  · blk_ext [iblk, (idx3 t).2.2.1]
  · congr 1; apply Fin.ext; show 1024 * (t.val / 4) + (256 * (t.val % 4) + j.val) = 256 * t.val + j.val; omega
theorem blk3 (t : Fin cfg0.N) (r : Fin 3) (j : Fin 256) :
    (iblk m c 3 t : S1x3x256.Idx → EReal) (ix3 0 r j) = (args m c).cw r ⟨4096 + (256 * t.val + j.val), by have := lt16 t; omega⟩ := by
  have ht := lt16 t
  refine Eq.trans ?_ ((v4_at m c ⟨4 + t.val / 4, by omega⟩ r ⟨256 * (t.val % 4) + j.val, by omega⟩).trans ?_)
  · blk_ext [iblk, (idx3 t).2.2.2]
  · congr 1; apply Fin.ext; show 1024 * (4 + t.val / 4) + (256 * (t.val % 4) + j.val) = 4096 + (256 * t.val + j.val); omega

theorem blk4 (t : Fin cfg0.N) (j : Fin 256) :
    (iblk m c 4 t : S1x256.Idx → EReal) (ix2 0 j) = (args m c).cb ⟨256 * t.val + j.val, by have := lt16 t; omega⟩ := by
  have ht := lt16 t
  show _ = (m ((c : Thread nD τ).loc main_arg3) : S1x8192.Idx → EReal) _
  rw [← V_main_arg3 m c]
  blk_ext [iblk, (idx2 t).1]
theorem blk5 (t : Fin cfg0.N) (j : Fin 256) :
    (iblk m c 5 t : S1x256.Idx → EReal) (ix2 0 j) = (args m c).cb ⟨4096 + (256 * t.val + j.val), by have := lt16 t; omega⟩ := by
  have ht := lt16 t
  show _ = (m ((c : Thread nD τ).loc main_arg3) : S1x8192.Idx → EReal) _
  rw [← V_main_arg3 m c]
  blk_ext [iblk, (idx2 t).2.1]
theorem blk6 (t : Fin cfg0.N) (j : Fin 256) (k : Fin 1024) :
    (iblk m c 6 t : S256x1024.Idx → EReal) (ix2 j k) = (args m c).wd ⟨256 * t.val + j.val, by have := lt16 t; omega⟩ k := by
  have ht := lt16 t
  have e : (V m c main_v6 : S4096x1024.Idx → EReal) (ix2 ⟨256 * t.val + j.val, by omega⟩ k) = (args m c).wd ⟨256 * t.val + j.val, by omega⟩ k := by
    rw [V_v6]; rfl
  refine Eq.trans ?_ e
  blk_ext [iblk, (idx2 t).2.2]

/-! ## The tile's channels -/

/-- The channel a tile's column is. -/
def at16 (t : Fin cfg0.N) (j : Fin 256) : Fin 4096 := ⟨256 * t.val + j.val, by have := lt16 t; omega⟩

theorem gate_tile (t : Fin cfg0.N) (j : Fin 256) : half (xh m c) (iblk m c 0 t) (iblk m c 2 t) (iblk m c 4 t) j = (args m c).gate (at16 t j) := by
  unfold half Args.gate Args.chan
  simp only [blk0 m c t, blk2 m c t, blk4 m c t, xh_at m c]
  rfl
theorem value_tile (t : Fin cfg0.N) (j : Fin 256) : half (xh m c) (iblk m c 1 t) (iblk m c 3 t) (iblk m c 5 t) j = (args m c).value (at16 t j) := by
  unfold half Args.value Args.chan
  simp only [blk1 m c t, blk3 m c t, blk5 m c t, xh_at m c]
  rfl
theorem cot_tile (t : Fin cfg0.N) (j : Fin 256) : cot (xd m c) (iblk m c 6 t) j = (args m c).cot (at16 t j) := by
  unfold cot Args.cot
  simp only [blk6 m c t, xd_at m c]
  rfl

/-! ## What the body leaves at a point -/

theorem dugAt_apply (t : Fin cfg0.N) (n : Fin 2048) (j : Fin 256) : dugAt m c t (ix2 n j) = (args m c).dUg n (at16 t j) := by
  unfold dugAt; rw [out10_apply, gate_tile, value_tile, cot_tile]; rfl
theorem duvAt_apply (t : Fin cfg0.N) (n : Fin 2048) (j : Fin 256) : duvAt m c t (ix2 n j) = (args m c).dUv n (at16 t j) := by
  unfold duvAt; rw [out11_apply, gate_tile, value_tile, cot_tile]; rfl
theorem dcgAt_apply (t : Fin cfg0.N) (r : Fin 3) (j : Fin 256) : dcgAt m c t (ix3 0 r j) = (args m c).dCg r (at16 t j) := by
  unfold dcgAt; rw [out12_apply, gate_tile, value_tile, cot_tile]; rfl
theorem dcvAt_apply (t : Fin cfg0.N) (r : Fin 3) (j : Fin 256) : dcvAt m c t (ix3 0 r j) = (args m c).dCv r (at16 t j) := by
  unfold dcvAt; rw [out13_apply, gate_tile, value_tile, cot_tile]; rfl
theorem dbgAt_apply (t : Fin cfg0.N) (j : Fin 256) : dbgAt m c t (ix2 0 j) = (args m c).dBg (at16 t j) := by
  unfold dbgAt; rw [out14_apply, gate_tile, value_tile, cot_tile]; rfl
theorem dbvAt_apply (t : Fin cfg0.N) (j : Fin 256) : dbvAt m c t (ix2 0 j) = (args m c).dBv (at16 t j) := by
  unfold dbvAt; rw [out15_apply, gate_tile, cot_tile]; rfl
theorem dwdAt_apply (t : Fin cfg0.N) (j : Fin 256) (k : Fin 1024) : dwdAt m c t (ix2 j k) = (args m c).dDown (at16 t j) k := by
  unfold dwdAt; rw [out16_apply, gate_tile, value_tile]
  exact Finset.sum_congr rfl fun n _ => congrArg (_ * ·) (xd_at m c n k)

end Cert.KernelIdeal.Hand

end
-- ==== Proof.Arrays.lean ====
/-
  What the kernel's results end at: the region's output arrays from the blocks its points write back, and the two results
  the host lines after it join from halves.
-/
module

public import proofs.«01_k».proof.Proof.Blocks

@[expose] public section

set_option maxRecDepth 16384

noncomputable section

namespace Cert.KernelIdeal.Hand

open Cert.KernelIdeal Cert.KernelIdeal.Gen Cert.Maths
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (c : Dev nD)

/-! ## The region's arrays -/

theorem idxo : ∀ t : Fin cfg0.N, win0_7.index t = ![0, t.val] ∧ win0_8.index t = ![0, t.val] ∧ win0_13.index t = ![t.val, 0]
    ∧ win0_9.index t = ![t.val / 4, 0, t.val % 4] ∧ win0_10.index t = ![4 + t.val / 4, 0, t.val % 4]
    ∧ win0_11.index t = ![0, t.val] ∧ win0_12.index t = ![0, 16 + t.val] :=
  (by decide +kernel : ∀ t : Fin grid0.N, _)

def dUgArr : S2048x4096.Idx → EReal := fun i => (args m c).dUg (i 0) (i 1)
def dUvArr : S2048x4096.Idx → EReal := fun i => (args m c).dUv (i 0) (i 1)
def dDownArr : S4096x1024.Idx → EReal := fun i => (args m c).dDown (i 0) (i 1)

theorem arr7 : (dats m 0 c).arrAt 7 cfg0.N = dUgArr m c := by
  refine (dats m 0 c).arrAt_eq_of_covers 7 _ (by decide +kernel) fun t hf y => ?_
  have ht := lt16 t
  rw [after_7]
  refine Eq.trans (b := dugAt m c t (ix2 (y 0) (y 1))) ?_ ((dugAt_apply m c t (y 0) (y 1)).trans ?_)
  · exact congrArg (dugAt m c t) (funext fun a => match a with | ⟨0, _⟩ => rfl | ⟨1, _⟩ => rfl)
  · refine congrArg₂ (args m c).dUg (Fin.ext ?_) (Fin.ext ?_)
    · blk_simp [(idxo t).1]
    · show 256 * t.val + _ = _; blk_simp [(idxo t).1]; omega
theorem arr8 : (dats m 0 c).arrAt 8 cfg0.N = dUvArr m c := by
  refine (dats m 0 c).arrAt_eq_of_covers 8 _ (by decide +kernel) fun t hf y => ?_
  have ht := lt16 t
  rw [after_8]
  refine Eq.trans (b := duvAt m c t (ix2 (y 0) (y 1))) ?_ ((duvAt_apply m c t (y 0) (y 1)).trans ?_)
  · exact congrArg (duvAt m c t) (funext fun a => match a with | ⟨0, _⟩ => rfl | ⟨1, _⟩ => rfl)
  · refine congrArg₂ (args m c).dUv (Fin.ext ?_) (Fin.ext ?_)
    · blk_simp [(idxo t).2.1]
    · show 256 * t.val + _ = _; blk_simp [(idxo t).2.1]; omega
theorem arr13 : (dats m 0 c).arrAt 13 cfg0.N = dDownArr m c := by
  refine (dats m 0 c).arrAt_eq_of_covers 13 _ (by decide +kernel) fun t hf y => ?_
  have ht := lt16 t
  rw [after_13]
  refine Eq.trans (b := dwdAt m c t (ix2 (y 0) (y 1))) ?_ ((dwdAt_apply m c t (y 0) (y 1)).trans ?_)
  · exact congrArg (dwdAt m c t) (funext fun a => match a with | ⟨0, _⟩ => rfl | ⟨1, _⟩ => rfl)
  · refine congrArg₂ (args m c).dDown (Fin.ext ?_) (Fin.ext ?_)
    · show 256 * t.val + _ = _; blk_simp [(idxo t).2.2.1]; omega
    · blk_simp [(idxo t).2.2.1]

/-! The taps' and the biases' arrays are written in one half only: the gate's in the first, the value's in the last. -/

def dCgArr : S8x3x1024.Idx → EReal := fun i => if h : (i 0).val < 4 then (args m c).dCg (i 1) ⟨1024 * (i 0).val + (i 2).val, by have h2 : (i 2).val < 1024 := (i 2).isLt; omega⟩ else 0
def dCvArr : S8x3x1024.Idx → EReal := fun i => if h : 4 ≤ (i 0).val then (args m c).dCv (i 1) ⟨1024 * ((i 0).val - 4) + (i 2).val, by have h0 : (i 0).val < 8 := (i 0).isLt; have h2 : (i 2).val < 1024 := (i 2).isLt; omega⟩ else 0
def dBgArr : S1x8192.Idx → EReal := fun i => if h : (i 1).val < 4096 then (args m c).dBg ⟨(i 1).val, h⟩ else 0
def dBvArr : S1x8192.Idx → EReal := fun i => if h : 4096 ≤ (i 1).val then (args m c).dBv ⟨(i 1).val - 4096, by have h1 : (i 1).val < 8192 := (i 1).isLt; omega⟩ else 0

theorem arr9 (i : S8x3x1024.Idx) (hi : (i 0).val < 4) : (dats m 0 c).arrAt 9 cfg0.N i = dCgArr m c i := by
  refine ((dats m 0 c).arrAt_apply_of_coversWhere 9 (dCgArr m c) (P := fun i => (i (0 : Fin 3)).val < 4) (fun β => β (0 : Fin 3) < 4)
    (by decide +kernel) (fun t hf y => ?_) (fun j => ?_) i).trans (if_pos hi)
  · have ht := lt16 t
    have hy : (y (0 : Fin 3)).val < 1 := (y (0 : Fin 3)).isLt
    rw [after_9]
    refine Eq.trans (b := dcgAt m c t (ix3 0 (y 1) (y 2))) ?_ ((dcgAt_apply m c t (y 1) (y 2)).trans ?_)
    · exact congrArg (dcgAt m c t) (funext fun a => match a with | ⟨0, _⟩ => Subsingleton.elim (α := Fin 1) _ _ | ⟨1, _⟩ => rfl | ⟨2, _⟩ => rfl)
    · have e : (((cfg0.win 9).blk t).view.emb y (0 : Fin 3)).val = t.val / 4 := by blk_simp [(idxo t).2.2.2.1]; try omega
      unfold dCgArr
      rw [dif_pos (by rw [e]; omega)]
      refine congrArg₂ (args m c).dCg (Fin.ext ?_) (Fin.ext ?_)
      · blk_simp [(idxo t).2.2.2.1]
      · show 256 * t.val + _ = 1024 * _ + _
        rw [e]
        blk_simp [(idxo t).2.2.2.1]; omega
  · exact Iff.of_eq (by blk_simp [Pipeline.Window.cell_apply]; rw [Nat.div_one])
theorem arr10 (i : S8x3x1024.Idx) (hi : 4 ≤ (i 0).val) : (dats m 0 c).arrAt 10 cfg0.N i = dCvArr m c i := by
  refine ((dats m 0 c).arrAt_apply_of_coversWhere 10 (dCvArr m c) (P := fun i => 4 ≤ (i (0 : Fin 3)).val) (fun β => 4 ≤ β (0 : Fin 3))
    (by decide +kernel) (fun t hf y => ?_) (fun j => ?_) i).trans (if_pos hi)
  · have ht := lt16 t
    have hy : (y (0 : Fin 3)).val < 1 := (y (0 : Fin 3)).isLt
    rw [after_10]
    refine Eq.trans (b := dcvAt m c t (ix3 0 (y 1) (y 2))) ?_ ((dcvAt_apply m c t (y 1) (y 2)).trans ?_)
    · exact congrArg (dcvAt m c t) (funext fun a => match a with | ⟨0, _⟩ => Subsingleton.elim (α := Fin 1) _ _ | ⟨1, _⟩ => rfl | ⟨2, _⟩ => rfl)
    · have e : (((cfg0.win 10).blk t).view.emb y (0 : Fin 3)).val = 4 + t.val / 4 := by blk_simp [(idxo t).2.2.2.2.1]; try omega
      unfold dCvArr
      rw [dif_pos (by rw [e]; omega)]
      refine congrArg₂ (args m c).dCv (Fin.ext ?_) (Fin.ext ?_)
      · blk_simp [(idxo t).2.2.2.2.1]
      · show 256 * t.val + _ = 1024 * (_ - 4) + _
        rw [e]
        blk_simp [(idxo t).2.2.2.2.1]; omega
  · exact Iff.of_eq (by blk_simp [Pipeline.Window.cell_apply]; rw [Nat.div_one])
theorem arr11 (i : S1x8192.Idx) (hi : (i 1).val < 4096) : (dats m 0 c).arrAt 11 cfg0.N i = dBgArr m c i := by
  refine ((dats m 0 c).arrAt_apply_of_coversWhere 11 (dBgArr m c) (P := fun i => (i (1 : Fin 2)).val < 4096) (fun β => β (1 : Fin 2) < 16)
    (by decide +kernel) (fun t hf y => ?_) (fun j => ?_) i).trans (if_pos hi)
  · have ht := lt16 t
    have hy : (y (1 : Fin 2)).val < 256 := (y (1 : Fin 2)).isLt
    rw [after_11]
    refine Eq.trans (b := dbgAt m c t (ix2 0 (y 1))) ?_ ((dbgAt_apply m c t (y 1)).trans ?_)
    · exact congrArg (dbgAt m c t) (funext fun a => match a with | ⟨0, _⟩ => Subsingleton.elim (α := Fin 1) _ _ | ⟨1, _⟩ => rfl)
    · have e : (((cfg0.win 11).blk t).view.emb y (1 : Fin 2)).val = t.val * 256 + (y (1 : Fin 2)).val := by blk_simp [(idxo t).2.2.2.2.2.1]; try omega
      unfold dBgArr
      rw [dif_pos (by rw [e]; omega)]
      refine congrArg (args m c).dBg (Fin.ext ?_)
      show 256 * t.val + _ = _
      rw [e]
      omega
  · blk_simp [Pipeline.Window.cell_apply]
    omega
theorem arr12 (i : S1x8192.Idx) (hi : 4096 ≤ (i 1).val) : (dats m 0 c).arrAt 12 cfg0.N i = dBvArr m c i := by
  refine ((dats m 0 c).arrAt_apply_of_coversWhere 12 (dBvArr m c) (P := fun i => 4096 ≤ (i (1 : Fin 2)).val) (fun β => 16 ≤ β (1 : Fin 2))
    (by decide +kernel) (fun t hf y => ?_) (fun j => ?_) i).trans (if_pos hi)
  · have ht := lt16 t
    have hy : (y (1 : Fin 2)).val < 256 := (y (1 : Fin 2)).isLt
    rw [after_12]
    refine Eq.trans (b := dbvAt m c t (ix2 0 (y 1))) ?_ ((dbvAt_apply m c t (y 1)).trans ?_)
    · exact congrArg (dbvAt m c t) (funext fun a => match a with | ⟨0, _⟩ => Subsingleton.elim (α := Fin 1) _ _ | ⟨1, _⟩ => rfl)
    · have e : (((cfg0.win 12).blk t).view.emb y (1 : Fin 2)).val = (16 + t.val) * 256 + (y (1 : Fin 2)).val := by blk_simp [(idxo t).2.2.2.2.2.2]; try omega
      unfold dBvArr
      rw [dif_pos (by rw [e]; omega)]
      refine congrArg (args m c).dBv (Fin.ext ?_)
      show 256 * t.val + _ = _ - 4096
      rw [e]
      omega
  · blk_simp [Pipeline.Window.cell_apply]
    omega

/-! ## The joined results -/

theorem withArrays_at (w : Fin cfg0.W) : Pipeline.withArrays (cfgs 0).spec c (V0 m c) (fun w => (dats m 0 c).arrAt w (cfgs 0).N) (Proc.devRef .tc (Pipeline.arrRef spec0 w))
    = (dats m 0 c).arrAt w cfg0.N :=
  (dats m 0 c).withArrays_arrAt (by decide) (V0 m c) (A_eq m c) w

theorem tail_v11 : Pipeline.afterTail₀ cfgs (dats m) 0 (V0 m) [hostOps1] c main_v11
    = concatenate S8x3x1024 0 [⟨S4x3x1024, extractStridedSlice S4x3x1024 ![0, 0, 0] ((dats m 0 c).arrAt 9 cfg0.N : S8x3x1024.Idx → EReal) slices_S8x3x1024_S4x3x1024_0_0_0⟩,
        ⟨S4x3x1024, extractStridedSlice S4x3x1024 ![4, 0, 0] ((dats m 0 c).arrAt 10 cfg0.N : S8x3x1024.Idx → EReal) slices_S8x3x1024_S4x3x1024_4_0_0⟩]
        concatenates_S4x3x1024_S4x3x1024_S8x3x1024_d0 := by
  rw [← withArrays_at m c 9, ← withArrays_at m c 10]
  show StableHlo.after hostOps1 _ (Proc.devRef .tc main_v11) = _
  after_results
theorem tail_v14 : Pipeline.afterTail₀ cfgs (dats m) 0 (V0 m) [hostOps1] c main_v14
    = concatenate S1x8192 1 [⟨S1x4096, extractStridedSlice S1x4096 ![0, 0] ((dats m 0 c).arrAt 11 cfg0.N : S1x8192.Idx → EReal) slices_S1x8192_S1x4096_0_0⟩,
        ⟨S1x4096, extractStridedSlice S1x4096 ![0, 4096] ((dats m 0 c).arrAt 12 cfg0.N : S1x8192.Idx → EReal) slices_S1x8192_S1x4096_0_4096⟩]
        concatenates_S1x4096_S1x4096_S1x8192_d1 := by
  rw [← withArrays_at m c 11, ← withArrays_at m c 12]
  show StableHlo.after hostOps1 _ (Proc.devRef .tc main_v14) = _
  after_results

def dCwArr : S8x3x1024.Idx → EReal := fun i => (args m c).dCw (i 0) (i 1) (i 2)
def dCbArr : S1x8192.Idx → EReal := fun i => (args m c).dCb (i 1)

theorem v11_eq : Pipeline.afterTail₀ cfgs (dats m) 0 (V0 m) [hostOps1] c main_v11 = dCwArr m c := by
  rw [tail_v11]
  funext i
  have h0 : (i 0).val < 8 := (i 0).isLt
  unfold dCwArr Args.dCw
  by_cases h : (i 0).val < 4
  · rw [dif_pos h]
    refine (concatenate_pair_apply_left (t := S8x3x1024) (s₁ := S4x3x1024) (s₂ := S4x3x1024) 0 _ _ _ i rfl
      (ix3 (⟨(i 0).val, h⟩ : Fin 4) (i 1 : Fin 3) (i 2 : Fin 1024)) fun a => match a with | ⟨0, _⟩ => rfl | ⟨1, _⟩ => rfl | ⟨2, _⟩ => rfl).trans ?_
    refine (extractStridedSlice_apply _ _ _ _ i fun a => match a with | ⟨0, _⟩ => (Nat.zero_add _).symm | ⟨1, _⟩ => (Nat.zero_add _).symm | ⟨2, _⟩ => (Nat.zero_add _).symm).trans ?_
    rw [arr9 m c i h]
    unfold dCgArr
    rw [dif_pos h]
  · rw [dif_neg h]
    refine (concatenate_pair_apply_right (t := S8x3x1024) (s₁ := S4x3x1024) (s₂ := S4x3x1024) 0 _ _ _ i rfl rfl
      (ix3 (⟨(i 0).val - 4, by omega⟩ : Fin 4) (i 1 : Fin 3) (i 2 : Fin 1024)) (fun a ha => match a, ha with | ⟨0, _⟩, ha => absurd rfl ha | ⟨1, _⟩, _ => rfl | ⟨2, _⟩, _ => rfl)
      (by show (i 0).val - 4 + 4 = (i 0).val; omega)).trans ?_
    refine (extractStridedSlice_apply _ _ _ _ i fun a => match a with
      | ⟨0, _⟩ => (by show (i 0).val = 4 + ((i 0).val - 4); omega) | ⟨1, _⟩ => (Nat.zero_add _).symm | ⟨2, _⟩ => (Nat.zero_add _).symm).trans ?_
    rw [arr10 m c i (by omega)]
    unfold dCvArr
    rw [dif_pos (show 4 ≤ (i 0).val by omega)]

theorem v14_eq : Pipeline.afterTail₀ cfgs (dats m) 0 (V0 m) [hostOps1] c main_v14 = dCbArr m c := by
  rw [tail_v14]
  funext i
  have h1 : (i 1).val < 8192 := (i 1).isLt
  unfold dCbArr Args.dCb
  by_cases h : (i 1).val < 4096
  · rw [dif_pos h]
    refine (concatenate_pair_apply_left (t := S1x8192) (s₁ := S1x4096) (s₂ := S1x4096) 1 _ _ _ i rfl
      (ix2 (i 0 : Fin 1) (⟨(i 1).val, h⟩ : Fin 4096)) fun a => match a with | ⟨0, _⟩ => rfl | ⟨1, _⟩ => rfl).trans ?_
    refine (extractStridedSlice_apply _ _ _ _ i fun a => match a with | ⟨0, _⟩ => (Nat.zero_add _).symm | ⟨1, _⟩ => (Nat.zero_add _).symm).trans ?_
    rw [arr11 m c i h]
    unfold dBgArr
    rw [dif_pos h]
  · rw [dif_neg h]
    refine (concatenate_pair_apply_right (t := S1x8192) (s₁ := S1x4096) (s₂ := S1x4096) 1 _ _ _ i rfl rfl
      (ix2 (i 0 : Fin 1) (⟨(i 1).val - 4096, by omega⟩ : Fin 4096)) (fun a ha => match a, ha with | ⟨0, _⟩, _ => rfl | ⟨1, _⟩, ha => absurd rfl ha)
      (by show (i 1).val - 4096 + 4096 = (i 1).val; omega)).trans ?_
    refine (extractStridedSlice_apply _ _ _ _ i fun a => match a with
      | ⟨0, _⟩ => (Nat.zero_add _).symm | ⟨1, _⟩ => (by show (i 1).val = 4096 + ((i 1).val - 4096); omega)).trans ?_
    rw [arr12 m c i (by omega)]
    unfold dBvArr
    rw [dif_pos (show 4096 ≤ (i 1).val by omega)]

/-! ## The run's results -/

set_option backward.isDefEq.respectTransparency.types false in
theorem results {r : PUnit × MemSt nD τ sig (Elt Ideal)}
    (h : Pipeline.FramePost cfgs (dats m) 0 (Pipeline.afterTail₀ cfgs (dats m) 0 (V0 m) [hostOps1]) r) (c : Dev nD) :
    r.2.mem ((c : Thread nD τ).loc main_v8_0) = dUgArr m c ∧ r.2.mem ((c : Thread nD τ).loc main_v8_1) = dUvArr m c
      ∧ r.2.mem ((c : Thread nD τ).loc main_v11) = dCwArr m c ∧ r.2.mem ((c : Thread nD τ).loc main_v14) = dCbArr m c
      ∧ r.2.mem ((c : Thread nD τ).loc main_v8_6) = dDownArr m c :=
  ⟨((h c).1 7).trans (arr7 m c), ((h c).1 8).trans (arr8 m c),
    ((h c).2 main_v11 (Pipeline.mem_restRefs_of main_v11 (by decide) (by decide))).trans (v11_eq m c),
    ((h c).2 main_v14 (Pipeline.mem_restRefs_of main_v14 (by decide) (by decide))).trans (v14_eq m c),
    ((h c).1 13).trans (arr13 m c)⟩

end Cert.KernelIdeal.Hand

end
-- ==== Proof.RefRead.lean ====
/-
  The reference's intermediate arrays, an entry at a time: the products moved down under two rows of zeros, the filtered
  gate and value, the gelu and its two cotangents, as the channels of the arguments.
-/
module

public import proofs.«01_k».proof.Proof.Gen.ReferenceIdeal.Read
public import proofs.«01_k».proof.Proof.Spec
public import Idealize.ShloMosaic.Lib.KernelVsHost
public import Idealize.ShloMosaic.Lib.Pointwise.Index

@[expose] public section

set_option maxRecDepth 16384

noncomputable section

namespace Cert.ReferenceIdeal.Hand

open Cert.ReferenceIdeal Cert.ReferenceIdeal.Gen Cert.ReferenceIdeal.Read Cert.Maths
open Idealize.ShloMosaic Idealize.SL.Sem

variable (x0 x5 : S2048x1024.Idx → EReal) (x1 : S1024x8192.Idx → EReal) (x2 : S3x8192.Idx → EReal)
  (x3 : S1x8192.Idx → EReal) (x4 : S4096x1024.Idx → EReal)

/-- The arguments by coordinates. -/
def argsOf : Args where
  h n k := x0 (ix2 n k)
  w k j := x1 (ix2 k j)
  cw r j := x2 (ix2 r j)
  cb j := x3 (ix2 0 j)
  wd e k := x4 (ix2 e k)
  df n k := x5 (ix2 n k)

/-! ## Rows under zeros -/

theorem padRow_in {R T C lo hi : ℕ} (x : (⟨2, ![R, C]⟩ : Shape).Idx → EReal) {u : Shape} (v : u.Idx → EReal)
    (h : (⟨2, ![R, C]⟩ : Shape).Pads ![lo, 0] ![hi, 0] ![0, 0] ⟨2, ![T, C]⟩) (hu : 0 < u.numel) (j : Fin T) (c : Fin C) (n : Fin R)
    (hn : j.val = lo + n.val) : pad ⟨2, ![T, C]⟩ ![lo, 0] ![hi, 0] ![0, 0] x v h hu (ix2 j c) = x (ix2 n c) :=
  pad_apply_of_inside _ _ _ x v h hu (ix2 j c) (ix2 n c) fun a => match a with
    | ⟨0, _⟩ => (by show j.val = lo + n.val * (0 + 1); omega)
    | ⟨1, _⟩ => (by show c.val = 0 + c.val * (0 + 1); omega)

theorem padRow_out {R T C lo hi : ℕ} (x : (⟨2, ![R, C]⟩ : Shape).Idx → EReal) {u : Shape} (v : u.Idx → EReal)
    (h : (⟨2, ![R, C]⟩ : Shape).Pads ![lo, 0] ![hi, 0] ![0, 0] ⟨2, ![T, C]⟩) (hu : 0 < u.numel) (j : Fin T) (c : Fin C)
    (hn : ¬(lo ≤ j.val ∧ j.val - lo < R)) : pad ⟨2, ![T, C]⟩ ![lo, 0] ![hi, 0] ![0, 0] x v h hu (ix2 j c) = v (Shape.Idx.first hu) :=
  pad_apply_of_not_inside _ _ _ x v h hu (ix2 j c) 0 fun hh => hn ⟨hh.1, by
    have := hh.2.2
    have e : (j.val - lo) / (0 + 1) < R := this
    rwa [Nat.div_one] at e⟩

/-! ## The filter -/

theorem v0_at (n : Fin 2048) (c : Fin 8192) : val_main_v0 (F := Ideal) x0 x1 (ix2 n c) = ∑ k : Fin 1024, x0 (ix2 n k) * x1 (ix2 k c) := by
  rw [val_main_v0_apply]
  exact Finset.sum_congr rfl fun k _ => congrArg₂ (· * ·)
    (congrArg x0 (funext fun a => match a with | ⟨0, _⟩ => rfl | ⟨1, _⟩ => rfl))
    (congrArg x1 (funext fun a => match a with | ⟨0, _⟩ => rfl | ⟨1, _⟩ => rfl))

theorem v2_at (r : Fin 2050) (c : Fin 8192) :
    val_main_v2 (F := Ideal) x0 x1 (ix2 r c) = down 2 ((argsOf x0 x5 x1 x2 x3 x4).chan c).u r.val := by
  have hr := r.isLt
  unfold val_main_v2 down
  by_cases h : r.val < 2
  · rw [if_pos h]
    refine (concatenate_pair_apply_left (t := S2050x8192) (s₁ := S2x8192) (s₂ := S2048x8192) 0 _ _ _ (ix2 r c) rfl
      (ix2 (⟨r.val, h⟩ : Fin 2) c) fun a => match a with | ⟨0, _⟩ => rfl | ⟨1, _⟩ => rfl).trans ?_
    rw [val_main_v1_apply]
    exact Ideal.ofBits_zero_f32
  · rw [if_neg h]
    refine (concatenate_pair_apply_right (t := S2050x8192) (s₁ := S2x8192) (s₂ := S2048x8192) 0 _ _ _ (ix2 r c) rfl rfl
      (ix2 (⟨r.val - 2, by omega⟩ : Fin 2048) c) (fun a ha => match a, ha with | ⟨0, _⟩, ha => absurd rfl ha | ⟨1, _⟩, _ => rfl)
      (by show r.val - 2 + 2 = r.val; omega)).trans ?_
    rw [v0_at]
    exact (col_at (fun n => ∑ k : Fin 1024, x0 (ix2 n k) * x1 (ix2 k c)) ⟨r.val - 2, by omega⟩).symm

theorem v6_at (n : Fin 2048) (c : Fin 8192) :
    val_main_v6 (F := Ideal) x0 x1 (ix2 n c) = down 2 ((argsOf x0 x5 x1 x2 x3 x4).chan c).u n.val := by
  rw [val_main_v6_apply]
  refine Eq.trans (congrArg _ ?_) (v2_at x0 x5 x1 x2 x3 x4 ⟨n.val, by omega⟩ c)
  exact funext fun a => match a with | ⟨0, _⟩ => rfl | ⟨1, _⟩ => rfl
theorem v14_at (n : Fin 2048) (c : Fin 8192) :
    val_main_v14 (F := Ideal) x0 x1 (ix2 n c) = down 1 ((argsOf x0 x5 x1 x2 x3 x4).chan c).u n.val := by
  rw [val_main_v14_apply]
  refine Eq.trans (congrArg _ ?_) ((v2_at x0 x5 x1 x2 x3 x4 ⟨n.val + 1, by omega⟩ c).trans (down_down 1 1 _ _))
  exact funext fun a => match a with | ⟨0, _⟩ => Fin.ext (Nat.add_comm 1 n.val) | ⟨1, _⟩ => rfl
theorem v21_at (n : Fin 2048) (c : Fin 8192) :
    val_main_v21 (F := Ideal) x0 x1 (ix2 n c) = ((argsOf x0 x5 x1 x2 x3 x4).chan c).u n.val := by
  rw [val_main_v21_apply]
  refine Eq.trans (congrArg _ ?_) ((v2_at x0 x5 x1 x2 x3 x4 ⟨n.val + 2, by omega⟩ c).trans (down_down 0 2 _ _))
  exact funext fun a => match a with | ⟨0, _⟩ => Fin.ext (Nat.add_comm 2 n.val) | ⟨1, _⟩ => rfl

/-- The three taps over every row. -/
theorem v8_at (n : Fin 2048) (c : Fin 8192) : val_main_v8 (F := Ideal) x2 (ix2 n c) = x2 (ix2 0 c) := by
  rw [val_main_v8_apply, val_main_v7_apply, val_main_v5_apply, val_main_v4_apply]
  exact congrArg x2 (funext fun a => match a with | ⟨0, _⟩ => rfl | ⟨1, _⟩ => Fin.ext (by simp))
theorem v16_at (n : Fin 2048) (c : Fin 8192) : val_main_v16 (F := Ideal) x2 (ix2 n c) = x2 (ix2 1 c) := by
  rw [val_main_v16_apply, val_main_v15_apply, val_main_v13_apply, val_main_v12_apply]
  exact congrArg x2 (funext fun a => match a with | ⟨0, _⟩ => rfl | ⟨1, _⟩ => Fin.ext (by simp))
theorem v23_at (n : Fin 2048) (c : Fin 8192) : val_main_v23 (F := Ideal) x2 (ix2 n c) = x2 (ix2 2 c) := by
  rw [val_main_v23_apply, val_main_v22_apply, val_main_v20_apply, val_main_v19_apply]
  exact congrArg x2 (funext fun a => match a with | ⟨0, _⟩ => rfl | ⟨1, _⟩ => Fin.ext (by simp))

theorem v27_at (n : Fin 2048) (c : Fin 8192) :
    val_main_v27 (F := Ideal) x0 x1 x2 x3 (ix2 n c) = ((argsOf x0 x5 x1 x2 x3 x4).chan c).y n.val := by
  rw [val_main_v27_apply, val_main_v25_apply, val_main_v18_apply, val_main_v11_apply, val_main_v9_apply, val_main_v17_apply,
    val_main_v24_apply, val_main_v26_apply, val_main_v10_apply, v8_at, v16_at, v23_at, v6_at x0 x5 x1 x2 x3 x4, v14_at x0 x5 x1 x2 x3 x4,
    v21_at x0 x5 x1 x2 x3 x4]
  have e : x3 (idx_main_v26 (ix2 n c)) = x3 (ix2 0 c) := congrArg x3 (funext fun a => match a with | ⟨0, _⟩ => rfl | ⟨1, _⟩ => rfl)
  rw [e]
  unfold Half.y taps
  have z : val_main_cst_1 (F := Ideal) (idx_main_v10 (ix2 n c)) = (0 : EReal) := Ideal.ofBits_zero_f32
  rw [z]
  simp only [Ideal.addf_def, Ideal.mulf_def, zero_add]
  rw [add_assoc (_ + _), add_assoc, add_assoc]
  rfl

theorem v28_at (n : Fin 2048) (e : Fin 4096) :
    val_main_v28 (F := Ideal) x0 x1 x2 x3 (ix2 n e) = ((argsOf x0 x5 x1 x2 x3 x4).gate e).y n.val := by
  rw [val_main_v28_apply]
  refine Eq.trans (congrArg _ ?_) (v27_at x0 x5 x1 x2 x3 x4 n ⟨e.val, by omega⟩)
  exact funext fun a => match a with | ⟨0, _⟩ => rfl | ⟨1, _⟩ => rfl
theorem v29_at (n : Fin 2048) (e : Fin 4096) :
    val_main_v29 (F := Ideal) x0 x1 x2 x3 (ix2 n e) = ((argsOf x0 x5 x1 x2 x3 x4).value e).y n.val := by
  rw [val_main_v29_apply]
  refine Eq.trans (congrArg _ ?_) (v27_at x0 x5 x1 x2 x3 x4 n ⟨4096 + e.val, by omega⟩)
  exact funext fun a => match a with | ⟨0, _⟩ => rfl | ⟨1, _⟩ => rfl

theorem v55_at (n : Fin 2048) (e : Fin 4096) :
    val_main_v55 (F := Ideal) x4 x5 (ix2 n e) = (argsOf x0 x5 x1 x2 x3 x4).cot e n.val := by
  rw [val_main_v55_apply]
  refine Eq.trans (Finset.sum_congr rfl fun k _ => congrArg₂ (· * ·) ?_ ?_) (col_at (fun n => ∑ k : Fin 1024, x5 (ix2 n k) * x4 (ix2 e k)) n).symm
  · exact congrArg x5 (funext fun a => match a with | ⟨0, _⟩ => rfl | ⟨1, _⟩ => rfl)
  · exact congrArg x4 (funext fun a => match a with | ⟨0, _⟩ => rfl | ⟨1, _⟩ => rfl)

/-! ## The gelu and its cotangents -/

theorem v40_eq (i : S2048x4096.Idx) : val_main_v40 (F := Ideal) x0 x1 x2 x3 i = th (val_main_v28 (F := Ideal) x0 x1 x2 x3 i) := by
  rw [val_main_v40_apply, val_main_v39_apply, val_main_v37_apply, val_main_v36_apply, val_main_v31_apply, val_main_v30_apply]
  generalize val_main_v28 (F := Ideal) x0 x1 x2 x3 i = g
  unfold th
  rw [mul_comm g (g * g)]
  rfl

theorem v50_eq (i : S2048x4096.Idx) : val_main_v50 (F := Ideal) x0 x1 x2 x3 i = gelu (val_main_v28 (F := Ideal) x0 x1 x2 x3 i) := by
  rw [val_main_v50_apply, val_main_v49_apply, val_main_v47_apply, v40_eq]
  generalize val_main_v28 (F := Ideal) x0 x1 x2 x3 i = g
  rfl

theorem v51_at (n : Fin 2048) (e : Fin 4096) : val_main_v51 (F := Ideal) x0 x1 x2 x3 (ix2 n e)
    = act ((argsOf x0 x5 x1 x2 x3 x4).gate e) ((argsOf x0 x5 x1 x2 x3 x4).value e) n.val := by
  rw [val_main_v51_apply, v50_eq, v28_at x0 x5 x1 x2 x3 x4, v29_at x0 x5 x1 x2 x3 x4]
  rfl

theorem v56_at (n : Fin 2048) (e : Fin 4096) : val_main_v56 (F := Ideal) x0 x1 x2 x3 x4 x5 (ix2 n e)
    = (argsOf x0 x5 x1 x2 x3 x4).dv e n.val := by
  rw [val_main_v56_apply, v50_eq, v28_at x0 x5 x1 x2 x3 x4, v55_at x0 x5 x1 x2 x3 x4]
  rfl

theorem v69_eq (i : S2048x4096.Idx) : val_main_v69 (F := Ideal) x0 x1 x2 x3 x4 x5 i
    = dGate (val_main_v55 (F := Ideal) x4 x5 i) (val_main_v28 (F := Ideal) x0 x1 x2 x3 i) (val_main_v29 (F := Ideal) x0 x1 x2 x3 i) := by
  rw [val_main_v69_apply, val_main_v68_apply, val_main_v67_apply, val_main_v65_apply, val_main_v64_apply, val_main_v62_apply,
    val_main_v61_apply, val_main_v59_apply, val_main_v58_apply, val_main_v57_apply, val_main_v49_apply, val_main_v47_apply,
    val_main_v45_apply, val_main_v44_apply, val_main_v42_apply, val_main_v34_apply, val_main_v32_apply, v40_eq]
  generalize val_main_v28 (F := Ideal) x0 x1 x2 x3 i = g
  generalize val_main_v29 (F := Ideal) x0 x1 x2 x3 i = v
  generalize val_main_v55 (F := Ideal) x4 x5 i = a
  rfl

theorem v69_at (n : Fin 2048) (e : Fin 4096) : val_main_v69 (F := Ideal) x0 x1 x2 x3 x4 x5 (ix2 n e)
    = (argsOf x0 x5 x1 x2 x3 x4).dg e n.val := by
  rw [v69_eq, v28_at x0 x5 x1 x2 x3 x4, v29_at x0 x5 x1 x2 x3 x4, v55_at x0 x5 x1 x2 x3 x4]
  rfl

end Cert.ReferenceIdeal.Hand

end
-- ==== Proof.RefValue.lean ====
/-
  The reference's results, an entry at a time, are the results the two programs share: the cotangents of the products
  from the filter run backwards, those of the taps and biases from sums over the rows, that of the down projection.
-/
module

public import proofs.«01_k».proof.Proof.RefRead

@[expose] public section

set_option maxRecDepth 16384

noncomputable section

namespace Cert.ReferenceIdeal.Hand

open Cert.ReferenceIdeal Cert.ReferenceIdeal.Gen Cert.ReferenceIdeal.Read Cert.Maths
open Idealize.ShloMosaic Idealize.SL.Sem

variable (x0 x5 : S2048x1024.Idx → EReal) (x1 : S1024x8192.Idx → EReal) (x2 : S3x8192.Idx → EReal)
  (x3 : S1x8192.Idx → EReal) (x4 : S4096x1024.Idx → EReal)

/-- The cotangent column of a filtered channel, the gate's 4096 and then the value's. -/
def dChan (A : Args) (c : Fin 8192) : ℕ → EReal :=
  if h : c.val < 4096 then A.dg ⟨c.val, h⟩ else A.dv ⟨c.val - 4096, by omega⟩

theorem dChan_past (A : Args) (c : Fin 8192) (n : ℕ) (hn : 2048 ≤ n) : dChan A c n = 0 := by
  have z : ∀ e, A.cot e n = 0 := fun e => col_past _ n hn
  unfold dChan
  split
  · unfold Args.dg dG; rw [z, dGate_zero]
  · unfold Args.dv dV; rw [z, dVal_zero]

theorem v70_at (n : Fin 2048) (c : Fin 8192) :
    val_main_v70 (F := Ideal) x0 x1 x2 x3 x4 x5 (ix2 n c) = dChan (argsOf x0 x5 x1 x2 x3 x4) c n.val := by
  unfold val_main_v70 dChan
  by_cases h : c.val < 4096
  · rw [dif_pos h]
    exact (concatenate_pair_apply_left (t := S2048x8192) (s₁ := S2048x4096) (s₂ := S2048x4096) 1 _ _ _ (ix2 n c) rfl
      (ix2 n (⟨c.val, h⟩ : Fin 4096)) fun a => match a with | ⟨0, _⟩ => rfl | ⟨1, _⟩ => rfl).trans (v69_at x0 x5 x1 x2 x3 x4 n ⟨c.val, h⟩)
  · rw [dif_neg h]
    exact (concatenate_pair_apply_right (t := S2048x8192) (s₁ := S2048x4096) (s₂ := S2048x4096) 1 _ _ _ (ix2 n c) rfl rfl
      (ix2 n (⟨c.val - 4096, by omega⟩ : Fin 4096)) (fun a ha => match a, ha with | ⟨0, _⟩, _ => rfl | ⟨1, _⟩, ha => absurd rfl ha)
      (by show c.val - 4096 + 4096 = c.val; omega)).trans (v56_at x0 x5 x1 x2 x3 x4 n ⟨c.val - 4096, by omega⟩)

/-! ## The biases -/

theorem v72_at (c : Fin 8192) :
    val_main_v72 (F := Ideal) x0 x1 x2 x3 x4 x5 (ix2 0 c) = ∑ n : Fin 2048, dChan (argsOf x0 x5 x1 x2 x3 x4) c n.val := by
  rw [val_main_v72_apply, val_main_v71_apply]
  refine (congrArg (· + _) Ideal.ofBits_zero_f32).trans ((zero_add _).trans (Finset.sum_congr rfl fun n _ => ?_))
  refine Eq.trans (congrArg _ ?_) (v70_at x0 x5 x1 x2 x3 x4 n c)
  exact funext fun a => match a with | ⟨0, _⟩ => rfl | ⟨1, _⟩ => Fin.ext (by simp)

/-! ## The products -/

theorem v74_at (n : Fin 2048) (c : Fin 8192) : val_main_v74 (F := Ideal) x0 x1 x2 x3 x4 x5 (ix2 n c)
    = x2 (ix2 2 c) * dChan (argsOf x0 x5 x1 x2 x3 x4) c n.val := by
  rw [val_main_v74_apply, v70_at]
  exact congrArg (· * _) (v23_at x2 n c)
theorem v83_at (n : Fin 2048) (c : Fin 8192) : val_main_v83 (F := Ideal) x0 x1 x2 x3 x4 x5 (ix2 n c)
    = x2 (ix2 1 c) * dChan (argsOf x0 x5 x1 x2 x3 x4) c n.val := by
  rw [val_main_v83_apply, v70_at]
  exact congrArg (· * _) (v16_at x2 n c)
theorem v94_at (n : Fin 2048) (c : Fin 8192) : val_main_v94 (F := Ideal) x0 x1 x2 x3 x4 x5 (ix2 n c)
    = x2 (ix2 0 c) * dChan (argsOf x0 x5 x1 x2 x3 x4) c n.val := by
  rw [val_main_v94_apply, v70_at]
  exact congrArg (· * _) (v8_at x2 n c)

theorem v79_at (r : Fin 2050) (c : Fin 8192) (n : ℕ) (h : r.val = n + 2) : val_main_v79 (F := Ideal) x0 x1 x2 x3 x4 x5 (ix2 r c)
    = x2 (ix2 2 c) * dChan (argsOf x0 x5 x1 x2 x3 x4) c n := by
  have hr := r.isLt
  exact (padRow_in (T := 2050) (R := 2048) (C := 8192) (lo := 2) _ _ _ _ r c ⟨n, by omega⟩ (by show r.val = 2 + n; omega)).trans
    (v74_at x0 x5 x1 x2 x3 x4 ⟨n, by omega⟩ c)

theorem v88_at (r : Fin 2050) (c : Fin 8192) (n : ℕ) (h : r.val = n + 2) : val_main_v88 (F := Ideal) x0 x1 x2 x3 x4 x5 (ix2 r c)
    = x2 (ix2 1 c) * dChan (argsOf x0 x5 x1 x2 x3 x4) c (n + 1) := by
  by_cases hn : n + 1 < 2048
  · exact (padRow_in (T := 2050) (R := 2048) (C := 8192) (lo := 1) _ _ _ _ r c ⟨n + 1, hn⟩ (by show r.val = 1 + (n + 1); omega)).trans
      (v83_at x0 x5 x1 x2 x3 x4 ⟨n + 1, hn⟩ c)
  · rw [dChan_past _ _ _ (by omega), mul_zero]
    exact (padRow_out (T := 2050) (R := 2048) (C := 8192) (lo := 1) _ _ _ _ r c (by omega)).trans Ideal.ofBits_zero_f32

theorem v99_at (r : Fin 2050) (c : Fin 8192) (n : ℕ) (h : r.val = n + 2) : val_main_v99 (F := Ideal) x0 x1 x2 x3 x4 x5 (ix2 r c)
    = x2 (ix2 0 c) * dChan (argsOf x0 x5 x1 x2 x3 x4) c (n + 2) := by
  by_cases hn : n + 2 < 2048
  · exact (padRow_in (T := 2050) (R := 2048) (C := 8192) (lo := 0) _ _ _ _ r c ⟨n + 2, hn⟩ (by show r.val = 0 + (n + 2); omega)).trans
      (v94_at x0 x5 x1 x2 x3 x4 ⟨n + 2, hn⟩ c)
  · rw [dChan_past _ _ _ (by omega), mul_zero]
    exact (padRow_out (T := 2050) (R := 2048) (C := 8192) (lo := 0) _ _ _ _ r c (by omega)).trans Ideal.ofBits_zero_f32

theorem v106_at (n : Fin 2048) (c : Fin 8192) : val_main_v106 (F := Ideal) x0 x1 x2 x3 x4 x5 (ix2 n c)
    = ((argsOf x0 x5 x1 x2 x3 x4).chan c).back (dChan (argsOf x0 x5 x1 x2 x3 x4) c) n.val := by
  rw [val_main_v106_apply, val_main_v105_apply]
  have e : idx_main_v105 (ix2 n c) = ix2 (⟨n.val + 2, by omega⟩ : Fin 2050) c :=
    funext fun a => match a with | ⟨0, _⟩ => Fin.ext (Nat.add_comm 2 n.val) | ⟨1, _⟩ => rfl
  rw [e, val_main_v100_apply, val_main_v89_apply, v79_at x0 x5 x1 x2 x3 x4 _ c n.val rfl, v88_at x0 x5 x1 x2 x3 x4 _ c n.val rfl,
    v99_at x0 x5 x1 x2 x3 x4 _ c n.val rfl]
  rfl

theorem v107_at (n : Fin 2048) (e : Fin 4096) :
    val_main_v107 (F := Ideal) x0 x1 x2 x3 x4 x5 (ix2 n e) = (argsOf x0 x5 x1 x2 x3 x4).dUg n e := by
  rw [val_main_v107_apply]
  refine Eq.trans (congrArg _ ?_) ((v106_at x0 x5 x1 x2 x3 x4 n ⟨e.val, by omega⟩).trans ?_)
  · exact funext fun a => match a with | ⟨0, _⟩ => rfl | ⟨1, _⟩ => rfl
  · unfold Args.dUg Args.gate dChan
    rw [dif_pos (show e.val < 4096 from e.isLt)]

theorem v108_at (n : Fin 2048) (e : Fin 4096) :
    val_main_v108 (F := Ideal) x0 x1 x2 x3 x4 x5 (ix2 n e) = (argsOf x0 x5 x1 x2 x3 x4).dUv n e := by
  rw [val_main_v108_apply]
  refine Eq.trans (congrArg _ ?_) ((v106_at x0 x5 x1 x2 x3 x4 n ⟨4096 + e.val, by omega⟩).trans ?_)
  · exact funext fun a => match a with | ⟨0, _⟩ => rfl | ⟨1, _⟩ => rfl
  · unfold Args.dUv Args.value dChan
    rw [dif_neg (show ¬(4096 + e.val < 4096) by omega)]
    exact congrArg (fun k => Half.back _ (Args.dv _ k) _) (Fin.ext (by show 4096 + e.val - 4096 = e.val; omega))

/-! ## The down projection -/

theorem v126_at (e : Fin 4096) (k : Fin 1024) :
    val_main_v126 (F := Ideal) x0 x1 x2 x3 x5 (ix2 e k) = (argsOf x0 x5 x1 x2 x3 x4).dDown e k := by
  rw [val_main_v126_apply, val_main_v54_apply]
  refine (val_main_v53_apply x0 x1 x2 x3 x5 _).trans (Finset.sum_congr rfl fun n _ => ?_)
  refine (mul_comm _ _).trans (congrArg₂ (· * ·) (Eq.trans (congrArg _ ?_) (v51_at x0 x5 x1 x2 x3 x4 n e)) (congrArg x5 ?_))
  · exact funext fun a => match a with | ⟨0, _⟩ => rfl | ⟨1, _⟩ => rfl
  · exact funext fun a => match a with | ⟨0, _⟩ => rfl | ⟨1, _⟩ => rfl

/-! ## The taps -/

/-- A tap's cotangent, a channel at a time. -/
def tapAt (A : Args) (r : Fin 3) (c : Fin 8192) : EReal := (A.chan c).tap (dChan A c) (2 - r.val)

theorem down_none (u : ℕ → EReal) (n : ℕ) : down 0 u n = u n := by unfold down; rw [if_neg (Nat.not_lt_zero n), Nat.sub_zero]

theorem v75_at (n : Fin 2048) (c : Fin 8192) : val_main_v75 (F := Ideal) x0 x1 x2 x3 x4 x5 (ix2 n c)
    = dChan (argsOf x0 x5 x1 x2 x3 x4) c n.val * down 0 ((argsOf x0 x5 x1 x2 x3 x4).chan c).u n.val := by
  rw [val_main_v75_apply, v70_at, v21_at x0 x5 x1 x2 x3 x4]
  rw [down_none]; rfl
theorem v76_at (i : S8192.Idx) (c : Fin 8192) (hi : (i 0).val = c.val) :
    val_main_v76 (F := Ideal) x0 x1 x2 x3 x4 x5 i = tapAt (argsOf x0 x5 x1 x2 x3 x4) 2 c := by
  rw [val_main_v76_apply]
  have e : ∀ n : Fin 2048, idx_main_v76 i n = ix2 n c := fun n => funext fun a => match a with | ⟨0, _⟩ => rfl | ⟨1, _⟩ => Fin.ext hi
  simp only [e, v75_at]
  exact (congrArg (· + _) Ideal.ofBits_zero_f32).trans (zero_add _)
theorem v80_at (c : Fin 8192) : val_main_v80 (F := Ideal) x0 x1 x2 x3 x4 x5 (ix2 0 c) = tapAt (argsOf x0 x5 x1 x2 x3 x4) 2 c := by
  rw [val_main_v80_apply, val_main_v78_apply, Fin.sum_univ_one, val_main_v77_apply, v76_at x0 x5 x1 x2 x3 x4 _ c (by simp)]
  exact (congrArg (· + _) Ideal.ofBits_zero_f32).trans (zero_add _)
theorem v84_at (n : Fin 2048) (c : Fin 8192) : val_main_v84 (F := Ideal) x0 x1 x2 x3 x4 x5 (ix2 n c)
    = dChan (argsOf x0 x5 x1 x2 x3 x4) c n.val * down 1 ((argsOf x0 x5 x1 x2 x3 x4).chan c).u n.val := by
  rw [val_main_v84_apply, v70_at, v14_at x0 x5 x1 x2 x3 x4]
  rfl
theorem v85_at (i : S8192.Idx) (c : Fin 8192) (hi : (i 0).val = c.val) :
    val_main_v85 (F := Ideal) x0 x1 x2 x3 x4 x5 i = tapAt (argsOf x0 x5 x1 x2 x3 x4) 1 c := by
  rw [val_main_v85_apply]
  have e : ∀ n : Fin 2048, idx_main_v85 i n = ix2 n c := fun n => funext fun a => match a with | ⟨0, _⟩ => rfl | ⟨1, _⟩ => Fin.ext hi
  simp only [e, v84_at]
  exact (congrArg (· + _) Ideal.ofBits_zero_f32).trans (zero_add _)
theorem v90_at (c : Fin 8192) : val_main_v90 (F := Ideal) x0 x1 x2 x3 x4 x5 (ix2 0 c) = tapAt (argsOf x0 x5 x1 x2 x3 x4) 1 c := by
  rw [val_main_v90_apply, val_main_v87_apply, Fin.sum_univ_one, val_main_v86_apply, v85_at x0 x5 x1 x2 x3 x4 _ c (by simp)]
  exact (congrArg (· + _) Ideal.ofBits_zero_f32).trans (zero_add _)
theorem v95_at (n : Fin 2048) (c : Fin 8192) : val_main_v95 (F := Ideal) x0 x1 x2 x3 x4 x5 (ix2 n c)
    = dChan (argsOf x0 x5 x1 x2 x3 x4) c n.val * down 2 ((argsOf x0 x5 x1 x2 x3 x4).chan c).u n.val := by
  rw [val_main_v95_apply, v70_at, v6_at x0 x5 x1 x2 x3 x4]
  rfl
theorem v96_at (i : S8192.Idx) (c : Fin 8192) (hi : (i 0).val = c.val) :
    val_main_v96 (F := Ideal) x0 x1 x2 x3 x4 x5 i = tapAt (argsOf x0 x5 x1 x2 x3 x4) 0 c := by
  rw [val_main_v96_apply]
  have e : ∀ n : Fin 2048, idx_main_v96 i n = ix2 n c := fun n => funext fun a => match a with | ⟨0, _⟩ => rfl | ⟨1, _⟩ => Fin.ext hi
  simp only [e, v95_at]
  exact (congrArg (· + _) Ideal.ofBits_zero_f32).trans (zero_add _)
theorem v101_at (c : Fin 8192) : val_main_v101 (F := Ideal) x0 x1 x2 x3 x4 x5 (ix2 0 c) = tapAt (argsOf x0 x5 x1 x2 x3 x4) 0 c := by
  rw [val_main_v101_apply, val_main_v98_apply, Fin.sum_univ_one, val_main_v97_apply, v96_at x0 x5 x1 x2 x3 x4 _ c (by simp)]
  exact (congrArg (· + _) Ideal.ofBits_zero_f32).trans (zero_add _)

/-- The sum of the three rows, each in its own place among zeros. -/
theorem v103_at (r : Fin 3) (c : Fin 8192) :
    val_main_v103 (F := Ideal) x0 x1 x2 x3 x4 x5 (ix2 r c) = tapAt (argsOf x0 x5 x1 x2 x3 x4) r c := by
  have i81 := (padRow_in (T := 3) (R := 1) (C := 8192) (lo := 2) (val_main_v80 (F := Ideal) x0 x1 x2 x3 x4 x5) (val_main_cst_16 (F := Ideal))
    pads_S1x8192_S3x8192_200_000 h_S_ 2 c 0 rfl).trans (v80_at x0 x5 x1 x2 x3 x4 c)
  have i91 := (padRow_in (T := 3) (R := 1) (C := 8192) (lo := 1) (val_main_v90 (F := Ideal) x0 x1 x2 x3 x4 x5) (val_main_cst_20 (F := Ideal))
    pads_S1x8192_S3x8192_110_000 h_S_ 1 c 0 rfl).trans (v90_at x0 x5 x1 x2 x3 x4 c)
  have i102 := (padRow_in (T := 3) (R := 1) (C := 8192) (lo := 0) (val_main_v101 (F := Ideal) x0 x1 x2 x3 x4 x5) (val_main_cst_24 (F := Ideal))
    pads_S1x8192_S3x8192_020_000 h_S_ 0 c 0 rfl).trans (v101_at x0 x5 x1 x2 x3 x4 c)
  have o81 : ∀ r : Fin 3, r ≠ 2 → val_main_v81 (F := Ideal) x0 x1 x2 x3 x4 x5 (ix2 r c) = (0 : EReal) := fun r hr =>
    (padRow_out (T := 3) (R := 1) (C := 8192) (lo := 2) _ _ _ _ r c (by revert r; decide)).trans Ideal.ofBits_zero_f32
  have o91 : ∀ r : Fin 3, r ≠ 1 → val_main_v91 (F := Ideal) x0 x1 x2 x3 x4 x5 (ix2 r c) = (0 : EReal) := fun r hr =>
    (padRow_out (T := 3) (R := 1) (C := 8192) (lo := 1) _ _ _ _ r c (by revert r; decide)).trans Ideal.ofBits_zero_f32
  have o102 : ∀ r : Fin 3, r ≠ 0 → val_main_v102 (F := Ideal) x0 x1 x2 x3 x4 x5 (ix2 r c) = (0 : EReal) := fun r hr =>
    (padRow_out (T := 3) (R := 1) (C := 8192) (lo := 0) _ _ _ _ r c (by revert r; decide)).trans Ideal.ofBits_zero_f32
  rw [val_main_v103_apply, val_main_v92_apply, Ideal.addf_def, Ideal.addf_def]
  match r with
  | 0 => rw [o81 0 (by decide), o91 0 (by decide), zero_add, zero_add]; exact i102
  | 1 => rw [o81 1 (by decide), o102 1 (by decide), zero_add, add_zero]; exact i91
  | 2 => rw [o91 2 (by decide), o102 2 (by decide), add_zero, add_zero]; exact i81

/-- A slot of 1024 of the channels. -/
theorem tapAt_slot (A : Args) (s : Fin 8) (r : Fin 3) (j : Fin 1024) :
    tapAt A r ⟨1024 * s.val + j.val, by omega⟩ = A.dCw s r j := by
  unfold tapAt Args.dCw dChan
  by_cases h : s.val < 4
  · rw [dif_pos h, dif_pos (show 1024 * s.val + j.val < 4096 by omega)]
    rfl
  · rw [dif_neg h, dif_neg (show ¬(1024 * s.val + j.val < 4096) by omega)]
    unfold Args.dCv Args.value
    have e1 : (⟨1024 * s.val + j.val, by omega⟩ : Fin 8192) = ⟨4096 + (1024 * (s.val - 4) + j.val), by omega⟩ := Fin.ext (by
      show 1024 * s.val + j.val = 4096 + (1024 * (s.val - 4) + j.val); omega)
    have e2 : (⟨1024 * s.val + j.val - 4096, by omega⟩ : Fin 4096) = ⟨1024 * (s.val - 4) + j.val, by omega⟩ := Fin.ext (by
      show 1024 * s.val + j.val - 4096 = 1024 * (s.val - 4) + j.val; omega)
    rw [e2]
    exact congrArg (fun c => (A.chan c).tap _ _) e1

theorem v125_at (s : Fin 8) (r : Fin 3) (j : Fin 1024) :
    val_main_v125 (F := Ideal) x0 x1 x2 x3 x4 x5 (ix3 s r j) = (argsOf x0 x5 x1 x2 x3 x4).dCw s r j := by
  rw [← tapAt_slot]
  unfold val_main_v125
  have piece : ∀ (k : ℕ) (hk : k < 8) (x : S1x3x1024.Idx → EReal) (xs : List ((s : Shape) × (s.Idx → EReal)))
      (h : Shape.Concatenates (xs.map (·.1)) S8x3x1024 0) (hl : k < xs.length) (hx : xs[k] = ⟨S1x3x1024, x⟩)
      (hp : (((xs.take k).map (·.1)).map fun s => if h : s.rank = S8x3x1024.rank then s.size ((0 : Fin 3).cast h.symm) else 0).sum = k)
      (hs : s.val = k)
      (hr : x (ix3 0 r j) = val_main_v103 (F := Ideal) x0 x1 x2 x3 x4 x5 (ix2 r ⟨1024 * k + j.val, by omega⟩)),
      concatenate S8x3x1024 0 xs h (ix3 s r j) = tapAt (argsOf x0 x5 x1 x2 x3 x4) r ⟨1024 * s.val + j.val, by omega⟩ := by
    intro k hk x xs h hl hx hp hs hr
    subst hs
    exact (concatenate_apply_piece 0 xs h (ix3 s r j) s.val hl S1x3x1024 x hx rfl s.val hp (ix3 0 r j)
      (fun a ha => match a, ha with | ⟨0, _⟩, ha => absurd rfl ha | ⟨1, _⟩, _ => rfl | ⟨2, _⟩, _ => rfl) (Nat.add_zero _)).trans
      (hr.trans (v103_at x0 x5 x1 x2 x3 x4 r _))
  obtain ⟨s, hs⟩ := s
  have hs' : s = 0 ∨ s = 1 ∨ s = 2 ∨ s = 3 ∨ s = 4 ∨ s = 5 ∨ s = 6 ∨ s = 7 := by omega
  rcases hs' with h | h | h | h | h | h | h | h
  · refine piece 0 (by omega) (val_main_v117 (F := Ideal) x0 x1 x2 x3 x4 x5) _ _ (by show 0 < 8; omega) rfl rfl h ?_
    rw [val_main_v117_apply, val_main_v109_apply]
    exact congrArg _ (funext fun a => match a with | ⟨0, _⟩ => rfl | ⟨1, _⟩ => Fin.ext (Nat.zero_add _).symm)
  · refine piece 1 (by omega) (val_main_v118 (F := Ideal) x0 x1 x2 x3 x4 x5) _ _ (by show 1 < 8; omega) rfl rfl h ?_
    rw [val_main_v118_apply, val_main_v110_apply]
    exact congrArg _ (funext fun a => match a with | ⟨0, _⟩ => rfl | ⟨1, _⟩ => rfl)
  · refine piece 2 (by omega) (val_main_v119 (F := Ideal) x0 x1 x2 x3 x4 x5) _ _ (by show 2 < 8; omega) rfl rfl h ?_
    rw [val_main_v119_apply, val_main_v111_apply]
    exact congrArg _ (funext fun a => match a with | ⟨0, _⟩ => rfl | ⟨1, _⟩ => rfl)
  · refine piece 3 (by omega) (val_main_v120 (F := Ideal) x0 x1 x2 x3 x4 x5) _ _ (by show 3 < 8; omega) rfl rfl h ?_
    rw [val_main_v120_apply, val_main_v112_apply]
    exact congrArg _ (funext fun a => match a with | ⟨0, _⟩ => rfl | ⟨1, _⟩ => rfl)
  · refine piece 4 (by omega) (val_main_v121 (F := Ideal) x0 x1 x2 x3 x4 x5) _ _ (by show 4 < 8; omega) rfl rfl h ?_
    rw [val_main_v121_apply, val_main_v113_apply]
    exact congrArg _ (funext fun a => match a with | ⟨0, _⟩ => rfl | ⟨1, _⟩ => rfl)
  · refine piece 5 (by omega) (val_main_v122 (F := Ideal) x0 x1 x2 x3 x4 x5) _ _ (by show 5 < 8; omega) rfl rfl h ?_
    rw [val_main_v122_apply, val_main_v114_apply]
    exact congrArg _ (funext fun a => match a with | ⟨0, _⟩ => rfl | ⟨1, _⟩ => rfl)
  · refine piece 6 (by omega) (val_main_v123 (F := Ideal) x0 x1 x2 x3 x4 x5) _ _ (by show 6 < 8; omega) rfl rfl h ?_
    rw [val_main_v123_apply, val_main_v115_apply]
    exact congrArg _ (funext fun a => match a with | ⟨0, _⟩ => rfl | ⟨1, _⟩ => rfl)
  · refine piece 7 (by omega) (val_main_v124 (F := Ideal) x0 x1 x2 x3 x4 x5) _ _ (by show 7 < 8; omega) rfl rfl h ?_
    rw [val_main_v124_apply, val_main_v116_apply]
    exact congrArg _ (funext fun a => match a with | ⟨0, _⟩ => rfl | ⟨1, _⟩ => rfl)

theorem v72_dCb (c : Fin 8192) : val_main_v72 (F := Ideal) x0 x1 x2 x3 x4 x5 (ix2 0 c) = (argsOf x0 x5 x1 x2 x3 x4).dCb c := by
  rw [v72_at]
  unfold Args.dCb dChan Args.dBg Args.dBv
  split <;> rfl

/-! ## The results -/

theorem dUg_eq : val_main_v107 (F := Ideal) x0 x1 x2 x3 x4 x5 = fun i => (argsOf x0 x5 x1 x2 x3 x4).dUg (i 0) (i 1) :=
  funext fun i => (congrArg _ (eq_ix2 i)).trans (v107_at x0 x5 x1 x2 x3 x4 (i 0) (i 1))
theorem dUv_eq : val_main_v108 (F := Ideal) x0 x1 x2 x3 x4 x5 = fun i => (argsOf x0 x5 x1 x2 x3 x4).dUv (i 0) (i 1) :=
  funext fun i => (congrArg _ (eq_ix2 i)).trans (v108_at x0 x5 x1 x2 x3 x4 (i 0) (i 1))
theorem dCw_eq : val_main_v125 (F := Ideal) x0 x1 x2 x3 x4 x5 = fun i => (argsOf x0 x5 x1 x2 x3 x4).dCw (i 0) (i 1) (i 2) :=
  funext fun i => (congrArg _ (eq_ix3 i)).trans (v125_at x0 x5 x1 x2 x3 x4 (i 0) (i 1) (i 2))
theorem dCb_eq : val_main_v72 (F := Ideal) x0 x1 x2 x3 x4 x5 = fun i => (argsOf x0 x5 x1 x2 x3 x4).dCb (i 1) :=
  funext fun i => (congrArg _ ((eq_ix2 i).trans (congrArg (ix2 · (i 1)) (Subsingleton.elim (α := Fin 1) _ _)))).trans
    (v72_dCb x0 x5 x1 x2 x3 x4 (i 1))
theorem dDown_eq : val_main_v126 (F := Ideal) x0 x1 x2 x3 x5 = fun i => (argsOf x0 x5 x1 x2 x3 x4).dDown (i 0) (i 1) :=
  funext fun i => (congrArg _ (eq_ix2 i)).trans (v126_at x0 x5 x1 x2 x3 x4 (i 0) (i 1))

end Cert.ReferenceIdeal.Hand

end
-- ==== Proof.RefRun.lean ====
/-
  The reference's run: its five results are the shared results of the arguments its memory holds.
-/
module

public import proofs.«01_k».proof.Proof.RefValue

@[expose] public section

set_option maxRecDepth 16384

noncomputable section

namespace Cert.ReferenceIdeal.Hand

open Cert.ReferenceIdeal Cert.ReferenceIdeal.Gen Cert.ReferenceIdeal.Read Cert.Maths
open Idealize.ShloMosaic Idealize.ShloMosaic.TcCoe Idealize.ShloMosaic.StableHlo Idealize.SL.Sem

variable (m : (ℓ : Loc nD τ sig) → Buf (Elt Ideal) ℓ) (c : Dev nD)

/-- The arguments a device is launched with. -/
def args : Args :=
  argsOf (launchContents m c (Proc.devRef .tc main_arg0)) (launchContents m c (Proc.devRef .tc main_arg5))
    (launchContents m c (Proc.devRef .tc main_arg1)) (launchContents m c (Proc.devRef .tc main_arg2))
    (launchContents m c (Proc.devRef .tc main_arg3)) (launchContents m c (Proc.devRef .tc main_arg4))

theorem argsOf_congr {x0 y0 x5 y5 : S2048x1024.Idx → EReal} {x1 y1 : S1024x8192.Idx → EReal} {x2 y2 : S3x8192.Idx → EReal}
    {x3 y3 : S1x8192.Idx → EReal} {x4 y4 : S4096x1024.Idx → EReal} (h0 : x0 = y0) (h5 : x5 = y5) (h1 : x1 = y1) (h2 : x2 = y2)
    (h3 : x3 = y3) (h4 : x4 = y4) : argsOf x0 x5 x1 x2 x3 x4 = argsOf y0 y5 y1 y2 y3 y4 := by
  subst h0 h5 h1 h2 h3 h4; rfl

def dUgArr : S2048x4096.Idx → EReal := fun i => (args m c).dUg (i 0) (i 1)
def dUvArr : S2048x4096.Idx → EReal := fun i => (args m c).dUv (i 0) (i 1)
def dDownArr : S4096x1024.Idx → EReal := fun i => (args m c).dDown (i 0) (i 1)
def dCwArr : S8x3x1024.Idx → EReal := fun i => (args m c).dCw (i 0) (i 1) (i 2)
def dCbArr : S1x8192.Idx → EReal := fun i => (args m c).dCb (i 1)

/-- What a memory holds of the results and of the arguments. -/
def Ends (r : PUnit × MemSt nD τ sig (Elt Ideal)) : Prop :=
  r.2.mem ((c : Thread nD τ).loc main_v107) = dUgArr m c ∧ r.2.mem ((c : Thread nD τ).loc main_v108) = dUvArr m c
    ∧ r.2.mem ((c : Thread nD τ).loc main_v125) = dCwArr m c ∧ r.2.mem ((c : Thread nD τ).loc main_v72) = dCbArr m c
    ∧ r.2.mem ((c : Thread nD τ).loc main_v126) = dDownArr m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)

theorem run_ends (ρ : Dev nD → PrngReg) :
    θ_run defs (onTc (τ := τ) (main (F := Ideal))) ⟨m, fun _ => 0, ρ⟩ fun r => ∀ c : Dev nD, Ends m c r := by
  refine (θ_run defs _ _).mono (fun r h c => ?_) (Cert.ReferenceIdeal.Value.run (F := Ideal) m ρ)
  obtain ⟨h1, h2, h3, h4, h5, ha⟩ := h c
  rw [val_main_v107_eq] at h1
  rw [val_main_v108_eq] at h2
  rw [val_main_v125_eq] at h3
  rw [val_main_v72_eq] at h4
  rw [val_main_v126_eq] at h5
  rw [dUg_eq] at h1
  rw [dUv_eq] at h2
  rw [dCw_eq] at h3
  rw [dCb_eq] at h4
  rw [dDown_eq _ _ _ _ _ (launchContents m c (Proc.devRef .tc main_arg4))] at h5
  exact ⟨h1, h2, h3, h4, h5, ha⟩

end Cert.ReferenceIdeal.Hand

end
-- ==== Proof.FwdOut.lean ====
/-
  The forward kernel's body at one grid point: what it adds to the running output, an entry at a time, over the extended
  reals — the gated activation of the point's 256 channels times their rows of the down projection.
-/
module

public import proofs.«01_k».proof.Proof.Gen.KernelFwdIdeal.Value
public import proofs.«01_k».proof.Proof.Scalar
public import Idealize.ShloMosaic.Lib.KernelVsHost
public import Idealize.ShloMosaic.Lib.ValueIdx
public import Idealize.ShloMosaic.Lib.ValueLayout
public import Idealize.ShloMosaic.Lib.VecWindow
public import Idealize.ShloMosaic.Lib.WordCmp
public import Idealize.ShloMosaic.Lib.Pipeline.ValueKit
public import Idealize.ShloMosaic.Lib.Pointwise
public import Idealize.ShloMosaic.Lib.MatmulPlain
public import Idealize.ShloMosaic.Lib.Pointwise.Contract

@[expose] public section

set_option maxRecDepth 16384

noncomputable section

namespace Cert.KernelFwdIdeal.Hand

open Cert.KernelFwdIdeal Cert.KernelFwdIdeal.Gen
open Idealize.ShloMosaic Idealize.SL.Sem

section body
variable {F : FTy → Type} [FloatOps F]

theorem z2 : (![0, 0] : Fin 2 → Nat) = fun _ => 0 := funext fun a => match a with | ⟨0, _⟩ => rfl | ⟨1, _⟩ => rfl
theorem z3 : (![0, 0, 0] : Fin 3 → Nat) = fun _ => 0 := funext fun a => match a with | ⟨0, _⟩ => rfl | ⟨1, _⟩ => rfl | ⟨2, _⟩ => rfl

/-- The three rows of a block of taps. -/
def row0 (x : Vec F S1x3x256 .f32) : Vec F S1x1x256 .f32 := View.ld x (Rect.unit (s := S1x3x256) ![0, 0, 0] S1x1x256.size inb_S1x3x256_S1x1x256_0_0_0)
def row1 (x : Vec F S1x3x256 .f32) : Vec F S1x1x256 .f32 := View.ld x (Rect.unit (s := S1x3x256) ![0, 1, 0] S1x1x256.size inb_S1x3x256_S1x1x256_0_1_0)
def row2 (x : Vec F S1x3x256 .f32) : Vec F S1x1x256 .f32 := View.ld x (Rect.unit (s := S1x3x256) ![0, 2, 0] S1x1x256.size inb_S1x3x256_S1x1x256_0_2_0)

/-- The filtered gate. -/
def gateOf (x0 : Vec F S2048x1024 .bf16) (x1 : Vec F S1x1024x256 .bf16) (x3 : Vec F S1x3x256 .f32) (x5 : Vec F S1x256 .f32) : FVec F S2048x256 .f32 :=
  k0_pay12 (k0_pay4 x0 x1) (k0_pay6 (row0 x3)) (k0_pay7 (row1 x3)) (k0_pay8 (row2 x3)) x5
/-- The filtered value. -/
def valueOf (x0 : Vec F S2048x1024 .bf16) (x2 : Vec F S1x1024x256 .bf16) (x4 : Vec F S1x3x256 .f32) (x6 : Vec F S1x256 .f32) : FVec F S2048x256 .f32 :=
  k0_pay13 (k0_pay5 x0 x2) (k0_pay9 (row0 x4)) (k0_pay10 (row1 x4)) (k0_pay11 (row2 x4)) x6
/-- One point's step: what it finds in the output, plus its tile's product. -/
def stepOf (x0 : Vec F S2048x1024 .bf16) (x1 x2 : Vec F S1x1024x256 .bf16) (x3 x4 : Vec F S1x3x256 .f32) (x5 x6 : Vec F S1x256 .f32)
    (x7 : Vec F S256x1024 .bf16) (xo : Vec F S2048x1024 .f32) : FVec F S2048x1024 .f32 :=
  k0_pay1 (gateOf x0 x1 x3 x5) (valueOf x0 x2 x4 x6)
    (k0_pay14 (k0_pay4 x0 x1) (k0_pay6 (row0 x3)) (k0_pay7 (row1 x3)) (k0_pay8 (row2 x3)) x5) (Scalar.ofBits .f32 0x3D372713#32) xo x7

variable (c : Dev nD) (i : grid0.Coords) (arg1 : Memref sig .tc .vmem S2048x1024 .bf16) (harg1 : arg1.IsWhole) (arg2 : Memref sig .tc .vmem S1x1024x256 .bf16) (harg2 : arg2.IsWhole) (arg3 : Memref sig .tc .vmem S1x1024x256 .bf16) (harg3 : arg3.IsWhole) (arg4 : Memref sig .tc .vmem S1x3x256 .f32) (harg4 : arg4.IsWhole) (arg5 : Memref sig .tc .vmem S1x3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x1024 .bf16) (harg8 : arg8.IsWhole) (arg9 : Memref sig .tc .vmem S2048x1024 .f32) (harg9 : arg9.IsWhole)
    (x0 : Vec F S2048x1024 .bf16) (x1 : Vec F S1x1024x256 .bf16) (x2 : Vec F S1x1024x256 .bf16) (x3 : Vec F S1x3x256 .f32) (x4 : Vec F S1x3x256 .f32) (x5 : Vec F S1x256 .f32) (x6 : Vec F S1x256 .f32) (x7 : Vec F S256x1024 .bf16)

/-- The first point starts from zero. -/
theorem out_A (hc0 : cond0_0 i) :
    out0_A_8 c i arg1 harg1 arg2 harg2 arg3 harg3 arg4 harg4 arg5 harg5 arg6 harg6 arg7 harg7 arg8 harg8 arg9 harg9 hc0 x0 x1 x2 x3 x4 x5 x6 x7
      = stepOf x0 x1 x2 x3 x4 x5 x6 x7 (k0_pay2 (F := F)) := by
  unfold out0_A_8 kernelRun0_A
  dsimp only
  sl_unfold_words
  rw [View.read_writes_full, View.readCov_unit_zero (S := S2048x1024) _ z2]
  simp only [View.readAt_eq_ld, harg1.read_unread, harg2.read_unread, harg3.read_unread, harg4.read_unread, harg5.read_unread, harg6.read_unread,
    harg7.read_unread, harg8.read_unread, View.ld_unit_zero (S := S2048x1024) z2, View.ld_unit_zero (S := S256x1024) z2,
    View.ld_unit_zero (S := S1x256) z2, View.ld_unit_zero (S := S1x1024x256) z3]
  rfl

/-- A later point adds to what it finds. -/
theorem out_B (hc0 : ¬cond0_0 i) (xo : Vec F S2048x1024 .f32) :
    out0_B_8 c i arg1 harg1 arg2 harg2 arg3 harg3 arg4 harg4 arg5 harg5 arg6 harg6 arg7 harg7 arg8 harg8 arg9 harg9 hc0 x0 x1 x2 x3 x4 x5 x6 x7 xo
      = stepOf x0 x1 x2 x3 x4 x5 x6 x7 xo := by
  unfold out0_B_8 kernelRun0_B
  dsimp only
  sl_unfold_words
  rw [View.read_writes_full]
  simp only [View.readAt_eq_ld, harg1.read_unread, harg2.read_unread, harg3.read_unread, harg4.read_unread, harg5.read_unread, harg6.read_unread,
    harg7.read_unread, harg8.read_unread, harg9.read_unread, View.ld_unit_zero (S := S2048x1024) z2, View.ld_unit_zero (S := S256x1024) z2,
    View.ld_unit_zero (S := S1x256) z2, View.ld_unit_zero (S := S1x1024x256) z3]
  rfl

end body

/-! ## Over the extended reals -/

open Cert.Maths

theorem row_apply (x : FVec Ideal S1x256 .f32) (h) (n : Fin 2048) (j : Fin 256) :
    broadcastTo S2048x256 x h (ix2 n j) = x (ix2 0 j) := by
  refine broadcastTo_apply x h _ _ fun a => ?_
  match a with
  | ⟨0, _⟩ => rfl
  | ⟨1, _⟩ => rfl

theorem tap_apply (x : FVec Ideal S1x1x256 .f32) (h) (j : Fin 256) : shapeCast S1x256 x h (ix2 0 j) = x (ix3 0 0 j) :=
  ValueIdx.shapeCast_1ab_ab_apply x h 0 j

theorem row0_apply (x : Vec Ideal S1x3x256 .f32) (j : Fin 256) : row0 x (ix3 0 0 j) = x (ix3 0 0 j) :=
  View.ld_unit_apply_of x _ _ _ _ _ fun a => match a with | ⟨0, _⟩ => rfl | ⟨1, _⟩ => rfl | ⟨2, _⟩ => (Nat.zero_add _).symm
theorem row1_apply (x : Vec Ideal S1x3x256 .f32) (j : Fin 256) : row1 x (ix3 0 0 j) = x (ix3 0 1 j) :=
  View.ld_unit_apply_of x _ _ _ _ _ fun a => match a with | ⟨0, _⟩ => rfl | ⟨1, _⟩ => rfl | ⟨2, _⟩ => (Nat.zero_add _).symm
theorem row2_apply (x : Vec Ideal S1x3x256 .f32) (j : Fin 256) : row2 x (ix3 0 0 j) = x (ix3 0 2 j) :=
  View.ld_unit_apply_of x _ _ _ _ _ fun a => match a with | ⟨0, _⟩ => rfl | ⟨1, _⟩ => rfl | ⟨2, _⟩ => (Nat.zero_add _).symm

/-- The rows rotated by `s` and masked above row `s` are the column moved down by `s`. -/
theorem shifted_apply (s : ℕ) (hs : s < 2048) (x : FVec Ideal S2048x256 .f32) (h) (hi) (n : Fin 2048) (j : Fin 256) :
    select (cmpi .sge (iota .tc S2048x256 32 [0] hi) (broadcast S2048x256 (BitVec.ofNat 32 s)))
      (dynamicRotate 0 (BitVec.ofNat 32 s) none x h) (broadcast S2048x256 (Scalar.ofBits (F := Ideal) .f32 0x00000000#32)) (ix2 n j)
      = down s (col fun n => x (ix2 n j)) n.val := by
  have e : cmpi .sge (iota .tc S2048x256 32 [0] hi) (broadcast S2048x256 (BitVec.ofNat 32 s)) (ix2 n j) = 1 ↔ s ≤ n.val := by
    show IntOp.cmpi .sge (BitVec.ofNat 32 (0 * 2048 + n.val)) (BitVec.ofNat 32 s) = 1 ↔ _
    rw [Nat.zero_mul, Nat.zero_add]
    exact WordCmp.cmpi_sge_ofNat_eq_one_iff (by show n.val < 2 ^ 31; omega) (by show s < 2 ^ 31; omega)
  unfold down
  show (if _ then _ else _) = _
  by_cases hn : n.val < s
  · rw [if_neg (fun h => by have := e.mp h; omega), if_pos hn]
    exact Ideal.ofBits_zero_f32
  · rw [if_pos (e.mpr (by omega)), if_neg hn]
    unfold col
    rw [dif_pos (by omega)]
    refine dynamicRotate_apply 0 (BitVec.ofNat 32 s) x h _ _ fun b => ?_
    match b with
    | ⟨0, _⟩ =>
      show n.val - s = (n.val + 2048 - (BitVec.ofNat 32 s).toNat % 2048) % 2048
      rw [BitVec.toNat_ofNat, Nat.mod_eq_of_lt (show s < 2 ^ 32 by omega)]
      omega
    | ⟨1, _⟩ => rfl

theorem prod_apply (x : Vec Ideal S2048x1024 .bf16) (w : Vec Ideal S1x1024x256 .bf16) (n : Fin 2048) (j : Fin 256) :
    k0_pay4 x w (ix2 n j) = ∑ k : Fin 1024, x (ix2 n k) * w (ix3 0 k j) := by
  unfold k0_pay4 k0_pay3
  rw [shapeCast_self]
  refine (Ideal.matmul_plain_apply (M := 2048) (K := 1024) (N := 256) none x (shapeCast S1024x256 w shapeCasts_S1x1024x256_S1024x256) _ n j).trans ?_
  refine (congrArg (· + _) Ideal.ofBits_zero_f32).trans ((zero_add _).trans (Finset.sum_congr rfl fun k _ => ?_))
  exact congrArg (x (ix2 n k) * ·) (ValueIdx.shapeCast_1ab_ab_apply w shapeCasts_S1x1024x256_S1024x256 k j)

/-- A tile's column of products with its bias and taps. -/
def tile (x0 : Vec Ideal S2048x1024 .bf16) (x1 : Vec Ideal S1x1024x256 .bf16) (x3 : Vec Ideal S1x3x256 .f32) (x5 : Vec Ideal S1x256 .f32) (j : Fin 256) : Half where
  b := x5 (ix2 0 j)
  w0 := x3 (ix3 0 0 j)
  w1 := x3 (ix3 0 1 j)
  w2 := x3 (ix3 0 2 j)
  u := col fun n => ∑ k : Fin 1024, x0 (ix2 n k) * x1 (ix3 0 k j)

theorem gateOf_apply (x0 : Vec Ideal S2048x1024 .bf16) (x1 : Vec Ideal S1x1024x256 .bf16) (x3 : Vec Ideal S1x3x256 .f32) (x5 : Vec Ideal S1x256 .f32)
    (n : Fin 2048) (j : Fin 256) : gateOf x0 x1 x3 x5 (ix2 n j) = (tile x0 x1 x3 x5 j).y n.val := by
  have s2 := shifted_apply 2 (by omega) (k0_pay4 x0 x1) rotates_S2048x256_d0 iota_S2048x256_d0_w32 n j
  have s1 := shifted_apply 1 (by omega) (k0_pay4 x0 x1) rotates_S2048x256_d0 iota_S2048x256_d0_w32 n j
  unfold gateOf k0_pay12 k0_pay6 k0_pay7 k0_pay8 Half.y taps
  dsimp only [addf, mulf]
  rw [s2, s1]
  simp only [row_apply, tap_apply, prod_apply, Ideal.addf_def, Ideal.mulf_def]
  rw [row0_apply, row1_apply, row2_apply]
  unfold tile
  dsimp only
  rw [col_at]

theorem valueOf_apply (x0 : Vec Ideal S2048x1024 .bf16) (x2 : Vec Ideal S1x1024x256 .bf16) (x4 : Vec Ideal S1x3x256 .f32) (x6 : Vec Ideal S1x256 .f32)
    (n : Fin 2048) (j : Fin 256) : valueOf x0 x2 x4 x6 (ix2 n j) = (tile x0 x2 x4 x6 j).y n.val :=
  gateOf_apply x0 x2 x4 x6 n j

/-- One point's step at an entry. -/
theorem stepOf_apply (x0 : Vec Ideal S2048x1024 .bf16) (x1 x2 : Vec Ideal S1x1024x256 .bf16) (x3 x4 : Vec Ideal S1x3x256 .f32) (x5 x6 : Vec Ideal S1x256 .f32)
    (x7 : Vec Ideal S256x1024 .bf16) (xo : Vec Ideal S2048x1024 .f32) (n : Fin 2048) (k : Fin 1024) :
    stepOf x0 x1 x2 x3 x4 x5 x6 x7 xo (ix2 n k)
      = xo (ix2 n k) + ∑ j : Fin 256, act (tile x0 x1 x3 x5 j) (tile x0 x2 x4 x6 j) n.val * x7 (ix2 j k) := by
  have e (j : Fin 256) : act (tile x0 x1 x3 x5 j) (tile x0 x2 x4 x6 j) n.val
      = gelu (gateOf x0 x1 x3 x5 (ix2 n j)) * valueOf x0 x2 x4 x6 (ix2 n j) := by
    rw [gateOf_apply, valueOf_apply]; rfl
  simp only [e]
  unfold stepOf k0_pay1
  rw [shapeCast_self, shapeCast_self]
  refine congrArg (xo (ix2 n k) + ·) ?_
  refine (Ideal.matmul_plain_apply (M := 2048) (K := 256) (N := 1024) none _ x7 _ n k).trans ?_
  refine (congrArg (· + _) Ideal.ofBits_zero_f32).trans ((zero_add _).trans (Finset.sum_congr rfl fun j _ => ?_))
  rfl

end Cert.KernelFwdIdeal.Hand

end
-- ==== Proof.FwdArr.lean ====
/-
  What the forward region finds — the operands' arrays as the host lines before it leave them, each window's block of
  them — and what its output ends at: after each point the sum over the channels met so far, at the last over all.
-/
module

public import proofs.«01_k».proof.Proof.FwdOut
public import proofs.«01_k».proof.Proof.Spec
public import Idealize.ShloMosaic.Lib.StableHlo.Run

@[expose] public section

set_option maxRecDepth 16384

noncomputable section

namespace Cert.KernelFwdIdeal.Hand

open Cert.KernelFwdIdeal Cert.KernelFwdIdeal.Gen Cert.Maths
open Idealize.ShloMosaic Idealize.ShloMosaic.TcCoe Idealize.ShloMosaic.StableHlo Idealize.SL.Sem

variable (m : (ℓ : Loc nD τ sig) → Buf (Elt Ideal) ℓ) (c : Dev nD)

/-- The arguments a device is launched with; the forward pass reads no cotangent. -/
def args : Args where
  h n k := (m ((c : Thread nD τ).loc main_arg0) : S2048x1024.Idx → EReal) (ix2 n k)
  w k j := (m ((c : Thread nD τ).loc main_arg1) : S1024x8192.Idx → EReal) (ix2 k j)
  cw r j := (m ((c : Thread nD τ).loc main_arg2) : S3x8192.Idx → EReal) (ix2 r j)
  cb j := (m ((c : Thread nD τ).loc main_arg3) : S1x8192.Idx → EReal) (ix2 0 j)
  wd e k := (m ((c : Thread nD τ).loc main_arg4) : S4096x1024.Idx → EReal) (ix2 e k)
  df _ _ := 0

/-! ## The arrays -/

theorem V_v3 : V m c main_v3 = truncf (F := Ideal) .bf16 (transpose S8x1024x1024 [1, 0, 2]
    (shapeCast S1024x8x1024 (m ((c : Thread nD τ).loc main_arg1) : FVec Ideal S1024x8192 .f32) shapeCasts_S1024x8192_S1024x8x1024)
    transposes_S1024x8x1024_S8x1024x1024_1_0_2) bitsLt_bf16_f32 := by
  show StableHlo.after hostOps0 _ (Proc.devRef .tc main_v3) = _
  after_results
  rfl
theorem V_v5 : V m c main_v5 = transpose S8x3x1024 [1, 0, 2]
    (shapeCast S3x8x1024 (m ((c : Thread nD τ).loc main_arg2) : FVec Ideal S3x8192 .f32) shapeCasts_S3x8192_S3x8x1024)
    transposes_S3x8x1024_S8x3x1024_1_0_2 := by
  show StableHlo.after hostOps0 _ (Proc.devRef .tc main_v5) = _
  after_results
  rfl
theorem V_v0 : V m c main_v0 = truncf (F := Ideal) .bf16 (m ((c : Thread nD τ).loc main_arg0) : FVec Ideal S2048x1024 .f32) bitsLt_bf16_f32 := by
  show StableHlo.after hostOps0 _ (Proc.devRef .tc main_v0) = _
  after_results
theorem V_v6 : V m c main_v6 = truncf (F := Ideal) .bf16 (m ((c : Thread nD τ).loc main_arg4) : FVec Ideal S4096x1024 .f32) bitsLt_bf16_f32 := by
  show StableHlo.after hostOps0 _ (Proc.devRef .tc main_v6) = _
  after_results

theorem truncf_id {s : Shape} (x : FVec Ideal s .f32) (h) (i : s.Idx) : truncf (F := Ideal) .bf16 x h i = x i := rfl

theorem v3_at (s : Fin 8) (k j : Fin 1024) :
    (V m c main_v3 : S8x1024x1024.Idx → EReal) (ix3 s k j) = (args m c).w k ⟨1024 * s.val + j.val, by omega⟩ := by
  rw [V_v3, truncf_id, transpose_apply [1, 0, 2] _ transposes_S1024x8x1024_S8x1024x1024_1_0_2 (ix3 s k j) (ix3 k s j)
    (fun a => match a with | ⟨0, _⟩ => rfl | ⟨1, _⟩ => rfl | ⟨2, _⟩ => rfl)]
  refine shapeCast_apply (s := S1024x8192) (t := S1024x8x1024) _ _ (ix3 k s j) (ix2 k ⟨1024 * s.val + j.val, by omega⟩) ?_
  rw [Shape.rowMajor_val_two, Shape.rowMajor_val_three]
  show k.val * 8192 + (1024 * s.val + j.val) = (k.val * 8 + s.val) * 1024 + j.val
  omega
theorem v5_at (s : Fin 8) (r : Fin 3) (j : Fin 1024) :
    (V m c main_v5 : S8x3x1024.Idx → EReal) (ix3 s r j) = (args m c).cw r ⟨1024 * s.val + j.val, by omega⟩ := by
  rw [V_v5, transpose_apply [1, 0, 2] _ transposes_S3x8x1024_S8x3x1024_1_0_2 (ix3 s r j) (ix3 r s j)
    (fun a => match a with | ⟨0, _⟩ => rfl | ⟨1, _⟩ => rfl | ⟨2, _⟩ => rfl)]
  refine shapeCast_apply (s := S3x8192) (t := S3x8x1024) _ _ (ix3 r s j) (ix2 r ⟨1024 * s.val + j.val, by omega⟩) ?_
  rw [Shape.rowMajor_val_two, Shape.rowMajor_val_three]
  show r.val * 8192 + (1024 * s.val + j.val) = (r.val * 8 + s.val) * 1024 + j.val
  omega

theorem v0_at (n : Fin 2048) (k : Fin 1024) : (V m c main_v0 : S2048x1024.Idx → EReal) (ix2 n k) = (args m c).h n k := by
  rw [V_v0]; rfl

/-! ## The windows' blocks -/

theorem idx3 : ∀ t : Fin cfg0.N, win0_1.index t = ![t.val / 4, 0, t.val % 4] ∧ win0_2.index t = ![4 + t.val / 4, 0, t.val % 4]
    ∧ win0_3.index t = ![t.val / 4, 0, t.val % 4] ∧ win0_4.index t = ![4 + t.val / 4, 0, t.val % 4] :=
  (by decide +kernel : ∀ t : Fin grid0.N, _)
theorem idx2 : ∀ t : Fin cfg0.N, win0_5.index t = ![0, t.val] ∧ win0_6.index t = ![0, 16 + t.val] ∧ win0_7.index t = ![t.val, 0] :=
  (by decide +kernel : ∀ t : Fin grid0.N, _)

theorem lt16 (t : Fin cfg0.N) : t.val < 16 := t.isLt

theorem idx0 : ∀ t : Fin cfg0.N, win0_0.index t = ![0, 0] := (by decide +kernel : ∀ t : Fin grid0.N, _)

theorem blk0 (t : Fin cfg0.N) (n : Fin 2048) (k : Fin 1024) : (iblk m c 0 t : S2048x1024.Idx → EReal) (ix2 n k) = (args m c).h n k := by
  refine Eq.trans ?_ (v0_at m c n k)
  blk_ext [iblk, idx0 t]

theorem blk1 (t : Fin cfg0.N) (k : Fin 1024) (j : Fin 256) :
    (iblk m c 1 t : S1x1024x256.Idx → EReal) (ix3 0 k j) = (args m c).w k ⟨256 * t.val + j.val, by have := lt16 t; omega⟩ := by
  have ht := lt16 t
  refine Eq.trans ?_ ((v3_at m c ⟨t.val / 4, by omega⟩ k ⟨256 * (t.val % 4) + j.val, by omega⟩).trans ?_)
  · blk_ext [iblk, (idx3 t).1]
  · congr 1; apply Fin.ext; show 1024 * (t.val / 4) + (256 * (t.val % 4) + j.val) = 256 * t.val + j.val; omega

theorem blk2 (t : Fin cfg0.N) (k : Fin 1024) (j : Fin 256) :
    (iblk m c 2 t : S1x1024x256.Idx → EReal) (ix3 0 k j) = (args m c).w k ⟨4096 + (256 * t.val + j.val), by have := lt16 t; omega⟩ := by
  have ht := lt16 t
  refine Eq.trans ?_ ((v3_at m c ⟨4 + t.val / 4, by omega⟩ k ⟨256 * (t.val % 4) + j.val, by omega⟩).trans ?_)
  · blk_ext [iblk, (idx3 t).2.1]
  · congr 1; apply Fin.ext; show 1024 * (4 + t.val / 4) + (256 * (t.val % 4) + j.val) = 4096 + (256 * t.val + j.val); omega

theorem blk3 (t : Fin cfg0.N) (r : Fin 3) (j : Fin 256) :
    (iblk m c 3 t : S1x3x256.Idx → EReal) (ix3 0 r j) = (args m c).cw r ⟨256 * t.val + j.val, by have := lt16 t; omega⟩ := by
  have ht := lt16 t
  refine Eq.trans ?_ ((v5_at m c ⟨t.val / 4, by omega⟩ r ⟨256 * (t.val % 4) + j.val, by omega⟩).trans ?_)
  · blk_ext [iblk, (idx3 t).2.2.1]
  · congr 1; apply Fin.ext; show 1024 * (t.val / 4) + (256 * (t.val % 4) + j.val) = 256 * t.val + j.val; omega
theorem blk4 (t : Fin cfg0.N) (r : Fin 3) (j : Fin 256) :
    (iblk m c 4 t : S1x3x256.Idx → EReal) (ix3 0 r j) = (args m c).cw r ⟨4096 + (256 * t.val + j.val), by have := lt16 t; omega⟩ := by
  have ht := lt16 t
  refine Eq.trans ?_ ((v5_at m c ⟨4 + t.val / 4, by omega⟩ r ⟨256 * (t.val % 4) + j.val, by omega⟩).trans ?_)
  · blk_ext [iblk, (idx3 t).2.2.2]
  · congr 1; apply Fin.ext; show 1024 * (4 + t.val / 4) + (256 * (t.val % 4) + j.val) = 4096 + (256 * t.val + j.val); omega

theorem blk5 (t : Fin cfg0.N) (j : Fin 256) :
    (iblk m c 5 t : S1x256.Idx → EReal) (ix2 0 j) = (args m c).cb ⟨256 * t.val + j.val, by have := lt16 t; omega⟩ := by
  have ht := lt16 t
  show _ = (m ((c : Thread nD τ).loc main_arg3) : S1x8192.Idx → EReal) _
  rw [← V_main_arg3 m c]
  blk_ext [iblk, (idx2 t).1]
theorem blk6 (t : Fin cfg0.N) (j : Fin 256) :
    (iblk m c 6 t : S1x256.Idx → EReal) (ix2 0 j) = (args m c).cb ⟨4096 + (256 * t.val + j.val), by have := lt16 t; omega⟩ := by
  have ht := lt16 t
  show _ = (m ((c : Thread nD τ).loc main_arg3) : S1x8192.Idx → EReal) _
  rw [← V_main_arg3 m c]
  blk_ext [iblk, (idx2 t).2.1]
theorem blk7 (t : Fin cfg0.N) (j : Fin 256) (k : Fin 1024) :
    (iblk m c 7 t : S256x1024.Idx → EReal) (ix2 j k) = (args m c).wd ⟨256 * t.val + j.val, by have := lt16 t; omega⟩ k := by
  have ht := lt16 t
  have e : (V m c main_v6 : S4096x1024.Idx → EReal) (ix2 ⟨256 * t.val + j.val, by omega⟩ k) = (args m c).wd ⟨256 * t.val + j.val, by omega⟩ k := by
    rw [V_v6]; rfl
  refine Eq.trans ?_ e
  blk_ext [iblk, (idx2 t).2.2]

/-! ## The tile's channels -/

/-- The channel a tile's column is. -/
def at16 (t : Fin cfg0.N) (j : Fin 256) : Fin 4096 := ⟨256 * t.val + j.val, by have := lt16 t; omega⟩

theorem gate_tile (t : Fin cfg0.N) (j : Fin 256) : tile (iblk m c 0 t) (iblk m c 1 t) (iblk m c 3 t) (iblk m c 5 t) j = (args m c).gate (at16 t j) := by
  unfold tile Args.gate Args.chan
  simp only [blk1 m c t, blk3 m c t, blk5 m c t, blk0 m c t]
  rfl
theorem value_tile (t : Fin cfg0.N) (j : Fin 256) : tile (iblk m c 0 t) (iblk m c 2 t) (iblk m c 4 t) (iblk m c 6 t) j = (args m c).value (at16 t j) := by
  unfold tile Args.value Args.chan
  simp only [blk2 m c t, blk4 m c t, blk6 m c t, blk0 m c t]
  rfl

/-! ## The running output -/

/-- A channel's share of an output entry; no channel past the last has one. -/
def share (n : Fin 2048) (k : Fin 1024) (e : ℕ) : EReal :=
  if h : e < 4096 then act ((args m c).gate ⟨e, h⟩) ((args m c).value ⟨e, h⟩) n.val * (args m c).wd ⟨e, h⟩ k else 0

/-- The shares of one point's channels. -/
theorem step_at (t : Fin cfg0.N) (xo : Vec Ideal S2048x1024 .f32) (n : Fin 2048) (k : Fin 1024) :
    stepOf (iblk m c 0 t) (iblk m c 1 t) (iblk m c 2 t) (iblk m c 3 t) (iblk m c 4 t) (iblk m c 5 t) (iblk m c 6 t) (iblk m c 7 t) xo (ix2 n k)
      = xo (ix2 n k) + ∑ q ∈ Finset.range 256, share m c n k (256 * t.val + q) := by
  have ht := lt16 t
  rw [stepOf_apply, Finset.sum_range]
  refine congrArg (xo (ix2 n k) + ·) (Finset.sum_congr rfl fun j _ => ?_)
  unfold share
  rw [gate_tile, value_tile, blk7, dif_pos (show 256 * t.val + j.val < 4096 by omega)]
  rfl

theorem zero_at (n : Fin 2048) (k : Fin 1024) : k0_pay2 (F := Ideal) (ix2 n k) = 0 := Ideal.ofBits_zero_f32

/-- After point `t` the output holds the shares of the channels of the points up to it. -/
theorem outs_at (n : Fin 2048) (k : Fin 1024) : ∀ (t : ℕ) (ht : t < cfg0.N),
    (outsAt0 m c t ht : S2048x1024.Idx → EReal) (ix2 n k) = ∑ p ∈ Finset.range (t + 1), ∑ q ∈ Finset.range 256, share m c n k (256 * p + q)
  | 0, ht => by
    have e := outsAt0_A m c ⟨0, ht⟩ rfl
    rw [out_A] at e
    refine (congrFun e (ix2 n k)).trans ?_
    rw [step_at, zero_at, zero_add]
    exact (Finset.sum_range_one (fun p => ∑ q ∈ Finset.range 256, share m c n k (256 * p + q))).symm
  | t + 1, ht => by
    have h16 : t + 1 < 16 := ht
    have e := outsAt0_B m c ⟨t + 1, ht⟩ (by show ¬(t + 1) % 16 = 0; omega)
    rw [out_B] at e
    refine (congrFun e (ix2 n k)).trans ?_
    rw [step_at, Finset.sum_range_succ _ (t + 1)]
    exact congrArg (· + ∑ q ∈ Finset.range 256, share m c n k (256 * (t + 1) + q)) (outs_at n k t (Nat.lt_of_succ_lt ht))

/-- At the last point, of all. -/
theorem outs_last (t : ℕ) (ht : t < cfg0.N) (h : t = 15) (n : Fin 2048) (k : Fin 1024) :
    (outsAt0 m c t ht : S2048x1024.Idx → EReal) (ix2 n k) = (args m c).forward n k := by
  subst h
  rw [outs_at, sum_runs, Finset.sum_range]
  refine Finset.sum_congr rfl fun e _ => ?_
  exact dif_pos e.isLt

/-! ## The region's array -/

def forwardArr : S2048x1024.Idx → EReal := fun i => (args m c).forward (i 0) (i 1)

theorem idx8 : ∀ t : Fin cfg0.N, win0_8.index t = ![0, 0] := (by decide +kernel : ∀ t : Fin grid0.N, _)

theorem arr8 : (dats m 0 c).arrAt 8 cfg0.N = forwardArr m c := by
  refine (dats m 0 c).arrAt_eq_of_covers 8 _ (by decide +kernel) fun t hf y => ?_
  have ht : t.val = 15 := by
    have h1 := (flush0_8 t).mp hf
    have h2 := lt16 t
    omega
  rw [after0_8]
  refine Eq.trans (b := (outsAt0 m c t.val t.isLt : S2048x1024.Idx → EReal) (ix2 (y 0) (y 1))) ?_ ((outs_last m c t.val t.isLt ht (y 0) (y 1)).trans ?_)
  · exact congrArg (outsAt0 m c t.val t.isLt) (funext fun a => match a with | ⟨0, _⟩ => rfl | ⟨1, _⟩ => rfl)
  · refine congrArg₂ (args m c).forward (Fin.ext ?_) (Fin.ext ?_)
    · blk_simp [idx8 t]
    · blk_simp [idx8 t]

end Cert.KernelFwdIdeal.Hand

end
-- ==== Proof.RefFwd.lean ====
/-
  The forward reference: its intermediate arrays, an entry at a time, as the channels of the arguments, and its run.
-/
module

public import proofs.«01_k».proof.Proof.Gen.ReferenceFwdIdeal.Read
public import proofs.«01_k».proof.Proof.Spec
public import Idealize.ShloMosaic.Lib.KernelVsHost
public import Idealize.ShloMosaic.Lib.Pointwise.Index

@[expose] public section

set_option maxRecDepth 16384

noncomputable section

namespace Cert.ReferenceFwdIdeal.Hand

open Cert.ReferenceFwdIdeal Cert.ReferenceFwdIdeal.Gen Cert.ReferenceFwdIdeal.Read Cert.Maths
open Idealize.ShloMosaic Idealize.ShloMosaic.TcCoe Idealize.SL.Sem

variable (x0 : S2048x1024.Idx → EReal) (x1 : S1024x8192.Idx → EReal) (x2 : S3x8192.Idx → EReal)
  (x3 : S1x8192.Idx → EReal) (x4 : S4096x1024.Idx → EReal)

/-- The arguments by coordinates; the forward pass reads no cotangent. -/
def argsOf : Args where
  h n k := x0 (ix2 n k)
  w k j := x1 (ix2 k j)
  cw r j := x2 (ix2 r j)
  cb j := x3 (ix2 0 j)
  wd e k := x4 (ix2 e k)
  df _ _ := 0

/-! ## The filter -/

theorem v0_at (n : Fin 2048) (c : Fin 8192) : val_main_v0 (F := Ideal) x0 x1 (ix2 n c) = ∑ k : Fin 1024, x0 (ix2 n k) * x1 (ix2 k c) := by
  rw [val_main_v0_apply]
  exact Finset.sum_congr rfl fun k _ => congrArg₂ (· * ·)
    (congrArg x0 (funext fun a => match a with | ⟨0, _⟩ => rfl | ⟨1, _⟩ => rfl))
    (congrArg x1 (funext fun a => match a with | ⟨0, _⟩ => rfl | ⟨1, _⟩ => rfl))

/-- The products under two rows of zeros. -/
theorem v1_at (r : Fin 2050) (c : Fin 8192) :
    val_main_v1 (F := Ideal) x0 x1 (ix2 r c) = down 2 ((argsOf x0 x1 x2 x3 x4).chan c).u r.val := by
  have hr := r.isLt
  unfold val_main_v1 down
  by_cases h : r.val < 2
  · rw [if_pos h]
    refine (pad_apply_of_not_inside _ _ _ _ _ _ _ (ix2 r c) 0 fun hh => ?_).trans ?_
    · have e : 2 ≤ r.val := hh.1
      omega
    · exact sitofp_zero (φ := .f32)
  · rw [if_neg h]
    refine (pad_apply_of_inside _ _ _ _ _ _ _ (ix2 r c) (ix2 (⟨r.val - 2, by omega⟩ : Fin 2048) c) fun a => match a with
      | ⟨0, _⟩ => (by show r.val = 2 + (r.val - 2) * (0 + 1); omega)
      | ⟨1, _⟩ => (by show c.val = 0 + c.val * (0 + 1); omega)).trans ?_
    rw [v0_at]
    exact (col_at (fun n => ∑ k : Fin 1024, x0 (ix2 n k) * x1 (ix2 k c)) ⟨r.val - 2, by omega⟩).symm

theorem v4_at (n : Fin 2048) (c : Fin 8192) :
    val_main_v4 (F := Ideal) x0 x1 (ix2 n c) = down 2 ((argsOf x0 x1 x2 x3 x4).chan c).u n.val := by
  rw [val_main_v4_apply]
  refine Eq.trans (congrArg _ ?_) (v1_at x0 x1 x2 x3 x4 ⟨n.val, by omega⟩ c)
  exact funext fun a => match a with | ⟨0, _⟩ => rfl | ⟨1, _⟩ => rfl
theorem v12_at (n : Fin 2048) (c : Fin 8192) :
    val_main_v12 (F := Ideal) x0 x1 (ix2 n c) = down 1 ((argsOf x0 x1 x2 x3 x4).chan c).u n.val := by
  rw [val_main_v12_apply]
  refine Eq.trans (congrArg _ ?_) ((v1_at x0 x1 x2 x3 x4 ⟨n.val + 1, by omega⟩ c).trans (down_down 1 1 _ _))
  exact funext fun a => match a with | ⟨0, _⟩ => Fin.ext (Nat.add_comm 1 n.val) | ⟨1, _⟩ => rfl
theorem v19_at (n : Fin 2048) (c : Fin 8192) :
    val_main_v19 (F := Ideal) x0 x1 (ix2 n c) = ((argsOf x0 x1 x2 x3 x4).chan c).u n.val := by
  rw [val_main_v19_apply]
  refine Eq.trans (congrArg _ ?_) ((v1_at x0 x1 x2 x3 x4 ⟨n.val + 2, by omega⟩ c).trans (down_down 0 2 _ _))
  exact funext fun a => match a with | ⟨0, _⟩ => Fin.ext (Nat.add_comm 2 n.val) | ⟨1, _⟩ => rfl

/-- The three taps over every row. -/
theorem v6_at (n : Fin 2048) (c : Fin 8192) : val_main_v6 (F := Ideal) x2 (ix2 n c) = x2 (ix2 0 c) := by
  rw [val_main_v6_apply, val_main_v5_apply, val_main_v3_apply, val_main_v2_apply]
  exact congrArg x2 (funext fun a => match a with | ⟨0, _⟩ => rfl | ⟨1, _⟩ => Fin.ext (by simp))
theorem v14_at (n : Fin 2048) (c : Fin 8192) : val_main_v14 (F := Ideal) x2 (ix2 n c) = x2 (ix2 1 c) := by
  rw [val_main_v14_apply, val_main_v13_apply, val_main_v11_apply, val_main_v10_apply]
  exact congrArg x2 (funext fun a => match a with | ⟨0, _⟩ => rfl | ⟨1, _⟩ => Fin.ext (by simp))
theorem v21_at (n : Fin 2048) (c : Fin 8192) : val_main_v21 (F := Ideal) x2 (ix2 n c) = x2 (ix2 2 c) := by
  rw [val_main_v21_apply, val_main_v20_apply, val_main_v18_apply, val_main_v17_apply]
  exact congrArg x2 (funext fun a => match a with | ⟨0, _⟩ => rfl | ⟨1, _⟩ => Fin.ext (by simp))

theorem v25_at (n : Fin 2048) (c : Fin 8192) :
    val_main_v25 (F := Ideal) x0 x1 x2 x3 (ix2 n c) = ((argsOf x0 x1 x2 x3 x4).chan c).y n.val := by
  rw [val_main_v25_apply, val_main_v23_apply, val_main_v16_apply, val_main_v9_apply, val_main_v7_apply, val_main_v15_apply,
    val_main_v22_apply, val_main_v24_apply, val_main_v8_apply, v6_at, v14_at, v21_at, v4_at x0 x1 x2 x3 x4, v12_at x0 x1 x2 x3 x4,
    v19_at x0 x1 x2 x3 x4]
  have e : x3 (idx_main_v24 (ix2 n c)) = x3 (ix2 0 c) := congrArg x3 (funext fun a => match a with | ⟨0, _⟩ => rfl | ⟨1, _⟩ => rfl)
  rw [e]
  unfold Half.y taps
  have z : val_main_cst (F := Ideal) (idx_main_v8 (ix2 n c)) = (0 : EReal) := Ideal.ofBits_zero_f32
  rw [z]
  simp only [Ideal.addf_def, Ideal.mulf_def, zero_add]
  rw [add_assoc (_ + _), add_assoc, add_assoc]
  rfl

theorem v26_at (n : Fin 2048) (e : Fin 4096) :
    val_main_v26 (F := Ideal) x0 x1 x2 x3 (ix2 n e) = ((argsOf x0 x1 x2 x3 x4).gate e).y n.val := by
  rw [val_main_v26_apply]
  refine Eq.trans (congrArg _ ?_) (v25_at x0 x1 x2 x3 x4 n ⟨e.val, by omega⟩)
  exact funext fun a => match a with | ⟨0, _⟩ => rfl | ⟨1, _⟩ => rfl
theorem v27_at (n : Fin 2048) (e : Fin 4096) :
    val_main_v27 (F := Ideal) x0 x1 x2 x3 (ix2 n e) = ((argsOf x0 x1 x2 x3 x4).value e).y n.val := by
  rw [val_main_v27_apply]
  refine Eq.trans (congrArg _ ?_) (v25_at x0 x1 x2 x3 x4 n ⟨4096 + e.val, by omega⟩)
  exact funext fun a => match a with | ⟨0, _⟩ => rfl | ⟨1, _⟩ => rfl

/-! ## The gelu -/

theorem v35_eq (i : S2048x4096.Idx) : val_main_v35 (F := Ideal) x0 x1 x2 x3 i = th (val_main_v26 (F := Ideal) x0 x1 x2 x3 i) := by
  rw [val_main_v35_apply, val_main_v34_apply, val_main_v32_apply, val_main_v31_apply, val_main_v29_apply, val_main_v28_apply]
  generalize val_main_v26 (F := Ideal) x0 x1 x2 x3 i = g
  unfold th
  rw [mul_comm g (g * g)]
  rfl

theorem v41_at (n : Fin 2048) (e : Fin 4096) : val_main_v41 (F := Ideal) x0 x1 x2 x3 (ix2 n e)
    = act ((argsOf x0 x1 x2 x3 x4).gate e) ((argsOf x0 x1 x2 x3 x4).value e) n.val := by
  rw [val_main_v41_apply, val_main_v40_apply, val_main_v39_apply, val_main_v37_apply, v35_eq, v26_at x0 x1 x2 x3 x4, v27_at x0 x1 x2 x3 x4]
  rfl

/-! ## The result -/

theorem v42_at (n : Fin 2048) (k : Fin 1024) : val_main_v42 (F := Ideal) x0 x1 x2 x3 x4 (ix2 n k) = (argsOf x0 x1 x2 x3 x4).forward n k := by
  have e (e : Fin 4096) : lidx_main_v42 (ix2 n k) e = ix2 n e := funext fun a => match a with | ⟨0, _⟩ => rfl | ⟨1, _⟩ => rfl
  have e' (e : Fin 4096) : ridx_main_v42 (ix2 n k) e = ix2 e k := funext fun a => match a with | ⟨0, _⟩ => rfl | ⟨1, _⟩ => rfl
  rw [val_main_v42_apply]
  simp only [e, e', v41_at x0 x1 x2 x3 x4]
  rfl

theorem forward_eq : val_main_v42 (F := Ideal) x0 x1 x2 x3 x4 = fun i => (argsOf x0 x1 x2 x3 x4).forward (i 0) (i 1) := by
  funext i
  have e : i = ix2 (i 0) (i 1) := funext fun a => match a with | ⟨0, _⟩ => rfl | ⟨1, _⟩ => rfl
  exact (congrArg _ e).trans (v42_at x0 x1 x2 x3 x4 (i 0) (i 1))

theorem argsOf_congr {x0 y0 : S2048x1024.Idx → EReal} {x1 y1 : S1024x8192.Idx → EReal} {x2 y2 : S3x8192.Idx → EReal}
    {x3 y3 : S1x8192.Idx → EReal} {x4 y4 : S4096x1024.Idx → EReal} (h0 : x0 = y0) (h1 : x1 = y1) (h2 : x2 = y2)
    (h3 : x3 = y3) (h4 : x4 = y4) : argsOf x0 x1 x2 x3 x4 = argsOf y0 y1 y2 y3 y4 := by
  subst h0 h1 h2 h3 h4; rfl

/-! ## The run -/

variable (m : (ℓ : Loc nD τ sig) → Buf (Elt Ideal) ℓ) (c : Dev nD)

/-- The arguments a device is launched with. -/
def args : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

def forwardArr : S2048x1024.Idx → EReal := fun i => (args m c).forward (i 0) (i 1)

/-- What a memory holds of the result and of the arguments. -/
def Ends (r : PUnit × MemSt nD τ sig (Elt Ideal)) : Prop :=
  r.2.mem ((c.tc : Thread nD τ).loc main_v42) = forwardArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

theorem run_ends (ρ : Dev nD → PrngReg) :
    θ_run defs (onTc (τ := τ) (main (F := Ideal))) ⟨m, fun _ => 0, ρ⟩ fun r => ∀ c : Dev nD, Ends m c r := by
  refine (θ_run defs _ _).mono (fun r h c => ?_) (Cert.ReferenceFwdIdeal.Value.run (F := Ideal) m ρ)
  obtain ⟨h1, ha⟩ := h c
  rw [val_main_v42_eq] at h1
  rw [forward_eq] at h1
  exact ⟨h1, ha⟩

end Cert.ReferenceFwdIdeal.Hand

end
-- ==== Proof.UpBody.lean ====
/-
  The body of the up projection's gradient at one grid point: at the first point (it copies the operand left in HBM into
  its buffer and zeroes the running sum), at a middle point, and at the last one (it copies the running sum out): what it
  leaves in the running sum, and in the two results, which it writes by copies of its own.
-/
module

public import proofs.«01_k».proof.Proof.Gen.KernelUpIdeal.Frame.Runs
public import Idealize.ShloMosaic.Lib.Pipeline.Value
public import Idealize.ShloMosaic.Lib.WritesUnit
public import Idealize.ShloMosaic.Lib.VecWindow

@[expose] public section

set_option maxRecDepth 16384

noncomputable section

namespace Cert.KernelUpIdeal.Hand

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The operands -/

abbrev hbM0 : Memref sig .tc .hbm S2048x1024 .bf16 := Memref.whole main_v0
abbrev hbM1 : Memref sig .tc .hbm S2048x1024 .f32 := Memref.whole main_v4_0
abbrev hbM2 : Memref sig .tc .hbm S8x1024x1024 .bf16 := Memref.whole main_v4_1
abbrev scM0 : Memref sig .tc .vmem S2048x1024 .bf16 := Memref.whole cc0_scratch0
abbrev scM1 : Memref sig .tc .vmem S2048x1024 .f32 := Memref.whole cc0_scratch1
abbrev scM2 : Memref sig .tc .vmem S1024x256 .bf16 := Memref.whole cc0_scratch2
abbrev scM3 : Memref sig .tc .vmem S1024x256 .bf16 := Memref.whole cc0_scratch3
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The part of the weights' gradient a point writes for the gates' channels, and the one for the values'. -/
abbrev gateWin (i : grid0.Coords) : Memref sig .tc .hbm S1024x256 .bf16 :=
  ((Memref.whole main_v4_1).slice (Rect.unit (s := S8x1024x1024) (k0_off1 i) S1x1024x256.size (k0_off1_inb i)) (fun _ => rfl)).squeeze S1024x256 squeezes_S1x1024x256_S1024x256
abbrev valueWin (i : grid0.Coords) : Memref sig .tc .hbm S1024x256 .bf16 :=
  ((Memref.whole main_v4_1).slice (Rect.unit (s := S8x1024x1024) (k0_off2 i) S1x1024x256.size (k0_off2_inb i)) (fun _ => rfl)).squeeze S1024x256 squeezes_S1x1024x256_S1024x256

/-- The weights' gradient with a point's two parts written into it. -/
def put (c : Dev nD) (i : grid0.Coords) (f : HbBuf (F := F) c hbM2) (g v : Vec F S1024x256 .bf16) : HbBuf (F := F) c hbM2 :=
  (valueWin i).view.write (Elt F) ((gateWin i).view.write (Elt F) f g Finset.univ) v Finset.univ

/-- The other result once the running sum is copied into it. -/
def putSum (c : Dev nD) (f : HbBuf (F := F) c hbM1) (a : Vec F S2048x1024 .f32) : HbBuf (F := F) c hbM1 :=
  hbM1.view.write (Elt F) f a Finset.univ

/-- What an offset of zeros reads is everything. -/
theorem zero2 : (![0, 0] : Fin 2 → ℕ) = fun _ => 0 := by decide
theorem zero3 : (![0, 0, 0] : Fin 3 → ℕ) = fun _ => 0 := by decide

theorem readAll {sp : Space} {S : Shape} {e : EltTy} (v : View sig .tc sp S e) {off : Fin S.rank → ℕ} (hz : off = fun _ => 0)
    (inb : ∀ a, off a + S.size a ≤ S.size a) (f : v.ty.Contents (Elt F)) :
    v.readAt (Elt F) (Rect.unit (s := S) off S.size inb).toLoadRect f = v.read (Elt F) f :=
  (View.readAt_eq_ld ..).trans (View.ld_unit_zero (S := S) hz ..)

theorem read_landed {sp : Space} (v : View sig .tc sp S2048x1024 .bf16) (f : v.ty.Contents (Elt F)) (w : FVec F S2048x1024 .bf16) :
    v.read (Elt F) (v.writes (Elt F) f [⟨Rect.whole S2048x1024, w⟩]) = w :=
  View.read_writes_full v f (off := fun _ => 0) (fun _ => by simp) w []

/-- The guards of the first point's and of the last point's work. -/
abbrev isFirst (i : grid0.Coords) : Prop := Scalar.cmpi .ne (Scalar.extui (Scalar.cmpi .eq (BitVec.ofNat 32 (i 0).val) 0#32) : BitVec 32) 0#32 = 1#1
abbrev isLast (i : grid0.Coords) : Prop := Scalar.cmpi .ne (Scalar.extui (Scalar.cmpi .eq (BitVec.ofNat 32 (i 0).val) 15#32) : BitVec 32) 0#32 = 1#1

/-! ## The runs -/

set_option maxHeartbeats 800000 in set_option sl_exec.dmaWindow true in set_option sl_exec.dmaWindowSet true in set_option sl_exec.dmaWindowLent true in
/-- The body at the first point. -/
theorem run_first (c : Dev nD) (i : grid0.Coords) (hc0 : isFirst i) (hc1 : ¬ isLast i)
    (hd : Disjoint ((((Memref.whole main_v4_1).slice (Rect.unit (s := S8x1024x1024) (k0_off2 i) S1x1024x256.size (k0_off2_inb i)) (fun _ => rfl)).squeeze S1024x256 squeezes_S1x1024x256_S1024x256)).view.set ((((Memref.whole main_v4_1).slice (Rect.unit (s := S8x1024x1024) (k0_off1 i) S1x1024x256.size (k0_off1_inb i)) (fun _ => rfl)).squeeze S1024x256 squeezes_S1x1024x256_S1024x256)).view.set)
    (arg2 : Memref sig .tc .vmem S1x1024x256 .bf16) (harg2 : arg2.IsWhole) (arg3 : Memref sig .tc .vmem S1x1024x256 .bf16) (harg3 : arg3.IsWhole) (arg4 : Memref sig .tc .vmem S2048x256 .bf16) (harg4 : arg4.IsWhole) (arg5 : Memref sig .tc .vmem S2048x256 .bf16) (harg5 : arg5.IsWhole) (arg8 : Memref sig .tc .vmem S2048x1024 .bf16) (harg8 : arg8.IsWhole) (arg9 : Memref sig .tc .vmem S2048x1024 .f32) (harg9 : arg9.IsWhole) (arg10 : Memref sig .tc .vmem S1024x256 .bf16) (harg10 : arg10.IsWhole) (arg11 : Memref sig .tc .vmem S1024x256 .bf16) (harg11 : arg11.IsWhole)
    (fh : HbBuf (F := F) c hbM0) (f1 : HbBuf (F := F) c hbM1) (f2 : HbBuf (F := F) c hbM2) (xh : Vec F S2048x1024 .bf16) (hxh : hbM0.view.read (Elt F) fh = xh)
    (x2 x3 : Vec F S1x1024x256 .bf16) (x4 x5 : Vec F S2048x256 .bf16) (W : Waits sig Unit) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt c hbM0 fh ∗ hbPt c hbM1 f1 ∗ hbPt c hbM2 f2 ∗ owes (c : Thread nD τ) 0 W
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare xh ∗ owns (c : Thread nD τ) arg9 fullShare (k0_pay1 x4 x5 k0_pay2 x2 x3) ∗ (∃ d, owns (c : Thread nD τ) arg10 fullShare d) ∗ (∃ d, owns (c : Thread nD τ) arg11 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt c hbM0 fh ∗ hbPt c hbM1 f1 ∗ hbPt c hbM2 (put c i f2 (k0_pay3 xh x4) (k0_pay4 xh x5)) ∗ (∃ W', owes (c : Thread nD τ) 0 W')) -∗ Q ⟨⟩))
      ⊢ wp frame (wpE (defs₀ (F := F)) Variants.none c none) Set.univ
          (cc0_ffn_bwd_up i (Memref.whole main_v0) (Memref.isWhole_whole _) arg2 harg2 arg3 harg3 arg4 harg4 arg5 harg5 (Memref.whole main_v4_0) (Memref.isWhole_whole _) (Memref.whole main_v4_1) (Memref.isWhole_whole _) arg8 harg8 arg9 harg9 arg10 harg10 arg11 harg11 cc0_scratch4 cc0_scratch5 cc0_scoped0) Q := by
  simp only [cc0_ffn_bwd_up_eq_skeleton]; unfold cc0_ffn_bwd_up_skel
  simp only [k0_part1_eq_skeleton, k0_part2_eq_skeleton]
  unfold owns
  iintro ⟨⟨%f2', %h2, H2⟩, ⟨%f3, %h3, H3⟩, ⟨%f4, %h4, H4⟩, ⟨%f5, %h5, H5⟩, ⟨%ds0, %fs0, -, HS0⟩, ⟨%ds1, %fs1, -, HS1⟩, ⟨%ds2, %fs2, -, HS2⟩, ⟨%ds3, %fs3, -, HS3⟩, Hq0, Hq1, Hq2, Hq3, Hh0, Hh1, Hh2, HW, Hk⟩
  subst h2 h3 h4 h5 hxh
  sl_exec (disch := first | sl_exact hc0 | sl_exact hc1)
  sl_step
  iapply Hk
  have eh : (arg8.view.readCov [⟨Rect.whole S2048x1024, hbM0.view.read (Elt F) fh⟩] (Rect.unit (s := S2048x1024) ![0, 0] S2048x1024.size inb_S2048x1024_S2048x1024_0_0).toLoadRect) = hbM0.view.read (Elt F) fh := (readAll arg8.view zero2 _ _).trans (read_landed arg8.view arg8.view.junk _)
  have ea : (arg9.view.readCov (Val := Elt F) [(⟨Rect.unit (s := S2048x1024) ![0, 0] S2048x1024.size inb_S2048x1024_S2048x1024_0_0, k0_pay2 (F := F)⟩ : View.Piece (Elt F) S2048x1024 .f32)] (Rect.unit (s := S2048x1024) ![0, 0] S2048x1024.size inb_S2048x1024_S2048x1024_0_0).toLoadRect) = k0_pay2 (F := F) := View.readCov_unit_zero arg9.view zero2 _ _
  have eg : arg10.view.read (Elt F) (arg10.view.writes (Elt F) fs2 [⟨Rect.unit (s := S1024x256) ![0, 0] S1024x256.size inb_S1024x256_S1024x256_0_0, k0_pay3 (arg8.view.readCov [⟨Rect.whole S2048x1024, hbM0.view.read (Elt F) fh⟩] (Rect.unit (s := S2048x1024) ![0, 0] S2048x1024.size inb_S2048x1024_S2048x1024_0_0).toLoadRect) (arg4.view.readAt (Elt F) (Rect.unit (s := S2048x256) ![0, 0] S2048x256.size inb_S2048x256_S2048x256_0_0).toLoadRect f4)⟩]) = k0_pay3 _ (arg4.view.read (Elt F) f4) :=
    (View.read_writes_full ..).trans (congrArg₂ k0_pay3 eh (readAll _ zero2 _ _))
  have ev : arg11.view.read (Elt F) (arg11.view.writes (Elt F) fs3 [⟨Rect.unit (s := S1024x256) ![0, 0] S1024x256.size inb_S1024x256_S1024x256_0_0, k0_pay4 (arg8.view.readCov [⟨Rect.whole S2048x1024, hbM0.view.read (Elt F) fh⟩] (Rect.unit (s := S2048x1024) ![0, 0] S2048x1024.size inb_S2048x1024_S2048x1024_0_0).toLoadRect) (arg5.view.readAt (Elt F) (Rect.unit (s := S2048x256) ![0, 0] S2048x256.size inb_S2048x256_S2048x256_0_0).toLoadRect f5)⟩]) = k0_pay4 _ (arg5.view.read (Elt F) f5) :=
    (View.read_writes_full ..).trans (congrArg₂ k0_pay4 eh (readAll _ zero2 _ _))
  have es : ∀ X, arg9.view.read (Elt F) (arg9.view.writes (Elt F) X [⟨Rect.unit (s := S2048x1024) ![0, 0] S2048x1024.size inb_S2048x1024_S2048x1024_0_0, k0_pay1 (arg4.view.readAt (Elt F) (Rect.unit (s := S2048x256) ![0, 0] S2048x256.size inb_S2048x256_S2048x256_0_0).toLoadRect f4) (arg5.view.readAt (Elt F) (Rect.unit (s := S2048x256) ![0, 0] S2048x256.size inb_S2048x256_S2048x256_0_0).toLoadRect f5) (arg9.view.readCov (Val := Elt F) [(⟨Rect.unit (s := S2048x1024) ![0, 0] S2048x1024.size inb_S2048x1024_S2048x1024_0_0, k0_pay2 (F := F)⟩ : View.Piece (Elt F) S2048x1024 .f32)] (Rect.unit (s := S2048x1024) ![0, 0] S2048x1024.size inb_S2048x1024_S2048x1024_0_0).toLoadRect) (arg2.view.readAt (Elt F) (Rect.unit (s := S1x1024x256) ![0, 0, 0] S1x1024x256.size inb_S1x1024x256_S1x1024x256_0_0_0).toLoadRect f2') (arg3.view.readAt (Elt F) (Rect.unit (s := S1x1024x256) ![0, 0, 0] S1x1024x256.size inb_S1x1024x256_S1x1024x256_0_0_0).toLoadRect f3)⟩, ⟨Rect.unit (s := S2048x1024) ![0, 0] S2048x1024.size inb_S2048x1024_S2048x1024_0_0, k0_pay2 (F := F)⟩]) = k0_pay1 (arg4.view.read (Elt F) f4) (arg5.view.read (Elt F) f5) _ (arg2.view.read (Elt F) f2') (arg3.view.read (Elt F) f3) := fun X =>
    (View.read_writes_full ..).trans (by rw [ea, readAll _ zero2, readAll _ zero2, readAll _ zero3, readAll _ zero3])
  rw [← eg, ← ev]
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [HS0]
  · iexists _; isplitr; swap; · iexact HS0
    ipureintro; exact read_landed arg8.view _ _
  isplitl [HS1]
  · iexists _; isplitr; swap; · iexact HS1
    ipureintro; exact es _
  isplitl [HS2]
  · iexists _, _; isplitr; swap; · iexact HS2
    ipureintro; rfl
  isplitl [HS3]
  · iexists _, _; isplitr; swap; · iexact HS3
    ipureintro; rfl
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  iexists _; iexact HW

set_option maxHeartbeats 800000 in set_option sl_exec.dmaWindow true in set_option sl_exec.dmaWindowSet true in set_option sl_exec.dmaWindowLent true in
/-- The body at a middle point. -/
theorem run_mid (c : Dev nD) (i : grid0.Coords) (hc0 : ¬ isFirst i) (hc1 : ¬ isLast i)
    (hd : Disjoint ((((Memref.whole main_v4_1).slice (Rect.unit (s := S8x1024x1024) (k0_off2 i) S1x1024x256.size (k0_off2_inb i)) (fun _ => rfl)).squeeze S1024x256 squeezes_S1x1024x256_S1024x256)).view.set ((((Memref.whole main_v4_1).slice (Rect.unit (s := S8x1024x1024) (k0_off1 i) S1x1024x256.size (k0_off1_inb i)) (fun _ => rfl)).squeeze S1024x256 squeezes_S1x1024x256_S1024x256)).view.set)
    (arg2 : Memref sig .tc .vmem S1x1024x256 .bf16) (harg2 : arg2.IsWhole) (arg3 : Memref sig .tc .vmem S1x1024x256 .bf16) (harg3 : arg3.IsWhole) (arg4 : Memref sig .tc .vmem S2048x256 .bf16) (harg4 : arg4.IsWhole) (arg5 : Memref sig .tc .vmem S2048x256 .bf16) (harg5 : arg5.IsWhole) (arg8 : Memref sig .tc .vmem S2048x1024 .bf16) (harg8 : arg8.IsWhole) (arg9 : Memref sig .tc .vmem S2048x1024 .f32) (harg9 : arg9.IsWhole) (arg10 : Memref sig .tc .vmem S1024x256 .bf16) (harg10 : arg10.IsWhole) (arg11 : Memref sig .tc .vmem S1024x256 .bf16) (harg11 : arg11.IsWhole)
    (fh : HbBuf (F := F) c hbM0) (f1 : HbBuf (F := F) c hbM1) (f2 : HbBuf (F := F) c hbM2) (xh : Vec F S2048x1024 .bf16) (acc : Vec F S2048x1024 .f32)
    (x2 x3 : Vec F S1x1024x256 .bf16) (x4 x5 : Vec F S2048x256 .bf16) (W : Waits sig Unit) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare xh ∗ owns (c : Thread nD τ) arg9 fullShare acc ∗ (∃ d, owns (c : Thread nD τ) arg10 fullShare d) ∗ (∃ d, owns (c : Thread nD τ) arg11 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt c hbM0 fh ∗ hbPt c hbM1 f1 ∗ hbPt c hbM2 f2 ∗ owes (c : Thread nD τ) 0 W
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare xh ∗ owns (c : Thread nD τ) arg9 fullShare (k0_pay1 x4 x5 acc x2 x3) ∗ (∃ d, owns (c : Thread nD τ) arg10 fullShare d) ∗ (∃ d, owns (c : Thread nD τ) arg11 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt c hbM0 fh ∗ hbPt c hbM1 f1 ∗ hbPt c hbM2 (put c i f2 (k0_pay3 xh x4) (k0_pay4 xh x5)) ∗ (∃ W', owes (c : Thread nD τ) 0 W')) -∗ Q ⟨⟩))
      ⊢ wp frame (wpE (defs₀ (F := F)) Variants.none c none) Set.univ
          (cc0_ffn_bwd_up i (Memref.whole main_v0) (Memref.isWhole_whole _) arg2 harg2 arg3 harg3 arg4 harg4 arg5 harg5 (Memref.whole main_v4_0) (Memref.isWhole_whole _) (Memref.whole main_v4_1) (Memref.isWhole_whole _) arg8 harg8 arg9 harg9 arg10 harg10 arg11 harg11 cc0_scratch4 cc0_scratch5 cc0_scoped0) Q := by
  simp only [cc0_ffn_bwd_up_eq_skeleton]; unfold cc0_ffn_bwd_up_skel
  simp only [k0_part1_eq_skeleton, k0_part2_eq_skeleton]
  unfold owns
  iintro ⟨⟨%f2', %h2, H2⟩, ⟨%f3, %h3, H3⟩, ⟨%f4, %h4, H4⟩, ⟨%f5, %h5, H5⟩, ⟨%fs0, %hs0, HS0⟩, ⟨%fs1, %hs1, HS1⟩, ⟨%ds2, %fs2, -, HS2⟩, ⟨%ds3, %fs3, -, HS3⟩, Hq0, Hq1, Hq2, Hq3, Hh0, Hh1, Hh2, HW, Hk⟩
  subst h2 h3 h4 h5 hs0 hs1
  sl_exec (disch := first | sl_exact hc0 | sl_exact hc1)
  sl_step
  iapply Hk
  have eh : (arg8.view.readAt (Elt F) (Rect.unit (s := S2048x1024) ![0, 0] S2048x1024.size inb_S2048x1024_S2048x1024_0_0).toLoadRect fs0) = arg8.view.read (Elt F) fs0 := readAll _ zero2 _ _
  have ea : (arg9.view.readAt (Elt F) (Rect.unit (s := S2048x1024) ![0, 0] S2048x1024.size inb_S2048x1024_S2048x1024_0_0).toLoadRect fs1) = arg9.view.read (Elt F) fs1 := readAll _ zero2 _ _
  have eg : arg10.view.read (Elt F) (arg10.view.writes (Elt F) fs2 [⟨Rect.unit (s := S1024x256) ![0, 0] S1024x256.size inb_S1024x256_S1024x256_0_0, k0_pay3 (arg8.view.readAt (Elt F) (Rect.unit (s := S2048x1024) ![0, 0] S2048x1024.size inb_S2048x1024_S2048x1024_0_0).toLoadRect fs0) (arg4.view.readAt (Elt F) (Rect.unit (s := S2048x256) ![0, 0] S2048x256.size inb_S2048x256_S2048x256_0_0).toLoadRect f4)⟩]) = k0_pay3 _ (arg4.view.read (Elt F) f4) :=
    (View.read_writes_full ..).trans (congrArg₂ k0_pay3 eh (readAll _ zero2 _ _))
  have ev : arg11.view.read (Elt F) (arg11.view.writes (Elt F) fs3 [⟨Rect.unit (s := S1024x256) ![0, 0] S1024x256.size inb_S1024x256_S1024x256_0_0, k0_pay4 (arg8.view.readAt (Elt F) (Rect.unit (s := S2048x1024) ![0, 0] S2048x1024.size inb_S2048x1024_S2048x1024_0_0).toLoadRect fs0) (arg5.view.readAt (Elt F) (Rect.unit (s := S2048x256) ![0, 0] S2048x256.size inb_S2048x256_S2048x256_0_0).toLoadRect f5)⟩]) = k0_pay4 _ (arg5.view.read (Elt F) f5) :=
    (View.read_writes_full ..).trans (congrArg₂ k0_pay4 eh (readAll _ zero2 _ _))
  have es : ∀ X, arg9.view.read (Elt F) (arg9.view.writes (Elt F) X [⟨Rect.unit (s := S2048x1024) ![0, 0] S2048x1024.size inb_S2048x1024_S2048x1024_0_0, k0_pay1 (arg4.view.readAt (Elt F) (Rect.unit (s := S2048x256) ![0, 0] S2048x256.size inb_S2048x256_S2048x256_0_0).toLoadRect f4) (arg5.view.readAt (Elt F) (Rect.unit (s := S2048x256) ![0, 0] S2048x256.size inb_S2048x256_S2048x256_0_0).toLoadRect f5) (arg9.view.readAt (Elt F) (Rect.unit (s := S2048x1024) ![0, 0] S2048x1024.size inb_S2048x1024_S2048x1024_0_0).toLoadRect fs1) (arg2.view.readAt (Elt F) (Rect.unit (s := S1x1024x256) ![0, 0, 0] S1x1024x256.size inb_S1x1024x256_S1x1024x256_0_0_0).toLoadRect f2') (arg3.view.readAt (Elt F) (Rect.unit (s := S1x1024x256) ![0, 0, 0] S1x1024x256.size inb_S1x1024x256_S1x1024x256_0_0_0).toLoadRect f3)⟩]) = k0_pay1 (arg4.view.read (Elt F) f4) (arg5.view.read (Elt F) f5) _ (arg2.view.read (Elt F) f2') (arg3.view.read (Elt F) f3) := fun X =>
    (View.read_writes_full ..).trans (by rw [ea, readAll _ zero2, readAll _ zero2, readAll _ zero3, readAll _ zero3])
  rw [← eg, ← ev]
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [HS0]
  · iexists _; isplitr; swap; · iexact HS0
    ipureintro; rfl
  isplitl [HS1]
  · iexists _; isplitr; swap; · iexact HS1
    ipureintro; exact es _
  isplitl [HS2]
  · iexists _, _; isplitr; swap; · iexact HS2
    ipureintro; rfl
  isplitl [HS3]
  · iexists _, _; isplitr; swap; · iexact HS3
    ipureintro; rfl
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  iexists _; iexact HW

set_option maxHeartbeats 800000 in set_option sl_exec.dmaWindow true in set_option sl_exec.dmaWindowSet true in set_option sl_exec.dmaWindowLent true in
/-- The body at the last point. -/
theorem run_last (c : Dev nD) (i : grid0.Coords) (hc0 : ¬ isFirst i) (hc1 : isLast i)
    (hd : Disjoint ((((Memref.whole main_v4_1).slice (Rect.unit (s := S8x1024x1024) (k0_off2 i) S1x1024x256.size (k0_off2_inb i)) (fun _ => rfl)).squeeze S1024x256 squeezes_S1x1024x256_S1024x256)).view.set ((((Memref.whole main_v4_1).slice (Rect.unit (s := S8x1024x1024) (k0_off1 i) S1x1024x256.size (k0_off1_inb i)) (fun _ => rfl)).squeeze S1024x256 squeezes_S1x1024x256_S1024x256)).view.set)
    (arg2 : Memref sig .tc .vmem S1x1024x256 .bf16) (harg2 : arg2.IsWhole) (arg3 : Memref sig .tc .vmem S1x1024x256 .bf16) (harg3 : arg3.IsWhole) (arg4 : Memref sig .tc .vmem S2048x256 .bf16) (harg4 : arg4.IsWhole) (arg5 : Memref sig .tc .vmem S2048x256 .bf16) (harg5 : arg5.IsWhole) (arg8 : Memref sig .tc .vmem S2048x1024 .bf16) (harg8 : arg8.IsWhole) (arg9 : Memref sig .tc .vmem S2048x1024 .f32) (harg9 : arg9.IsWhole) (arg10 : Memref sig .tc .vmem S1024x256 .bf16) (harg10 : arg10.IsWhole) (arg11 : Memref sig .tc .vmem S1024x256 .bf16) (harg11 : arg11.IsWhole)
    (fh : HbBuf (F := F) c hbM0) (f1 : HbBuf (F := F) c hbM1) (f2 : HbBuf (F := F) c hbM2) (xh : Vec F S2048x1024 .bf16) (acc : Vec F S2048x1024 .f32)
    (x2 x3 : Vec F S1x1024x256 .bf16) (x4 x5 : Vec F S2048x256 .bf16) (W : Waits sig Unit) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare xh ∗ owns (c : Thread nD τ) arg9 fullShare acc ∗ (∃ d, owns (c : Thread nD τ) arg10 fullShare d) ∗ (∃ d, owns (c : Thread nD τ) arg11 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt c hbM0 fh ∗ hbPt c hbM1 f1 ∗ hbPt c hbM2 f2 ∗ owes (c : Thread nD τ) 0 W
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare xh ∗ owns (c : Thread nD τ) arg9 fullShare (k0_pay1 x4 x5 acc x2 x3) ∗ (∃ d, owns (c : Thread nD τ) arg10 fullShare d) ∗ (∃ d, owns (c : Thread nD τ) arg11 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt c hbM0 fh ∗ hbPt c hbM1 (putSum c f1 (k0_pay1 x4 x5 acc x2 x3)) ∗ hbPt c hbM2 (put c i f2 (k0_pay3 xh x4) (k0_pay4 xh x5)) ∗ (∃ W', owes (c : Thread nD τ) 0 W')) -∗ Q ⟨⟩))
      ⊢ wp frame (wpE (defs₀ (F := F)) Variants.none c none) Set.univ
          (cc0_ffn_bwd_up i (Memref.whole main_v0) (Memref.isWhole_whole _) arg2 harg2 arg3 harg3 arg4 harg4 arg5 harg5 (Memref.whole main_v4_0) (Memref.isWhole_whole _) (Memref.whole main_v4_1) (Memref.isWhole_whole _) arg8 harg8 arg9 harg9 arg10 harg10 arg11 harg11 cc0_scratch4 cc0_scratch5 cc0_scoped0) Q := by
  simp only [cc0_ffn_bwd_up_eq_skeleton]; unfold cc0_ffn_bwd_up_skel
  simp only [k0_part1_eq_skeleton, k0_part2_eq_skeleton]
  unfold owns
  iintro ⟨⟨%f2', %h2, H2⟩, ⟨%f3, %h3, H3⟩, ⟨%f4, %h4, H4⟩, ⟨%f5, %h5, H5⟩, ⟨%fs0, %hs0, HS0⟩, ⟨%fs1, %hs1, HS1⟩, ⟨%ds2, %fs2, -, HS2⟩, ⟨%ds3, %fs3, -, HS3⟩, Hq0, Hq1, Hq2, Hq3, Hh0, Hh1, Hh2, HW, Hk⟩
  subst h2 h3 h4 h5 hs0 hs1
  sl_exec (disch := first | sl_exact hc0 | sl_exact hc1)
  sl_step
  iapply Hk
  have eh : (arg8.view.readAt (Elt F) (Rect.unit (s := S2048x1024) ![0, 0] S2048x1024.size inb_S2048x1024_S2048x1024_0_0).toLoadRect fs0) = arg8.view.read (Elt F) fs0 := readAll _ zero2 _ _
  have ea : (arg9.view.readAt (Elt F) (Rect.unit (s := S2048x1024) ![0, 0] S2048x1024.size inb_S2048x1024_S2048x1024_0_0).toLoadRect fs1) = arg9.view.read (Elt F) fs1 := readAll _ zero2 _ _
  have eg : arg10.view.read (Elt F) (arg10.view.writes (Elt F) fs2 [⟨Rect.unit (s := S1024x256) ![0, 0] S1024x256.size inb_S1024x256_S1024x256_0_0, k0_pay3 (arg8.view.readAt (Elt F) (Rect.unit (s := S2048x1024) ![0, 0] S2048x1024.size inb_S2048x1024_S2048x1024_0_0).toLoadRect fs0) (arg4.view.readAt (Elt F) (Rect.unit (s := S2048x256) ![0, 0] S2048x256.size inb_S2048x256_S2048x256_0_0).toLoadRect f4)⟩]) = k0_pay3 _ (arg4.view.read (Elt F) f4) :=
    (View.read_writes_full ..).trans (congrArg₂ k0_pay3 eh (readAll _ zero2 _ _))
  have ev : arg11.view.read (Elt F) (arg11.view.writes (Elt F) fs3 [⟨Rect.unit (s := S1024x256) ![0, 0] S1024x256.size inb_S1024x256_S1024x256_0_0, k0_pay4 (arg8.view.readAt (Elt F) (Rect.unit (s := S2048x1024) ![0, 0] S2048x1024.size inb_S2048x1024_S2048x1024_0_0).toLoadRect fs0) (arg5.view.readAt (Elt F) (Rect.unit (s := S2048x256) ![0, 0] S2048x256.size inb_S2048x256_S2048x256_0_0).toLoadRect f5)⟩]) = k0_pay4 _ (arg5.view.read (Elt F) f5) :=
    (View.read_writes_full ..).trans (congrArg₂ k0_pay4 eh (readAll _ zero2 _ _))
  have es : ∀ X, arg9.view.read (Elt F) (arg9.view.writes (Elt F) X [⟨Rect.unit (s := S2048x1024) ![0, 0] S2048x1024.size inb_S2048x1024_S2048x1024_0_0, k0_pay1 (arg4.view.readAt (Elt F) (Rect.unit (s := S2048x256) ![0, 0] S2048x256.size inb_S2048x256_S2048x256_0_0).toLoadRect f4) (arg5.view.readAt (Elt F) (Rect.unit (s := S2048x256) ![0, 0] S2048x256.size inb_S2048x256_S2048x256_0_0).toLoadRect f5) (arg9.view.readAt (Elt F) (Rect.unit (s := S2048x1024) ![0, 0] S2048x1024.size inb_S2048x1024_S2048x1024_0_0).toLoadRect fs1) (arg2.view.readAt (Elt F) (Rect.unit (s := S1x1024x256) ![0, 0, 0] S1x1024x256.size inb_S1x1024x256_S1x1024x256_0_0_0).toLoadRect f2') (arg3.view.readAt (Elt F) (Rect.unit (s := S1x1024x256) ![0, 0, 0] S1x1024x256.size inb_S1x1024x256_S1x1024x256_0_0_0).toLoadRect f3)⟩]) = k0_pay1 (arg4.view.read (Elt F) f4) (arg5.view.read (Elt F) f5) _ (arg2.view.read (Elt F) f2') (arg3.view.read (Elt F) f3) := fun X =>
    (View.read_writes_full ..).trans (by rw [ea, readAll _ zero2, readAll _ zero2, readAll _ zero3, readAll _ zero3])
  rw [← eg, ← ev]
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [HS0]
  · iexists _; isplitr; swap; · iexact HS0
    ipureintro; rfl
  isplitl [HS1]
  · iexists _; isplitr; swap; · iexact HS1
    ipureintro; exact es _
  isplitl [HS2]
  · iexists _, _; isplitr; swap; · iexact HS2
    ipureintro; rfl
  isplitl [HS3]
  · iexists _, _; isplitr; swap; · iexact HS3
    ipureintro; rfl
  isplitl [Hq0]; · iexact Hq0
  isplitl [Hq1]; · iexact Hq1
  isplitl [Hq2]; · iexact Hq2
  isplitl [Hq3]; · iexact Hq3
  isplitl [Hh0]; · iexact Hh0
  isplitl [Hh1]; · rw [← es fs1]; iexact Hh1
  isplitl [Hh2]; · iexact Hh2
  iexists _; iexact HW

end Cert.KernelUpIdeal.Hand

end
-- ==== Proof.UpFrame.lean ====
/-
  The region's run and the frame of the up projection's gradient: the proof data of its pipeline (after `n` points the
  running sum is `sumAt n`, the weights' gradient `dwAt n`, and the other result is written after the last), the body
  obligation at every point off the three runs, the program's run with what it leaves in the two results, and what it
  leaves in the arguments.
-/
module

public import proofs.«01_k».proof.Proof.UpBody
public import Idealize.ShloMosaic.Lib.Pipeline.FrameValue
public import Idealize.ShloMosaic.Lib.Claim

@[expose] public section

set_option maxRecDepth 16384

noncomputable section

namespace Cert.KernelUpIdeal.Hand

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the buffers hold after the first points -/

/-- What the copy at the first point lands. -/
def xh (c : Dev nD) : Vec F S2048x1024 .bf16 := hbM0.view.read (Elt F) (V m c main_v0)

/-- The running sum after the first `n` points. -/
def sumAt (c : Dev nD) : ℕ → Vec F S2048x1024 .f32
  | 0 => k0_pay2
  | n + 1 => if h : n < cfg0.N then k0_pay1 (iblk m c 2 ⟨n, h⟩) (iblk m c 3 ⟨n, h⟩) (sumAt c n) (iblk m c 0 ⟨n, h⟩) (iblk m c 1 ⟨n, h⟩) else sumAt c n

/-- The weights' gradient after the first `n` points. -/
def dwAt (c : Dev nD) : ℕ → HbBuf (F := F) c hbM2
  | 0 => V m c main_v4_1
  | n + 1 => if h : n < cfg0.N then put c (grid0.coords ⟨n, h⟩) (dwAt c n) (k0_pay3 (xh m c) (iblk m c 2 ⟨n, h⟩)) (k0_pay4 (xh m c) (iblk m c 3 ⟨n, h⟩)) else dwAt c n

/-- The operand's gradient after the first `n` points: written after the last. -/
def dhAt (c : Dev nD) (n : ℕ) : HbBuf (F := F) c hbM1 :=
  if n = 16 then putSum c (V m c main_v4_0) (sumAt m c 16) else V m c main_v4_0

theorem sumAt_succ (c : Dev nD) (t : Fin cfg0.N) : sumAt m c (t.val + 1) = k0_pay1 (iblk m c 2 t) (iblk m c 3 t) (sumAt m c t.val) (iblk m c 0 t) (iblk m c 1 t) :=
  dif_pos t.isLt
theorem dwAt_succ (c : Dev nD) (t : Fin cfg0.N) : dwAt m c (t.val + 1) = put c (grid0.coords t) (dwAt m c t.val) (k0_pay3 (xh m c) (iblk m c 2 t)) (k0_pay4 (xh m c) (iblk m c 3 t)) :=
  dif_pos t.isLt
theorem dhAt_of_ne (c : Dev nD) (n : ℕ) (h : n ≠ 16) : dhAt m c n = V m c main_v4_0 := if_neg h
theorem dhAt_last (c : Dev nD) (n : ℕ) (h : n = 16) : dhAt m c n = putSum c (V m c main_v4_0) (sumAt m c n) := by
  subst h; exact if_pos rfl

/-- The scratch buffers after the first `n` points. -/
def scratchAt (c : Dev nD) (n : ℕ) : sProp 𝕄 :=
  if n = 0 then iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d))
  else iprop(owns (c : Thread nD τ) scM0 fullShare (xh m c) ∗ owns (c : Thread nD τ) scM1 fullShare (sumAt m c n) ∗ (∃ d, owns (c : Thread nD τ) scM2 fullShare d) ∗ (∃ d, owns (c : Thread nD τ) scM3 fullShare d))

theorem scratchAt_first (c : Dev nD) (n : ℕ) (h : n = 0) :
    scratchAt m c n = iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) := if_pos h
theorem scratchAt_later (c : Dev nD) (n : ℕ) (h : n ≠ 0) :
    scratchAt m c n = iprop(owns (c : Thread nD τ) scM0 fullShare (xh m c) ∗ owns (c : Thread nD τ) scM1 fullShare (sumAt m c n) ∗ (∃ d, owns (c : Thread nD τ) scM2 fullShare d) ∗ (∃ d, owns (c : Thread nD τ) scM3 fullShare d)) := if_neg h

/-! ## The proof data -/

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := iprop(scratchAt m c t.val ∗ (∃ r, prngReg c r)
    ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0)
    ∗ hbPt c hbM0 (V m c main_v0) ∗ iprop(hbPt c hbM1 (dhAt m c t.val) ∗ hbPt c hbM2 (dwAt m c t.val)))
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem first_iff : ∀ t : Fin grid0.N, isFirst (grid0.coords t) ↔ t.val = 0 := by decide +kernel
theorem last_iff : ∀ t : Fin grid0.N, isLast (grid0.coords t) ↔ t.val = 15 := by decide +kernel
theorem apart : ∀ t : Fin grid0.N, LoadRect.disj (Rect.unit (s := S8x1024x1024) (k0_off2 (grid0.coords t)) S1x1024x256.size (k0_off2_inb (grid0.coords t))) (Rect.unit (s := S8x1024x1024) (k0_off1 (grid0.coords t)) S1x1024x256.size (k0_off1_inb (grid0.coords t))).toLoadRect = true := by
  decide +kernel

/-- A point's two parts of the weights' gradient do not meet. -/
theorem parts_apart (t : Fin grid0.N) : Disjoint (valueWin (grid0.coords t)).view.set (gateWin (grid0.coords t)).view.set := by
  rw [Memref.set_view_squeeze, Memref.set_view_squeeze]
  exact View.disjoint_slice_of_disj (Memref.whole main_v4_1).view _ _ (apart t)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t))

theorem Phi_eq (c : Dev nD) (t : Fin (cfg0.N + 1)) : (dats m 0 c).Φ t = iprop(scratchAt m c t.val ∗ (∃ r, prngReg c r)
    ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0)
    ∗ hbPt c hbM0 (V m c main_v0) ∗ iprop(hbPt c hbM1 (dhAt m c t.val) ∗ hbPt c hbM2 (dwAt m c t.val))) := by dsimp only [dats]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  unfold Dat.owesAt Pipeline.owesWithin
  rw [show (dats m 0 c).owed t.castSucc = 0 from rfl, show (dats m 0 c).owed t.succ = 0 from rfl]
  rw [Phi_eq, Phi_eq, after_0, after_1, after_2, after_3]
  simp only [before_0, before_1, before_2, before_3, Fin.val_castSucc, Fin.val_succ]
  have hN : t.val < 16 := lt_of_lt_of_eq t.isLt (show cfg0.N = 16 from N_0)
  rw [scratchAt_later m c (t.val + 1) (Nat.succ_ne_zero _), dhAt_of_ne m c t.val (by omega), dwAt_succ, sumAt_succ]
  by_cases h : t.val = 0
  · rw [scratchAt_first m c t.val h, dhAt_of_ne m c (t.val + 1) (by omega), show sumAt m c t.val = k0_pay2 from by rw [h]; rfl]
    iintro ⟨⟨⟨HS0, HS1, HS2, HS3⟩, Hg, ⟨Hq0, Hq1, Hq2, Hq3⟩, Hh0, ⟨Hh1, Hh2⟩⟩, ⟨%W, -, HW⟩, ⟨%d0, H0⟩, ⟨%d1, H1⟩, ⟨%d2, H2⟩, ⟨%d3, H3⟩⟩
    iapply (run_first c (grid0.coords t) ((first_iff t).2 h) (fun e => absurd ((last_iff t).1 e) (by omega)) (parts_apart t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) scM0 (Memref.isWhole_whole _) scM1 (Memref.isWhole_whole _) scM2 (Memref.isWhole_whole _) scM3 (Memref.isWhole_whole _) (V m c main_v0) (V m c main_v4_0) (dwAt m c t.val) (xh m c) rfl (iblk m c 0 t) (iblk m c 1 t) (iblk m c 2 t) (iblk m c 3 t) W _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [HW]; · iexact HW
    iintro ⟨H0, H1, H2, H3, HS0, HS1, HS2, HS3, Hq0, Hq1, Hq2, Hq3, Hh0, Hh1, Hh2, ⟨%W', HW'⟩⟩
    isplitl [HS0 HS1 HS2 HS3 Hg Hq0 Hq1 Hq2 Hq3 Hh0 Hh1 Hh2]
    · isplitl [HS0 HS1 HS2 HS3]
      · isplitl [HS0]; · iexact HS0
        isplitl [HS1]; · iexact HS1
        isplitl [HS2]; · iexact HS2
        iexact HS3
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    isplitl [H2]; · iexact H2
    iexact H3
  · by_cases h1 : t.val = 15
    · rw [scratchAt_later m c t.val h, dhAt_last m c (t.val + 1) (by omega), sumAt_succ]
      iintro ⟨⟨⟨HS0, HS1, HS2, HS3⟩, Hg, ⟨Hq0, Hq1, Hq2, Hq3⟩, Hh0, ⟨Hh1, Hh2⟩⟩, ⟨%W, -, HW⟩, ⟨%d0, H0⟩, ⟨%d1, H1⟩, ⟨%d2, H2⟩, ⟨%d3, H3⟩⟩
      iapply (run_last c (grid0.coords t) (fun e => h ((first_iff t).1 e)) ((last_iff t).2 h1) (parts_apart t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) scM0 (Memref.isWhole_whole _) scM1 (Memref.isWhole_whole _) scM2 (Memref.isWhole_whole _) scM3 (Memref.isWhole_whole _) (V m c main_v0) (V m c main_v4_0) (dwAt m c t.val) (xh m c) (sumAt m c t.val) (iblk m c 0 t) (iblk m c 1 t) (iblk m c 2 t) (iblk m c 3 t) W _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hq2]; · iexact Hq2
      isplitl [Hq3]; · iexact Hq3
      isplitl [Hh0]; · iexact Hh0
      isplitl [Hh1]; · iexact Hh1
      isplitl [Hh2]; · iexact Hh2
      isplitl [HW]; · iexact HW
      iintro ⟨H0, H1, H2, H3, HS0, HS1, HS2, HS3, Hq0, Hq1, Hq2, Hq3, Hh0, Hh1, Hh2, ⟨%W', HW'⟩⟩
      isplitl [HS0 HS1 HS2 HS3 Hg Hq0 Hq1 Hq2 Hq3 Hh0 Hh1 Hh2]
      · isplitl [HS0 HS1 HS2 HS3]
        · isplitl [HS0]; · iexact HS0
          isplitl [HS1]; · iexact HS1
          isplitl [HS2]; · iexact HS2
          iexact HS3
        isplitl [Hg]; · iexact Hg
        isplitl [Hq0 Hq1 Hq2 Hq3]
        · isplitl [Hq0]; · iexact Hq0
          isplitl [Hq1]; · iexact Hq1
          isplitl [Hq2]; · iexact Hq2
          iexact Hq3
        isplitl [Hh0]; · iexact Hh0
        isplitl [Hh1]; · iexact Hh1
        iexact Hh2
      isplitl [HW']
      · iexists W'; isplitr; · ipureintro; exact fun _ _ => Or.inl trivial
        iexact HW'
      isplitl [H0]; · iexact H0
      isplitl [H1]; · iexact H1
      isplitl [H2]; · iexact H2
      iexact H3
    · rw [scratchAt_later m c t.val h, dhAt_of_ne m c (t.val + 1) (by omega)]
      iintro ⟨⟨⟨HS0, HS1, HS2, HS3⟩, Hg, ⟨Hq0, Hq1, Hq2, Hq3⟩, Hh0, ⟨Hh1, Hh2⟩⟩, ⟨%W, -, HW⟩, ⟨%d0, H0⟩, ⟨%d1, H1⟩, ⟨%d2, H2⟩, ⟨%d3, H3⟩⟩
      iapply (run_mid c (grid0.coords t) (fun e => h ((first_iff t).1 e)) (fun e => h1 ((last_iff t).1 e)) (parts_apart t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) scM0 (Memref.isWhole_whole _) scM1 (Memref.isWhole_whole _) scM2 (Memref.isWhole_whole _) scM3 (Memref.isWhole_whole _) (V m c main_v0) (V m c main_v4_0) (dwAt m c t.val) (xh m c) (sumAt m c t.val) (iblk m c 0 t) (iblk m c 1 t) (iblk m c 2 t) (iblk m c 3 t) W _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hq2]; · iexact Hq2
      isplitl [Hq3]; · iexact Hq3
      isplitl [Hh0]; · iexact Hh0
      isplitl [Hh1]; · iexact Hh1
      isplitl [Hh2]; · iexact Hh2
      isplitl [HW]; · iexact HW
      iintro ⟨H0, H1, H2, H3, HS0, HS1, HS2, HS3, Hq0, Hq1, Hq2, Hq3, Hh0, Hh1, Hh2, ⟨%W', HW'⟩⟩
      isplitl [HS0 HS1 HS2 HS3 Hg Hq0 Hq1 Hq2 Hq3 Hh0 Hh1 Hh2]
      · isplitl [HS0 HS1 HS2 HS3]
        · isplitl [HS0]; · iexact HS0
          isplitl [HS1]; · iexact HS1
          isplitl [HS2]; · iexact HS2
          iexact HS3
        isplitl [Hg]; · iexact Hg
        isplitl [Hq0 Hq1 Hq2 Hq3]
        · isplitl [Hq0]; · iexact Hq0
          isplitl [Hq1]; · iexact Hq1
          isplitl [Hq2]; · iexact Hq2
          iexact Hq3
        isplitl [Hh0]; · iexact Hh0
        isplitl [Hh1]; · iexact Hh1
        iexact Hh2
      isplitl [HW']
      · iexists W'; isplitr; · ipureintro; exact fun _ _ => Or.inl trivial
        iexact HW'
      isplitl [H0]; · iexact H0
      isplitl [H1]; · iexact H1
      isplitl [H2]; · iexact H2
      iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What the two results end at. -/
def ends (c : Dev nD) : (b : Ref sig .tc) → Buf (Elt F) ((c : Thread nD τ).loc b) :=
  Function.update (Function.update (V m c) main_v4_0 (dhAt m c 16)) main_v4_1 (dwAt m c 16)

theorem ends_dh (c : Dev nD) : ends m c main_v4_0 = dhAt m c 16 := by
  unfold ends; rw [Function.update_of_ne (by decide), Function.update_self]
theorem ends_dw (c : Dev nD) : ends m c main_v4_1 = dwAt m c 16 := by
  unfold ends; rw [Function.update_self]

theorem routed_eq (c : Dev nD) (G : (b : Ref sig .tc) → Buf (Elt F) ((c : Thread nD τ).loc b)) :
    (Pipeline.routed R0 c G : sProp 𝕄) = iprop(hbPt c hbM1 (G main_v4_0) ∗ hbPt c hbM2 (G main_v4_1)) := by
  unfold Pipeline.routed; rw [BI.bigSep_eq_bigSepL_of_eq [main_v4_0, main_v4_1] (by decide) (by decide)]; rfl

theorem PhiDRG_eq (c : Dev nD) (G : (c : Dev nD) → (b : Ref sig .tc) → Buf (Elt F) ((c : Thread nD τ).loc b)) :
    (Pipeline.ΦDRG osem0 spec0 H0 R0 (V m) G c : sProp 𝕄)
    = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)
      ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0)
      ∗ hbPt c hbM0 (V m c main_v0) ∗ iprop(hbPt c hbM1 (G c main_v4_0) ∗ hbPt c hbM2 (G c main_v4_1))) := by
  rw [Pipeline.ΦDRG_eq, scopedRest0_eq, ownSems00_eq, hbmPts0_eq, routed_eq]
  simp only [scM0, scM1, scM2, scM3, owns_whole]; try rfl

theorem enter (c : Dev nD) : Pipeline.ΦDRG osem0 spec0 H0 R0 (V m) (V m) c ⊢ (dats m 0 c).Φ 0 := by
  rw [PhiDRG_eq, Phi_eq, show (0 : Fin (cfg0.N + 1)).val = 0 from rfl, scratchAt_first m c 0 rfl, dhAt_of_ne m c 0 (by decide)]
  exact Idealize.SL.BI.Entails.refl _

theorem leave (c : Dev nD) : (dats m 0 c).Φ (Fin.last cfg0.N) ⊢ Pipeline.ΦDRG osem0 spec0 H0 R0 (V m) (ends m) c := by
  have e : (Fin.last cfg0.N).val = 16 := N_0
  rw [PhiDRG_eq, Phi_eq, e, scratchAt_later m c 16 (by decide), ends_dh, ends_dw]
  iintro ⟨⟨HS0, HS1, HS2, HS3⟩, Hg, Hq, Hh⟩
  isplitl [HS0 HS1 HS2 HS3]
  · isplitl [HS0]; · iexists _; iexact HS0
    isplitl [HS1]; · iexists _; iexact HS1
    isplitl [HS2]; · iexact HS2
    iexact HS3
  isplitl [Hg]; · iexact Hg
  isplitl [Hq]; · iexact Hq
  iexact Hh

set_option backward.isDefEq.respectTransparency.types false in
theorem run_main : θ_run defs (onTc (τ := τ) (main (F := F))) (s₀ m ρ)
    (fun r => Pipeline.FramePostRG cfgs (dats m) 0 R0 (V m) (ends m) r ∧ r.2.sem = fun _ => 0) :=
  Pipeline.θ_run_frame_dmaRG_shared (Q' := _) cfgs (dats m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (hmain := hmain m Variants.none) (hA := A_eq m)
    (G := ends m) (hin := enter m) (hout := leave m)

/-- The frame: the arguments end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1.1) (run_main m ρ)))
    ((θ_run defs _ _).mono (fun _ h => h.2) (run_main m ρ))

/-- The run with what it leaves in the two results. -/
theorem results : θ_run defs (onTc (τ := τ) (main (F := F))) ⟨m, fun _ => 0, ρ⟩ (fun r => ∀ c : Dev nD,
      r.2.mem ((c.tc : Thread nD τ).loc main_v4_0) = dhAt m c 16
      ∧ r.2.mem ((c.tc : Thread nD τ).loc main_v4_1) = dwAt m c 16) :=
  (θ_run defs _ _).mono (fun _ h c => ⟨(h.1.2 c main_v4_0 (by decide)).trans (ends_dh m c), (h.1.2 c main_v4_1 (by decide)).trans (ends_dw m c)⟩) (run_main m ρ)

end Cert.KernelUpIdeal.Hand

end
-- ==== Proof.UpSpec.lean ====
/-
  What both programs of the up projection's gradient compute, an entry at a time: the products' cotangents of the 8192
  channels (the gate's 4096 and then the value's), the hidden rows' gradient and the up projection's.
-/
module

public import proofs.«01_k».proof.Proof.Scalar

@[expose] public section

noncomputable section

namespace Cert.Maths

/-- The arguments: the hidden rows, the up projection, the cotangents of the gate's and of the value's products. -/
structure UpArgs where
  h : Fin 2048 → Fin 1024 → EReal
  w : Fin 1024 → Fin 8192 → EReal
  ug : Fin 2048 → Fin 4096 → EReal
  uv : Fin 2048 → Fin 4096 → EReal

/-- The column an entry of a slot is: eight slots of 1024 columns. -/
def slotCol (s : Fin 8) (j : Fin 1024) : Fin 8192 := ⟨1024 * s.val + j.val, by omega⟩

namespace UpArgs
variable (A : UpArgs)

/-- The cotangent of a product, the gate's channels first. -/
def du (n : Fin 2048) (c : Fin 8192) : EReal :=
  if h : c.val < 4096 then A.ug n ⟨c.val, h⟩ else A.uv n ⟨c.val - 4096, by omega⟩
/-- The hidden rows' gradient. -/
def dH (n : Fin 2048) (k : Fin 1024) : EReal := ∑ c : Fin 8192, A.du n c * A.w k c
/-- The up projection's gradient. -/
def dUp (k : Fin 1024) (c : Fin 8192) : EReal := ∑ n : Fin 2048, A.du n c * A.h n k

theorem du_gate (n : Fin 2048) (e : Fin 4096) : A.du n ⟨e.val, by omega⟩ = A.ug n e := dif_pos e.isLt
theorem du_value (n : Fin 2048) (e : Fin 4096) : A.du n ⟨4096 + e.val, by omega⟩ = A.uv n e := by
  unfold du
  rw [dif_neg (by simp)]
  exact congrArg (A.uv n) (Fin.ext (by simp))

end UpArgs

end Cert.Maths

end
-- ==== Proof.UpArr.lean ====
/-
  What the up projection's gradient ends at: the operands' arrays as the host lines before the region leave them, each
  window's block of them, the running sum after each point, the parts of the weights' gradient each point writes, and
  the two results after the last.
-/
module

public import proofs.«01_k».proof.Proof.UpFrame
public import proofs.«01_k».proof.Proof.UpSpec
public import Idealize.ShloMosaic.Lib.StableHlo.Run
public import Idealize.ShloMosaic.Lib.KernelVsHost
public import Idealize.ShloMosaic.Lib.Pointwise.Index
public import Idealize.ShloMosaic.Lib.ViewIndex
public import Idealize.ShloMosaic.Lib.Pipeline.ValueKit
public import Idealize.ShloMosaic.Lib.ValueIdx
public import Idealize.ShloMosaic.Lib.ValueLayout
public import Idealize.ShloMosaic.Lib.MatmulPlain
public import Idealize.ShloMosaic.Lib.Pointwise
public import Idealize.ShloMosaic.Lib.Pointwise.Contract
public import Idealize.ShloMosaic.Lib.Pipeline.Value

@[expose] public section

set_option maxRecDepth 16384

noncomputable section

namespace Cert.KernelUpIdeal.Hand

open Cert.KernelUpIdeal Cert.KernelUpIdeal.Gen Cert.Maths
open Idealize.ShloMosaic Idealize.ShloMosaic.TcCoe Idealize.ShloMosaic.StableHlo Idealize.SL.Sem

variable (m : (ℓ : Loc nD τ sig) → Buf (Elt Ideal) ℓ) (c : Dev nD)

/-- The arguments a device is launched with. -/
def args : UpArgs where
  h n k := (m ((c : Thread nD τ).loc main_arg0) : S2048x1024.Idx → EReal) (ix2 n k)
  w k j := (m ((c : Thread nD τ).loc main_arg1) : S1024x8192.Idx → EReal) (ix2 k j)
  ug n e := (m ((c : Thread nD τ).loc main_arg2) : S2048x4096.Idx → EReal) (ix2 n e)
  uv n e := (m ((c : Thread nD τ).loc main_arg3) : S2048x4096.Idx → EReal) (ix2 n e)

/-! ## The arrays -/

theorem V_v3 : V m c main_v3 = truncf (F := Ideal) .bf16 (transpose S8x1024x1024 [1, 0, 2]
    (shapeCast S1024x8x1024 (m ((c : Thread nD τ).loc main_arg1) : FVec Ideal S1024x8192 .f32) shapeCasts_S1024x8192_S1024x8x1024)
    transposes_S1024x8x1024_S8x1024x1024_1_0_2) bitsLt_bf16_f32 := by
  show StableHlo.after hostOps0 _ (Proc.devRef .tc main_v3) = _
  after_results
  rfl
theorem V_v0 : V m c main_v0 = truncf (F := Ideal) .bf16 (m ((c : Thread nD τ).loc main_arg0) : FVec Ideal S2048x1024 .f32) bitsLt_bf16_f32 := by
  show StableHlo.after hostOps0 _ (Proc.devRef .tc main_v0) = _
  after_results

theorem truncf_id {s : Shape} (x : FVec Ideal s .f32) (h) (i : s.Idx) : truncf (F := Ideal) .bf16 x h i = x i := rfl

theorem v3_at (s : Fin 8) (k j : Fin 1024) :
    (V m c main_v3 : S8x1024x1024.Idx → EReal) (ix3 s k j) = (args m c).w k ⟨1024 * s.val + j.val, by omega⟩ := by
  rw [V_v3, truncf_id, transpose_apply [1, 0, 2] _ transposes_S1024x8x1024_S8x1024x1024_1_0_2 (ix3 s k j) (ix3 k s j)
    (fun a => match a with | ⟨0, _⟩ => rfl | ⟨1, _⟩ => rfl | ⟨2, _⟩ => rfl)]
  refine shapeCast_apply (s := S1024x8192) (t := S1024x8x1024) _ _ (ix3 k s j) (ix2 k ⟨1024 * s.val + j.val, by omega⟩) ?_
  rw [Shape.rowMajor_val_two, Shape.rowMajor_val_three]
  show k.val * 8192 + (1024 * s.val + j.val) = (k.val * 8 + s.val) * 1024 + j.val
  omega
theorem xh_at (n : Fin 2048) (k : Fin 1024) : (xh m c : S2048x1024.Idx → EReal) (ix2 n k) = (args m c).h n k := by
  show (V m c main_v0 : S2048x1024.Idx → EReal) (ix2 n k) = _
  rw [V_v0]; rfl

/-! ## The windows' blocks -/

theorem lt16 (t : Fin cfg0.N) : t.val < 16 := t.isLt

theorem idx3 : ∀ t : Fin cfg0.N, win0_0.index t = ![t.val / 4, 0, t.val % 4] ∧ win0_1.index t = ![4 + t.val / 4, 0, t.val % 4] :=
  (by decide +kernel : ∀ t : Fin grid0.N, _)
theorem idx2 : ∀ t : Fin cfg0.N, win0_2.index t = ![0, t.val] ∧ win0_3.index t = ![0, t.val] :=
  (by decide +kernel : ∀ t : Fin grid0.N, _)

/-- The channel a tile's column is. -/
def at16 (t : Fin cfg0.N) (j : Fin 256) : Fin 4096 := ⟨256 * t.val + j.val, by have := lt16 t; omega⟩

theorem blk0 (t : Fin cfg0.N) (k : Fin 1024) (j : Fin 256) :
    (iblk m c 0 t : S1x1024x256.Idx → EReal) (ix3 0 k j) = (args m c).w k ⟨256 * t.val + j.val, by have := lt16 t; omega⟩ := by
  have ht := lt16 t
  refine Eq.trans ?_ ((v3_at m c ⟨t.val / 4, by omega⟩ k ⟨256 * (t.val % 4) + j.val, by omega⟩).trans ?_)
  · blk_ext [iblk, (idx3 t).1]
  · congr 1; apply Fin.ext; show 1024 * (t.val / 4) + (256 * (t.val % 4) + j.val) = 256 * t.val + j.val; omega
theorem blk1 (t : Fin cfg0.N) (k : Fin 1024) (j : Fin 256) :
    (iblk m c 1 t : S1x1024x256.Idx → EReal) (ix3 0 k j) = (args m c).w k ⟨4096 + (256 * t.val + j.val), by have := lt16 t; omega⟩ := by
  have ht := lt16 t
  refine Eq.trans ?_ ((v3_at m c ⟨4 + t.val / 4, by omega⟩ k ⟨256 * (t.val % 4) + j.val, by omega⟩).trans ?_)
  · blk_ext [iblk, (idx3 t).2]
  · congr 1; apply Fin.ext; show 1024 * (4 + t.val / 4) + (256 * (t.val % 4) + j.val) = 4096 + (256 * t.val + j.val); omega
theorem blk2 (t : Fin cfg0.N) (n : Fin 2048) (j : Fin 256) :
    (iblk m c 2 t : S2048x256.Idx → EReal) (ix2 n j) = (args m c).ug n (at16 t j) := by
  have ht := lt16 t
  show _ = (m ((c : Thread nD τ).loc main_arg2) : S2048x4096.Idx → EReal) _
  rw [← V_main_arg2 m c]
  unfold at16
  blk_ext [iblk, (idx2 t).1]
theorem blk3 (t : Fin cfg0.N) (n : Fin 2048) (j : Fin 256) :
    (iblk m c 3 t : S2048x256.Idx → EReal) (ix2 n j) = (args m c).uv n (at16 t j) := by
  have ht := lt16 t
  show _ = (m ((c : Thread nD τ).loc main_arg3) : S2048x4096.Idx → EReal) _
  rw [← V_main_arg3 m c]
  unfold at16
  blk_ext [iblk, (idx2 t).2]

/-! ## The stored values -/

section values
variable (x : Vec Ideal S2048x1024 .bf16) (g v : Vec Ideal S2048x256 .bf16) (acc : Vec Ideal S2048x1024 .f32) (wg wv : Vec Ideal S1x1024x256 .bf16)

theorem pay2_apply (n : Fin 2048) (k : Fin 1024) : k0_pay2 (F := Ideal) (ix2 n k) = 0 := Ideal.ofBits_zero_f32

theorem pay3_apply (k : Fin 1024) (j : Fin 256) : k0_pay3 x g (ix2 k j) = ∑ n : Fin 2048, x (ix2 n k) * g (ix2 n j) := by
  unfold k0_pay3
  rw [shapeCast_self, truncf_id]
  refine (Ideal.matmul_apply₁_of dot_S2048x1024_S2048x256_S1024x256_0_0_1_1_n_n (a := 0) rfl (K := 2048) rfl _ _ _ _
    (fun n => ix2 n k) (fun n => ix2 n j) (fun n => by simp only [pointwise]) (fun n => by simp only [pointwise])).trans ?_
  exact (congrArg (· + _) Ideal.ofBits_zero_f32).trans (zero_add _)
theorem pay4_apply (k : Fin 1024) (j : Fin 256) : k0_pay4 x v (ix2 k j) = ∑ n : Fin 2048, x (ix2 n k) * v (ix2 n j) :=
  pay3_apply x v k j

/-- A tile's two blocks side by side, their two weights' blocks side by side. -/
theorem pair_left (n : Fin 2048) (q : Fin 256) :
    concatenate S2048x512 1 [⟨S2048x256, g⟩, ⟨S2048x256, v⟩] concatenates_S2048x256_S2048x256_S2048x512_d1 (ix2 n (Fin.castAdd 256 q)) = g (ix2 n q) :=
  concatenate_pair_apply_left (t := S2048x512) (s₁ := S2048x256) (s₂ := S2048x256) 1 _ _ _ _ rfl (ix2 n q)
    fun a => match a with | ⟨0, _⟩ => rfl | ⟨1, _⟩ => rfl
theorem pair_right (n : Fin 2048) (q : Fin 256) :
    concatenate S2048x512 1 [⟨S2048x256, g⟩, ⟨S2048x256, v⟩] concatenates_S2048x256_S2048x256_S2048x512_d1 (ix2 n (Fin.natAdd 256 q)) = v (ix2 n q) :=
  concatenate_pair_apply_right (t := S2048x512) (s₁ := S2048x256) (s₂ := S2048x256) 1 _ _ _ _ rfl rfl (ix2 n q)
    (fun a ha => match a, ha with | ⟨0, _⟩, _ => rfl | ⟨1, _⟩, ha => absurd rfl ha) (Nat.add_comm _ _)
theorem weights_left (k : Fin 1024) (q : Fin 256) :
    concatenate S1024x512 1 [⟨S1024x256, shapeCast S1024x256 wg shapeCasts_S1x1024x256_S1024x256⟩, ⟨S1024x256, shapeCast S1024x256 wv shapeCasts_S1x1024x256_S1024x256⟩]
      concatenates_S1024x256_S1024x256_S1024x512_d1 (ix2 k (Fin.castAdd 256 q)) = wg (ix3 0 k q) :=
  (concatenate_pair_apply_left (t := S1024x512) (s₁ := S1024x256) (s₂ := S1024x256) 1 _ _ _ _ rfl (ix2 k q)
    fun a => match a with | ⟨0, _⟩ => rfl | ⟨1, _⟩ => rfl).trans (ValueIdx.shapeCast_1ab_ab_apply wg shapeCasts_S1x1024x256_S1024x256 k q)
theorem weights_right (k : Fin 1024) (q : Fin 256) :
    concatenate S1024x512 1 [⟨S1024x256, shapeCast S1024x256 wg shapeCasts_S1x1024x256_S1024x256⟩, ⟨S1024x256, shapeCast S1024x256 wv shapeCasts_S1x1024x256_S1024x256⟩]
      concatenates_S1024x256_S1024x256_S1024x512_d1 (ix2 k (Fin.natAdd 256 q)) = wv (ix3 0 k q) :=
  (concatenate_pair_apply_right (t := S1024x512) (s₁ := S1024x256) (s₂ := S1024x256) 1 _ _ _ _ rfl rfl (ix2 k q)
    (fun a ha => match a, ha with | ⟨0, _⟩, _ => rfl | ⟨1, _⟩, ha => absurd rfl ha) (Nat.add_comm _ _)).trans (ValueIdx.shapeCast_1ab_ab_apply wv shapeCasts_S1x1024x256_S1024x256 k q)

theorem pay1_apply (n : Fin 2048) (k : Fin 1024) : k0_pay1 g v acc wg wv (ix2 n k)
    = acc (ix2 n k) + (∑ q : Fin 256, g (ix2 n q) * wg (ix3 0 k q) + ∑ q : Fin 256, v (ix2 n q) * wv (ix3 0 k q)) := by
  unfold k0_pay1
  rw [shapeCast_self]
  refine congrArg (acc (ix2 n k) + ·) ?_
  refine (Ideal.matmul_transposedRhs_apply (M := 2048) (K := 512) (N := 1024) none _ _ _ n k).trans ?_
  refine (congrArg (· + _) Ideal.ofBits_zero_f32).trans ((zero_add _).trans ?_)
  refine (Fin.sum_univ_add (a := 256) (b := 256) _).trans (congrArg₂ (· + ·) (Finset.sum_congr rfl fun q _ => ?_) (Finset.sum_congr rfl fun q _ => ?_))
  · exact congrArg₂ (· * ·) (pair_left g v n q) (weights_left wg wv k q)
  · exact congrArg₂ (· * ·) (pair_right g v n q) (weights_right wg wv k q)
end values

/-! ## The running sum -/

/-- A channel's share of an entry of the hidden rows' gradient; no channel past the last has one. -/
def share (n : Fin 2048) (k : Fin 1024) (e : ℕ) : EReal := if h : e < 8192 then (args m c).du n ⟨e, h⟩ * (args m c).w k ⟨e, h⟩ else 0

theorem sum_at (n : Fin 2048) (k : Fin 1024) : ∀ p : ℕ, p ≤ 16 → (sumAt m c p : S2048x1024.Idx → EReal) (ix2 n k)
    = ∑ r ∈ Finset.range p, ∑ q ∈ Finset.range 256, share m c n k (256 * r + q)
      + ∑ r ∈ Finset.range p, ∑ q ∈ Finset.range 256, share m c n k (4096 + (256 * r + q))
  | 0, _ => by
    rw [Finset.sum_range_zero, Finset.sum_range_zero, zero_add]
    exact pay2_apply n k
  | p + 1, hp => by
    have ht : p < cfg0.N := by show p < 16; omega
    refine (congrFun (sumAt_succ m c ⟨p, ht⟩) (ix2 n k)).trans ?_
    rw [pay1_apply, sum_at n k p (by omega), Finset.sum_range_succ (fun r => ∑ q ∈ Finset.range 256, share m c n k (256 * r + q)) p,
      Finset.sum_range_succ (fun r => ∑ q ∈ Finset.range 256, share m c n k (4096 + (256 * r + q))) p, add_add_add_comm]
    have eg : ∑ q : Fin 256, (show EReal from iblk m c 2 ⟨p, ht⟩ (ix2 n q)) * (show EReal from iblk m c 0 ⟨p, ht⟩ (ix3 0 k q))
        = ∑ q ∈ Finset.range 256, share m c n k (256 * p + q) := by
      rw [Finset.sum_range]
      refine Finset.sum_congr rfl fun q _ => ?_
      refine (congrArg₂ (fun a b : EReal => a * b) (blk2 m c ⟨p, ht⟩ n q) (blk0 m c ⟨p, ht⟩ k q)).trans ?_
      unfold share
      rw [dif_pos (show 256 * p + q.val < 8192 by omega)]
      exact congrArg (fun a : EReal => a * _) ((args m c).du_gate n (at16 ⟨p, ht⟩ q)).symm
    have ev : ∑ q : Fin 256, (show EReal from iblk m c 3 ⟨p, ht⟩ (ix2 n q)) * (show EReal from iblk m c 1 ⟨p, ht⟩ (ix3 0 k q))
        = ∑ q ∈ Finset.range 256, share m c n k (4096 + (256 * p + q)) := by
      rw [Finset.sum_range]
      refine Finset.sum_congr rfl fun q _ => ?_
      refine (congrArg₂ (fun a b : EReal => a * b) (blk3 m c ⟨p, ht⟩ n q) (blk1 m c ⟨p, ht⟩ k q)).trans ?_
      unfold share
      rw [dif_pos (show 4096 + (256 * p + q.val) < 8192 by omega)]
      exact congrArg (fun a : EReal => a * _) ((args m c).du_value n (at16 ⟨p, ht⟩ q)).symm
    exact congrArg₂ (· + ·) (congrArg (_ + ·) eg) (congrArg (_ + ·) ev)

theorem sum_last (n : Fin 2048) (k : Fin 1024) : (sumAt m c 16 : S2048x1024.Idx → EReal) (ix2 n k) = (args m c).dH n k := by
  rw [sum_at m c n k 16 le_rfl, sum_runs, sum_runs (fun e => share m c n k (4096 + e)), ← Finset.sum_range_add, Finset.sum_range]
  exact Finset.sum_congr rfl fun e _ => dif_pos e.isLt

/-! ## The parts a point writes -/

theorem off_gate : ∀ t : Fin cfg0.N, k0_off1 (grid0.coords t) = ![t.val / 4, 0, 256 * (t.val % 4)] := (by decide +kernel : ∀ t : Fin grid0.N, _)
theorem off_value : ∀ t : Fin cfg0.N, k0_off2 (grid0.coords t) = ![4 + t.val / 4, 0, 256 * (t.val % 4)] := (by decide +kernel : ∀ t : Fin grid0.N, _)

/-- Where a part's entry lies in the whole. -/
theorem part_at (off : Fin 3 → ℕ) (inb : ∀ a, off a + S1x1024x256.size a ≤ S8x1024x1024.size a) (hq : (Rect.unit (s := S8x1024x1024) off S1x1024x256.size inb).shape.Squeezes S1024x256)
    (k : Fin 1024) (j : Fin 256) (y : S8x1024x1024.Idx) (h0 : (y 0).val = off 0) (h1 : (y 1).val = off 1 + k.val) (h2 : (y 2).val = off 2 + j.val) :
    (((Memref.whole main_v4_1).slice (Rect.unit (s := S8x1024x1024) off S1x1024x256.size inb) (fun _ => rfl)).squeeze S1024x256 hq).view.emb (ix2 k j) = y := by
  have e : Shape.reshapeEquiv hq.numel_eq (ix2 k j) = (ix3 0 k j : S1x1024x256.Idx) :=
    ValueIdx.shapeCast_1ab_ab_apply (fun z : S1x1024x256.Idx => z) shapeCasts_S1x1024x256_S1024x256 k j
  show (Rect.unit (s := S8x1024x1024) off S1x1024x256.size inb).emb (Shape.reshapeEquiv hq.numel_eq (ix2 k j)) = y
  rw [e]
  refine funext fun a => Fin.ext ?_
  match a with
  | ⟨0, _⟩ => show off 0 + 1 * 0 = (y 0).val; omega
  | ⟨1, _⟩ => show off 1 + 1 * k.val = (y 1).val; omega
  | ⟨2, _⟩ => show off 2 + 1 * j.val = (y 2).val; omega

theorem gate_at (t : Fin cfg0.N) (s : Fin 8) (k j : Fin 1024) (q : Fin 256) (h0 : s.val = t.val / 4) (h2 : j.val = 256 * (t.val % 4) + q.val) :
    (gateWin (grid0.coords t)).view.emb (ix2 k q) = (ix3 s k j : S8x1024x1024.Idx) :=
  part_at _ _ _ k q _ (by rw [off_gate]; exact h0) (by rw [off_gate]; exact (Nat.zero_add _).symm) (by rw [off_gate]; exact h2)
theorem value_at (t : Fin cfg0.N) (s : Fin 8) (k j : Fin 1024) (q : Fin 256) (h0 : s.val = 4 + t.val / 4) (h2 : j.val = 256 * (t.val % 4) + q.val) :
    (valueWin (grid0.coords t)).view.emb (ix2 k q) = (ix3 s k j : S8x1024x1024.Idx) :=
  part_at _ _ _ k q _ (by rw [off_value]; exact h0) (by rw [off_value]; exact (Nat.zero_add _).symm) (by rw [off_value]; exact h2)

/-- What lies in a part: its slot's, its 256 columns'. -/
theorem gate_only (t : Fin cfg0.N) (s : Fin 8) (k j : Fin 1024) (h : (ix3 s k j : S8x1024x1024.Idx) ∈ (gateWin (grid0.coords t)).view.setOn Finset.univ) :
    s.val = t.val / 4 ∧ j.val / 256 = t.val % 4 := by
  have ht := lt16 t
  obtain ⟨x, -, e⟩ := Finset.mem_map.mp h
  have ex : x = ix2 (x 0) (x 1) := funext fun a => match a with | ⟨0, _⟩ => rfl | ⟨1, _⟩ => rfl
  have hx : (x 1).val < 256 := (x 1).isLt
  rw [ex] at e
  have e' := e.symm.trans (gate_at t ⟨t.val / 4, by omega⟩ (x 0) ⟨256 * (t.val % 4) + (x 1).val, by omega⟩ (x 1) rfl rfl)
  have e0 : s.val = t.val / 4 := congrArg Fin.val (congrFun e' 0)
  have e2 : j.val = 256 * (t.val % 4) + (x 1).val := congrArg Fin.val (congrFun e' 2)
  omega
theorem value_only (t : Fin cfg0.N) (s : Fin 8) (k j : Fin 1024) (h : (ix3 s k j : S8x1024x1024.Idx) ∈ (valueWin (grid0.coords t)).view.setOn Finset.univ) :
    s.val = 4 + t.val / 4 ∧ j.val / 256 = t.val % 4 := by
  have ht := lt16 t
  obtain ⟨x, -, e⟩ := Finset.mem_map.mp h
  have ex : x = ix2 (x 0) (x 1) := funext fun a => match a with | ⟨0, _⟩ => rfl | ⟨1, _⟩ => rfl
  have hx : (x 1).val < 256 := (x 1).isLt
  rw [ex] at e
  have e' := e.symm.trans (value_at t ⟨4 + t.val / 4, by omega⟩ (x 0) ⟨256 * (t.val % 4) + (x 1).val, by omega⟩ (x 1) rfl rfl)
  have e0 : s.val = 4 + t.val / 4 := congrArg Fin.val (congrFun e' 0)
  have e2 : j.val = 256 * (t.val % 4) + (x 1).val := congrArg Fin.val (congrFun e' 2)
  omega

/-- After a point's two parts are written: the entries of the gate's part, of the value's part, and the others. -/
theorem put_gate (t : Fin cfg0.N) (f : HbBuf (F := Ideal) c hbM2) (g v : Vec Ideal S1024x256 .bf16) (s : Fin 8) (k j : Fin 1024) (q : Fin 256)
    (h0 : s.val = t.val / 4) (h2 : j.val = 256 * (t.val % 4) + q.val) :
    (put c (grid0.coords t) f g v : S8x1024x1024.Idx → EReal) (ix3 s k j) = g (ix2 k q) := by
  have ht := lt16 t
  refine (View.write_of_not_mem (v := (valueWin (grid0.coords t)).view) _ _ _ fun hm => ?_).trans ?_
  · have := (value_only t s k j hm).1; omega
  · exact (congrArg _ (gate_at t s k j q h0 h2).symm).trans (View.write_emb_of_mem (v := (gateWin (grid0.coords t)).view) f g (Finset.mem_univ _))
theorem put_value (t : Fin cfg0.N) (f : HbBuf (F := Ideal) c hbM2) (g v : Vec Ideal S1024x256 .bf16) (s : Fin 8) (k j : Fin 1024) (q : Fin 256)
    (h0 : s.val = 4 + t.val / 4) (h2 : j.val = 256 * (t.val % 4) + q.val) :
    (put c (grid0.coords t) f g v : S8x1024x1024.Idx → EReal) (ix3 s k j) = v (ix2 k q) :=
  (congrArg _ (value_at t s k j q h0 h2).symm).trans (View.write_emb_of_mem (v := (valueWin (grid0.coords t)).view) _ v (Finset.mem_univ _))
theorem put_other (t : Fin cfg0.N) (f : HbBuf (F := Ideal) c hbM2) (g v : Vec Ideal S1024x256 .bf16) (s : Fin 8) (k j : Fin 1024)
    (h : 4 * (s.val % 4) + j.val / 256 ≠ t.val) :
    (put c (grid0.coords t) f g v : S8x1024x1024.Idx → EReal) (ix3 s k j) = (f : S8x1024x1024.Idx → EReal) (ix3 s k j) := by
  have ht := lt16 t
  refine (View.write_of_not_mem (v := (valueWin (grid0.coords t)).view) _ _ _ fun hm => ?_).trans
    (View.write_of_not_mem (v := (gateWin (grid0.coords t)).view) _ _ _ fun hm => ?_)
  · have := value_only t s k j hm; omega
  · have := gate_only t s k j hm; omega

/-! ## The weights' gradient -/

/-- After `p` points the entries of their columns are done. -/
theorem dw_at (s : Fin 8) (k j : Fin 1024) : ∀ p : ℕ, p ≤ 16 → 4 * (s.val % 4) + j.val / 256 < p →
    (dwAt m c p : S8x1024x1024.Idx → EReal) (ix3 s k j) = (args m c).dUp k (slotCol s j)
  | 0, _, h => absurd h (Nat.not_lt_zero _)
  | p + 1, hp, h => by
    have ht : p < cfg0.N := by show p < 16; omega
    refine (congrFun (dwAt_succ m c ⟨p, ht⟩) (ix3 s k j)).trans ?_
    by_cases hlt : 4 * (s.val % 4) + j.val / 256 < p
    · rw [put_other c ⟨p, ht⟩ _ _ _ s k j (by show _ ≠ p; omega)]
      exact dw_at s k j p (by omega) hlt
    · have hq : j.val % 256 < 256 := Nat.mod_lt _ (by decide)
      have h2 : j.val = 256 * (p % 4) + j.val % 256 := by omega
      unfold UpArgs.dUp
      by_cases hs : s.val < 4
      · rw [put_gate c ⟨p, ht⟩ _ _ _ s k j ⟨j.val % 256, hq⟩ (by show s.val = p / 4; omega) h2]
        refine (pay3_apply _ _ k ⟨j.val % 256, hq⟩).trans (Finset.sum_congr rfl fun n _ => ?_)
        rw [xh_at, blk2, mul_comm]
        have e : slotCol s j = ⟨(at16 ⟨p, ht⟩ ⟨j.val % 256, hq⟩).val, by omega⟩ := Fin.ext (by show 1024 * s.val + j.val = 256 * p + j.val % 256; omega)
        rw [e, UpArgs.du_gate]
      · rw [put_value c ⟨p, ht⟩ _ _ _ s k j ⟨j.val % 256, hq⟩ (by show s.val = 4 + p / 4; omega) h2]
        refine (pay4_apply _ _ k ⟨j.val % 256, hq⟩).trans (Finset.sum_congr rfl fun n _ => ?_)
        rw [xh_at, blk3, mul_comm]
        have e : slotCol s j = ⟨4096 + (at16 ⟨p, ht⟩ ⟨j.val % 256, hq⟩).val, by omega⟩ := Fin.ext (by show 1024 * s.val + j.val = 4096 + (256 * p + j.val % 256); omega)
        rw [e, UpArgs.du_value]

/-! ## The run's results -/

def dHArr : S2048x1024.Idx → EReal := fun i => (args m c).dH (i 0) (i 1)
def dUpArr : S8x1024x1024.Idx → EReal := fun i => (args m c).dUp (i 1) (slotCol (i 0) (i 2))

theorem dh_eq : dhAt m c 16 = dHArr m c := by
  rw [dhAt_last m c 16 rfl]
  funext i
  have e : i = ix2 (i 0) (i 1) := funext fun a => match a with | ⟨0, _⟩ => rfl | ⟨1, _⟩ => rfl
  refine Eq.trans ?_ (sum_last m c (i 0) (i 1))
  exact (congrFun (View.read_write_univ (v := hbM1.view) (V m c main_v4_0) (sumAt m c 16)) i).trans (congrArg _ e)
theorem dw_eq : dwAt m c 16 = dUpArr m c := by
  funext i
  have h0 : (i 0).val < 8 := (i 0).isLt
  have h2 : (i 2).val < 1024 := (i 2).isLt
  have e : i = ix3 (i 0) (i 1) (i 2) := funext fun a => match a with | ⟨0, _⟩ => rfl | ⟨1, _⟩ => rfl | ⟨2, _⟩ => rfl
  exact (congrArg _ e).trans (dw_at m c (i 0) (i 1) (i 2) 16 le_rfl (by omega))

theorem results_value (ρ : Dev nD → PrngReg) : θ_run defs (onTc (τ := τ) (main (F := Ideal))) ⟨m, fun _ => 0, ρ⟩ (fun r => ∀ c : Dev nD,
      r.2.mem ((c.tc : Thread nD τ).loc main_v4_0) = dHArr m c
      ∧ r.2.mem ((c.tc : Thread nD τ).loc main_v4_1) = dUpArr m c) :=
  (θ_run defs _ _).mono (fun _ h c => ⟨(h c).1.trans (dh_eq m c), (h c).2.trans (dw_eq m c)⟩) (results m ρ)

end Cert.KernelUpIdeal.Hand

end
-- ==== Proof.RefUp.lean ====
/-
  The reference of the up projection's gradient: its intermediate arrays, an entry at a time, and its run.
-/
module

public import proofs.«01_k».proof.Proof.Gen.ReferenceUpIdeal.Read
public import proofs.«01_k».proof.Proof.UpSpec
public import Idealize.ShloMosaic.Lib.KernelVsHost
public import Idealize.ShloMosaic.Lib.Pointwise.Index

@[expose] public section

set_option maxRecDepth 16384

noncomputable section

namespace Cert.ReferenceUpIdeal.Hand

open Cert.ReferenceUpIdeal Cert.ReferenceUpIdeal.Gen Cert.ReferenceUpIdeal.Read Cert.Maths
open Idealize.ShloMosaic Idealize.ShloMosaic.TcCoe Idealize.SL.Sem

variable (x0 : S2048x1024.Idx → EReal) (x1 : S1024x8192.Idx → EReal) (x2 x3 : S2048x4096.Idx → EReal)

/-- The arguments by coordinates. -/
def argsOf : UpArgs where
  h n k := x0 (ix2 n k)
  w k j := x1 (ix2 k j)
  ug n e := x2 (ix2 n e)
  uv n e := x3 (ix2 n e)

theorem v2_at (n : Fin 2048) (c : Fin 8192) : val_main_v2 (F := Ideal) x2 x3 (ix2 n c) = (argsOf x0 x1 x2 x3).du n c := by
  unfold val_main_v2 UpArgs.du
  by_cases h : c.val < 4096
  · rw [dif_pos h]
    exact concatenate_pair_apply_left (t := S2048x8192) (s₁ := S2048x4096) (s₂ := S2048x4096) 1 _ _ _ (ix2 n c) rfl
      (ix2 n (⟨c.val, h⟩ : Fin 4096)) fun a => match a with | ⟨0, _⟩ => rfl | ⟨1, _⟩ => rfl
  · rw [dif_neg h]
    exact concatenate_pair_apply_right (t := S2048x8192) (s₁ := S2048x4096) (s₂ := S2048x4096) 1 _ _ _ (ix2 n c) rfl rfl
      (ix2 n (⟨c.val - 4096, by omega⟩ : Fin 4096)) (fun a ha => match a, ha with | ⟨0, _⟩, _ => rfl | ⟨1, _⟩, ha => absurd rfl ha)
      (by show c.val - 4096 + 4096 = c.val; omega)

/-! ## The hidden rows' gradient -/

theorem v6_at (n : Fin 2048) (k : Fin 1024) : val_main_v6 (F := Ideal) x1 x2 x3 (ix2 n k) = (argsOf x0 x1 x2 x3).dH n k := by
  have e (c : Fin 8192) : lidx_main_v6 (ix2 n k) c = ix2 n c := funext fun a => match a with | ⟨0, _⟩ => rfl | ⟨1, _⟩ => rfl
  have e' (c : Fin 8192) : ridx_main_v6 (ix2 n k) c = ix2 k c := funext fun a => match a with | ⟨0, _⟩ => rfl | ⟨1, _⟩ => rfl
  rw [val_main_v6_apply]
  simp only [e, e', v2_at x0 x1 x2 x3]
  rfl

/-! ## The up projection's gradient -/

theorem v5_at (k : Fin 1024) (c : Fin 8192) : val_main_v5 (F := Ideal) x0 x2 x3 (ix2 k c) = (argsOf x0 x1 x2 x3).dUp k c := by
  have e (n : Fin 2048) : lidx_main_v4 (ix2 c k) n = ix2 n c := funext fun a => match a with | ⟨0, _⟩ => rfl | ⟨1, _⟩ => rfl
  have e' (n : Fin 2048) : ridx_main_v4 (ix2 c k) n = ix2 n k := funext fun a => match a with | ⟨0, _⟩ => rfl | ⟨1, _⟩ => rfl
  have e'' : idx_main_v5 (ix2 k c) = ix2 c k := funext fun a => match a with | ⟨0, _⟩ => rfl | ⟨1, _⟩ => rfl
  rw [val_main_v5_apply, e'', val_main_v4_apply]
  simp only [e, e', v2_at x0 x1 x2 x3]
  rfl

/-- The eight slots of 1024 columns, each a slice with a unit axis put before it. -/
theorem slot0 (k j : Fin 1024) : val_main_v15 (F := Ideal) x0 x2 x3 (ix3 0 k j) = (argsOf x0 x1 x2 x3).dUp k ⟨1024 * 0 + j.val, by omega⟩ := by
  have e : idx_main_v7 (idx_main_v15 (ix3 0 k j)) = ix2 k (⟨1024 * 0 + j.val, by omega⟩ : Fin 8192) :=
    funext fun a => Fin.ext (match a with | ⟨0, _⟩ => rfl | ⟨1, _⟩ => (by show j.val = 1024 * 0 + j.val; omega))
  rw [val_main_v15_apply, val_main_v7_apply, e]
  exact v5_at x0 x1 x2 x3 k _
theorem slot1 (k j : Fin 1024) : val_main_v16 (F := Ideal) x0 x2 x3 (ix3 0 k j) = (argsOf x0 x1 x2 x3).dUp k ⟨1024 * 1 + j.val, by omega⟩ := by
  have e : idx_main_v8 (idx_main_v16 (ix3 0 k j)) = ix2 k (⟨1024 * 1 + j.val, by omega⟩ : Fin 8192) :=
    funext fun a => Fin.ext (match a with | ⟨0, _⟩ => rfl | ⟨1, _⟩ => (by show 1024 + j.val = 1024 * 1 + j.val; omega))
  rw [val_main_v16_apply, val_main_v8_apply, e]
  exact v5_at x0 x1 x2 x3 k _
theorem slot2 (k j : Fin 1024) : val_main_v17 (F := Ideal) x0 x2 x3 (ix3 0 k j) = (argsOf x0 x1 x2 x3).dUp k ⟨1024 * 2 + j.val, by omega⟩ := by
  have e : idx_main_v9 (idx_main_v17 (ix3 0 k j)) = ix2 k (⟨1024 * 2 + j.val, by omega⟩ : Fin 8192) :=
    funext fun a => Fin.ext (match a with | ⟨0, _⟩ => rfl | ⟨1, _⟩ => (by show 2048 + j.val = 1024 * 2 + j.val; omega))
  rw [val_main_v17_apply, val_main_v9_apply, e]
  exact v5_at x0 x1 x2 x3 k _
theorem slot3 (k j : Fin 1024) : val_main_v18 (F := Ideal) x0 x2 x3 (ix3 0 k j) = (argsOf x0 x1 x2 x3).dUp k ⟨1024 * 3 + j.val, by omega⟩ := by
  have e : idx_main_v10 (idx_main_v18 (ix3 0 k j)) = ix2 k (⟨1024 * 3 + j.val, by omega⟩ : Fin 8192) :=
    funext fun a => Fin.ext (match a with | ⟨0, _⟩ => rfl | ⟨1, _⟩ => (by show 3072 + j.val = 1024 * 3 + j.val; omega))
  rw [val_main_v18_apply, val_main_v10_apply, e]
  exact v5_at x0 x1 x2 x3 k _
theorem slot4 (k j : Fin 1024) : val_main_v19 (F := Ideal) x0 x2 x3 (ix3 0 k j) = (argsOf x0 x1 x2 x3).dUp k ⟨1024 * 4 + j.val, by omega⟩ := by
  have e : idx_main_v11 (idx_main_v19 (ix3 0 k j)) = ix2 k (⟨1024 * 4 + j.val, by omega⟩ : Fin 8192) :=
    funext fun a => Fin.ext (match a with | ⟨0, _⟩ => rfl | ⟨1, _⟩ => (by show 4096 + j.val = 1024 * 4 + j.val; omega))
  rw [val_main_v19_apply, val_main_v11_apply, e]
  exact v5_at x0 x1 x2 x3 k _
theorem slot5 (k j : Fin 1024) : val_main_v20 (F := Ideal) x0 x2 x3 (ix3 0 k j) = (argsOf x0 x1 x2 x3).dUp k ⟨1024 * 5 + j.val, by omega⟩ := by
  have e : idx_main_v12 (idx_main_v20 (ix3 0 k j)) = ix2 k (⟨1024 * 5 + j.val, by omega⟩ : Fin 8192) :=
    funext fun a => Fin.ext (match a with | ⟨0, _⟩ => rfl | ⟨1, _⟩ => (by show 5120 + j.val = 1024 * 5 + j.val; omega))
  rw [val_main_v20_apply, val_main_v12_apply, e]
  exact v5_at x0 x1 x2 x3 k _
theorem slot6 (k j : Fin 1024) : val_main_v21 (F := Ideal) x0 x2 x3 (ix3 0 k j) = (argsOf x0 x1 x2 x3).dUp k ⟨1024 * 6 + j.val, by omega⟩ := by
  have e : idx_main_v13 (idx_main_v21 (ix3 0 k j)) = ix2 k (⟨1024 * 6 + j.val, by omega⟩ : Fin 8192) :=
    funext fun a => Fin.ext (match a with | ⟨0, _⟩ => rfl | ⟨1, _⟩ => (by show 6144 + j.val = 1024 * 6 + j.val; omega))
  rw [val_main_v21_apply, val_main_v13_apply, e]
  exact v5_at x0 x1 x2 x3 k _
theorem slot7 (k j : Fin 1024) : val_main_v22 (F := Ideal) x0 x2 x3 (ix3 0 k j) = (argsOf x0 x1 x2 x3).dUp k ⟨1024 * 7 + j.val, by omega⟩ := by
  have e : idx_main_v14 (idx_main_v22 (ix3 0 k j)) = ix2 k (⟨1024 * 7 + j.val, by omega⟩ : Fin 8192) :=
    funext fun a => Fin.ext (match a with | ⟨0, _⟩ => rfl | ⟨1, _⟩ => (by show 7168 + j.val = 1024 * 7 + j.val; omega))
  rw [val_main_v22_apply, val_main_v14_apply, e]
  exact v5_at x0 x1 x2 x3 k _

theorem v23_at (s : Fin 8) (k j : Fin 1024) :
    val_main_v23 (F := Ideal) x0 x2 x3 (ix3 s k j) = (argsOf x0 x1 x2 x3).dUp k ⟨1024 * s.val + j.val, by omega⟩ := by
  unfold val_main_v23
  have piece (n : Fin 8) (hn : s = n) (x : S1x1024x1024.Idx → EReal) (hx) (hp) :=
    concatenate_apply_piece (t := S8x1024x1024) 0 [⟨S1x1024x1024, val_main_v15 (F := Ideal) x0 x2 x3⟩, ⟨S1x1024x1024, val_main_v16 (F := Ideal) x0 x2 x3⟩, ⟨S1x1024x1024, val_main_v17 (F := Ideal) x0 x2 x3⟩, ⟨S1x1024x1024, val_main_v18 (F := Ideal) x0 x2 x3⟩, ⟨S1x1024x1024, val_main_v19 (F := Ideal) x0 x2 x3⟩, ⟨S1x1024x1024, val_main_v20 (F := Ideal) x0 x2 x3⟩, ⟨S1x1024x1024, val_main_v21 (F := Ideal) x0 x2 x3⟩, ⟨S1x1024x1024, val_main_v22 (F := Ideal) x0 x2 x3⟩]
      concatenates_S1x1024x1024_S1x1024x1024_S1x1024x1024_S1x1024x1024_S1x1024x1024_S1x1024x1024_S1x1024x1024_S1x1024x1024_S8x1024x1024_d0
      (ix3 s k j) n.val n.isLt S1x1024x1024 x hx rfl n.val hp (ix3 0 k j)
      (fun b hb => match b, hb with | ⟨0, _⟩, hb => absurd rfl hb | ⟨1, _⟩, _ => rfl | ⟨2, _⟩, _ => rfl) (by subst hn; rfl)
  match s, piece with
  | ⟨0, _⟩, piece => exact (piece 0 rfl _ rfl rfl).trans (slot0 x0 x1 x2 x3 k j)
  | ⟨1, _⟩, piece => exact (piece 1 rfl _ rfl rfl).trans (slot1 x0 x1 x2 x3 k j)
  | ⟨2, _⟩, piece => exact (piece 2 rfl _ rfl rfl).trans (slot2 x0 x1 x2 x3 k j)
  | ⟨3, _⟩, piece => exact (piece 3 rfl _ rfl rfl).trans (slot3 x0 x1 x2 x3 k j)
  | ⟨4, _⟩, piece => exact (piece 4 rfl _ rfl rfl).trans (slot4 x0 x1 x2 x3 k j)
  | ⟨5, _⟩, piece => exact (piece 5 rfl _ rfl rfl).trans (slot5 x0 x1 x2 x3 k j)
  | ⟨6, _⟩, piece => exact (piece 6 rfl _ rfl rfl).trans (slot6 x0 x1 x2 x3 k j)
  | ⟨7, _⟩, piece => exact (piece 7 rfl _ rfl rfl).trans (slot7 x0 x1 x2 x3 k j)

theorem v24_at (s : Fin 8) (k j : Fin 1024) :
    val_main_v24 (F := Ideal) x0 x2 x3 (ix3 s k j) = (argsOf x0 x1 x2 x3).dUp k ⟨1024 * s.val + j.val, by omega⟩ :=
  v23_at x0 x1 x2 x3 s k j

/-! ## The two results -/

theorem dH_eq : val_main_v6 (F := Ideal) x1 x2 x3 = fun i => (argsOf x0 x1 x2 x3).dH (i 0) (i 1) := by
  funext i
  have e : i = ix2 (i 0) (i 1) := funext fun a => match a with | ⟨0, _⟩ => rfl | ⟨1, _⟩ => rfl
  exact (congrArg _ e).trans (v6_at x0 x1 x2 x3 (i 0) (i 1))

theorem dUp_eq : val_main_v24 (F := Ideal) x0 x2 x3 = fun i => (argsOf x0 x1 x2 x3).dUp (i 1) (slotCol (i 0) (i 2)) := by
  funext i
  have e : i = ix3 (i 0) (i 1) (i 2) := funext fun a => match a with | ⟨0, _⟩ => rfl | ⟨1, _⟩ => rfl | ⟨2, _⟩ => rfl
  exact (congrArg _ e).trans (v24_at x0 x1 x2 x3 (i 0) (i 1) (i 2))

theorem argsOf_congr {x0 y0 : S2048x1024.Idx → EReal} {x1 y1 : S1024x8192.Idx → EReal} {x2 y2 x3 y3 : S2048x4096.Idx → EReal}
    (h0 : x0 = y0) (h1 : x1 = y1) (h2 : x2 = y2) (h3 : x3 = y3) : argsOf x0 x1 x2 x3 = argsOf y0 y1 y2 y3 := by
  subst h0 h1 h2 h3; rfl

/-! ## The run -/

variable (m : (ℓ : Loc nD τ sig) → Buf (Elt Ideal) ℓ) (c : Dev nD)

/-- The arguments a device is launched with. -/
def args : UpArgs :=
  argsOf (m ((c.tc : Thread nD τ).loc main_arg0)) (m ((c.tc : Thread nD τ).loc main_arg1)) (m ((c.tc : Thread nD τ).loc main_arg2))
    (m ((c.tc : Thread nD τ).loc main_arg3))

def dHArr : S2048x1024.Idx → EReal := fun i => (args m c).dH (i 0) (i 1)
def dUpArr : S8x1024x1024.Idx → EReal := fun i => (args m c).dUp (i 1) (slotCol (i 0) (i 2))

/-- What a memory holds of the results and of the arguments. -/
def Ends (r : PUnit × MemSt nD τ sig (Elt Ideal)) : Prop :=
  r.2.mem ((c.tc : Thread nD τ).loc main_v6) = dHArr m c
    ∧ r.2.mem ((c.tc : Thread nD τ).loc main_v24) = dUpArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem run_ends (ρ : Dev nD → PrngReg) :
    θ_run defs (onTc (τ := τ) (main (F := Ideal))) ⟨m, fun _ => 0, ρ⟩ fun r => ∀ c : Dev nD, Ends m c r := by
  refine (θ_run defs _ _).mono (fun r h c => ?_) (Cert.ReferenceUpIdeal.Value.run (F := Ideal) m ρ)
  obtain ⟨h1, h2, ha⟩ := h c
  rw [val_main_v6_eq, dH_eq (m ((c.tc : Thread nD τ).loc main_arg0))] at h1
  rw [val_main_v24_eq, dUp_eq _ (m ((c.tc : Thread nD τ).loc main_arg1))] at h2
  exact ⟨h1, h2, ha⟩

end Cert.ReferenceUpIdeal.Hand

end
-- ==== Proof.InSpec.lean ====
/-
  What both programs of the input projection's gradient compute, an entry at a time: the cotangent of the 2560 projected
  columns — the first 768 arrive as they are, the other 1792 through the token shift, which mixes a share of the row
  before into each row — and from it the hidden rows' gradient, the projection's, and the mix's.
-/
module

public import proofs.«01_k».proof.Proof.Scalar

@[expose] public section

noncomputable section

namespace Cert.Maths

/-- The arguments: the hidden rows, the projection, the mix, the projected rows, the cotangents of the first 768 columns
    and of the 1792 shifted ones. -/
structure InArgs where
  h : Fin 2048 → Fin 1024 → EReal
  w : Fin 1024 → Fin 2560 → EReal
  mix : Fin 1792 → EReal
  p : Fin 2048 → Fin 2560 → EReal
  dq : Fin 2048 → Fin 768 → EReal
  ds : Fin 2048 → Fin 1792 → EReal

/-- The column of the projection a shifted column is. -/
def shiftCol (e : Fin 1792) : Fin 2560 := ⟨768 + e.val, by omega⟩

/-- A column's cotangent `d` taken back through a token shift of mix `a`: each row keeps what it did not give away, and
    receives the share the row after took of it; the last row has none after. -/
def shiftBack (d : Fin 2048 → EReal) (a : EReal) (n : Fin 2048) : EReal :=
  d n - d n * a + col (fun q => d q * a) (n.val + 1)

/-- A mix of zero moves nothing. -/
theorem shiftBack_zero (d : Fin 2048 → EReal) (n : Fin 2048) : shiftBack d 0 n = d n := by
  unfold shiftBack col
  split <;> simp

namespace InArgs
variable (A : InArgs)

/-- A column's cotangent and its mix, the first 768 columns' being zero. -/
def d (j : Fin 2560) (n : Fin 2048) : EReal := if h : j.val < 768 then A.dq n ⟨j.val, h⟩ else A.ds n ⟨j.val - 768, by omega⟩
def mixAt (j : Fin 2560) : EReal := if h : j.val < 768 then 0 else A.mix ⟨j.val - 768, by omega⟩

/-- The cotangent of the projected rows. -/
def dP (n : Fin 2048) (j : Fin 2560) : EReal := shiftBack (A.d j) (A.mixAt j) n
/-- The hidden rows' gradient. -/
def dH (n : Fin 2048) (k : Fin 1024) : EReal := ∑ j : Fin 2560, A.dP n j * A.w k j
/-- The projection's gradient. -/
def dW (k : Fin 1024) (j : Fin 2560) : EReal := ∑ n : Fin 2048, A.h n k * A.dP n j
/-- What the mix of a column weighs at row `n`: the row before's entry less the row's own; the first row has zero before. -/
def diff (j : Fin 2560) (n : Fin 2048) : EReal := down 1 (col fun q => A.p q j) n.val - A.p n j
/-- The mix's gradient. -/
def dMix (e : Fin 1792) : EReal := ∑ n : Fin 2048, A.ds n e * A.diff (shiftCol e) n

theorem d_shift (e : Fin 1792) : A.d (shiftCol e) = fun n => A.ds n e := by
  funext n
  unfold d
  rw [dif_neg (by show ¬(768 + e.val < 768); omega)]
  exact congrArg (A.ds n) (Fin.ext (by show 768 + e.val - 768 = e.val; omega))
theorem mixAt_shift (e : Fin 1792) : A.mixAt (shiftCol e) = A.mix e := by
  unfold mixAt
  rw [dif_neg (by show ¬(768 + e.val < 768); omega)]
  exact congrArg A.mix (Fin.ext (by show 768 + e.val - 768 = e.val; omega))

theorem dP_first (n : Fin 2048) (j : Fin 2560) (h : j.val < 768) : A.dP n j = A.dq n ⟨j.val, h⟩ := by
  have em : A.mixAt j = 0 := by unfold mixAt; rw [dif_pos h]
  unfold dP
  rw [em, shiftBack_zero]
  unfold d
  rw [dif_pos h]
theorem dP_shift (n : Fin 2048) (e : Fin 1792) : A.dP n (shiftCol e) = shiftBack (fun q => A.ds q e) (A.mix e) n := by
  unfold dP
  rw [d_shift, mixAt_shift]

end InArgs

end Cert.Maths

end
-- ==== Proof.InOut.lean ====
/-
  The body of the input projection's gradient at one grid point: what it leaves in its three outputs, an entry at a time,
  over the extended reals.
-/
module

public import proofs.«01_k».proof.Proof.Gen.KernelInIdeal.Frame
public import proofs.«01_k».proof.Proof.FwdOut
public import proofs.«01_k».proof.Proof.InSpec

@[expose] public section

set_option maxRecDepth 16384

noncomputable section

namespace Cert.KernelInIdeal.Hand

open Cert.KernelInIdeal Cert.KernelInIdeal.Gen
open Idealize.ShloMosaic Idealize.SL.Sem

section body
variable {F : FTy → Type} [FloatOps F]

theorem z2 : (![0, 0] : Fin 2 → Nat) = fun _ => 0 := funext fun a => match a with | ⟨0, _⟩ => rfl | ⟨1, _⟩ => rfl

variable (c : Dev nD) (i : grid0.Coords) (arg1 : Memref sig .tc .vmem S2048x1024 .bf16) (harg1 : arg1.IsWhole) (arg2 : Memref sig .tc .vmem S1024x256 .bf16) (harg2 : arg2.IsWhole) (arg3 : Memref sig .tc .vmem S1x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x1024 .f32) (harg7 : arg7.IsWhole) (arg8 : Memref sig .tc .vmem S1024x256 .f32) (harg8 : arg8.IsWhole) (arg9 : Memref sig .tc .vmem S1x256 .f32) (harg9 : arg9.IsWhole)
    (x0 : Vec F S2048x1024 .bf16) (x1 : Vec F S1024x256 .bf16) (x2 : Vec F S1x256 .f32) (x3 : Vec F S2048x256 .f32) (x4 : Vec F S2048x256 .f32) (x5 : Vec F S2048x256 .f32)

/-- The first point starts from zero. -/
theorem out_A_6 (hc0 : cond0_0 i) :
    out0_A_6 c i arg1 harg1 arg2 harg2 arg3 harg3 arg4 harg4 arg5 harg5 arg6 harg6 arg7 harg7 arg8 harg8 arg9 harg9 hc0 x0 x1 x2 x3 x4 x5
      = k0_pay2 (k0_pay5 i x4 x5 x2) (k0_pay1 (F := F)) x1 := by
  unfold out0_A_6 kernelRun0_A
  dsimp only
  sl_unfold_words
  rw [View.read_writes_full, View.readCov_unit_zero (S := S2048x1024) _ z2]
  simp only [View.readAt_eq_ld, harg1.read_unread, harg2.read_unread, harg3.read_unread, harg4.read_unread, harg5.read_unread, harg6.read_unread,
    View.ld_unit_zero (S := S2048x1024) z2, View.ld_unit_zero (S := S2048x256) z2,
    View.ld_unit_zero (S := S1x256) z2, View.ld_unit_zero (S := S1024x256) z2]
/-- A later point adds to what it finds. -/
theorem out_B_6 (hc0 : ¬cond0_0 i) (xo : Vec F S2048x1024 .f32) :
    out0_B_6 c i arg1 harg1 arg2 harg2 arg3 harg3 arg4 harg4 arg5 harg5 arg6 harg6 arg7 harg7 arg8 harg8 arg9 harg9 hc0 x0 x1 x2 x3 x4 x5 xo
      = k0_pay2 (k0_pay5 i x4 x5 x2) xo x1 := by
  unfold out0_B_6 kernelRun0_B
  dsimp only
  sl_unfold_words
  rw [View.read_writes_full]
  simp only [View.readAt_eq_ld, harg1.read_unread, harg2.read_unread, harg3.read_unread, harg4.read_unread, harg5.read_unread, harg6.read_unread, harg7.read_unread,
    View.ld_unit_zero (S := S2048x1024) z2, View.ld_unit_zero (S := S2048x256) z2,
    View.ld_unit_zero (S := S1x256) z2, View.ld_unit_zero (S := S1024x256) z2]
/-- The other two outputs are written anew at each point. -/
theorem out_A_7 (hc0 : cond0_0 i) :
    out0_A_7 c i arg1 harg1 arg2 harg2 arg3 harg3 arg4 harg4 arg5 harg5 arg6 harg6 arg7 harg7 arg8 harg8 arg9 harg9 hc0 x0 x1 x2 x3 x4 x5
      = k0_pay6 i x4 x5 x2 x0 := by
  unfold out0_A_7 kernelRun0_A
  dsimp only
  sl_unfold_words
  rw [View.read_writes_full]
  simp only [View.readAt_eq_ld, harg1.read_unread, harg2.read_unread, harg3.read_unread, harg4.read_unread, harg5.read_unread, harg6.read_unread,
    View.ld_unit_zero (S := S2048x1024) z2, View.ld_unit_zero (S := S2048x256) z2, View.ld_unit_zero (S := S1x256) z2]
theorem out_B_7 (hc0 : ¬cond0_0 i) (xo : Vec F S2048x1024 .f32) :
    out0_B_7 c i arg1 harg1 arg2 harg2 arg3 harg3 arg4 harg4 arg5 harg5 arg6 harg6 arg7 harg7 arg8 harg8 arg9 harg9 hc0 x0 x1 x2 x3 x4 x5 xo
      = k0_pay6 i x4 x5 x2 x0 := by
  unfold out0_B_7 kernelRun0_B
  dsimp only
  sl_unfold_words
  rw [View.read_writes_full]
  simp only [View.readAt_eq_ld, harg1.read_unread, harg2.read_unread, harg3.read_unread, harg4.read_unread, harg5.read_unread, harg6.read_unread,
    View.ld_unit_zero (S := S2048x1024) z2, View.ld_unit_zero (S := S2048x256) z2, View.ld_unit_zero (S := S1x256) z2]
theorem out_A_8 (hc0 : cond0_0 i) :
    out0_A_8 c i arg1 harg1 arg2 harg2 arg3 harg3 arg4 harg4 arg5 harg5 arg6 harg6 arg7 harg7 arg8 harg8 arg9 harg9 hc0 x0 x1 x2 x3 x4 x5
      = k0_pay4 i x4 x5 x3 := by
  unfold out0_A_8 kernelRun0_A
  dsimp only
  sl_unfold_words
  rw [View.read_writes_full]
  simp only [View.readAt_eq_ld, harg4.read_unread, harg5.read_unread, harg6.read_unread, View.ld_unit_zero (S := S2048x256) z2]
theorem out_B_8 (hc0 : ¬cond0_0 i) (xo : Vec F S2048x1024 .f32) :
    out0_B_8 c i arg1 harg1 arg2 harg2 arg3 harg3 arg4 harg4 arg5 harg5 arg6 harg6 arg7 harg7 arg8 harg8 arg9 harg9 hc0 x0 x1 x2 x3 x4 x5 xo
      = k0_pay4 i x4 x5 x3 := by
  unfold out0_B_8 kernelRun0_B
  dsimp only
  sl_unfold_words
  rw [View.read_writes_full]
  simp only [View.readAt_eq_ld, harg4.read_unread, harg5.read_unread, harg6.read_unread, View.ld_unit_zero (S := S2048x256) z2]

end body

/-! ## Over the extended reals -/

open Cert.Maths

/-- The cotangents a point takes: the first three points those of the first 768 columns. -/
def pick (i : grid0.Coords) (x4 x5 : Vec Ideal S2048x256 .f32) : Vec Ideal S2048x256 .f32 := if (i 0).val < 3 then x4 else x5

theorem pay3_eq (i : grid0.Coords) (x4 x5 : Vec Ideal S2048x256 .f32) : k0_pay3 i x4 x5 = pick i x4 x5 := by
  have hi : (i 0).val < 10 := (i 0).isLt
  have e : Scalar.cmpi .slt (BitVec.ofNat 32 (i 0).val) 3#32 = 1 ↔ (i 0).val < 3 :=
    WordCmp.cmpi_slt_ofNat_eq_one_iff (by show (i 0).val < 2 ^ 31; omega) (by decide)
  unfold k0_pay3 pick
  dsimp only
  show (if _ then _ else _) = _
  by_cases h : (i 0).val < 3
  · rw [if_pos h]; exact if_pos (e.mpr h)
  · rw [if_neg h]; exact if_neg (fun g => h (e.mp g))

/-- The rows rotated by one less than their number and the last masked are the column moved up by one. -/
theorem up_apply (x : FVec Ideal S2048x256 .f32) (h) (hi) (n : Fin 2048) (j : Fin 256) :
    select (cmpi .slt (iota .tc S2048x256 32 [0] hi) (broadcast S2048x256 2047#32))
      (dynamicRotate 0 2047#32 none x h) (broadcast S2048x256 (Scalar.ofBits (F := Ideal) .f32 0x00000000#32)) (ix2 n j)
      = col (fun n => x (ix2 n j)) (n.val + 1) := by
  have e : cmpi .slt (iota .tc S2048x256 32 [0] hi) (broadcast S2048x256 2047#32) (ix2 n j) = 1 ↔ n.val < 2047 := by
    show IntOp.cmpi .slt (BitVec.ofNat 32 (0 * 2048 + n.val)) (BitVec.ofNat 32 2047) = 1 ↔ _
    rw [Nat.zero_mul, Nat.zero_add]
    exact WordCmp.cmpi_slt_ofNat_eq_one_iff (by show n.val < 2 ^ 31; omega) (by decide)
  unfold col
  show (if _ then _ else _) = _
  by_cases hn : n.val < 2047
  · rw [if_pos (e.mpr hn), dif_pos (by omega)]
    refine dynamicRotate_apply 0 2047#32 x h _ _ fun b => ?_
    match b with
    | ⟨0, _⟩ =>
      show n.val + 1 = (n.val + 2048 - 2047 % 2048) % 2048
      omega
    | ⟨1, _⟩ => rfl
  · rw [if_neg (fun g => hn (e.mp g)), dif_neg (by omega)]
    exact Ideal.ofBits_zero_f32

theorem row_apply (x : FVec Ideal S1x256 .f32) (h) (n : Fin 2048) (j : Fin 256) :
    broadcastTo S2048x256 x h (ix2 n j) = x (ix2 0 j) := by
  refine broadcastTo_apply x h _ _ fun a => ?_
  match a with
  | ⟨0, _⟩ => rfl
  | ⟨1, _⟩ => rfl

theorem truncf_id {s : Shape} (x : FVec Ideal s .f32) (h) (i : s.Idx) : truncf (F := Ideal) .bf16 x h i = x i := rfl

section values
variable (i : grid0.Coords) (x0 : Vec Ideal S2048x1024 .bf16) (x1 : Vec Ideal S1024x256 .bf16) (x2 : Vec Ideal S1x256 .f32)
  (x3 x4 x5 : Vec Ideal S2048x256 .f32) (xo : Vec Ideal S2048x1024 .f32)

/-- The projected columns' cotangent. -/
theorem pay5_apply (n : Fin 2048) (j : Fin 256) :
    k0_pay5 i x4 x5 x2 (ix2 n j) = shiftBack (fun q => pick i x4 x5 (ix2 q j)) (x2 (ix2 0 j)) n := by
  unfold k0_pay5
  rw [pay3_eq, shapeCast_self]
  dsimp only
  rw [truncf_id]
  have eu := up_apply (mulf (pick i x4 x5) (broadcastTo S2048x256 x2 broadcasts_S1x256_S2048x256)) rotates_S2048x256_d0 iota_S2048x256_d0_w32 n j
  have er (q : Fin 2048) : (mulf (F := Ideal) (φ := .f32) (pick i x4 x5) (broadcastTo S2048x256 x2 broadcasts_S1x256_S2048x256) (ix2 q j) : EReal) = pick i x4 x5 (ix2 q j) * x2 (ix2 0 j) :=
    congrArg (pick i x4 x5 (ix2 q j) * ·) (row_apply x2 broadcasts_S1x256_S2048x256 q j)
  unfold shiftBack
  refine congrArg₂ (· + ·) (congrArg (pick i x4 x5 (ix2 n j) - ·) (er n)) (eu.trans ?_)
  exact congrArg (fun f => col f (n.val + 1)) (funext er)

theorem pay1_apply (n : Fin 2048) (k : Fin 1024) : k0_pay1 (F := Ideal) (ix2 n k) = 0 := Ideal.ofBits_zero_f32

theorem pay2_apply (v : FVec Ideal S2048x256 .bf16) (n : Fin 2048) (k : Fin 1024) :
    k0_pay2 v xo x1 (ix2 n k) = xo (ix2 n k) + ∑ q : Fin 256, v (ix2 n q) * x1 (ix2 k q) := by
  unfold k0_pay2
  rw [shapeCast_self, shapeCast_self]
  refine congrArg (xo (ix2 n k) + ·) ?_
  refine (Ideal.matmul_transposedRhs_apply (M := 2048) (K := 256) (N := 1024) none _ _ _ n k).trans ?_
  exact (congrArg (· + _) Ideal.ofBits_zero_f32).trans (zero_add _)

theorem pay6_apply (k : Fin 1024) (j : Fin 256) :
    k0_pay6 i x4 x5 x2 x0 (ix2 k j) = ∑ n : Fin 2048, x0 (ix2 n k) * k0_pay5 i x4 x5 x2 (ix2 n j) := by
  unfold k0_pay6
  rw [shapeCast_self]
  refine (Ideal.matmul_apply₁_of dot_S2048x1024_S2048x256_S1024x256_0_0_1_1_n_n (a := 0) rfl (K := 2048) rfl _ _ _ _
    (fun n => ix2 n k) (fun n => ix2 n j) (fun n => by simp only [pointwise]) (fun n => by simp only [pointwise])).trans ?_
  exact (congrArg (· + _) Ideal.ofBits_zero_f32).trans (zero_add _)

theorem colsum_apply (x : FVec Ideal S2048x256 .f32) (h) (h1) (h2) (h3) (j : Fin 256) :
    shapeCast S1x256 (multiReduction .add [0] S256 x 0x00000000#32 h h1 h2) h3 (ix2 0 j) = ∑ q : Fin 2048, x (ix2 q j) := by
  rw [shapeCast_apply (s := S256) (t := S1x256) _ h3 (ix2 0 j) (ix1 j) (by
    rw [Shape.rowMajor_val_one, Shape.rowMajor_val_two]; show j.val = 0 * 256 + j.val; omega)]
  rw [multiReduction_add_apply, Ideal.reduceAdd_def, Ideal.reduceAdd_r2_a0]
  rfl

theorem pay4_apply (j : Fin 256) :
    k0_pay4 i x4 x5 x3 (ix2 0 j)
      = ∑ n : Fin 2048, pick i x4 x5 (ix2 n j) * (down 1 (col fun q => x3 (ix2 q j)) n.val - x3 (ix2 n j)) := by
  unfold k0_pay4
  rw [pay3_eq]
  dsimp only
  refine (colsum_apply _ _ _ _ _ j).trans ?_
  refine Finset.sum_congr rfl fun n _ => congrArg (pick i x4 x5 (ix2 n j) * ·) (congrArg (· - x3 (ix2 n j)) ?_)
  exact Cert.KernelFwdIdeal.Hand.shifted_apply 1 (by omega) x3 rotates_S2048x256_d0 iota_S2048x256_d0_w32 n j
end values

end Cert.KernelInIdeal.Hand

end
-- ==== Proof.InArr.lean ====
/-
  What the input projection's gradient ends at: the operands' arrays as the host lines before the region leave them, each
  window's block of them, what each point leaves in the three outputs, and the three results.
-/
module

public import proofs.«01_k».proof.Proof.InOut
public import Idealize.ShloMosaic.Lib.StableHlo.Run

@[expose] public section

set_option maxRecDepth 16384

noncomputable section

namespace Cert.KernelInIdeal.Hand

open Cert.KernelInIdeal Cert.KernelInIdeal.Gen Cert.Maths
open Idealize.ShloMosaic Idealize.ShloMosaic.TcCoe Idealize.ShloMosaic.StableHlo Idealize.SL.Sem

variable (m : (ℓ : Loc nD τ sig) → Buf (Elt Ideal) ℓ) (c : Dev nD)

/-- The arguments a device is launched with. -/
def args : InArgs where
  h n k := (m ((c : Thread nD τ).loc main_arg0) : S2048x1024.Idx → EReal) (ix2 n k)
  w k j := (m ((c : Thread nD τ).loc main_arg1) : S1024x2560.Idx → EReal) (ix2 k j)
  mix e := (m ((c : Thread nD τ).loc main_arg2) : S1x1792.Idx → EReal) (ix2 0 e)
  p n j := (m ((c : Thread nD τ).loc main_arg3) : S2048x2560.Idx → EReal) (ix2 n j)
  dq n j := (m ((c : Thread nD τ).loc main_arg4) : S2048x768.Idx → EReal) (ix2 n j)
  ds n e := (m ((c : Thread nD τ).loc main_arg5) : S2048x1792.Idx → EReal) (ix2 n e)

/-! ## The arrays -/

theorem V_v1 : V m c main_v1 = concatenate S1x2560 1
    [⟨S1x768, broadcastInDim S1x768 ![] bcast_S_S1x768 (constant (F := Ideal) S_ .f32 0x00000000#32)⟩,
      ⟨S1x1792, (m ((c : Thread nD τ).loc main_arg2) : FVec Ideal S1x1792 .f32)⟩] concatenates_S1x768_S1x1792_S1x2560_d1 := by
  show StableHlo.after hostOps0 _ (Proc.devRef .tc main_v1) = _
  after_results
theorem V_v2 : V m c main_v2 = truncf (F := Ideal) .bf16 (m ((c : Thread nD τ).loc main_arg0) : FVec Ideal S2048x1024 .f32) bitsLt_bf16_f32 := by
  show StableHlo.after hostOps0 _ (Proc.devRef .tc main_v2) = _
  after_results
theorem V_v3 : V m c main_v3 = truncf (F := Ideal) .bf16 (m ((c : Thread nD τ).loc main_arg1) : FVec Ideal S1024x2560 .f32) bitsLt_bf16_f32 := by
  show StableHlo.after hostOps0 _ (Proc.devRef .tc main_v3) = _
  after_results

theorem v1_at (j : Fin 2560) : (V m c main_v1 : S1x2560.Idx → EReal) (ix2 0 j) = (args m c).mixAt j := by
  rw [V_v1]
  unfold InArgs.mixAt
  by_cases h : j.val < 768
  · rw [dif_pos h]
    refine (concatenate_pair_apply_left (t := S1x2560) (s₁ := S1x768) (s₂ := S1x1792) 1 _ _ _ (ix2 0 j) rfl
      (ix2 0 (⟨j.val, h⟩ : Fin 768)) fun a => match a with | ⟨0, _⟩ => rfl | ⟨1, _⟩ => rfl).trans ?_
    exact Ideal.ofBits_zero_f32
  · rw [dif_neg h]
    exact concatenate_pair_apply_right (t := S1x2560) (s₁ := S1x768) (s₂ := S1x1792) 1 _ _ _ (ix2 0 j) rfl rfl
      (ix2 0 (⟨j.val - 768, by omega⟩ : Fin 1792)) (fun a ha => match a, ha with | ⟨0, _⟩, _ => rfl | ⟨1, _⟩, ha => absurd rfl ha)
      (by show j.val - 768 + 768 = j.val; omega)
theorem v2_at (n : Fin 2048) (k : Fin 1024) : (V m c main_v2 : S2048x1024.Idx → EReal) (ix2 n k) = (args m c).h n k := by
  rw [V_v2]; rfl
theorem v3_at (k : Fin 1024) (j : Fin 2560) : (V m c main_v3 : S1024x2560.Idx → EReal) (ix2 k j) = (args m c).w k j := by
  rw [V_v3]; rfl

/-! ## The windows' blocks -/

theorem lt10 (t : Fin cfg0.N) : t.val < 10 := t.isLt

theorem idx_in : ∀ t : Fin cfg0.N, win0_0.index t = ![0, 0] ∧ win0_1.index t = ![0, t.val] ∧ win0_2.index t = ![0, t.val] ∧ win0_3.index t = ![0, t.val]
    ∧ win0_4.index t = ![0, min t.val 2] ∧ win0_5.index t = ![0, t.val - 3] := (by decide +kernel : ∀ t : Fin grid0.N, _)
theorem idx_out : ∀ t : Fin cfg0.N, win0_6.index t = ![0, 0] ∧ win0_7.index t = ![0, t.val] ∧ win0_8.index t = ![0, t.val] :=
  (by decide +kernel : ∀ t : Fin grid0.N, _)
theorem coord : ∀ t : Fin cfg0.N, (grid0.coords t 0).val = t.val := (by decide +kernel : ∀ t : Fin grid0.N, _)

/-- The projected column a tile's column is. -/
def at10 (t : Fin cfg0.N) (j : Fin 256) : Fin 2560 := ⟨256 * t.val + j.val, by have := lt10 t; omega⟩

theorem blk0 (t : Fin cfg0.N) (n : Fin 2048) (k : Fin 1024) : (iblk m c 0 t : S2048x1024.Idx → EReal) (ix2 n k) = (args m c).h n k := by
  refine Eq.trans ?_ (v2_at m c n k)
  blk_ext [iblk, (idx_in t).1]
theorem blk1 (t : Fin cfg0.N) (k : Fin 1024) (j : Fin 256) : (iblk m c 1 t : S1024x256.Idx → EReal) (ix2 k j) = (args m c).w k (at10 t j) := by
  have ht := lt10 t
  refine Eq.trans ?_ (v3_at m c k (at10 t j))
  unfold at10
  blk_ext [iblk, (idx_in t).2.1]
theorem blk2 (t : Fin cfg0.N) (j : Fin 256) : (iblk m c 2 t : S1x256.Idx → EReal) (ix2 0 j) = (args m c).mixAt (at10 t j) := by
  have ht := lt10 t
  refine Eq.trans ?_ (v1_at m c (at10 t j))
  unfold at10
  blk_ext [iblk, (idx_in t).2.2.1]
theorem blk3 (t : Fin cfg0.N) (n : Fin 2048) (j : Fin 256) : (iblk m c 3 t : S2048x256.Idx → EReal) (ix2 n j) = (args m c).p n (at10 t j) := by
  have ht := lt10 t
  show _ = (m ((c : Thread nD τ).loc main_arg3) : S2048x2560.Idx → EReal) _
  rw [← V_main_arg3 m c]
  unfold at10
  blk_ext [iblk, (idx_in t).2.2.2.1]
theorem blk4 (t : Fin cfg0.N) (h : t.val < 3) (n : Fin 2048) (j : Fin 256) :
    (iblk m c 4 t : S2048x256.Idx → EReal) (ix2 n j) = (args m c).dq n ⟨256 * t.val + j.val, by omega⟩ := by
  have ht : min t.val 2 = t.val := by omega
  have e := (idx_in t).2.2.2.2.1
  rw [ht] at e
  show _ = (m ((c : Thread nD τ).loc main_arg4) : S2048x768.Idx → EReal) _
  rw [← V_main_arg4 m c]
  blk_ext [iblk, e]
theorem blk5 (t : Fin cfg0.N) (h : 3 ≤ t.val) (n : Fin 2048) (j : Fin 256) :
    (iblk m c 5 t : S2048x256.Idx → EReal) (ix2 n j) = (args m c).ds n ⟨256 * (t.val - 3) + j.val, by have := lt10 t; omega⟩ := by
  have ht := lt10 t
  show _ = (m ((c : Thread nD τ).loc main_arg5) : S2048x1792.Idx → EReal) _
  rw [← V_main_arg5 m c]
  blk_ext [iblk, (idx_in t).2.2.2.2.2]

/-- The cotangents a point takes are its columns'. -/
theorem pick_at (t : Fin cfg0.N) (n : Fin 2048) (j : Fin 256) :
    pick (grid0.coords t) (iblk m c 4 t) (iblk m c 5 t) (ix2 n j) = (args m c).d (at10 t j) n := by
  have ht := lt10 t
  unfold pick InArgs.d
  rw [coord t]
  by_cases h : t.val < 3
  · rw [if_pos h, dif_pos (show (at10 t j).val < 768 by show 256 * t.val + j.val < 768; omega)]
    exact blk4 m c t h n j
  · rw [if_neg h, dif_neg (show ¬((at10 t j).val < 768) by show ¬(256 * t.val + j.val < 768); omega)]
    refine (blk5 m c t (by omega) n j).trans (congrArg ((args m c).ds n) (Fin.ext ?_))
    show 256 * (t.val - 3) + j.val = 256 * t.val + j.val - 768
    omega

/-! ## What a point leaves -/

/-- The projected columns' cotangent. -/
abbrev dpAt (t : Fin cfg0.N) : FVec Ideal S2048x256 .bf16 := k0_pay5 (grid0.coords t) (iblk m c 4 t) (iblk m c 5 t) (iblk m c 2 t)

theorem dp_at (t : Fin cfg0.N) (n : Fin 2048) (j : Fin 256) : (dpAt m c t : S2048x256.Idx → EReal) (ix2 n j) = (args m c).dP n (at10 t j) := by
  refine (pay5_apply _ _ _ _ n j).trans ?_
  unfold InArgs.dP
  rw [show (fun q => pick (grid0.coords t) (iblk m c 4 t) (iblk m c 5 t) (ix2 q j)) = (args m c).d (at10 t j) from funext fun q => pick_at m c t q j]
  exact congrArg (fun a => shiftBack _ a n) (blk2 m c t j)

theorem outs7 (t : Fin cfg0.N) : (outsAt0 m c t.val t.isLt).2.1 = k0_pay6 (grid0.coords t) (iblk m c 4 t) (iblk m c 5 t) (iblk m c 2 t) (iblk m c 0 t) := by
  by_cases h : t.val % 10 = 0
  · refine (congrArg (fun x => x.2.1) (outsAt0_A m c t h)).trans ?_
    dsimp only
    rw [out_A_7]
  · refine (congrArg (fun x => x.2.1) (outsAt0_B m c t h)).trans ?_
    dsimp only
    rw [out_B_7]
theorem outs8 (t : Fin cfg0.N) : (outsAt0 m c t.val t.isLt).2.2 = k0_pay4 (grid0.coords t) (iblk m c 4 t) (iblk m c 5 t) (iblk m c 3 t) := by
  by_cases h : t.val % 10 = 0
  · refine (congrArg (fun x => x.2.2) (outsAt0_A m c t h)).trans ?_
    dsimp only
    rw [out_A_8]
  · refine (congrArg (fun x => x.2.2) (outsAt0_B m c t h)).trans ?_
    dsimp only
    rw [out_B_8]

theorem outs7_at (t : Fin cfg0.N) (k : Fin 1024) (j : Fin 256) :
    ((outsAt0 m c t.val t.isLt).2.1 : S1024x256.Idx → EReal) (ix2 k j) = (args m c).dW k (at10 t j) := by
  rw [outs7]
  refine (pay6_apply _ _ _ _ _ k j).trans (Finset.sum_congr rfl fun n _ => ?_)
  exact congrArg₂ (fun a b : EReal => a * b) (blk0 m c t n k) (dp_at m c t n j)
/-- The mix's gradient over all 2560 columns. -/
def mixGrad (j : Fin 2560) : EReal := ∑ n : Fin 2048, (args m c).d j n * (args m c).diff j n

theorem outs8_at (t : Fin cfg0.N) (j : Fin 256) :
    ((outsAt0 m c t.val t.isLt).2.2 : S1x256.Idx → EReal) (ix2 0 j) = mixGrad m c (at10 t j) := by
  rw [outs8]
  refine (pay4_apply _ _ _ _ j).trans (Finset.sum_congr rfl fun n _ => ?_)
  refine congrArg₂ (fun a b : EReal => a * b) (pick_at m c t n j) ?_
  unfold InArgs.diff
  have e (q : Fin 2048) := blk3 m c t q j
  exact congrArg₂ (fun a b : EReal => a - b) (congrArg (fun f => down 1 (col f) n.val) (funext e)) (e n)

/-- A column's share of an entry of the hidden rows' gradient; no column past the last has one. -/
def share (n : Fin 2048) (k : Fin 1024) (j : ℕ) : EReal := if h : j < 2560 then (args m c).dP n ⟨j, h⟩ * (args m c).w k ⟨j, h⟩ else 0

theorem step_at (t : Fin cfg0.N) (xo : Vec Ideal S2048x1024 .f32) (n : Fin 2048) (k : Fin 1024) :
    k0_pay2 (dpAt m c t) xo (iblk m c 1 t) (ix2 n k) = xo (ix2 n k) + ∑ q ∈ Finset.range 256, share m c n k (256 * t.val + q) := by
  have ht := lt10 t
  refine (pay2_apply _ _ _ n k).trans ?_
  rw [Finset.sum_range]
  refine congrArg (xo (ix2 n k) + ·) (Finset.sum_congr rfl fun j _ => ?_)
  unfold share
  rw [dif_pos (show 256 * t.val + j.val < 2560 by omega)]
  exact congrArg₂ (fun a b : EReal => a * b) (dp_at m c t n j) (blk1 m c t k j)

/-- After point `t` the first output holds the shares of the columns of the points up to it. -/
theorem outs6_at (n : Fin 2048) (k : Fin 1024) : ∀ (t : ℕ) (ht : t < cfg0.N),
    ((outsAt0 m c t ht).1 : S2048x1024.Idx → EReal) (ix2 n k) = ∑ p ∈ Finset.range (t + 1), ∑ q ∈ Finset.range 256, share m c n k (256 * p + q)
  | 0, ht => by
    have e := congrArg Prod.fst (outsAt0_A m c ⟨0, ht⟩ rfl)
    dsimp only at e
    rw [out_A_6] at e
    refine (congrFun e (ix2 n k)).trans ((step_at m c ⟨0, ht⟩ _ n k).trans ?_)
    rw [pay1_apply, zero_add]
    exact (Finset.sum_range_one (fun p => ∑ q ∈ Finset.range 256, share m c n k (256 * p + q))).symm
  | t + 1, ht => by
    have h10 : t + 1 < 10 := ht
    have e := congrArg Prod.fst (outsAt0_B m c ⟨t + 1, ht⟩ (by show ¬(t + 1) % 10 = 0; omega))
    dsimp only at e
    rw [out_B_6] at e
    refine (congrFun e (ix2 n k)).trans ((step_at m c ⟨t + 1, ht⟩ _ n k).trans ?_)
    rw [Finset.sum_range_succ _ (t + 1)]
    exact congrArg (· + ∑ q ∈ Finset.range 256, share m c n k (256 * (t + 1) + q)) (outs6_at n k t (Nat.lt_of_succ_lt ht))

/-- At the last point, of all. -/
theorem outs6_last (t : ℕ) (ht : t < cfg0.N) (h : t = 9) (n : Fin 2048) (k : Fin 1024) :
    ((outsAt0 m c t ht).1 : S2048x1024.Idx → EReal) (ix2 n k) = (args m c).dH n k := by
  subst h
  rw [outs6_at, sum_runs, Finset.sum_range]
  exact Finset.sum_congr rfl fun e _ => dif_pos e.isLt

/-! ## The region's arrays -/

def dHArr : S2048x1024.Idx → EReal := fun i => (args m c).dH (i 0) (i 1)
def dWArr : S1024x2560.Idx → EReal := fun i => (args m c).dW (i 0) (i 1)
def dMixArr : S1x1792.Idx → EReal := fun i => (args m c).dMix (i 1)

theorem arr6 : (dats m 0 c).arrAt 6 cfg0.N = dHArr m c := by
  refine (dats m 0 c).arrAt_eq_of_covers 6 _ (by decide +kernel) fun t hf y => ?_
  have ht : t.val = 9 := by
    have h1 := (flush0_6 t).mp hf
    have h2 := lt10 t
    omega
  rw [after0_6]
  refine Eq.trans (b := ((outsAt0 m c t.val t.isLt).1 : S2048x1024.Idx → EReal) (ix2 (y 0) (y 1))) ?_ ((outs6_last m c t.val t.isLt ht (y 0) (y 1)).trans ?_)
  · exact congrArg (outsAt0 m c t.val t.isLt).1 (funext fun a => match a with | ⟨0, _⟩ => rfl | ⟨1, _⟩ => rfl)
  · refine congrArg₂ (args m c).dH (Fin.ext ?_) (Fin.ext ?_)
    · blk_simp [(idx_out t).1]
    · blk_simp [(idx_out t).1]

theorem arr7 : (dats m 0 c).arrAt 7 cfg0.N = dWArr m c := by
  refine (dats m 0 c).arrAt_eq_of_covers 7 _ (by decide +kernel) fun t hf y => ?_
  rw [after0_7]
  refine Eq.trans (b := ((outsAt0 m c t.val t.isLt).2.1 : S1024x256.Idx → EReal) (ix2 (y 0) (y 1))) ?_ ((outs7_at m c t (y 0) (y 1)).trans ?_)
  · exact congrArg (outsAt0 m c t.val t.isLt).2.1 (funext fun a => match a with | ⟨0, _⟩ => rfl | ⟨1, _⟩ => rfl)
  · unfold at10
    refine congrArg₂ (args m c).dW (Fin.ext ?_) (Fin.ext ?_)
    · blk_simp [(idx_out t).2.1]
    · blk_simp [(idx_out t).2.1]
      exact congrArg (· + _) (Nat.mul_comm ..)

theorem arr8 : ((dats m 0 c).arrAt 8 cfg0.N : S1x2560.Idx → EReal) = fun i => mixGrad m c (i 1) := by
  refine (dats m 0 c).arrAt_eq_of_covers 8 (fun i : S1x2560.Idx => mixGrad m c (i 1)) (by decide +kernel) fun t hf y => ?_
  rw [after0_8]
  refine Eq.trans (b := ((outsAt0 m c t.val t.isLt).2.2 : S1x256.Idx → EReal) (ix2 0 (y 1))) ?_ ((outs8_at m c t (y 1)).trans ?_)
  · exact congrArg (outsAt0 m c t.val t.isLt).2.2 (funext fun a => match a with | ⟨0, _⟩ => Fin.ext (by have h : (y 0).val < 1 := (y 0).isLt; show (y 0).val = 0; omega) | ⟨1, _⟩ => rfl)
  · unfold at10
    refine congrArg (mixGrad m c) (Fin.ext ?_)
    blk_simp [(idx_out t).2.2]
    exact congrArg (· + _) (Nat.mul_comm ..)

/-! ## The run's results -/

theorem withArrays_at (w : Fin cfg0.W) : Pipeline.withArrays (cfgs 0).spec c (V0 m c) (fun w => (dats m 0 c).arrAt w (cfgs 0).N) (Proc.devRef .tc (Pipeline.arrRef spec0 w))
    = (dats m 0 c).arrAt w cfg0.N :=
  (dats m 0 c).withArrays_arrAt (by decide) (V0 m c) (A_eq m c) w

theorem tail_v5 : Pipeline.afterTail₀ cfgs (dats m) 0 (V0 m) [hostOps1] c main_v5
    = extractStridedSlice S1x1792 ![0, 768] ((dats m 0 c).arrAt 8 cfg0.N : S1x2560.Idx → EReal) slices_S1x2560_S1x1792_0_768 := by
  rw [← withArrays_at m c 8]
  show StableHlo.after hostOps1 _ (Proc.devRef .tc main_v5) = _
  after_results

theorem v5_eq : Pipeline.afterTail₀ cfgs (dats m) 0 (V0 m) [hostOps1] c main_v5 = dMixArr m c := by
  rw [tail_v5, arr8]
  funext i
  refine (extractStridedSlice_apply _ _ _ i (ix2 (i 0 : Fin 1) (shiftCol (i 1))) fun a => match a with | ⟨0, _⟩ => (Nat.zero_add _).symm | ⟨1, _⟩ => rfl).trans ?_
  exact Finset.sum_congr rfl fun n _ => congrArg (· * (args m c).diff (shiftCol (i 1)) n) (congrFun ((args m c).d_shift (i 1)) n)

theorem results {r : PUnit × MemSt nD τ sig (Elt Ideal)}
    (h : Pipeline.FramePost cfgs (dats m) 0 (Pipeline.afterTail₀ cfgs (dats m) 0 (V0 m) [hostOps1]) r) (c : Dev nD) :
    r.2.mem ((c : Thread nD τ).loc main_v4_0) = dHArr m c ∧ r.2.mem ((c : Thread nD τ).loc main_v4_1) = dWArr m c
      ∧ r.2.mem ((c : Thread nD τ).loc main_v5) = dMixArr m c :=
  ⟨((h c).1 6).trans (arr6 m c), ((h c).1 7).trans (arr7 m c),
    ((h c).2 main_v5 (Pipeline.mem_restRefs_of main_v5 (by decide) (by decide))).trans (v5_eq m c)⟩

end Cert.KernelInIdeal.Hand

end
-- ==== Proof.RefIn.lean ====
/-
  The reference of the input projection's gradient: its intermediate arrays, an entry at a time, and its run.
-/
module

public import proofs.«01_k».proof.Proof.Gen.ReferenceInIdeal.Read
public import proofs.«01_k».proof.Proof.InSpec
public import Idealize.ShloMosaic.Lib.KernelVsHost
public import Idealize.ShloMosaic.Lib.Pointwise.Index

@[expose] public section

set_option maxRecDepth 16384

noncomputable section

namespace Cert.ReferenceInIdeal.Hand

open Cert.ReferenceInIdeal Cert.ReferenceInIdeal.Gen Cert.ReferenceInIdeal.Read Cert.Maths
open Idealize.ShloMosaic Idealize.ShloMosaic.TcCoe Idealize.SL.Sem

variable (x0 : S2048x1024.Idx → EReal) (x1 : S1024x2560.Idx → EReal) (x2 : S1x1792.Idx → EReal) (x3 : S2048x2560.Idx → EReal)
  (x4 : S2048x768.Idx → EReal) (x5 : S2048x1792.Idx → EReal)

/-- The arguments by coordinates. -/
def argsOf : InArgs where
  h n k := x0 (ix2 n k)
  w k j := x1 (ix2 k j)
  mix e := x2 (ix2 0 e)
  p n j := x3 (ix2 n j)
  dq n j := x4 (ix2 n j)
  ds n e := x5 (ix2 n e)

/-! ## The token shift's gradient -/

theorem v1_at (n : Fin 2048) (e : Fin 1792) : val_main_v1 (F := Ideal) x3 (ix2 n e) = x3 (ix2 n (shiftCol e)) := by
  rw [val_main_v1_apply]
  exact congrArg x3 (funext fun a => match a with | ⟨0, _⟩ => rfl | ⟨1, _⟩ => rfl)
theorem v11_eq : val_main_v11 (F := Ideal) x5 = x5 := shapeCast_self _ _
theorem v12_eq : val_main_v12 (F := Ideal) x5 = x5 := shapeCast_self _ _

/-- The rows before: zeros, and then each row but the last. -/
theorem v5_at (n : Fin 2048) (e : Fin 1792) :
    val_main_v5 (F := Ideal) x3 (ix2 n e) = down 1 (col fun q => x3 (ix2 q (shiftCol e))) n.val := by
  have hn := n.isLt
  unfold val_main_v5 down
  by_cases h : n.val < 1
  · rw [if_pos h]
    refine (concatenate_pair_apply_left (t := S2048x1792) (s₁ := S1x1792) (s₂ := S2047x1792) 0 _ _ _ (ix2 n e) rfl
      (ix2 (⟨n.val, h⟩ : Fin 1) e) fun a => match a with | ⟨0, _⟩ => rfl | ⟨1, _⟩ => rfl).trans ?_
    rw [val_main_v3_apply]
    exact Ideal.ofBits_zero_f32
  · rw [if_neg h]
    refine (concatenate_pair_apply_right (t := S2048x1792) (s₁ := S1x1792) (s₂ := S2047x1792) 0 _ _ _ (ix2 n e) rfl rfl
      (ix2 (⟨n.val - 1, by omega⟩ : Fin 2047) e) (fun a ha => match a, ha with | ⟨0, _⟩, ha => absurd rfl ha | ⟨1, _⟩, _ => rfl)
      (by show n.val - 1 + 1 = n.val; omega)).trans ?_
    have ei : idx_main_v4 (ix2 (⟨n.val - 1, by omega⟩ : Fin 2047) e) = ix2 (⟨n.val - 1, by omega⟩ : Fin 2048) e :=
      funext fun a => match a with | ⟨0, _⟩ => rfl | ⟨1, _⟩ => rfl
    rw [val_main_v4_apply, ei, v1_at]
    exact (col_at (fun q => x3 (ix2 q (shiftCol e))) ⟨n.val - 1, by omega⟩).symm

theorem v7_at (n : Fin 2048) (e : Fin 1792) :
    val_main_v7 (F := Ideal) x3 (ix2 n e) = (argsOf x0 x1 x2 x3 x4 x5).diff (shiftCol e) n := by
  rw [val_main_v7_apply, v5_at, v1_at]
  rfl

theorem v15_at (e : Fin 1792) : val_main_v15 (F := Ideal) x3 x5 (ix2 0 e) = (argsOf x0 x1 x2 x3 x4 x5).dMix e := by
  have e1 : idx_main_v15 (ix2 0 e) = ix1 e := funext fun a => Fin.ext (match a with | ⟨0, _⟩ => (by show 0 * 1792 + e.val = e.val; omega))
  have e2 (n : Fin 2048) : idx_main_v14 (ix1 e) n = ix2 n e := funext fun a => match a with | ⟨0, _⟩ => rfl | ⟨1, _⟩ => rfl
  rw [val_main_v15_apply, e1, val_main_v14_apply]
  refine (congrArg (· + _) Ideal.ofBits_zero_f32).trans ((zero_add _).trans (Finset.sum_congr rfl fun n _ => ?_))
  rw [e2, val_main_v13_apply, v7_at x0 x1 x2 x3 x4 x5, v12_eq]
  exact mul_comm _ _

/-- The share a row took of the row before it, in the cotangent. -/
theorem v17_at (n : Fin 2048) (e : Fin 1792) : val_main_v17 (F := Ideal) x2 x5 (ix2 n e) = x5 (ix2 n e) * x2 (ix2 0 e) := by
  have e1 : idx_main_v16 (ix2 n e) = ix2 0 e := funext fun a => match a with | ⟨0, _⟩ => rfl | ⟨1, _⟩ => rfl
  rw [val_main_v17_apply, v12_eq, val_main_v16_apply, e1]
  rfl

/-- The rows after: each row but the first, and then zeros. -/
theorem v22_at (n : Fin 2048) (e : Fin 1792) :
    val_main_v22 (F := Ideal) x2 x5 (ix2 n e) = col (fun q => x5 (ix2 q e) * x2 (ix2 0 e)) (n.val + 1) := by
  have hn := n.isLt
  unfold val_main_v22 col
  by_cases h : n.val + 1 < 2048
  · rw [dif_pos h]
    refine (pad_apply_of_inside _ _ _ _ _ _ _ (ix2 n e) (ix2 (⟨n.val, by omega⟩ : Fin 2047) e) fun a => match a with
      | ⟨0, _⟩ => (by show n.val = 0 + n.val * (0 + 1); omega)
      | ⟨1, _⟩ => (by show e.val = 0 + e.val * (0 + 1); omega)).trans ?_
    have ei : idx_main_v21 (ix2 (⟨n.val, by omega⟩ : Fin 2047) e) = ix2 (⟨n.val + 1, h⟩ : Fin 2048) e :=
      funext fun a => Fin.ext (match a with | ⟨0, _⟩ => Nat.add_comm _ _ | ⟨1, _⟩ => rfl)
    rw [val_main_v21_apply, ei, v17_at]
  · rw [dif_neg h]
    refine (pad_apply_of_not_inside _ _ _ _ _ _ _ (ix2 n e) 0 fun hh => ?_).trans ?_
    · have e3 : (n.val - 0) / (0 + 1) < 2047 := hh.2.2
      omega
    · exact Ideal.ofBits_zero_f32

theorem v23_at (n : Fin 2048) (e : Fin 1792) :
    val_main_v23 (F := Ideal) x2 x5 (ix2 n e) = shiftBack (fun q => x5 (ix2 q e)) (x2 (ix2 0 e)) n := by
  rw [val_main_v23_apply, v22_at, val_main_v19_apply, val_main_v18_apply, v17_at, v11_eq]
  rfl

/-- The projected rows' cotangent. -/
theorem v24_at (n : Fin 2048) (j : Fin 2560) : val_main_v24 (F := Ideal) x2 x4 x5 (ix2 n j) = (argsOf x0 x1 x2 x3 x4 x5).dP n j := by
  unfold val_main_v24
  by_cases h : j.val < 768
  · rw [InArgs.dP_first _ n j h]
    exact concatenate_pair_apply_left (t := S2048x2560) (s₁ := S2048x768) (s₂ := S2048x1792) 1 _ _ _ (ix2 n j) rfl
      (ix2 n (⟨j.val, h⟩ : Fin 768)) fun a => match a with | ⟨0, _⟩ => rfl | ⟨1, _⟩ => rfl
  · have ej : j = shiftCol ⟨j.val - 768, by omega⟩ := Fin.ext (by show j.val = 768 + (j.val - 768); omega)
    refine (concatenate_pair_apply_right (t := S2048x2560) (s₁ := S2048x768) (s₂ := S2048x1792) 1 _ _ _ (ix2 n j) rfl rfl
      (ix2 n (⟨j.val - 768, by omega⟩ : Fin 1792)) (fun a ha => match a, ha with | ⟨0, _⟩, _ => rfl | ⟨1, _⟩, ha => absurd rfl ha)
      (by show j.val - 768 + 768 = j.val; omega)).trans ((v23_at x2 x5 n _).trans ?_)
    exact ((congrArg ((argsOf x0 x1 x2 x3 x4 x5).dP n) ej).trans ((argsOf x0 x1 x2 x3 x4 x5).dP_shift n _)).symm

/-! ## The three results -/

theorem v28_at (n : Fin 2048) (k : Fin 1024) : val_main_v28 (F := Ideal) x1 x2 x4 x5 (ix2 n k) = (argsOf x0 x1 x2 x3 x4 x5).dH n k := by
  have e (j : Fin 2560) : lidx_main_v28 (ix2 n k) j = ix2 n j := funext fun a => match a with | ⟨0, _⟩ => rfl | ⟨1, _⟩ => rfl
  have e' (j : Fin 2560) : ridx_main_v28 (ix2 n k) j = ix2 k j := funext fun a => match a with | ⟨0, _⟩ => rfl | ⟨1, _⟩ => rfl
  rw [val_main_v28_apply]
  simp only [e, e', v24_at x0 x1 x2 x3 x4 x5]
  rfl
theorem v27_at (k : Fin 1024) (j : Fin 2560) : val_main_v27 (F := Ideal) x0 x2 x4 x5 (ix2 k j) = (argsOf x0 x1 x2 x3 x4 x5).dW k j := by
  have e (n : Fin 2048) : lidx_main_v26 (ix2 j k) n = ix2 n j := funext fun a => match a with | ⟨0, _⟩ => rfl | ⟨1, _⟩ => rfl
  have e' (n : Fin 2048) : ridx_main_v26 (ix2 j k) n = ix2 n k := funext fun a => match a with | ⟨0, _⟩ => rfl | ⟨1, _⟩ => rfl
  have e'' : idx_main_v27 (ix2 k j) = ix2 j k := funext fun a => match a with | ⟨0, _⟩ => rfl | ⟨1, _⟩ => rfl
  rw [val_main_v27_apply, e'', val_main_v26_apply]
  simp only [e, e', v24_at x0 x1 x2 x3 x4 x5]
  exact Finset.sum_congr rfl fun n _ => mul_comm _ _

theorem dH_eq : val_main_v28 (F := Ideal) x1 x2 x4 x5 = fun i => (argsOf x0 x1 x2 x3 x4 x5).dH (i 0) (i 1) := by
  funext i
  have e : i = ix2 (i 0) (i 1) := funext fun a => match a with | ⟨0, _⟩ => rfl | ⟨1, _⟩ => rfl
  exact (congrArg _ e).trans (v28_at x0 x1 x2 x3 x4 x5 (i 0) (i 1))
theorem dW_eq : val_main_v27 (F := Ideal) x0 x2 x4 x5 = fun i => (argsOf x0 x1 x2 x3 x4 x5).dW (i 0) (i 1) := by
  funext i
  have e : i = ix2 (i 0) (i 1) := funext fun a => match a with | ⟨0, _⟩ => rfl | ⟨1, _⟩ => rfl
  exact (congrArg _ e).trans (v27_at x0 x1 x2 x3 x4 x5 (i 0) (i 1))
theorem dMix_eq : val_main_v15 (F := Ideal) x3 x5 = fun i => (argsOf x0 x1 x2 x3 x4 x5).dMix (i 1) := by
  funext i
  have e : i = ix2 0 (i 1) := funext fun a => match a with
    | ⟨0, _⟩ => Fin.ext (by have h : (i 0).val < 1 := (i 0).isLt; show (i 0).val = 0; omega) | ⟨1, _⟩ => rfl
  exact (congrArg _ e).trans (v15_at x0 x1 x2 x3 x4 x5 (i 1))

theorem argsOf_congr {x0 y0 : S2048x1024.Idx → EReal} {x1 y1 : S1024x2560.Idx → EReal} {x2 y2 : S1x1792.Idx → EReal} {x3 y3 : S2048x2560.Idx → EReal}
    {x4 y4 : S2048x768.Idx → EReal} {x5 y5 : S2048x1792.Idx → EReal}
    (h0 : x0 = y0) (h1 : x1 = y1) (h2 : x2 = y2) (h3 : x3 = y3) (h4 : x4 = y4) (h5 : x5 = y5) : argsOf x0 x1 x2 x3 x4 x5 = argsOf y0 y1 y2 y3 y4 y5 := by
  subst h0 h1 h2 h3 h4 h5; rfl

/-! ## The run -/

variable (m : (ℓ : Loc nD τ sig) → Buf (Elt Ideal) ℓ) (c : Dev nD)

/-- The arguments a device is launched with. -/
def args : InArgs :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

def dHArr : S2048x1024.Idx → EReal := fun i => (args m c).dH (i 0) (i 1)
def dWArr : S1024x2560.Idx → EReal := fun i => (args m c).dW (i 0) (i 1)
def dMixArr : S1x1792.Idx → EReal := fun i => (args m c).dMix (i 1)

/-- What a memory holds of the results and of the arguments. -/
def Ends (r : PUnit × MemSt nD τ sig (Elt Ideal)) : Prop :=
  r.2.mem ((c.tc : Thread nD τ).loc main_v28) = dHArr m c
    ∧ r.2.mem ((c.tc : Thread nD τ).loc main_v27) = dWArr m c
    ∧ r.2.mem ((c.tc : Thread nD τ).loc main_v15) = dMixArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)

theorem run_ends (ρ : Dev nD → PrngReg) :
    θ_run defs (onTc (τ := τ) (main (F := Ideal))) ⟨m, fun _ => 0, ρ⟩ fun r => ∀ c : Dev nD, Ends m c r := by
  refine (θ_run defs _ _).mono (fun r h c => ?_) (Cert.ReferenceInIdeal.Value.run (F := Ideal) m ρ)
  obtain ⟨h1, h2, h3, ha⟩ := h c
  refine ⟨?_, ?_, ?_, ha⟩
  · exact h1.trans ((val_main_v28_eq _ _ _ _).trans (dH_eq _ _ _ _ _ _))
  · exact h2.trans ((val_main_v27_eq _ _ _ _).trans (dW_eq _ _ _ _ _ _))
  · exact h3.trans ((val_main_v15_eq _ _).trans (dMix_eq _ _ _ _ _ _))

end Cert.ReferenceInIdeal.Hand

end
-- ==== Proof.NormSpec.lean ====
/-
  The mean-square norm of a row of 1024 numbers and its gradient, over the extended reals; and what the norm's steps on a
  tile of 256 rows read at an entry.
-/
module

public import proofs.«01_k».proof.Proof.Scalar
public import Idealize.ShloMosaic.Lib.KernelVsHost
public import Idealize.ShloMosaic.Lib.Pointwise

@[expose] public section

noncomputable section

namespace Cert.Maths

open Idealize.ShloMosaic

/-- The number of a row's entries. -/
def width : EReal := FloatOps.ofBits (F := Ideal) .f32 0x44800000#32
/-- What is added to the mean square. -/
def eps : EReal := FloatOps.ofBits (F := Ideal) .f32 0x358637BD#32
def minusHalf : EReal := FloatOps.ofBits (F := Ideal) .f32 0xBF000000#32

/-- The mean square of a row and a little more. -/
def meanSq (x : Fin 1024 → EReal) : EReal := Ideal.div (∑ k, x k * x k) width + eps
/-- What the norm multiplies the row by. -/
def inv (x : Fin 1024 → EReal) : EReal := Ideal.rsqrt (meanSq x)
/-- Half of what each entry of the row owes to the mean square, of a cotangent `d` of the normed row. -/
def owed (x d : Fin 1024 → EReal) : EReal :=
  Ideal.div ((∑ k, x k * d k) * (minusHalf * Ideal.div (inv x) (meanSq x))) width
/-- The row's cotangent. -/
def normBack (x d : Fin 1024 → EReal) (k : Fin 1024) : EReal := (d k * inv x + x k * owed x d) + owed x d * x k

/-- The row a tile's row is. -/
def row8 (t : ℕ) (ht : t < 8) (n : Fin 256) : Fin 2048 := ⟨256 * t + n.val, by omega⟩

/-- A sum over 2048 rows is one of eight tiles' sums. -/
theorem sum_tiles (f : Fin 2048 → EReal) :
    ∑ p ∈ Finset.range 8, ∑ q ∈ Finset.range 256, col f (256 * p + q) = ∑ n, f n := by
  rw [sum_runs, Finset.sum_range]
  exact Finset.sum_congr rfl fun n _ => col_at f n

theorem sum_tile (f : Fin 2048 → EReal) (t : ℕ) (ht : t < 8) :
    ∑ q ∈ Finset.range 256, col f (256 * t + q) = ∑ n : Fin 256, f (row8 t ht n) := by
  rw [Finset.sum_range]
  exact Finset.sum_congr rfl fun n _ => col_at f (row8 t ht n)

/-- The arguments of a norm's gradient: the rows, the norm's weights, the normed rows' cotangent, and the rows' own. -/
structure RmsArgs where
  x : Fin 2048 → Fin 1024 → EReal
  g : Fin 1024 → EReal
  d : Fin 2048 → Fin 1024 → EReal
  r : Fin 2048 → Fin 1024 → EReal

namespace RmsArgs

/-- The rows' gradient. -/
def dX (A : RmsArgs) (n : Fin 2048) (k : Fin 1024) : EReal := normBack (A.x n) (fun k => A.d n k * A.g k) k + A.r n k
/-- A row's share of the weights' gradient. -/
def dGRow (A : RmsArgs) (k : Fin 1024) (n : Fin 2048) : EReal := (A.x n k * inv (A.x n)) * A.d n k
/-- The weights' gradient. -/
def dG (A : RmsArgs) (k : Fin 1024) : EReal := ∑ n, A.dGRow k n

end RmsArgs

/-! ## A tile's entries -/

abbrev STile : Shape := ⟨2, ![256, 1024]⟩
abbrev SCol : Shape := ⟨2, ![256, 1]⟩
abbrev SRow : Shape := ⟨2, ![1, 1024]⟩
abbrev SRows : Shape := ⟨1, ![256]⟩
abbrev SEntries : Shape := ⟨1, ![1024]⟩

theorem rowSum_apply (x : FVec Ideal STile .f32) (h) (h1) (h2) (h3) (n : Fin 256) :
    shapeCast SCol (multiReduction .add [1] SRows x 0x00000000#32 h h1 h2) h3 (ix2 n 0) = ∑ k : Fin 1024, x (ix2 n k) := by
  rw [shapeCast_apply (s := SRows) (t := SCol) _ h3 (ix2 n 0) (ix1 n) (by
    rw [Shape.rowMajor_val_one, Shape.rowMajor_val_two]; show n.val = n.val * 1 + 0; omega)]
  rw [multiReduction_add_apply, Ideal.reduceAdd_def, Ideal.reduceAdd_r2_a1]
  rfl

theorem rowSumRow_apply (x : FVec Ideal STile .f32) (h) (h1) (h2) (n : Fin 256) :
    multiReduction .add [1] SRows x 0x00000000#32 h h1 h2 (ix1 n) = ∑ k : Fin 1024, x (ix2 n k) := by
  rw [multiReduction_add_apply, Ideal.reduceAdd_def, Ideal.reduceAdd_r2_a1]
  rfl

/-- A row of one entry sums to it. -/
theorem colSum_apply (x : FVec Ideal SCol .f32) (h) (h1) (h2) (h3) (n : Fin 256) :
    shapeCast SCol (multiReduction .add [1] SRows x 0x00000000#32 h h1 h2) h3 (ix2 n 0) = x (ix2 n 0) := by
  rw [shapeCast_apply (s := SRows) (t := SCol) _ h3 (ix2 n 0) (ix1 n) (by
    rw [Shape.rowMajor_val_one, Shape.rowMajor_val_two]; show n.val = n.val * 1 + 0; omega)]
  rw [multiReduction_add_apply, Ideal.reduceAdd_def, Ideal.reduceAdd_r2_a1]
  exact Fin.sum_univ_one (fun k : Fin 1 => x (ix2 n k))

theorem tileSum_apply (x : FVec Ideal STile .f32) (h) (h1) (h2) (h3) (k : Fin 1024) :
    shapeCast SRow (multiReduction .add [0] SEntries x 0x00000000#32 h h1 h2) h3 (ix2 0 k) = ∑ n : Fin 256, x (ix2 n k) := by
  rw [shapeCast_apply (s := SEntries) (t := SRow) _ h3 (ix2 0 k) (ix1 k) (by
    rw [Shape.rowMajor_val_one, Shape.rowMajor_val_two]; show k.val = 0 * 1024 + k.val; omega)]
  rw [multiReduction_add_apply, Ideal.reduceAdd_def, Ideal.reduceAdd_r2_a0]
  rfl

theorem ofCol_apply (x : FVec Ideal SCol .f32) (h) (n : Fin 256) (k : Fin 1024) : broadcastTo STile x h (ix2 n k) = x (ix2 n 0) :=
  broadcastTo_apply _ h (ix2 n k) (ix2 n 0) fun a => match a with | ⟨0, _⟩ => rfl | ⟨1, _⟩ => rfl

theorem ofRow_apply (x : FVec Ideal SRow .f32) (h) (n : Fin 256) (k : Fin 1024) : broadcastTo STile x h (ix2 n k) = x (ix2 0 k) :=
  broadcastTo_apply _ h (ix2 n k) (ix2 0 k) fun a => match a with | ⟨0, _⟩ => rfl | ⟨1, _⟩ => rfl

end Cert.Maths

end
-- ==== Proof.RmsOut.lean ====
/-
  The body of the first norm's gradient at one grid point: what it leaves in its two outputs, an entry at a time, over the
  extended reals.
-/
module

public import proofs.«01_k».proof.Proof.Gen.KernelRmsIdeal.Frame
public import proofs.«01_k».proof.Proof.NormSpec
public import Idealize.ShloMosaic.Lib.VecWindow

@[expose] public section

set_option maxRecDepth 16384

noncomputable section

namespace Cert.KernelRmsIdeal.Hand

open Cert.KernelRmsIdeal Cert.KernelRmsIdeal.Gen Cert.Maths
open Idealize.ShloMosaic Idealize.SL.Sem

section body
variable {F : FTy → Type} [FloatOps F]

theorem z2 : (![0, 0] : Fin 2 → Nat) = fun _ => 0 := funext fun a => match a with | ⟨0, _⟩ => rfl | ⟨1, _⟩ => rfl

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (x0 : Vec F S256x1024 .f32) (x1 : Vec F S1x1024 .f32) (x2 x3 : Vec F S256x1024 .f32)

/-- The rows' gradient is written anew at each point. -/
theorem out_A_4 (hc0 : cond0_0 i) :
    out0_A_4 c i arg1 harg1 arg2 harg2 arg3 harg3 arg4 harg4 arg5 harg5 arg6 harg6 hc0 x0 x1 x2 x3 = k0_pay6 x0 x1 x2 x3 := by
  unfold out0_A_4 kernelRun0_A
  dsimp only
  sl_unfold_words
  rw [View.read_writes_full]
  simp only [View.readAt_eq_ld, harg1.read_unread, harg2.read_unread, harg3.read_unread, harg4.read_unread, harg5.read_unread, harg6.read_unread,
    View.ld_unit_zero (S := S256x1024) z2, View.ld_unit_zero (S := S1x1024) z2]

/-- The rows' gradient is written anew at each point. -/
theorem out_B_4 (hc0 : ¬cond0_0 i) (xo : Vec F S1x1024 .f32) :
    out0_B_4 c i arg1 harg1 arg2 harg2 arg3 harg3 arg4 harg4 arg5 harg5 arg6 harg6 hc0 x0 x1 x2 x3 xo = k0_pay6 x0 x1 x2 x3 := by
  unfold out0_B_4 kernelRun0_B
  dsimp only
  sl_unfold_words
  rw [View.read_writes_full]
  simp only [View.readAt_eq_ld, harg1.read_unread, harg2.read_unread, harg3.read_unread, harg4.read_unread, harg5.read_unread, harg6.read_unread,
    View.ld_unit_zero (S := S256x1024) z2, View.ld_unit_zero (S := S1x1024) z2]

/-- The first point starts from zero. -/
theorem out_A_5 (hc0 : cond0_0 i) :
    out0_A_5 c i arg1 harg1 arg2 harg2 arg3 harg3 arg4 harg4 arg5 harg5 arg6 harg6 hc0 x0 x1 x2 x3 = k0_pay2 (k0_pay5 x0 x2) (k0_pay1 (F := F)) := by
  unfold out0_A_5 kernelRun0_A
  dsimp only
  sl_unfold_words
  rw [View.read_writes_full, View.readCov_unit_zero (S := S1x1024) _ z2]
  simp only [View.readAt_eq_ld, harg1.read_unread, harg2.read_unread, harg3.read_unread, harg4.read_unread, harg5.read_unread, harg6.read_unread,
    View.ld_unit_zero (S := S256x1024) z2, View.ld_unit_zero (S := S1x1024) z2]

/-- A later point adds to what it finds. -/
theorem out_B_5 (hc0 : ¬cond0_0 i) (xo : Vec F S1x1024 .f32) :
    out0_B_5 c i arg1 harg1 arg2 harg2 arg3 harg3 arg4 harg4 arg5 harg5 arg6 harg6 hc0 x0 x1 x2 x3 xo = k0_pay2 (k0_pay5 x0 x2) xo := by
  unfold out0_B_5 kernelRun0_B
  dsimp only
  sl_unfold_words
  rw [View.read_writes_full]
  simp only [View.readAt_eq_ld, harg1.read_unread, harg2.read_unread, harg3.read_unread, harg4.read_unread, harg5.read_unread, harg6.read_unread,
    View.ld_unit_zero (S := S256x1024) z2, View.ld_unit_zero (S := S1x1024) z2]

end body

section values
variable (x0 : Vec Ideal S256x1024 .f32) (x1 : Vec Ideal S1x1024 .f32) (x2 x3 : Vec Ideal S256x1024 .f32) (xo : Vec Ideal S1x1024 .f32)

/-- A tile's row. -/
def rowOf (x : Vec Ideal S256x1024 .f32) (n : Fin 256) (k : Fin 1024) : EReal := x (ix2 n k)

theorem pay3_apply (n : Fin 256) : k0_pay3 x0 (ix2 n 0) = meanSq (rowOf x0 n) := by
  unfold k0_pay3
  exact congrArg (fun a => Ideal.div a width + eps) (rowSum_apply (mulf x0 x0) _ _ _ _ n)

theorem pay4_apply (n : Fin 256) : k0_pay4 x0 (ix2 n 0) = inv (rowOf x0 n) := by
  unfold k0_pay4
  exact congrArg Ideal.rsqrt (pay3_apply x0 n)

theorem pay1_apply (k : Fin 1024) : k0_pay1 (F := Ideal) (ix2 0 k) = 0 := Ideal.ofBits_zero_f32

theorem pay2_apply (v : FVec Ideal S1x1024 .f32) (k : Fin 1024) : (k0_pay2 v xo (ix2 0 k) : EReal) = xo (ix2 0 k) + v (ix2 0 k) := by
  unfold k0_pay2
  rw [shapeCast_self]
  rfl

theorem pay5_apply (k : Fin 1024) :
    k0_pay5 x0 x2 (ix2 0 k) = ∑ n : Fin 256, (x0 (ix2 n k) * inv (rowOf x0 n)) * x2 (ix2 n k) := by
  unfold k0_pay5
  refine (tileSum_apply _ _ _ _ _ k).trans (Finset.sum_congr rfl fun n _ => ?_)
  exact congrArg (fun a => (x0 (ix2 n k) * a) * x2 (ix2 n k)) ((ofCol_apply _ _ n k).trans (pay4_apply x0 n))

theorem pay6_apply (n : Fin 256) (k : Fin 1024) :
    k0_pay6 x0 x1 x2 x3 (ix2 n k) = normBack (rowOf x0 n) (fun k => x2 (ix2 n k) * x1 (ix2 0 k)) k + x3 (ix2 n k) := by
  have ed (k : Fin 1024) : mulf (F := Ideal) (φ := .f32) x2 (broadcastTo S256x1024 x1 broadcasts_S1x1024_S256x1024) (ix2 n k)
      = x2 (ix2 n k) * x1 (ix2 0 k) := congrArg (x2 (ix2 n k) * ·) (ofRow_apply x1 _ n k)
  unfold k0_pay6 normBack
  dsimp only
  have eo := (ofCol_apply _ broadcasts_S256x1_S256x1024 n k).trans ((colSum_apply
    (divf (mulf (shapeCast S256x1 (multiReduction .add [1] S256 (mulf x0 (mulf x2 (broadcastTo S256x1024 x1 broadcasts_S1x1024_S256x1024)))
        0x00000000#32 reduces_S256x1024_S256 (.inl rfl) rfl) shapeCasts_S256_S256x1)
      (mulf (broadcast S256x1 (Scalar.ofBits (F := Ideal) .f32 0xBF000000#32)) (divf (k0_pay4 x0) (k0_pay3 x0))))
      (broadcast S256x1 (Scalar.ofBits (F := Ideal) .f32 0x44800000#32))) reduces_S256x1_S256 (.inl rfl) rfl shapeCasts_S256_S256x1 n).trans
    (congrArg₂ (fun a b : EReal => Ideal.div (a * b) width)
      ((rowSum_apply (mulf x0 (mulf x2 (broadcastTo S256x1024 x1 broadcasts_S1x1024_S256x1024))) reduces_S256x1024_S256 (.inl rfl) rfl
        shapeCasts_S256_S256x1 n).trans (Finset.sum_congr rfl fun k _ => congrArg (x0 (ix2 n k) * ·) (ed k)))
      (congrArg₂ (fun a b : EReal => minusHalf * Ideal.div a b) (pay4_apply x0 n) (pay3_apply x0 n))))
  refine congrArg (· + x3 (ix2 n k)) (congrArg₂ (· + ·) (congrArg₂ (· + ·) (congrArg₂ (· * ·) (ed k) ?_) ?_) ?_)
  · exact (ofCol_apply _ _ n k).trans (pay4_apply x0 n)
  · exact congrArg (x0 (ix2 n k) * ·) eo
  · exact congrArg (· * x0 (ix2 n k)) eo

end values

end Cert.KernelRmsIdeal.Hand

end
-- ==== Proof.RmsArr.lean ====
/-
  What the first norm's gradient ends at: each window's block of its operand, what each point leaves in the two outputs,
  and the two results.
-/
module

public import proofs.«01_k».proof.Proof.RmsOut
public import Idealize.ShloMosaic.Lib.Pipeline.ValueKit

@[expose] public section

set_option maxRecDepth 16384

noncomputable section

namespace Cert.KernelRmsIdeal.Hand

open Cert.KernelRmsIdeal Cert.KernelRmsIdeal.Gen Cert.Maths
open Idealize.ShloMosaic Idealize.ShloMosaic.TcCoe Idealize.SL.Sem

variable (m : (ℓ : Loc nD τ sig) → Buf (Elt Ideal) ℓ) (c : Dev nD)

/-- The arguments a device is launched with. -/
def args : RmsArgs where
  x n k := (m ((c : Thread nD τ).loc main_arg0) : S2048x1024.Idx → EReal) (ix2 n k)
  g k := (m ((c : Thread nD τ).loc main_arg1) : S1x1024.Idx → EReal) (ix2 0 k)
  d n k := (m ((c : Thread nD τ).loc main_arg2) : S2048x1024.Idx → EReal) (ix2 n k)
  r n k := (m ((c : Thread nD τ).loc main_arg3) : S2048x1024.Idx → EReal) (ix2 n k)

/-! ## The windows' blocks -/

theorem lt8 (t : Fin cfg0.N) : t.val < 8 := t.isLt

theorem idx_in : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)
theorem idx_out : ∀ t : Fin cfg0.N, win0_4.index t = ![t.val, 0] ∧ win0_5.index t = ![0, 0] := (by decide +kernel : ∀ t : Fin grid0.N, _)

theorem blk0 (t : Fin cfg0.N) (n : Fin 256) (k : Fin 1024) : (iblk m c 0 t : S256x1024.Idx → EReal) (ix2 n k) = (args m c).x (row8 t.val (lt8 t) n) k := by
  have ht := lt8 t
  show _ = (m ((c : Thread nD τ).loc main_arg0) : S2048x1024.Idx → EReal) _
  rw [← V_main_arg0 m c]
  unfold row8
  blk_ext [iblk, (idx_in t).1]
theorem blk1 (t : Fin cfg0.N) (k : Fin 1024) : (iblk m c 1 t : S1x1024.Idx → EReal) (ix2 0 k) = (args m c).g k := by
  show _ = (m ((c : Thread nD τ).loc main_arg1) : S1x1024.Idx → EReal) _
  rw [← V_main_arg1 m c]
  blk_ext [iblk, (idx_in t).2.1]
theorem blk2 (t : Fin cfg0.N) (n : Fin 256) (k : Fin 1024) : (iblk m c 2 t : S256x1024.Idx → EReal) (ix2 n k) = (args m c).d (row8 t.val (lt8 t) n) k := by
  have ht := lt8 t
  show _ = (m ((c : Thread nD τ).loc main_arg2) : S2048x1024.Idx → EReal) _
  rw [← V_main_arg2 m c]
  unfold row8
  blk_ext [iblk, (idx_in t).2.2.1]
theorem blk3 (t : Fin cfg0.N) (n : Fin 256) (k : Fin 1024) : (iblk m c 3 t : S256x1024.Idx → EReal) (ix2 n k) = (args m c).r (row8 t.val (lt8 t) n) k := by
  have ht := lt8 t
  show _ = (m ((c : Thread nD τ).loc main_arg3) : S2048x1024.Idx → EReal) _
  rw [← V_main_arg3 m c]
  unfold row8
  blk_ext [iblk, (idx_in t).2.2.2]

theorem row_at (t : Fin cfg0.N) (n : Fin 256) : rowOf (iblk m c 0 t) n = (args m c).x (row8 t.val (lt8 t) n) :=
  funext fun k => blk0 m c t n k

/-! ## What a point leaves -/

theorem outs4 (t : Fin cfg0.N) : (outsAt0 m c t.val t.isLt).1 = k0_pay6 (iblk m c 0 t) (iblk m c 1 t) (iblk m c 2 t) (iblk m c 3 t) := by
  by_cases h : t.val % 8 = 0
  · refine (congrArg Prod.fst (outsAt0_A m c t h)).trans ?_
    dsimp only
    rw [out_A_4]
  · refine (congrArg Prod.fst (outsAt0_B m c t h)).trans ?_
    dsimp only
    rw [out_B_4]

theorem outs4_at (t : Fin cfg0.N) (n : Fin 256) (k : Fin 1024) :
    ((outsAt0 m c t.val t.isLt).1 : S256x1024.Idx → EReal) (ix2 n k) = (args m c).dX (row8 t.val (lt8 t) n) k := by
  rw [outs4]
  refine (pay6_apply _ _ _ _ n k).trans ?_
  unfold RmsArgs.dX
  rw [row_at]
  exact congrArg₂ (fun a b : EReal => a + b)
    (congrArg (fun d => normBack _ d k) (funext fun k => congrArg₂ (fun a b : EReal => a * b) (blk2 m c t n k) (blk1 m c t k))) (blk3 m c t n k)

/-- The share of a point's rows in an entry of the weights' gradient. -/
theorem pay5_at (t : Fin cfg0.N) (k : Fin 1024) :
    k0_pay5 (iblk m c 0 t) (iblk m c 2 t) (ix2 0 k) = ∑ q ∈ Finset.range 256, col ((args m c).dGRow k) (256 * t.val + q) := by
  rw [sum_tile _ t.val (lt8 t)]
  refine (pay5_apply _ _ k).trans (Finset.sum_congr rfl fun n _ => ?_)
  unfold RmsArgs.dGRow
  rw [row_at]
  exact congrArg₂ (fun a b : EReal => (a * inv ((args m c).x (row8 t.val (lt8 t) n))) * b) (blk0 m c t n k) (blk2 m c t n k)

theorem step_at (t : Fin cfg0.N) (xo : Vec Ideal S1x1024 .f32) (k : Fin 1024) :
    (k0_pay2 (k0_pay5 (iblk m c 0 t) (iblk m c 2 t)) xo (ix2 0 k) : EReal)
      = xo (ix2 0 k) + ∑ q ∈ Finset.range 256, col ((args m c).dGRow k) (256 * t.val + q) :=
  (pay2_apply _ _ k).trans (congrArg (xo (ix2 0 k) + ·) (pay5_at m c t k))

/-- After point `t` the second output holds the shares of the rows of the points up to it. -/
theorem outs5_at (k : Fin 1024) : ∀ (t : ℕ) (ht : t < cfg0.N),
    ((outsAt0 m c t ht).2 : S1x1024.Idx → EReal) (ix2 0 k)
      = ∑ p ∈ Finset.range (t + 1), ∑ q ∈ Finset.range 256, col ((args m c).dGRow k) (256 * p + q)
  | 0, ht => by
    have e := congrArg Prod.snd (outsAt0_A m c ⟨0, ht⟩ rfl)
    dsimp only at e
    rw [out_A_5] at e
    refine (congrFun e (ix2 0 k)).trans ((step_at m c ⟨0, ht⟩ _ k).trans ?_)
    rw [pay1_apply, zero_add]
    exact (Finset.sum_range_one (fun p => ∑ q ∈ Finset.range 256, col ((args m c).dGRow k) (256 * p + q))).symm
  | t + 1, ht => by
    have h8 : t + 1 < 8 := ht
    have e := congrArg Prod.snd (outsAt0_B m c ⟨t + 1, ht⟩ (by show ¬(t + 1) % 8 = 0; omega))
    dsimp only at e
    rw [out_B_5] at e
    refine (congrFun e (ix2 0 k)).trans ((step_at m c ⟨t + 1, ht⟩ _ k).trans ?_)
    rw [Finset.sum_range_succ _ (t + 1)]
    exact congrArg (· + ∑ q ∈ Finset.range 256, col ((args m c).dGRow k) (256 * (t + 1) + q)) (outs5_at k t (Nat.lt_of_succ_lt ht))

/-- At the last point, of all. -/
theorem outs5_last (t : ℕ) (ht : t < cfg0.N) (h : t = 7) (k : Fin 1024) :
    ((outsAt0 m c t ht).2 : S1x1024.Idx → EReal) (ix2 0 k) = (args m c).dG k := by
  subst h
  exact (outs5_at m c k 7 ht).trans (sum_tiles _)

/-! ## The results -/

def dXArr : S2048x1024.Idx → EReal := fun i => (args m c).dX (i 0) (i 1)
def dGArr : S1x1024.Idx → EReal := fun i => (args m c).dG (i 1)

theorem arr4 : (dats m 0 c).arrAt 4 cfg0.N = dXArr m c := by
  refine (dats m 0 c).arrAt_eq_of_covers 4 _ (by decide +kernel) fun t hf y => ?_
  rw [after0_4]
  refine Eq.trans (b := ((outsAt0 m c t.val t.isLt).1 : S256x1024.Idx → EReal) (ix2 (y 0) (y 1))) ?_ ((outs4_at m c t (y 0) (y 1)).trans ?_)
  · exact congrArg (outsAt0 m c t.val t.isLt).1 (funext fun a => match a with | ⟨0, _⟩ => rfl | ⟨1, _⟩ => rfl)
  · unfold row8
    refine congrArg₂ (args m c).dX (Fin.ext ?_) (Fin.ext ?_)
    · blk_simp [(idx_out t).1]
      exact congrArg (· + _) (Nat.mul_comm ..)
    · blk_simp [(idx_out t).1]

theorem arr5 : (dats m 0 c).arrAt 5 cfg0.N = dGArr m c := by
  refine (dats m 0 c).arrAt_eq_of_covers 5 _ (by decide +kernel) fun t hf y => ?_
  have ht : t.val = 7 := by
    have h1 := (flush0_5 t).mp hf
    have h2 := lt8 t
    omega
  rw [after0_5]
  refine Eq.trans (b := ((outsAt0 m c t.val t.isLt).2 : S1x1024.Idx → EReal) (ix2 0 (y 1))) ?_ ((outs5_last m c t.val t.isLt ht (y 1)).trans ?_)
  · exact congrArg (outsAt0 m c t.val t.isLt).2 (funext fun a => match a with | ⟨0, _⟩ => Fin.ext (by have h : (y 0).val < 1 := (y 0).isLt; show (y 0).val = 0; omega) | ⟨1, _⟩ => rfl)
  · refine congrArg (args m c).dG (Fin.ext ?_)
    blk_simp [(idx_out t).2]

theorem results {r : PUnit × MemSt nD τ sig (Elt Ideal)} (h : Pipeline.FramePost cfgs (dats m) 0 (V m) r) (c : Dev nD) :
    r.2.mem ((c : Thread nD τ).loc main_v0_0) = dXArr m c ∧ r.2.mem ((c : Thread nD τ).loc main_v0_1) = dGArr m c :=
  ⟨((h c).1 4).trans (arr4 m c), ((h c).1 5).trans (arr5 m c)⟩

end Cert.KernelRmsIdeal.Hand

end
-- ==== Proof.RefRms.lean ====
/-
  The reference of the first norm's gradient: its intermediate arrays, an entry at a time, and its run.
-/
module

public import proofs.«01_k».proof.Proof.Gen.ReferenceRmsIdeal.Read
public import proofs.«01_k».proof.Proof.NormSpec
public import Idealize.ShloMosaic.Lib.KernelVsHost
public import Idealize.ShloMosaic.Lib.Pointwise.Index

@[expose] public section

set_option maxRecDepth 16384

noncomputable section

namespace Cert.ReferenceRmsIdeal.Hand

open Cert.ReferenceRmsIdeal Cert.ReferenceRmsIdeal.Gen Cert.ReferenceRmsIdeal.Read Cert.Maths
open Idealize.ShloMosaic Idealize.ShloMosaic.TcCoe Idealize.SL.Sem

variable (x0 : S2048x1024.Idx → EReal) (x1 : S1x1024.Idx → EReal) (x2 x3 : S2048x1024.Idx → EReal)

/-- The arguments by coordinates. -/
def argsOf : RmsArgs where
  x n k := x0 (ix2 n k)
  g k := x1 (ix2 0 k)
  d n k := x2 (ix2 n k)
  r n k := x3 (ix2 n k)

/-- A row of the first argument. -/
def rowOf (n : Fin 2048) (k : Fin 1024) : EReal := x0 (ix2 n k)
/-- A row of the normed rows' cotangent, times the weights. -/
def cotOf (n : Fin 2048) (k : Fin 1024) : EReal := x2 (ix2 n k) * x1 (ix2 0 k)

theorem v6_at (n : Fin 2048) : val_main_v6 (F := Ideal) x0 (ix2 n 0) = meanSq (rowOf x0 n) := by
  have e2 : idx_main_v2 (ix2 n 0) = ix1 n := funext fun a => match a with | ⟨0, _⟩ => rfl
  have e1 (k : Fin 1024) : idx_main_v1 (ix1 n) k = ix2 n k := funext fun a => match a with | ⟨0, _⟩ => rfl | ⟨1, _⟩ => rfl
  rw [val_main_v6_apply, val_main_v4_apply, val_main_v2_apply, e2, val_main_v1_apply]
  simp only [e1]
  exact congrArg (fun a => Ideal.div a width + eps) ((congrArg (· + _) Ideal.ofBits_zero_f32).trans (zero_add _))

theorem v7_at (n : Fin 2048) : val_main_v7 (F := Ideal) x0 (ix2 n 0) = inv (rowOf x0 n) := by
  rw [val_main_v7_apply, v6_at]
  rfl

theorem v10_at (n : Fin 2048) :
    val_main_v10 (F := Ideal) x0 (ix2 n 0) = minusHalf * Ideal.div (inv (rowOf x0 n)) (meanSq (rowOf x0 n)) := by
  rw [val_main_v10_apply, val_main_v8_apply, v6_at, v7_at]
  rfl

theorem v12_at (n : Fin 2048) (k : Fin 1024) : val_main_v12 (F := Ideal) x0 (ix2 n k) = x0 (ix2 n k) * inv (rowOf x0 n) := by
  have e : idx_main_v11 (ix2 n k) = ix2 n 0 := funext fun a => match a with | ⟨0, _⟩ => rfl | ⟨1, _⟩ => rfl
  rw [val_main_v12_apply, val_main_v11_apply, e, v7_at]
  rfl

theorem v17_at (k : Fin 1024) : val_main_v17 (F := Ideal) x0 x2 (ix2 0 k) = (argsOf x0 x1 x2 x3).dG k := by
  have e1 : idx_main_v17 (ix2 0 k) = ix1 k := funext fun a => Fin.ext (match a with | ⟨0, _⟩ => (by show 0 * 1024 + k.val = k.val; omega))
  have e2 (n : Fin 2048) : idx_main_v16 (ix1 k) n = ix2 n k := funext fun a => match a with | ⟨0, _⟩ => rfl | ⟨1, _⟩ => rfl
  rw [val_main_v17_apply, e1, val_main_v16_apply]
  refine (congrArg (· + _) Ideal.ofBits_zero_f32).trans ((zero_add _).trans (Finset.sum_congr rfl fun n _ => ?_))
  rw [e2, val_main_v15_apply, v12_at]
  rfl

theorem v19_at (n : Fin 2048) (k : Fin 1024) : val_main_v19 (F := Ideal) x1 x2 (ix2 n k) = cotOf x1 x2 n k := by
  have e : idx_main_v18 (ix2 n k) = ix2 0 k := funext fun a => match a with | ⟨0, _⟩ => rfl | ⟨1, _⟩ => rfl
  rw [val_main_v19_apply, val_main_v18_apply, e]
  rfl

theorem v24_at (n : Fin 2048) (k : Fin 1024) :
    val_main_v24 (F := Ideal) x0 x1 x2 (ix2 n k) = cotOf x1 x2 n k * inv (rowOf x0 n) := by
  have e : idx_main_v23 (ix2 n k) = ix2 n 0 := funext fun a => match a with | ⟨0, _⟩ => rfl | ⟨1, _⟩ => rfl
  rw [val_main_v24_apply, val_main_v23_apply, e, v7_at, v19_at]
  rfl

theorem v22_at (n : Fin 2048) : val_main_v22 (F := Ideal) x0 x1 x2 (ix2 n 0) = ∑ k, rowOf x0 n k * cotOf x1 x2 n k := by
  have e1 : idx_main_v22 (ix2 n 0) = ix1 n := funext fun a => Fin.ext (match a with | ⟨0, _⟩ => (by show n.val * 1 + 0 = n.val; omega))
  have e2 (k : Fin 1024) : idx_main_v21 (ix1 n) k = ix2 n k := funext fun a => match a with | ⟨0, _⟩ => rfl | ⟨1, _⟩ => rfl
  rw [val_main_v22_apply, e1, val_main_v21_apply]
  refine (congrArg (· + _) Ideal.ofBits_zero_f32).trans ((zero_add _).trans (Finset.sum_congr rfl fun k _ => ?_))
  rw [e2, val_main_v20_apply, v19_at]
  rfl

theorem v30_at (n : Fin 2048) (k : Fin 1024) :
    val_main_v30 (F := Ideal) x0 x1 x2 (ix2 n k) = owed (rowOf x0 n) (cotOf x1 x2 n) := by
  have e : idx_main_v30 (ix2 n k) = ix1 n := funext fun a => match a with | ⟨0, _⟩ => rfl
  have e2 : idx_main_v29 (ix1 n) 0 = ix2 n 0 := funext fun a => match a with | ⟨0, _⟩ => rfl | ⟨1, _⟩ => rfl
  rw [val_main_v30_apply, e, val_main_v29_apply, Fin.sum_univ_one, e2, val_main_v28_apply, val_main_v26_apply, v22_at, v10_at]
  exact (congrArg (· + _) Ideal.ofBits_zero_f32).trans (zero_add _)

theorem v34_at (n : Fin 2048) (k : Fin 1024) : val_main_v34 (F := Ideal) x0 x1 x2 x3 (ix2 n k) = (argsOf x0 x1 x2 x3).dX n k := by
  rw [val_main_v34_apply, val_main_v33_apply, val_main_v32_apply, val_main_v31_apply, val_main_v25_apply, v24_at, v30_at]
  show ((x3 (ix2 n k) + cotOf x1 x2 n k * inv (rowOf x0 n)) + x0 (ix2 n k) * owed (rowOf x0 n) (cotOf x1 x2 n))
      + owed (rowOf x0 n) (cotOf x1 x2 n) * x0 (ix2 n k)
    = ((cotOf x1 x2 n k * inv (rowOf x0 n) + x0 (ix2 n k) * owed (rowOf x0 n) (cotOf x1 x2 n))
      + owed (rowOf x0 n) (cotOf x1 x2 n) * x0 (ix2 n k)) + x3 (ix2 n k)
  rw [add_assoc, add_assoc, add_comm (x3 (ix2 n k)), ← add_assoc (cotOf x1 x2 n k * inv (rowOf x0 n))]

/-! ## The two results -/

theorem dX_eq : val_main_v34 (F := Ideal) x0 x1 x2 x3 = fun i => (argsOf x0 x1 x2 x3).dX (i 0) (i 1) := by
  funext i
  have e : i = ix2 (i 0) (i 1) := funext fun a => match a with | ⟨0, _⟩ => rfl | ⟨1, _⟩ => rfl
  exact (congrArg _ e).trans (v34_at x0 x1 x2 x3 (i 0) (i 1))
theorem dG_eq : val_main_v17 (F := Ideal) x0 x2 = fun i => (argsOf x0 x1 x2 x3).dG (i 1) := by
  funext i
  have e : i = ix2 0 (i 1) := funext fun a => match a with
    | ⟨0, _⟩ => Fin.ext (by have h : (i 0).val < 1 := (i 0).isLt; show (i 0).val = 0; omega) | ⟨1, _⟩ => rfl
  exact (congrArg _ e).trans (v17_at x0 x1 x2 x3 (i 1))

theorem argsOf_congr {x0 y0 : S2048x1024.Idx → EReal} {x1 y1 : S1x1024.Idx → EReal} {x2 y2 x3 y3 : S2048x1024.Idx → EReal}
    (h0 : x0 = y0) (h1 : x1 = y1) (h2 : x2 = y2) (h3 : x3 = y3) : argsOf x0 x1 x2 x3 = argsOf y0 y1 y2 y3 := by
  subst h0 h1 h2 h3; rfl

/-! ## The run -/

variable (m : (ℓ : Loc nD τ sig) → Buf (Elt Ideal) ℓ) (c : Dev nD)

/-- The arguments a device is launched with. -/
def args : RmsArgs :=
  argsOf (m ((c.tc : Thread nD τ).loc main_arg0)) (m ((c.tc : Thread nD τ).loc main_arg1)) (m ((c.tc : Thread nD τ).loc main_arg2))
    (m ((c.tc : Thread nD τ).loc main_arg3))

def dXArr : S2048x1024.Idx → EReal := fun i => (args m c).dX (i 0) (i 1)
def dGArr : S1x1024.Idx → EReal := fun i => (args m c).dG (i 1)

/-- What a memory holds of the results and of the arguments. -/
def Ends (r : PUnit × MemSt nD τ sig (Elt Ideal)) : Prop :=
  r.2.mem ((c.tc : Thread nD τ).loc main_v34) = dXArr m c
    ∧ r.2.mem ((c.tc : Thread nD τ).loc main_v17) = dGArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem run_ends (ρ : Dev nD → PrngReg) :
    θ_run defs (onTc (τ := τ) (main (F := Ideal))) ⟨m, fun _ => 0, ρ⟩ fun r => ∀ c : Dev nD, Ends m c r := by
  refine (θ_run defs _ _).mono (fun r h c => ?_) (Cert.ReferenceRmsIdeal.Value.run (F := Ideal) m ρ)
  obtain ⟨h1, h2, ha⟩ := h c
  refine ⟨?_, ?_, ha⟩
  · exact h1.trans ((val_main_v34_eq _ _ _ _).trans (dX_eq _ _ _ _))
  · exact h2.trans ((val_main_v17_eq _ _).trans (dG_eq _ (m ((c.tc : Thread nD τ).loc main_arg1)) _ (m ((c.tc : Thread nD τ).loc main_arg3))))

end Cert.ReferenceRmsIdeal.Hand

end
-- ==== Proof.LossSpec.lean ====
/-
  The mathematics of the loss: half the mean squared error of each row, summed over the rows, of a residual row plus a normed
  one against a target; and its gradients.
-/
module

public import proofs.«01_k».proof.Proof.NormSpec

@[expose] public section

noncomputable section

namespace Cert.Maths

open Idealize.ShloMosaic

def two : EReal := FloatOps.ofBits (F := Ideal) .f32 0x40000000#32

theorem two_eq : two = 1 + 1 := by
  have h : two = ((2 : ℝ) : EReal) := by
    show Ideal.ofBits .f32 0x40000000#32 = _
    simp [Ideal.ofBits, Ideal.ieee, -EReal.coe_mul]; norm_num
  rw [h, ← EReal.coe_one, ← EReal.coe_add]
  norm_num

theorem half_eq : half = ((1 / 2 : ℝ) : EReal) := by
  show Ideal.ofBits .f32 0x3F000000#32 = _
  simp [Ideal.ofBits, Ideal.ieee, -EReal.coe_mul]; norm_num

theorem two_mul' (a : EReal) : two * a = a + a := by
  rw [two_eq, EReal.right_distrib_of_nonneg zero_le_one zero_le_one, one_mul]

/-- Halving a sum is summing the halves. -/
theorem half_mul_add (a b : EReal) : half * (a + b) = half * a + half * b := by
  rw [half_eq]
  exact EReal.left_distrib_of_nonneg_of_ne_top (EReal.coe_nonneg.2 (by norm_num)) (EReal.coe_ne_top _) a b

theorem half_mul_sum {ι : Type} (s : Finset ι) (f : ι → EReal) : half * ∑ i ∈ s, f i = ∑ i ∈ s, half * f i := by
  classical
  induction s using Finset.induction_on with
  | empty => rw [Finset.sum_empty, Finset.sum_empty, mul_zero]
  | insert a s ha ih => rw [Finset.sum_insert ha, Finset.sum_insert ha, half_mul_add, ih]

/-- What the loss's cotangent is shared out to each entry of a row. -/
def part : EReal := Ideal.div (half * one) width
/-- A row's error. -/
def errOf (x f t g : Fin 1024 → EReal) (k : Fin 1024) : EReal := (x k + (f k * inv f) * g k) - t k
/-- The cotangent of an error. -/
def errBack (e : EReal) : EReal := e * part + part * e
/-- The mean squared error of a row. -/
def rowLoss (x f t g : Fin 1024 → EReal) : EReal := Ideal.div (∑ k, errOf x f t g k * errOf x f t g k) width

/-- The square's cotangent, in one product. -/
theorem part_two (e : EReal) : part * (two * e) = errBack e := by
  unfold errBack
  rw [mul_comm part, mul_assoc, two_mul', mul_comm part e]

/-- The arguments of the loss: the residual rows, the normed rows, the targets and the norm's weights. -/
structure LossArgs where
  x : Fin 2048 → Fin 1024 → EReal
  f : Fin 2048 → Fin 1024 → EReal
  t : Fin 2048 → Fin 1024 → EReal
  g : Fin 1024 → EReal

namespace LossArgs

/-- The error. -/
def err (A : LossArgs) (n : Fin 2048) (k : Fin 1024) : EReal := errOf (A.x n) (A.f n) (A.t n) A.g k
/-- The residual rows' gradient. -/
def dX (A : LossArgs) (n : Fin 2048) (k : Fin 1024) : EReal := errBack (A.err n k)
/-- The normed rows' gradient. -/
def dF (A : LossArgs) (n : Fin 2048) (k : Fin 1024) : EReal := normBack (A.f n) (fun k => A.dX n k * A.g k) k
/-- A row's share of the weights' gradient. -/
def dGRow (A : LossArgs) (k : Fin 1024) (n : Fin 2048) : EReal := (A.f n k * inv (A.f n)) * A.dX n k
/-- The weights' gradient. -/
def dG (A : LossArgs) (k : Fin 1024) : EReal := ∑ n, A.dGRow k n
/-- The mean squared error of a row. -/
def lossRow (A : LossArgs) (n : Fin 2048) : EReal := rowLoss (A.x n) (A.f n) (A.t n) A.g
/-- The loss. -/
def loss (A : LossArgs) : EReal := half * ∑ n, A.lossRow n

end LossArgs

end Cert.Maths

end
-- ==== Proof.LossOut.lean ====
/-
  The body of the loss at one grid point: what it leaves in its four outputs, an entry at a time, over the extended reals.
-/
module

public import proofs.«01_k».proof.Proof.Gen.KernelLossIdeal.Frame
public import proofs.«01_k».proof.Proof.LossSpec
public import Idealize.ShloMosaic.Lib.VecWindow

@[expose] public section

set_option maxRecDepth 16384

noncomputable section

namespace Cert.KernelLossIdeal.Hand

open Cert.KernelLossIdeal Cert.KernelLossIdeal.Gen Cert.Maths
open Idealize.ShloMosaic Idealize.SL.Sem

section body
variable {F : FTy → Type} [FloatOps F]

theorem z2 : (![0, 0] : Fin 2 → Nat) = fun _ => 0 := funext fun a => match a with | ⟨0, _⟩ => rfl | ⟨1, _⟩ => rfl

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x128 .f32) (harg8 : arg8.IsWhole)
    (x0 x1 x2 : Vec F S256x1024 .f32) (x3 : Vec F S1x1024 .f32)

/-- The residual rows' gradient is written anew at each point. -/
theorem out_A_4 (hc0 : cond0_0 i) :
    out0_A_4 c i arg1 harg1 arg2 harg2 arg3 harg3 arg4 harg4 arg5 harg5 arg6 harg6 arg7 harg7 arg8 harg8 hc0 x0 x1 x2 x3
      = k0_pay12 x0 x1 x3 x2 := by
  unfold out0_A_4 kernelRun0_A
  dsimp only
  sl_unfold_words
  rw [View.read_writes_full]
  simp only [View.readAt_eq_ld, harg1.read_unread, harg2.read_unread, harg3.read_unread, harg4.read_unread, harg7.read_unread, harg8.read_unread,
    View.ld_unit_zero (S := S256x1024) z2, View.ld_unit_zero (S := S1x1024) z2, View.ld_unit_zero (S := S1x128) z2]

/-- The normed rows' gradient is written anew at each point. -/
theorem out_A_5 (hc0 : cond0_0 i) :
    out0_A_5 c i arg1 harg1 arg2 harg2 arg3 harg3 arg4 harg4 arg5 harg5 arg6 harg6 arg7 harg7 arg8 harg8 hc0 x0 x1 x2 x3
      = k0_pay1 x1 x3 (k0_pay7 x1) (k0_pay8 x1) (k0_pay12 x0 x1 x3 x2) := by
  unfold out0_A_5 kernelRun0_A
  dsimp only
  sl_unfold_words
  rw [View.read_writes_full]
  simp only [View.readAt_eq_ld, harg1.read_unread, harg2.read_unread, harg3.read_unread, harg4.read_unread, harg7.read_unread, harg8.read_unread,
    View.ld_unit_zero (S := S256x1024) z2, View.ld_unit_zero (S := S1x1024) z2, View.ld_unit_zero (S := S1x128) z2]

/-- The residual rows' gradient is written anew at each point. -/
theorem out_B_4 (hc0 : ¬cond0_0 i) (xo6 : Vec F S1x1024 .f32) (xo7 : Vec F S1x128 .f32) :
    out0_B_4 c i arg1 harg1 arg2 harg2 arg3 harg3 arg4 harg4 arg5 harg5 arg6 harg6 arg7 harg7 arg8 harg8 hc0 x0 x1 x2 x3 xo6 xo7
      = k0_pay12 x0 x1 x3 x2 := by
  unfold out0_B_4 kernelRun0_B
  dsimp only
  sl_unfold_words
  rw [View.read_writes_full]
  simp only [View.readAt_eq_ld, harg1.read_unread, harg2.read_unread, harg3.read_unread, harg4.read_unread, harg7.read_unread, harg8.read_unread,
    View.ld_unit_zero (S := S256x1024) z2, View.ld_unit_zero (S := S1x1024) z2, View.ld_unit_zero (S := S1x128) z2]

/-- The normed rows' gradient is written anew at each point. -/
theorem out_B_5 (hc0 : ¬cond0_0 i) (xo6 : Vec F S1x1024 .f32) (xo7 : Vec F S1x128 .f32) :
    out0_B_5 c i arg1 harg1 arg2 harg2 arg3 harg3 arg4 harg4 arg5 harg5 arg6 harg6 arg7 harg7 arg8 harg8 hc0 x0 x1 x2 x3 xo6 xo7
      = k0_pay1 x1 x3 (k0_pay7 x1) (k0_pay8 x1) (k0_pay12 x0 x1 x3 x2) := by
  unfold out0_B_5 kernelRun0_B
  dsimp only
  sl_unfold_words
  rw [View.read_writes_full]
  simp only [View.readAt_eq_ld, harg1.read_unread, harg2.read_unread, harg3.read_unread, harg4.read_unread, harg7.read_unread, harg8.read_unread,
    View.ld_unit_zero (S := S256x1024) z2, View.ld_unit_zero (S := S1x1024) z2, View.ld_unit_zero (S := S1x128) z2]

/-- The weights' gradient starts from zero at the first point. -/
theorem out_A_6 (hc0 : cond0_0 i) :
    out0_A_6 c i arg1 harg1 arg2 harg2 arg3 harg3 arg4 harg4 arg5 harg5 arg6 harg6 arg7 harg7 arg8 harg8 hc0 x0 x1 x2 x3
      = k0_pay4 (k0_pay13 x0 x1 x3 x2) (k0_pay2 (F := F)) := by
  unfold out0_A_6 kernelRun0_A
  dsimp only
  sl_unfold_words
  rw [View.read_writes_full, View.readCov_unit_zero (S := S1x1024) _ z2]
  simp only [View.readAt_eq_ld, harg1.read_unread, harg2.read_unread, harg3.read_unread, harg4.read_unread, harg7.read_unread, harg8.read_unread,
    View.ld_unit_zero (S := S256x1024) z2, View.ld_unit_zero (S := S1x1024) z2, View.ld_unit_zero (S := S1x128) z2]

/-- A later point adds to what it finds. -/
theorem out_B_6 (hc0 : ¬cond0_0 i) (xo6 : Vec F S1x1024 .f32) (xo7 : Vec F S1x128 .f32) :
    out0_B_6 c i arg1 harg1 arg2 harg2 arg3 harg3 arg4 harg4 arg5 harg5 arg6 harg6 arg7 harg7 arg8 harg8 hc0 x0 x1 x2 x3 xo6 xo7
      = k0_pay4 (k0_pay13 x0 x1 x3 x2) xo6 := by
  unfold out0_B_6 kernelRun0_B
  dsimp only
  sl_unfold_words
  rw [View.read_writes_full]
  simp only [View.readAt_eq_ld, harg1.read_unread, harg2.read_unread, harg3.read_unread, harg4.read_unread, harg7.read_unread, harg8.read_unread,
    View.ld_unit_zero (S := S256x1024) z2, View.ld_unit_zero (S := S1x1024) z2, View.ld_unit_zero (S := S1x128) z2]

/-- The loss starts from zero at the first point. -/
theorem out_A_7 (hc0 : cond0_0 i) :
    out0_A_7 c i arg1 harg1 arg2 harg2 arg3 harg3 arg4 harg4 arg5 harg5 arg6 harg6 arg7 harg7 arg8 harg8 hc0 x0 x1 x2 x3
      = k0_pay5 (k0_pay11 x0 x1 x3 x2) (k0_pay3 (F := F)) := by
  unfold out0_A_7 kernelRun0_A
  dsimp only
  sl_unfold_words
  rw [View.read_writes_full, View.readCov_unit_zero (S := S1x128) _ z2]
  simp only [View.readAt_eq_ld, harg1.read_unread, harg2.read_unread, harg3.read_unread, harg4.read_unread, harg7.read_unread, harg8.read_unread,
    View.ld_unit_zero (S := S256x1024) z2, View.ld_unit_zero (S := S1x1024) z2, View.ld_unit_zero (S := S1x128) z2]

/-- A later point adds to what it finds. -/
theorem out_B_7 (hc0 : ¬cond0_0 i) (xo6 : Vec F S1x1024 .f32) (xo7 : Vec F S1x128 .f32) :
    out0_B_7 c i arg1 harg1 arg2 harg2 arg3 harg3 arg4 harg4 arg5 harg5 arg6 harg6 arg7 harg7 arg8 harg8 hc0 x0 x1 x2 x3 xo6 xo7
      = k0_pay5 (k0_pay11 x0 x1 x3 x2) xo7 := by
  unfold out0_B_7 kernelRun0_B
  dsimp only
  sl_unfold_words
  rw [View.read_writes_full]
  simp only [View.readAt_eq_ld, harg1.read_unread, harg2.read_unread, harg3.read_unread, harg4.read_unread, harg7.read_unread, harg8.read_unread,
    View.ld_unit_zero (S := S256x1024) z2, View.ld_unit_zero (S := S1x1024) z2, View.ld_unit_zero (S := S1x128) z2]

end body

section values
variable (x f t : Vec Ideal S256x1024 .f32) (g : Vec Ideal S1x1024 .f32)

/-- A tile's row. -/
def rowOf (x : Vec Ideal S256x1024 .f32) (n : Fin 256) (k : Fin 1024) : EReal := x (ix2 n k)
/-- The weights. -/
def weights (k : Fin 1024) : EReal := g (ix2 0 k)
/-- A tile row's error. -/
def errAt (n : Fin 256) (k : Fin 1024) : EReal := errOf (rowOf x n) (rowOf f n) (rowOf t n) (weights g) k

theorem pay6_apply (n : Fin 256) : k0_pay6 f (ix2 n 0) = meanSq (rowOf f n) := by
  unfold k0_pay6
  exact congrArg (fun a => Ideal.div a width + eps) (rowSum_apply (mulf f f) _ _ _ _ n)

theorem pay7_apply (n : Fin 256) : k0_pay7 f (ix2 n 0) = inv (rowOf f n) := by
  unfold k0_pay7
  exact congrArg Ideal.rsqrt (pay6_apply f n)

theorem pay8_apply (n : Fin 256) : k0_pay8 f (ix2 n 0) = minusHalf * Ideal.div (inv (rowOf f n)) (meanSq (rowOf f n)) := by
  unfold k0_pay8
  exact congrArg₂ (fun a b : EReal => minusHalf * Ideal.div a b) (pay7_apply f n) (pay6_apply f n)

theorem pay9_apply (n : Fin 256) (k : Fin 1024) : k0_pay9 f (ix2 n k) = f (ix2 n k) * inv (rowOf f n) := by
  unfold k0_pay9
  exact congrArg (f (ix2 n k) * ·) ((ofCol_apply _ _ n k).trans (pay7_apply f n))

theorem pay10_apply (n : Fin 256) (k : Fin 1024) : k0_pay10 x f g t (ix2 n k) = errAt x f t g n k := by
  unfold k0_pay10
  exact congrArg₂ (fun a b : EReal => (x (ix2 n k) + a * b) - t (ix2 n k)) (pay9_apply f n k) (ofRow_apply g _ n k)

theorem pay12_apply (n : Fin 256) (k : Fin 1024) : k0_pay12 x f g t (ix2 n k) = errBack (errAt x f t g n k) := by
  unfold k0_pay12 errBack
  have e := pay10_apply x f t g n k
  have q : broadcastTo S256x1024 (shapeCast S256x1 (divf (broadcast S256 (Scalar.mulf (Scalar.ofBits (F := Ideal) .f32 0x3F000000#32) (Scalar.ofBits (F := Ideal) .f32 0x3F800000#32)))
      (broadcast S256 (Scalar.ofBits (F := Ideal) .f32 0x44800000#32))) shapeCasts_S256_S256x1) broadcasts_S256x1_S256x1024 (ix2 n k) = part :=
    (ofCol_apply _ _ n k).trans rfl
  exact congrArg₂ (fun a b : EReal => a * b + b * a) e q

theorem pay13_apply (n : Fin 256) (k : Fin 1024) :
    k0_pay13 x f g t (ix2 n k) = (f (ix2 n k) * inv (rowOf f n)) * errBack (errAt x f t g n k) := by
  unfold k0_pay13
  exact congrArg₂ (fun a b : EReal => a * b) (pay9_apply f n k) (pay12_apply x f t g n k)

theorem pay2_apply (k : Fin 1024) : k0_pay2 (F := Ideal) (ix2 0 k) = 0 := Ideal.ofBits_zero_f32

theorem pay3_apply (k : Fin 128) : k0_pay3 (F := Ideal) (ix2 0 k) = 0 := Ideal.ofBits_zero_f32

theorem pay4_apply (xo : Vec Ideal S1x1024 .f32) (k : Fin 1024) :
    (k0_pay4 (k0_pay13 x f g t) xo (ix2 0 k) : EReal)
      = xo (ix2 0 k) + ∑ n : Fin 256, (f (ix2 n k) * inv (rowOf f n)) * errBack (errAt x f t g n k) := by
  unfold k0_pay4
  rw [shapeCast_self]
  exact congrArg (xo (ix2 0 k) + ·) ((tileSum_apply _ _ _ _ _ k).trans (Finset.sum_congr rfl fun n _ => pay13_apply x f t g n k))

theorem pay5_apply (v : EReal) (xo : Vec Ideal S1x128 .f32) (k : Fin 128) : (k0_pay5 (F := Ideal) v xo (ix2 0 k) : EReal) = xo (ix2 0 k) + v := by
  unfold k0_pay5
  rw [shapeCast_self]
  rfl

/-- A tile's rows summed to one number. -/
theorem total_apply (v : FVec Ideal S256 .f32) (h) (h1) (h2) (h3) (h4) (h5) :
    extractAt ![0, 0] (shapeCast S1x1 (multiReduction .add [1] S1 (shapeCast S1x256 v h3) 0x00000000#32 h h1 h2) h4) h5
      = ∑ n : Fin 256, v (ix1 n) := by
  unfold extractAt
  rw [shapeCast_apply (s := S1) (t := S1x1) _ h4 _ (ix1 0) (by
    rw [Shape.rowMajor_val_one, Shape.rowMajor_val_two]; rfl)]
  rw [multiReduction_add_apply, Ideal.reduceAdd_def, Ideal.reduceAdd_r2_a1]
  refine Finset.sum_congr rfl fun n _ => ?_
  exact shapeCast_apply (s := S256) (t := S1x256) _ h3 _ (ix1 n) (by
    rw [Shape.rowMajor_val_one, Shape.rowMajor_val_two]; show n.val = 0 * 256 + n.val; omega)

theorem pay11_apply : k0_pay11 x f g t = half * ∑ n : Fin 256, rowLoss (rowOf x n) (rowOf f n) (rowOf t n) (weights g) := by
  unfold k0_pay11
  refine congrArg (half * ·) ((total_apply _ _ _ _ _ _ _).trans (Finset.sum_congr rfl fun n _ => ?_))
  refine congrArg (fun a => Ideal.div a width) ((rowSumRow_apply (mulf (k0_pay10 x f g t) (k0_pay10 x f g t)) _ _ _ n).trans (Finset.sum_congr rfl fun k _ => ?_))
  exact congrArg (fun a : EReal => a * a) (pay10_apply x f t g n k)

theorem pay1_apply (d : FVec Ideal S256x1024 .f32) (n : Fin 256) (k : Fin 1024) :
    k0_pay1 f g (k0_pay7 f) (k0_pay8 f) d (ix2 n k) = normBack (rowOf f n) (fun k => d (ix2 n k) * g (ix2 0 k)) k := by
  have ed (k : Fin 1024) : mulf (F := Ideal) (φ := .f32) d (broadcastTo S256x1024 g broadcasts_S1x1024_S256x1024) (ix2 n k)
      = d (ix2 n k) * g (ix2 0 k) := congrArg (d (ix2 n k) * ·) (ofRow_apply g _ n k)
  unfold k0_pay1 normBack
  dsimp only
  have eo := (ofCol_apply _ broadcasts_S256x1_S256x1024 n k).trans ((colSum_apply
    (divf (mulf (shapeCast S256x1 (multiReduction .add [1] S256 (mulf f (mulf d (broadcastTo S256x1024 g broadcasts_S1x1024_S256x1024)))
        0x00000000#32 reduces_S256x1024_S256 (.inl rfl) rfl) shapeCasts_S256_S256x1) (k0_pay8 f))
      (broadcast S256x1 (Scalar.ofBits (F := Ideal) .f32 0x44800000#32))) reduces_S256x1_S256 (.inl rfl) rfl shapeCasts_S256_S256x1 n).trans
    (congrArg₂ (fun a b : EReal => Ideal.div (a * b) width)
      ((rowSum_apply (mulf f (mulf d (broadcastTo S256x1024 g broadcasts_S1x1024_S256x1024))) reduces_S256x1024_S256 (.inl rfl) rfl
        shapeCasts_S256_S256x1 n).trans (Finset.sum_congr rfl fun k _ => congrArg (f (ix2 n k) * ·) (ed k)))
      (pay8_apply f n)))
  refine congrArg₂ (fun a b : EReal => a + b) (congrArg₂ (fun a b : EReal => a + b) (congrArg₂ (fun a b : EReal => a * b) (ed k) ?_) ?_) ?_
  · exact (ofCol_apply _ _ n k).trans (pay7_apply f n)
  · exact congrArg (f (ix2 n k) * ·) eo
  · exact congrArg (· * f (ix2 n k)) eo

end values

end Cert.KernelLossIdeal.Hand

end
-- ==== Proof.LossArr.lean ====
/-
  What the loss ends at: each window's block of its operand, what each point leaves in the four outputs,
  and the four results.
-/
module

public import proofs.«01_k».proof.Proof.LossOut
public import Idealize.ShloMosaic.Lib.Pipeline.ValueKit

@[expose] public section

set_option maxRecDepth 16384

noncomputable section

namespace Cert.KernelLossIdeal.Hand

open Cert.KernelLossIdeal Cert.KernelLossIdeal.Gen Cert.Maths
open Idealize.ShloMosaic Idealize.ShloMosaic.TcCoe Idealize.SL.Sem

variable (m : (ℓ : Loc nD τ sig) → Buf (Elt Ideal) ℓ) (c : Dev nD)

/-- The arguments a device is launched with. -/
def args : LossArgs where
  x n k := (m ((c : Thread nD τ).loc main_arg0) : S2048x1024.Idx → EReal) (ix2 n k)
  f n k := (m ((c : Thread nD τ).loc main_arg1) : S2048x1024.Idx → EReal) (ix2 n k)
  t n k := (m ((c : Thread nD τ).loc main_arg2) : S2048x1024.Idx → EReal) (ix2 n k)
  g k := (m ((c : Thread nD τ).loc main_arg3) : S1x1024.Idx → EReal) (ix2 0 k)

/-! ## The windows' blocks -/

theorem lt8 (t : Fin cfg0.N) : t.val < 8 := t.isLt

theorem idx_in : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)
theorem idx_out : ∀ t : Fin cfg0.N, win0_4.index t = ![t.val, 0] ∧ win0_5.index t = ![t.val, 0] ∧ win0_6.index t = ![0, 0] ∧ win0_7.index t = ![0, 0] :=
  (by decide +kernel : ∀ t : Fin grid0.N, _)

theorem blk0 (t : Fin cfg0.N) (n : Fin 256) (k : Fin 1024) : (iblk m c 0 t : S256x1024.Idx → EReal) (ix2 n k) = (args m c).x (row8 t.val (lt8 t) n) k := by
  have ht := lt8 t
  show _ = (m ((c : Thread nD τ).loc main_arg0) : S2048x1024.Idx → EReal) _
  rw [← V_main_arg0 m c]
  unfold row8
  blk_ext [iblk, (idx_in t).1]
theorem blk1 (t : Fin cfg0.N) (n : Fin 256) (k : Fin 1024) : (iblk m c 1 t : S256x1024.Idx → EReal) (ix2 n k) = (args m c).f (row8 t.val (lt8 t) n) k := by
  have ht := lt8 t
  show _ = (m ((c : Thread nD τ).loc main_arg1) : S2048x1024.Idx → EReal) _
  rw [← V_main_arg1 m c]
  unfold row8
  blk_ext [iblk, (idx_in t).2.1]
theorem blk2 (t : Fin cfg0.N) (n : Fin 256) (k : Fin 1024) : (iblk m c 2 t : S256x1024.Idx → EReal) (ix2 n k) = (args m c).t (row8 t.val (lt8 t) n) k := by
  have ht := lt8 t
  show _ = (m ((c : Thread nD τ).loc main_arg2) : S2048x1024.Idx → EReal) _
  rw [← V_main_arg2 m c]
  unfold row8
  blk_ext [iblk, (idx_in t).2.2.1]
theorem blk3 (t : Fin cfg0.N) (k : Fin 1024) : (iblk m c 3 t : S1x1024.Idx → EReal) (ix2 0 k) = (args m c).g k := by
  show _ = (m ((c : Thread nD τ).loc main_arg3) : S1x1024.Idx → EReal) _
  rw [← V_main_arg3 m c]
  blk_ext [iblk, (idx_in t).2.2.2]

theorem row_x (t : Fin cfg0.N) (n : Fin 256) : rowOf (iblk m c 0 t) n = (args m c).x (row8 t.val (lt8 t) n) := funext fun k => blk0 m c t n k
theorem row_f (t : Fin cfg0.N) (n : Fin 256) : rowOf (iblk m c 1 t) n = (args m c).f (row8 t.val (lt8 t) n) := funext fun k => blk1 m c t n k
theorem row_t (t : Fin cfg0.N) (n : Fin 256) : rowOf (iblk m c 2 t) n = (args m c).t (row8 t.val (lt8 t) n) := funext fun k => blk2 m c t n k
theorem row_g (t : Fin cfg0.N) : weights (iblk m c 3 t) = (args m c).g := funext fun k => blk3 m c t k

theorem err_at (t : Fin cfg0.N) (n : Fin 256) (k : Fin 1024) :
    errAt (iblk m c 0 t) (iblk m c 1 t) (iblk m c 2 t) (iblk m c 3 t) n k = (args m c).err (row8 t.val (lt8 t) n) k := by
  unfold errAt LossArgs.err
  rw [row_x, row_f, row_t, row_g]

/-! ## What a point leaves -/

/-- The error's cotangent. -/
abbrev dAt (t : Fin cfg0.N) : FVec Ideal S256x1024 .f32 := k0_pay12 (iblk m c 0 t) (iblk m c 1 t) (iblk m c 3 t) (iblk m c 2 t)
/-- The cotangent's product with the normed rows. -/
abbrev gAt (t : Fin cfg0.N) : FVec Ideal S256x1024 .f32 := k0_pay13 (iblk m c 0 t) (iblk m c 1 t) (iblk m c 3 t) (iblk m c 2 t)
/-- The point's loss. -/
abbrev lAt (t : Fin cfg0.N) : EReal := k0_pay11 (F := Ideal) (iblk m c 0 t) (iblk m c 1 t) (iblk m c 3 t) (iblk m c 2 t)

theorem d_at (t : Fin cfg0.N) (n : Fin 256) (k : Fin 1024) : (dAt m c t : S256x1024.Idx → EReal) (ix2 n k) = (args m c).dX (row8 t.val (lt8 t) n) k :=
  (pay12_apply _ _ _ _ n k).trans (congrArg errBack (err_at m c t n k))

theorem outs4 (t : Fin cfg0.N) : (outsAt0 m c t.val t.isLt).1 = dAt m c t := by
  by_cases h : t.val % 8 = 0
  · refine (congrArg (fun x => x.1) (outsAt0_A m c t h)).trans ?_
    dsimp only
    rw [out_A_4]
  · refine (congrArg (fun x => x.1) (outsAt0_B m c t h)).trans ?_
    dsimp only
    rw [out_B_4]
theorem outs5 (t : Fin cfg0.N) : (outsAt0 m c t.val t.isLt).2.1 = k0_pay1 (iblk m c 1 t) (iblk m c 3 t) (k0_pay7 (iblk m c 1 t)) (k0_pay8 (iblk m c 1 t)) (dAt m c t) := by
  by_cases h : t.val % 8 = 0
  · refine (congrArg (fun x => x.2.1) (outsAt0_A m c t h)).trans ?_
    dsimp only
    rw [out_A_5]
  · refine (congrArg (fun x => x.2.1) (outsAt0_B m c t h)).trans ?_
    dsimp only
    rw [out_B_5]

theorem outs4_at (t : Fin cfg0.N) (n : Fin 256) (k : Fin 1024) :
    ((outsAt0 m c t.val t.isLt).1 : S256x1024.Idx → EReal) (ix2 n k) = (args m c).dX (row8 t.val (lt8 t) n) k := by
  rw [outs4]
  exact d_at m c t n k
theorem outs5_at (t : Fin cfg0.N) (n : Fin 256) (k : Fin 1024) :
    ((outsAt0 m c t.val t.isLt).2.1 : S256x1024.Idx → EReal) (ix2 n k) = (args m c).dF (row8 t.val (lt8 t) n) k := by
  rw [outs5]
  refine (pay1_apply _ _ _ n k).trans ?_
  unfold LossArgs.dF
  rw [row_f]
  exact congrArg (fun d => normBack _ d k) (funext fun k => congrArg₂ (fun a b : EReal => a * b) (d_at m c t n k) (blk3 m c t k))

theorem step6_at (t : Fin cfg0.N) (xo : Vec Ideal S1x1024 .f32) (k : Fin 1024) :
    (k0_pay4 (gAt m c t) xo (ix2 0 k) : EReal) = xo (ix2 0 k) + ∑ q ∈ Finset.range 256, col ((args m c).dGRow k) (256 * t.val + q) := by
  rw [sum_tile _ t.val (lt8 t)]
  refine (pay4_apply _ _ _ _ xo k).trans (congrArg (xo (ix2 0 k) + ·) (Finset.sum_congr rfl fun n _ => ?_))
  unfold LossArgs.dGRow
  rw [row_f, err_at]
  exact congrArg (fun a : EReal => (a * inv _) * errBack _) (blk1 m c t n k)

theorem step7_at (t : Fin cfg0.N) (xo : Vec Ideal S1x128 .f32) (k : Fin 128) :
    (k0_pay5 (F := Ideal) (lAt m c t) xo (ix2 0 k) : EReal) = xo (ix2 0 k) + half * ∑ q ∈ Finset.range 256, col (args m c).lossRow (256 * t.val + q) := by
  rw [sum_tile _ t.val (lt8 t)]
  refine (pay5_apply _ xo k).trans (congrArg (xo (ix2 0 k) + ·) ((pay11_apply _ _ _ _).trans (congrArg (half * ·) (Finset.sum_congr rfl fun n _ => ?_))))
  unfold LossArgs.lossRow
  rw [row_x, row_f, row_t, row_g]

/-- After point `t` the third output holds the shares of the rows of the points up to it. -/
theorem outs6_at (k : Fin 1024) : ∀ (t : ℕ) (ht : t < cfg0.N),
    ((outsAt0 m c t ht).2.2.1 : S1x1024.Idx → EReal) (ix2 0 k)
      = ∑ p ∈ Finset.range (t + 1), ∑ q ∈ Finset.range 256, col ((args m c).dGRow k) (256 * p + q)
  | 0, ht => by
    have e := congrArg (fun x => x.2.2.1) (outsAt0_A m c ⟨0, ht⟩ rfl)
    dsimp only at e
    rw [out_A_6] at e
    refine (congrFun e (ix2 0 k)).trans ((step6_at m c ⟨0, ht⟩ _ k).trans ?_)
    rw [pay2_apply, zero_add]
    exact (Finset.sum_range_one (fun p => ∑ q ∈ Finset.range 256, col ((args m c).dGRow k) (256 * p + q))).symm
  | t + 1, ht => by
    have h8 : t + 1 < 8 := ht
    have e := congrArg (fun x => x.2.2.1) (outsAt0_B m c ⟨t + 1, ht⟩ (by show ¬(t + 1) % 8 = 0; omega))
    dsimp only at e
    rw [out_B_6] at e
    refine (congrFun e (ix2 0 k)).trans ((step6_at m c ⟨t + 1, ht⟩ _ k).trans ?_)
    rw [Finset.sum_range_succ _ (t + 1)]
    exact congrArg (· + ∑ q ∈ Finset.range 256, col ((args m c).dGRow k) (256 * (t + 1) + q)) (outs6_at k t (Nat.lt_of_succ_lt ht))

/-- After point `t` the fourth output holds the losses of the points up to it. -/
theorem outs7_at (k : Fin 128) : ∀ (t : ℕ) (ht : t < cfg0.N),
    ((outsAt0 m c t ht).2.2.2 : S1x128.Idx → EReal) (ix2 0 k)
      = ∑ p ∈ Finset.range (t + 1), half * ∑ q ∈ Finset.range 256, col (args m c).lossRow (256 * p + q)
  | 0, ht => by
    have e := congrArg (fun x => x.2.2.2) (outsAt0_A m c ⟨0, ht⟩ rfl)
    dsimp only at e
    rw [out_A_7] at e
    refine (congrFun e (ix2 0 k)).trans ((step7_at m c ⟨0, ht⟩ _ k).trans ?_)
    rw [pay3_apply, zero_add]
    exact (Finset.sum_range_one (fun p => half * ∑ q ∈ Finset.range 256, col (args m c).lossRow (256 * p + q))).symm
  | t + 1, ht => by
    have h8 : t + 1 < 8 := ht
    have e := congrArg (fun x => x.2.2.2) (outsAt0_B m c ⟨t + 1, ht⟩ (by show ¬(t + 1) % 8 = 0; omega))
    dsimp only at e
    rw [out_B_7] at e
    refine (congrFun e (ix2 0 k)).trans ((step7_at m c ⟨t + 1, ht⟩ _ k).trans ?_)
    rw [Finset.sum_range_succ _ (t + 1)]
    exact congrArg (· + half * ∑ q ∈ Finset.range 256, col (args m c).lossRow (256 * (t + 1) + q)) (outs7_at k t (Nat.lt_of_succ_lt ht))

/-- At the last point, of all. -/
theorem outs6_last (t : ℕ) (ht : t < cfg0.N) (h : t = 7) (k : Fin 1024) :
    ((outsAt0 m c t ht).2.2.1 : S1x1024.Idx → EReal) (ix2 0 k) = (args m c).dG k := by
  subst h
  exact (outs6_at m c k 7 ht).trans (sum_tiles _)
theorem outs7_last (t : ℕ) (ht : t < cfg0.N) (h : t = 7) (k : Fin 128) :
    ((outsAt0 m c t ht).2.2.2 : S1x128.Idx → EReal) (ix2 0 k) = (args m c).loss := by
  subst h
  refine (outs7_at m c k 7 ht).trans ((half_mul_sum _ _).symm.trans ?_)
  exact congrArg (half * ·) (sum_tiles _)

/-! ## The results -/

def dXArr : S2048x1024.Idx → EReal := fun i => (args m c).dX (i 0) (i 1)
def dFArr : S2048x1024.Idx → EReal := fun i => (args m c).dF (i 0) (i 1)
def dGArr : S1x1024.Idx → EReal := fun i => (args m c).dG (i 1)
def lossArr : S1x128.Idx → EReal := fun _ => (args m c).loss

theorem arr4 : (dats m 0 c).arrAt 4 cfg0.N = dXArr m c := by
  refine (dats m 0 c).arrAt_eq_of_covers 4 _ (by decide +kernel) fun t hf y => ?_
  rw [after0_4]
  refine Eq.trans (b := ((outsAt0 m c t.val t.isLt).1 : S256x1024.Idx → EReal) (ix2 (y 0) (y 1))) ?_ ((outs4_at m c t (y 0) (y 1)).trans ?_)
  · exact congrArg (outsAt0 m c t.val t.isLt).1 (funext fun a => match a with | ⟨0, _⟩ => rfl | ⟨1, _⟩ => rfl)
  · unfold row8
    refine congrArg₂ (args m c).dX (Fin.ext ?_) (Fin.ext ?_)
    · blk_simp [(idx_out t).1]
      exact congrArg (· + _) (Nat.mul_comm ..)
    · blk_simp [(idx_out t).1]

theorem arr5 : (dats m 0 c).arrAt 5 cfg0.N = dFArr m c := by
  refine (dats m 0 c).arrAt_eq_of_covers 5 _ (by decide +kernel) fun t hf y => ?_
  rw [after0_5]
  refine Eq.trans (b := ((outsAt0 m c t.val t.isLt).2.1 : S256x1024.Idx → EReal) (ix2 (y 0) (y 1))) ?_ ((outs5_at m c t (y 0) (y 1)).trans ?_)
  · exact congrArg (outsAt0 m c t.val t.isLt).2.1 (funext fun a => match a with | ⟨0, _⟩ => rfl | ⟨1, _⟩ => rfl)
  · unfold row8
    refine congrArg₂ (args m c).dF (Fin.ext ?_) (Fin.ext ?_)
    · blk_simp [(idx_out t).2.1]
      exact congrArg (· + _) (Nat.mul_comm ..)
    · blk_simp [(idx_out t).2.1]

theorem arr6 : (dats m 0 c).arrAt 6 cfg0.N = dGArr m c := by
  refine (dats m 0 c).arrAt_eq_of_covers 6 _ (by decide +kernel) fun t hf y => ?_
  have ht : t.val = 7 := by
    have h1 := (flush0_6 t).mp hf
    have h2 := lt8 t
    omega
  rw [after0_6]
  refine Eq.trans (b := ((outsAt0 m c t.val t.isLt).2.2.1 : S1x1024.Idx → EReal) (ix2 0 (y 1))) ?_ ((outs6_last m c t.val t.isLt ht (y 1)).trans ?_)
  · exact congrArg (outsAt0 m c t.val t.isLt).2.2.1 (funext fun a => match a with | ⟨0, _⟩ => Fin.ext (by have h : (y 0).val < 1 := (y 0).isLt; show (y 0).val = 0; omega) | ⟨1, _⟩ => rfl)
  · refine congrArg (args m c).dG (Fin.ext ?_)
    blk_simp [(idx_out t).2.2.1]

theorem arr7 : (dats m 0 c).arrAt 7 cfg0.N = lossArr m c := by
  refine (dats m 0 c).arrAt_eq_of_covers 7 _ (by decide +kernel) fun t hf y => ?_
  have ht : t.val = 7 := by
    have h1 := (flush0_7 t).mp hf
    have h2 := lt8 t
    omega
  rw [after0_7]
  refine Eq.trans (b := ((outsAt0 m c t.val t.isLt).2.2.2 : S1x128.Idx → EReal) (ix2 0 (y 1))) ?_ ((outs7_last m c t.val t.isLt ht (y 1)).trans ?_)
  · exact congrArg (outsAt0 m c t.val t.isLt).2.2.2 (funext fun a => match a with | ⟨0, _⟩ => Fin.ext (by have h : (y 0).val < 1 := (y 0).isLt; show (y 0).val = 0; omega) | ⟨1, _⟩ => rfl)
  · rfl

theorem results {r : PUnit × MemSt nD τ sig (Elt Ideal)} (h : Pipeline.FramePost cfgs (dats m) 0 (V m) r) (c : Dev nD) :
    r.2.mem ((c : Thread nD τ).loc main_v0_0) = dXArr m c ∧ r.2.mem ((c : Thread nD τ).loc main_v0_1) = dFArr m c
      ∧ r.2.mem ((c : Thread nD τ).loc main_v0_2) = dGArr m c ∧ r.2.mem ((c : Thread nD τ).loc main_v0_3) = lossArr m c :=
  ⟨((h c).1 4).trans (arr4 m c), ((h c).1 5).trans (arr5 m c), ((h c).1 6).trans (arr6 m c), ((h c).1 7).trans (arr7 m c)⟩

end Cert.KernelLossIdeal.Hand

end
-- ==== Proof.RefLoss.lean ====
/-
  The reference of the loss: its intermediate arrays, an entry at a time, and its run.
-/
module

public import proofs.«01_k».proof.Proof.Gen.ReferenceLossIdeal.Read
public import proofs.«01_k».proof.Proof.LossSpec
public import Idealize.ShloMosaic.Lib.KernelVsHost
public import Idealize.ShloMosaic.Lib.Pointwise.Index

@[expose] public section

set_option maxRecDepth 16384

noncomputable section

namespace Cert.ReferenceLossIdeal.Hand

open Cert.ReferenceLossIdeal Cert.ReferenceLossIdeal.Gen Cert.ReferenceLossIdeal.Read Cert.Maths
open Idealize.ShloMosaic Idealize.ShloMosaic.TcCoe Idealize.SL.Sem

variable (x0 x1 x2 : S2048x1024.Idx → EReal) (x3 : S1x1024.Idx → EReal)

/-- The arguments by coordinates. -/
def argsOf : LossArgs where
  x n k := x0 (ix2 n k)
  f n k := x1 (ix2 n k)
  t n k := x2 (ix2 n k)
  g k := x3 (ix2 0 k)

/-- A row of an argument. -/
def rowOf (n : Fin 2048) (k : Fin 1024) : EReal := x1 (ix2 n k)

/-! ## The norm -/

theorem v6_at (n : Fin 2048) : val_main_v6 (F := Ideal) x1 (ix2 n 0) = meanSq (rowOf x1 n) := by
  have e2 : idx_main_v2 (ix2 n 0) = ix1 n := funext fun a => match a with | ⟨0, _⟩ => rfl
  have e1 (k : Fin 1024) : idx_main_v1 (ix1 n) k = ix2 n k := funext fun a => match a with | ⟨0, _⟩ => rfl | ⟨1, _⟩ => rfl
  rw [val_main_v6_apply, val_main_v4_apply, val_main_v2_apply, e2, val_main_v1_apply]
  simp only [e1]
  exact congrArg (fun a => Ideal.div a width + eps) ((congrArg (· + _) Ideal.ofBits_zero_f32).trans (zero_add _))

theorem v7_at (n : Fin 2048) : val_main_v7 (F := Ideal) x1 (ix2 n 0) = inv (rowOf x1 n) := by
  rw [val_main_v7_apply, v6_at]
  rfl

theorem v10_at (n : Fin 2048) :
    val_main_v10 (F := Ideal) x1 (ix2 n 0) = minusHalf * Ideal.div (inv (rowOf x1 n)) (meanSq (rowOf x1 n)) := by
  rw [val_main_v10_apply, val_main_v8_apply, v6_at, v7_at]
  rfl

theorem v12_at (n : Fin 2048) (k : Fin 1024) : val_main_v12 (F := Ideal) x1 (ix2 n k) = x1 (ix2 n k) * inv (rowOf x1 n) := by
  have e : idx_main_v11 (ix2 n k) = ix2 n 0 := funext fun a => match a with | ⟨0, _⟩ => rfl | ⟨1, _⟩ => rfl
  rw [val_main_v12_apply, val_main_v11_apply, e, v7_at]
  rfl

/-! ## The error and the loss -/

theorem v16_at (n : Fin 2048) (k : Fin 1024) : val_main_v16 (F := Ideal) x0 x1 x2 x3 (ix2 n k) = (argsOf x0 x1 x2 x3).err n k := by
  have e : idx_main_v13 (ix2 n k) = ix2 0 k := funext fun a => match a with | ⟨0, _⟩ => rfl | ⟨1, _⟩ => rfl
  rw [val_main_v16_apply, val_main_v15_apply, val_main_v14_apply, val_main_v13_apply, e, v12_at]
  rfl

theorem v22_at (n : Fin 2048) : val_main_v22 (F := Ideal) x0 x1 x2 x3 (ix1 n) = (argsOf x0 x1 x2 x3).lossRow n := by
  have e (k : Fin 1024) : idx_main_v20 (ix1 n) k = ix2 n k := funext fun a => match a with | ⟨0, _⟩ => rfl | ⟨1, _⟩ => rfl
  rw [val_main_v22_apply, val_main_v20_apply]
  refine congrArg (fun a => Ideal.div a width) ((congrArg (· + _) Ideal.ofBits_zero_f32).trans ((zero_add _).trans (Finset.sum_congr rfl fun k _ => ?_)))
  rw [e, val_main_v17_apply, v16_at]
  rfl

theorem v51_at (i : S1x128.Idx) : val_main_v51 (F := Ideal) x0 x1 x2 x3 i = (argsOf x0 x1 x2 x3).loss := by
  rw [val_main_v51_apply, val_main_v24_apply, val_main_v23_apply]
  refine congrArg (half * ·) ((congrArg (· + _) Ideal.ofBits_zero_f32).trans ((zero_add _).trans ?_))
  refine (Fintype.sum_equiv (Equiv.ofBijective (fun n : Fin 2048 => (ix1 n : S2048.Idx)) ⟨fun a b h => congrFun h 0, fun j => ⟨j 0, funext fun a => match a with | ⟨0, _⟩ => rfl⟩⟩)
    _ _ fun n => ?_).symm
  exact (v22_at x0 x1 x2 x3 n).symm

/-! ## The gradients -/

theorem v30_at (n : Fin 2048) (k : Fin 1024) : val_main_v30 (F := Ideal) x0 x1 x2 x3 (ix2 n k) = (argsOf x0 x1 x2 x3).dX n k := by
  rw [val_main_v30_apply, val_main_v29_apply, val_main_v28_apply, val_main_v19_apply, v16_at]
  exact part_two _

theorem v33_at (k : Fin 1024) : val_main_v33 (F := Ideal) x0 x1 x2 x3 (ix2 0 k) = (argsOf x0 x1 x2 x3).dG k := by
  have e1 : idx_main_v33 (ix2 0 k) = ix1 k := funext fun a => Fin.ext (match a with | ⟨0, _⟩ => (by show 0 * 1024 + k.val = k.val; omega))
  have e2 (n : Fin 2048) : idx_main_v32 (ix1 k) n = ix2 n k := funext fun a => match a with | ⟨0, _⟩ => rfl | ⟨1, _⟩ => rfl
  rw [val_main_v33_apply, e1, val_main_v32_apply]
  refine (congrArg (· + _) Ideal.ofBits_zero_f32).trans ((zero_add _).trans (Finset.sum_congr rfl fun n _ => ?_))
  rw [e2, val_main_v31_apply, v12_at, v30_at]
  rfl

/-- A row of the normed rows' cotangent. -/
def cotOf (n : Fin 2048) (k : Fin 1024) : EReal := (argsOf x0 x1 x2 x3).dX n k * x3 (ix2 0 k)

theorem v35_at (n : Fin 2048) (k : Fin 1024) : val_main_v35 (F := Ideal) x0 x1 x2 x3 (ix2 n k) = cotOf x0 x1 x2 x3 n k := by
  have e : idx_main_v34 (ix2 n k) = ix2 0 k := funext fun a => match a with | ⟨0, _⟩ => rfl | ⟨1, _⟩ => rfl
  rw [val_main_v35_apply, val_main_v34_apply, e, v30_at]
  rfl

theorem v40_at (n : Fin 2048) (k : Fin 1024) :
    val_main_v40 (F := Ideal) x0 x1 x2 x3 (ix2 n k) = cotOf x0 x1 x2 x3 n k * inv (rowOf x1 n) := by
  have e : idx_main_v39 (ix2 n k) = ix2 n 0 := funext fun a => match a with | ⟨0, _⟩ => rfl | ⟨1, _⟩ => rfl
  rw [val_main_v40_apply, val_main_v39_apply, e, v7_at, v35_at]
  rfl

theorem v38_at (n : Fin 2048) : val_main_v38 (F := Ideal) x0 x1 x2 x3 (ix2 n 0) = ∑ k, rowOf x1 n k * cotOf x0 x1 x2 x3 n k := by
  have e1 : idx_main_v38 (ix2 n 0) = ix1 n := funext fun a => Fin.ext (match a with | ⟨0, _⟩ => (by show n.val * 1 + 0 = n.val; omega))
  have e2 (k : Fin 1024) : idx_main_v37 (ix1 n) k = ix2 n k := funext fun a => match a with | ⟨0, _⟩ => rfl | ⟨1, _⟩ => rfl
  rw [val_main_v38_apply, e1, val_main_v37_apply]
  refine (congrArg (· + _) Ideal.ofBits_zero_f32).trans ((zero_add _).trans (Finset.sum_congr rfl fun k _ => ?_))
  rw [e2, val_main_v36_apply, v35_at]
  rfl

theorem v45_at (n : Fin 2048) (k : Fin 1024) :
    val_main_v45 (F := Ideal) x0 x1 x2 x3 (ix2 n k) = owed (rowOf x1 n) (cotOf x0 x1 x2 x3 n) := by
  have e : idx_main_v45 (ix2 n k) = ix1 n := funext fun a => match a with | ⟨0, _⟩ => rfl
  have e2 : idx_main_v44 (ix1 n) 0 = ix2 n 0 := funext fun a => match a with | ⟨0, _⟩ => rfl | ⟨1, _⟩ => rfl
  rw [val_main_v45_apply, e, val_main_v44_apply, Fin.sum_univ_one, e2, val_main_v43_apply, val_main_v41_apply, v38_at, v10_at]
  exact (congrArg (· + _) Ideal.ofBits_zero_f32).trans (zero_add _)

theorem v50_at (n : Fin 2048) (k : Fin 1024) : val_main_v50 (F := Ideal) x0 x1 x2 x3 (ix2 n k) = (argsOf x0 x1 x2 x3).dF n k := by
  rw [val_main_v50_apply, val_main_v49_apply, val_main_v48_apply, val_main_v47_apply, val_main_v46_apply, v40_at, v45_at]
  rfl

/-! ## The four results -/

theorem dX_eq : val_main_v30 (F := Ideal) x0 x1 x2 x3 = fun i => (argsOf x0 x1 x2 x3).dX (i 0) (i 1) := by
  funext i
  have e : i = ix2 (i 0) (i 1) := funext fun a => match a with | ⟨0, _⟩ => rfl | ⟨1, _⟩ => rfl
  exact (congrArg _ e).trans (v30_at x0 x1 x2 x3 (i 0) (i 1))
theorem dF_eq : val_main_v50 (F := Ideal) x0 x1 x2 x3 = fun i => (argsOf x0 x1 x2 x3).dF (i 0) (i 1) := by
  funext i
  have e : i = ix2 (i 0) (i 1) := funext fun a => match a with | ⟨0, _⟩ => rfl | ⟨1, _⟩ => rfl
  exact (congrArg _ e).trans (v50_at x0 x1 x2 x3 (i 0) (i 1))
theorem dG_eq : val_main_v33 (F := Ideal) x0 x1 x2 x3 = fun i => (argsOf x0 x1 x2 x3).dG (i 1) := by
  funext i
  have e : i = ix2 0 (i 1) := funext fun a => match a with
    | ⟨0, _⟩ => Fin.ext (by have h : (i 0).val < 1 := (i 0).isLt; show (i 0).val = 0; omega) | ⟨1, _⟩ => rfl
  exact (congrArg _ e).trans (v33_at x0 x1 x2 x3 (i 1))
theorem loss_eq : val_main_v51 (F := Ideal) x0 x1 x2 x3 = fun _ => (argsOf x0 x1 x2 x3).loss := funext (v51_at x0 x1 x2 x3)

theorem argsOf_congr {x0 y0 x1 y1 x2 y2 : S2048x1024.Idx → EReal} {x3 y3 : S1x1024.Idx → EReal}
    (h0 : x0 = y0) (h1 : x1 = y1) (h2 : x2 = y2) (h3 : x3 = y3) : argsOf x0 x1 x2 x3 = argsOf y0 y1 y2 y3 := by
  subst h0 h1 h2 h3; rfl

/-! ## The run -/

variable (m : (ℓ : Loc nD τ sig) → Buf (Elt Ideal) ℓ) (c : Dev nD)

/-- The arguments a device is launched with. -/
def args : LossArgs :=
  argsOf (m ((c.tc : Thread nD τ).loc main_arg0)) (m ((c.tc : Thread nD τ).loc main_arg1)) (m ((c.tc : Thread nD τ).loc main_arg2))
    (m ((c.tc : Thread nD τ).loc main_arg3))

def dXArr : S2048x1024.Idx → EReal := fun i => (args m c).dX (i 0) (i 1)
def dFArr : S2048x1024.Idx → EReal := fun i => (args m c).dF (i 0) (i 1)
def dGArr : S1x1024.Idx → EReal := fun i => (args m c).dG (i 1)
def lossArr : S1x128.Idx → EReal := fun _ => (args m c).loss

/-- What a memory holds of the results and of the arguments. -/
def Ends (r : PUnit × MemSt nD τ sig (Elt Ideal)) : Prop :=
  r.2.mem ((c.tc : Thread nD τ).loc main_v30) = dXArr m c
    ∧ r.2.mem ((c.tc : Thread nD τ).loc main_v50) = dFArr m c
    ∧ r.2.mem ((c.tc : Thread nD τ).loc main_v33) = dGArr m c
    ∧ r.2.mem ((c.tc : Thread nD τ).loc main_v51) = lossArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem run_ends (ρ : Dev nD → PrngReg) :
    θ_run defs (onTc (τ := τ) (main (F := Ideal))) ⟨m, fun _ => 0, ρ⟩ fun r => ∀ c : Dev nD, Ends m c r := by
  refine (θ_run defs _ _).mono (fun r h c => ?_) (Cert.ReferenceLossIdeal.Value.run (F := Ideal) m ρ)
  obtain ⟨h1, h2, h3, h4, ha⟩ := h c
  refine ⟨?_, ?_, ?_, ?_, ha⟩
  · exact h1.trans ((val_main_v30_eq _ _ _ _).trans (dX_eq _ _ _ _))
  · exact h2.trans ((val_main_v50_eq m c).trans (dF_eq _ _ _ _))
  · exact h3.trans ((val_main_v33_eq _ _ _ _).trans (dG_eq _ _ _ _))
  · exact h4.trans ((val_main_v51_eq _ _ _ _).trans (loss_eq _ _ _ _))

end Cert.ReferenceLossIdeal.Hand

end
-- ==== Proof.AdamSpec.lean ====
/-
  The mathematics of the optimiser's step on a matrix of weights, over the extended reals: the gradient summed from its
  four parts, the two moments, and the weights' change.
-/
module

public import proofs.«01_k».proof.Proof.Scalar

@[expose] public section

noncomputable section

namespace Cert.Maths

open Idealize.ShloMosaic

/-- How much of the first moment is kept, and how much of the gradient is added. -/
def keepM : EReal := FloatOps.ofBits (F := Ideal) .f32 0x3F666666#32
def addM : EReal := FloatOps.ofBits (F := Ideal) .f32 0x3DCCCCCD#32
/-- How much of the second moment is kept, and how much of the gradient's square is added. -/
def keepV : EReal := FloatOps.ofBits (F := Ideal) .f32 0x3F7FBE77#32
def addV : EReal := FloatOps.ofBits (F := Ideal) .f32 0x3A83126F#32
/-- What the moments are divided by, so early in the training. -/
def biasM : EReal := FloatOps.ofBits (F := Ideal) .f32 0x3F26BD02#32
def biasV : EReal := FloatOps.ofBits (F := Ideal) .f32 0x3C231ACC#32
/-- What is added to the root. -/
def rootEps : EReal := FloatOps.ofBits (F := Ideal) .f32 0x322BCC77#32
/-- How fast the weights decay. -/
def decay : EReal := FloatOps.ofBits (F := Ideal) .f32 0x3C23D70A#32
/-- The negated rate of learning. -/
def minusRate : EReal := FloatOps.ofBits (F := Ideal) .f32 0xBA83126F#32

/-- The first moment after a step. -/
def newMom (g m : EReal) : EReal := keepM * m + addM * g
/-- The second moment after a step. -/
def newVar (g v : EReal) : EReal := keepV * v + addV * (g * g)
/-- The change of a weight. -/
def change (w g m v : EReal) : EReal :=
  minusRate * (Ideal.div (Ideal.div (newMom g m) biasM) (Ideal.sqrt (Ideal.div (newVar g v) biasV) + rootEps) + decay * w)

/-- The arguments of the step on a matrix: the weights, the gradient's four parts, and the two moments. -/
structure AdamArgs (R C : ℕ) where
  w : Fin R → Fin C → EReal
  p : Fin 4 → Fin R → Fin C → EReal
  m : Fin R → Fin C → EReal
  v : Fin R → Fin C → EReal

namespace AdamArgs
variable {R C : ℕ} (A : AdamArgs R C)

/-- The gradient. -/
def grad (n : Fin R) (k : Fin C) : EReal := ((A.p 0 n k + A.p 1 n k) + A.p 2 n k) + A.p 3 n k
def mom (n : Fin R) (k : Fin C) : EReal := newMom (A.grad n k) (A.m n k)
def var (n : Fin R) (k : Fin C) : EReal := newVar (A.grad n k) (A.v n k)
def delta (n : Fin R) (k : Fin C) : EReal := change (A.w n k) (A.grad n k) (A.m n k) (A.v n k)

end AdamArgs

end Cert.Maths

end
-- ==== Proof.AdamArr.lean ====
/-
  The optimiser's step on the weights of the projection into the mixer, as the kernel takes it: what its body leaves at a grid point, an entry at a time, and the
  four results.
-/
module

public import proofs.«01_k».proof.Proof.Gen.KernelAdamIdeal.Frame
public import proofs.«01_k».proof.Proof.AdamSpec
public import Idealize.ShloMosaic.Lib.Pipeline.ValueKit
public import Idealize.ShloMosaic.Lib.KernelVsHost
public import Idealize.ShloMosaic.Lib.Pointwise

@[expose] public section

set_option maxRecDepth 16384

noncomputable section

namespace Cert.KernelAdamIdeal.Hand

open Cert.KernelAdamIdeal Cert.KernelAdamIdeal.Gen Cert.Maths
open Idealize.ShloMosaic Idealize.ShloMosaic.TcCoe Idealize.SL.Sem

/-! ## The body at an entry -/

section values
variable (x0 : Vec Ideal S256x320 .f32) (x1 : Vec Ideal S4x256x320 .bf16) (x2 x3 : Vec Ideal S256x320 .f32) (n : Fin 256) (k : Fin 320)

/-- A store of a whole block leaves what was stored. -/
theorem canon_at (p : Vec Ideal S256x320 .f32) : View.canon [⟨r0_4, p⟩] (ix2 n k) = p (ix2 n k) := by
  refine View.canon_apply_of_pieces p _ ?_ (ix2 n k) (cover0_4 p _)
  intro pc hpc
  rcases List.mem_cons.mp hpc with rfl | hpc
  · intro x
    refine congrArg p (funext fun a => Fin.ext ?_)
    match a with
    | ⟨0, _⟩ => show (x 0).val = 0 + 1 * (x 0).val; omega
    | ⟨1, _⟩ => show (x 1).val = 0 + 1 * (x 1).val; omega
  · nomatch hpc

theorem whole_at (x : Vec Ideal S256x320 .f32) : View.ld x r0_4 (ix2 n k) = x (ix2 n k) :=
  View.ld_unit_apply_of x _ _ _ _ _ fun a => match a with | ⟨0, _⟩ => (Nat.zero_add _).symm | ⟨1, _⟩ => (Nat.zero_add _).symm

theorem part0_at : View.ld x1 r0_0 (ix3 0 n k) = x1 (ix3 0 n k) :=
  View.ld_unit_apply_of x1 _ _ _ _ _ fun a => match a with | ⟨0, _⟩ => rfl | ⟨1, _⟩ => (Nat.zero_add _).symm | ⟨2, _⟩ => (Nat.zero_add _).symm
theorem part1_at : View.ld x1 r0_1 (ix3 0 n k) = x1 (ix3 1 n k) :=
  View.ld_unit_apply_of x1 _ _ _ _ _ fun a => match a with | ⟨0, _⟩ => rfl | ⟨1, _⟩ => (Nat.zero_add _).symm | ⟨2, _⟩ => (Nat.zero_add _).symm
theorem part2_at : View.ld x1 r0_2 (ix3 0 n k) = x1 (ix3 2 n k) :=
  View.ld_unit_apply_of x1 _ _ _ _ _ fun a => match a with | ⟨0, _⟩ => rfl | ⟨1, _⟩ => (Nat.zero_add _).symm | ⟨2, _⟩ => (Nat.zero_add _).symm
theorem part3_at : View.ld x1 r0_3 (ix3 0 n k) = x1 (ix3 3 n k) :=
  View.ld_unit_apply_of x1 _ _ _ _ _ fun a => match a with | ⟨0, _⟩ => rfl | ⟨1, _⟩ => (Nat.zero_add _).symm | ⟨2, _⟩ => (Nat.zero_add _).symm

/-- One part as a matrix. -/
theorem cast_at (x : Vec Ideal S1x256x320 .bf16) :
    shapeCast S256x320 x shapeCasts_S1x256x320_S256x320 (ix2 n k) = x (ix3 0 n k) :=
  shapeCast_apply (s := S1x256x320) (t := S256x320) _ _ (ix2 n k) (ix3 0 n k) (by
    rw [Shape.rowMajor_val_three, Shape.rowMajor_val_two]
    show (0 * 256 + n.val) * 320 + k.val = n.val * 320 + k.val
    omega)

/-- The gradient at an entry of the block. -/
def gradOf : EReal :=
  (((show EReal from x1 (ix3 0 n k)) + (show EReal from x1 (ix3 1 n k))) + (show EReal from x1 (ix3 2 n k))) + (show EReal from x1 (ix3 3 n k))

theorem pay2_at : k0_pay2 (View.ld x1 r0_0) (View.ld x1 r0_1) (View.ld x1 r0_2) (View.ld x1 r0_3) (ix2 n k) = gradOf x1 n k := by
  unfold k0_pay2
  exact congrArg₂ (fun a b : EReal => a + b)
    (congrArg₂ (fun a b : EReal => a + b)
      (congrArg₂ (fun a b : EReal => a + b) ((cast_at n k _).trans (part0_at x1 n k)) ((cast_at n k _).trans (part1_at x1 n k)))
      ((cast_at n k _).trans (part2_at x1 n k)))
    ((cast_at n k _).trans (part3_at x1 n k))

theorem pay3_at : k0_pay3 (View.ld x1 r0_0) (View.ld x1 r0_1) (View.ld x1 r0_2) (View.ld x1 r0_3) (View.ld x2 r0_4) (ix2 n k)
    = newMom (gradOf x1 n k) (x2 (ix2 n k)) := by
  unfold k0_pay3
  exact congrArg₂ newMom (pay2_at x1 n k) (whole_at n k x2)

theorem pay6_at : k0_pay6 x0 x1 x2 x3 (ix2 n k) = newVar (gradOf x1 n k) (x3 (ix2 n k)) := by
  unfold k0_pay6 k0_pay4
  exact congrArg₂ newVar (pay2_at x1 n k) (whole_at n k x3)

theorem out4_at : out0_4 x0 x1 x2 x3 (ix2 n k) = gradOf x1 n k := by
  unfold out0_4
  exact (canon_at n k _).trans (pay2_at x1 n k)

theorem out5_at : out0_5 x0 x1 x2 x3 (ix2 n k) = change (x0 (ix2 n k)) (gradOf x1 n k) (x2 (ix2 n k)) (x3 (ix2 n k)) := by
  unfold out0_5
  refine (canon_at n k _).trans ?_
  unfold k0_pay1 k0_pay5 change
  refine congrArg (minusRate * ·) (congrArg₂ (fun a b : EReal => a + b) ?_ (congrArg (decay * ·) (whole_at n k x0)))
  exact congrArg₂ (fun a b : EReal => Ideal.div (Ideal.div a biasM) (Ideal.sqrt (Ideal.div b biasV) + rootEps)) (pay3_at x1 x2 n k) (pay6_at x0 x1 x2 x3 n k)

theorem out6_at : out0_6 x0 x1 x2 x3 (ix2 n k) = newMom (gradOf x1 n k) (x2 (ix2 n k)) := by
  unfold out0_6
  exact (canon_at n k _).trans (pay3_at x1 x2 n k)

theorem out7_at : out0_7 x0 x1 x2 x3 (ix2 n k) = newVar (gradOf x1 n k) (x3 (ix2 n k)) := by
  unfold out0_7
  exact (canon_at n k _).trans (pay6_at x0 x1 x2 x3 n k)

end values

/-! ## The windows' blocks -/

variable (m : (ℓ : Loc nD τ sig) → Buf (Elt Ideal) ℓ) (c : Dev nD)

/-- The arguments a device is launched with. -/
def args : AdamArgs 1024 320 where
  w n k := (m ((c : Thread nD τ).loc main_arg0) : S1024x320.Idx → EReal) (ix2 n k)
  p j n k := (m ((c : Thread nD τ).loc main_arg1) : S4x1024x320.Idx → EReal) (ix3 j n k)
  m n k := (m ((c : Thread nD τ).loc main_arg2) : S1024x320.Idx → EReal) (ix2 n k)
  v n k := (m ((c : Thread nD τ).loc main_arg3) : S1024x320.Idx → EReal) (ix2 n k)

theorem points (t : Fin cfg0.N) : t.val < 4 := t.isLt

/-- The row of the matrix that a block's row is. -/
def rowAt (t : ℕ) (ht : t < 4) (n : Fin 256) : Fin 1024 := ⟨256 * t + n.val, by omega⟩

theorem idx_in : ∀ t : Fin cfg0.N, win0_0.index t = ![t.val, 0] ∧ win0_1.index t = ![0, t.val, 0] ∧ win0_2.index t = ![t.val, 0] ∧ win0_3.index t = ![t.val, 0] :=
  (by decide +kernel : ∀ t : Fin grid0.N, _)
theorem idx_out : ∀ t : Fin cfg0.N, win0_4.index t = ![t.val, 0] ∧ win0_5.index t = ![t.val, 0] ∧ win0_6.index t = ![t.val, 0] ∧ win0_7.index t = ![t.val, 0] :=
  (by decide +kernel : ∀ t : Fin grid0.N, _)

theorem blk0 (t : Fin cfg0.N) (n : Fin 256) (k : Fin 320) : (iblk m c 0 t : S256x320.Idx → EReal) (ix2 n k) = (args m c).w (rowAt t.val (points t) n) k := by
  have ht := points t
  show _ = (m ((c : Thread nD τ).loc main_arg0) : S1024x320.Idx → EReal) _
  rw [← V_main_arg0 m c]
  unfold rowAt
  blk_ext [iblk, (idx_in t).1]
theorem blk1 (t : Fin cfg0.N) (j : Fin 4) (n : Fin 256) (k : Fin 320) :
    (iblk m c 1 t : S4x256x320.Idx → EReal) (ix3 j n k) = (args m c).p j (rowAt t.val (points t) n) k := by
  have ht := points t
  show _ = (m ((c : Thread nD τ).loc main_arg1) : S4x1024x320.Idx → EReal) _
  rw [← V_main_arg1 m c]
  unfold rowAt
  blk_ext [iblk, (idx_in t).2.1]
theorem blk2 (t : Fin cfg0.N) (n : Fin 256) (k : Fin 320) : (iblk m c 2 t : S256x320.Idx → EReal) (ix2 n k) = (args m c).m (rowAt t.val (points t) n) k := by
  have ht := points t
  show _ = (m ((c : Thread nD τ).loc main_arg2) : S1024x320.Idx → EReal) _
  rw [← V_main_arg2 m c]
  unfold rowAt
  blk_ext [iblk, (idx_in t).2.2.1]
theorem blk3 (t : Fin cfg0.N) (n : Fin 256) (k : Fin 320) : (iblk m c 3 t : S256x320.Idx → EReal) (ix2 n k) = (args m c).v (rowAt t.val (points t) n) k := by
  have ht := points t
  show _ = (m ((c : Thread nD τ).loc main_arg3) : S1024x320.Idx → EReal) _
  rw [← V_main_arg3 m c]
  unfold rowAt
  blk_ext [iblk, (idx_in t).2.2.2]

theorem grad_at (t : Fin cfg0.N) (n : Fin 256) (k : Fin 320) : gradOf (iblk m c 1 t) n k = (args m c).grad (rowAt t.val (points t) n) k :=
  congrArg₂ (fun a b : EReal => a + b)
    (congrArg₂ (fun a b : EReal => a + b)
      (congrArg₂ (fun a b : EReal => a + b) (blk1 m c t 0 n k) (blk1 m c t 1 n k)) (blk1 m c t 2 n k)) (blk1 m c t 3 n k)

theorem mom_at (t : Fin cfg0.N) (n : Fin 256) (k : Fin 320) :
    newMom (gradOf (iblk m c 1 t) n k) ((iblk m c 2 t : S256x320.Idx → EReal) (ix2 n k)) = (args m c).mom (rowAt t.val (points t) n) k :=
  congrArg₂ newMom (grad_at m c t n k) (blk2 m c t n k)
theorem var_at (t : Fin cfg0.N) (n : Fin 256) (k : Fin 320) :
    newVar (gradOf (iblk m c 1 t) n k) ((iblk m c 3 t : S256x320.Idx → EReal) (ix2 n k)) = (args m c).var (rowAt t.val (points t) n) k :=
  congrArg₂ newVar (grad_at m c t n k) (blk3 m c t n k)
theorem delta_at (t : Fin cfg0.N) (n : Fin 256) (k : Fin 320) :
    change ((iblk m c 0 t : S256x320.Idx → EReal) (ix2 n k)) (gradOf (iblk m c 1 t) n k) ((iblk m c 2 t : S256x320.Idx → EReal) (ix2 n k))
      ((iblk m c 3 t : S256x320.Idx → EReal) (ix2 n k)) = (args m c).delta (rowAt t.val (points t) n) k := by
  rw [blk0 m c t n k, blk2 m c t n k, blk3 m c t n k, grad_at m c t n k]
  rfl

/-! ## The results -/

theorem by_coords (p : S256x320.Idx → EReal) (y : S256x320.Idx) : p y = p (ix2 (y 0) (y 1)) :=
  congrArg p (funext fun a => match a with | ⟨0, _⟩ => rfl | ⟨1, _⟩ => rfl)

def gradArr : S1024x320.Idx → EReal := fun i => (args m c).grad (i 0) (i 1)
def deltaArr : S1024x320.Idx → EReal := fun i => (args m c).delta (i 0) (i 1)
def momArr : S1024x320.Idx → EReal := fun i => (args m c).mom (i 0) (i 1)
def varArr : S1024x320.Idx → EReal := fun i => (args m c).var (i 0) (i 1)

theorem point4 (t : Fin cfg0.N) (y : S256x320.Idx) :
    (out0_4 (iblk m c 0 t) (iblk m c 1 t) (iblk m c 2 t) (iblk m c 3 t) : S256x320.Idx → EReal) y = (args m c).grad (rowAt t.val (points t) (y 0)) (y 1) :=
  (by_coords (out0_4 (iblk m c 0 t) (iblk m c 1 t) (iblk m c 2 t) (iblk m c 3 t)) y).trans
    ((out4_at (iblk m c 0 t) (iblk m c 1 t) (iblk m c 2 t) (iblk m c 3 t) (y 0) (y 1)).trans (grad_at m c t (y 0) (y 1)))

theorem entry4 (t : Fin cfg0.N) (y : S256x320.Idx) :
    (args m c).grad (rowAt t.val (points t) (y 0)) (y 1) = gradArr m c (((cfg0.win 4).blk t).view.emb y) := by
  unfold rowAt gradArr
  refine congrArg₂ (args m c).grad (Fin.ext ?_) (Fin.ext ?_)
  · blk_simp [(idx_out t).1]
    exact congrArg (· + _) (Nat.mul_comm ..)
  · blk_simp [(idx_out t).1]

theorem arr4 : (dats m 0 c).arrAt 4 cfg0.N = gradArr m c := by
  refine (dats m 0 c).arrAt_eq_of_covers 4 _ (by decide +kernel) fun t hf y => ?_
  have e := point4 m c t y
  rw [after0_4, show (out0_4 (iblk m c 0 t) (iblk m c 1 t) (iblk m c 2 t) (iblk m c 3 t)) y = _ from e]
  exact entry4 m c t y

theorem point5 (t : Fin cfg0.N) (y : S256x320.Idx) :
    (out0_5 (iblk m c 0 t) (iblk m c 1 t) (iblk m c 2 t) (iblk m c 3 t) : S256x320.Idx → EReal) y = (args m c).delta (rowAt t.val (points t) (y 0)) (y 1) :=
  (by_coords (out0_5 (iblk m c 0 t) (iblk m c 1 t) (iblk m c 2 t) (iblk m c 3 t)) y).trans
    ((out5_at (iblk m c 0 t) (iblk m c 1 t) (iblk m c 2 t) (iblk m c 3 t) (y 0) (y 1)).trans (delta_at m c t (y 0) (y 1)))

theorem entry5 (t : Fin cfg0.N) (y : S256x320.Idx) :
    (args m c).delta (rowAt t.val (points t) (y 0)) (y 1) = deltaArr m c (((cfg0.win 5).blk t).view.emb y) := by
  unfold rowAt deltaArr
  refine congrArg₂ (args m c).delta (Fin.ext ?_) (Fin.ext ?_)
  · blk_simp [(idx_out t).2.1]
    exact congrArg (· + _) (Nat.mul_comm ..)
  · blk_simp [(idx_out t).2.1]

theorem arr5 : (dats m 0 c).arrAt 5 cfg0.N = deltaArr m c := by
  refine (dats m 0 c).arrAt_eq_of_covers 5 _ (by decide +kernel) fun t hf y => ?_
  have e := point5 m c t y
  rw [after0_5, show (out0_5 (iblk m c 0 t) (iblk m c 1 t) (iblk m c 2 t) (iblk m c 3 t)) y = _ from e]
  exact entry5 m c t y

theorem point6 (t : Fin cfg0.N) (y : S256x320.Idx) :
    (out0_6 (iblk m c 0 t) (iblk m c 1 t) (iblk m c 2 t) (iblk m c 3 t) : S256x320.Idx → EReal) y = (args m c).mom (rowAt t.val (points t) (y 0)) (y 1) :=
  (by_coords (out0_6 (iblk m c 0 t) (iblk m c 1 t) (iblk m c 2 t) (iblk m c 3 t)) y).trans
    ((out6_at (iblk m c 0 t) (iblk m c 1 t) (iblk m c 2 t) (iblk m c 3 t) (y 0) (y 1)).trans (mom_at m c t (y 0) (y 1)))

theorem entry6 (t : Fin cfg0.N) (y : S256x320.Idx) :
    (args m c).mom (rowAt t.val (points t) (y 0)) (y 1) = momArr m c (((cfg0.win 6).blk t).view.emb y) := by
  unfold rowAt momArr
  refine congrArg₂ (args m c).mom (Fin.ext ?_) (Fin.ext ?_)
  · blk_simp [(idx_out t).2.2.1]
    exact congrArg (· + _) (Nat.mul_comm ..)
  · blk_simp [(idx_out t).2.2.1]

theorem arr6 : (dats m 0 c).arrAt 6 cfg0.N = momArr m c := by
  refine (dats m 0 c).arrAt_eq_of_covers 6 _ (by decide +kernel) fun t hf y => ?_
  have e := point6 m c t y
  rw [after0_6, show (out0_6 (iblk m c 0 t) (iblk m c 1 t) (iblk m c 2 t) (iblk m c 3 t)) y = _ from e]
  exact entry6 m c t y

theorem point7 (t : Fin cfg0.N) (y : S256x320.Idx) :
    (out0_7 (iblk m c 0 t) (iblk m c 1 t) (iblk m c 2 t) (iblk m c 3 t) : S256x320.Idx → EReal) y = (args m c).var (rowAt t.val (points t) (y 0)) (y 1) :=
  (by_coords (out0_7 (iblk m c 0 t) (iblk m c 1 t) (iblk m c 2 t) (iblk m c 3 t)) y).trans
    ((out7_at (iblk m c 0 t) (iblk m c 1 t) (iblk m c 2 t) (iblk m c 3 t) (y 0) (y 1)).trans (var_at m c t (y 0) (y 1)))

theorem entry7 (t : Fin cfg0.N) (y : S256x320.Idx) :
    (args m c).var (rowAt t.val (points t) (y 0)) (y 1) = varArr m c (((cfg0.win 7).blk t).view.emb y) := by
  unfold rowAt varArr
  refine congrArg₂ (args m c).var (Fin.ext ?_) (Fin.ext ?_)
  · blk_simp [(idx_out t).2.2.2]
    exact congrArg (· + _) (Nat.mul_comm ..)
  · blk_simp [(idx_out t).2.2.2]

theorem arr7 : (dats m 0 c).arrAt 7 cfg0.N = varArr m c := by
  refine (dats m 0 c).arrAt_eq_of_covers 7 _ (by decide +kernel) fun t hf y => ?_
  have e := point7 m c t y
  rw [after0_7, show (out0_7 (iblk m c 0 t) (iblk m c 1 t) (iblk m c 2 t) (iblk m c 3 t)) y = _ from e]
  exact entry7 m c t y

theorem results {r : PUnit × MemSt nD τ sig (Elt Ideal)} (h : Pipeline.FramePost cfgs (dats m) 0 (V m) r) (c : Dev nD) :
    r.2.mem ((c : Thread nD τ).loc main_v0_0) = gradArr m c ∧ r.2.mem ((c : Thread nD τ).loc main_v0_1) = deltaArr m c
      ∧ r.2.mem ((c : Thread nD τ).loc main_v0_2) = momArr m c ∧ r.2.mem ((c : Thread nD τ).loc main_v0_3) = varArr m c :=
  ⟨((h c).1 4).trans (arr4 m c), ((h c).1 5).trans (arr5 m c), ((h c).1 6).trans (arr6 m c), ((h c).1 7).trans (arr7 m c)⟩

end Cert.KernelAdamIdeal.Hand

end
-- ==== Proof.RefAdam.lean ====
/-
  The reference of the optimiser's step on the weights of the projection into the mixer: its results, an entry at a time, and its run.
-/
module

public import proofs.«01_k».proof.Proof.Gen.ReferenceAdamIdeal.Read
public import proofs.«01_k».proof.Proof.AdamSpec
public import Idealize.ShloMosaic.Lib.KernelVsHost
public import Idealize.ShloMosaic.Lib.Pointwise.Index

@[expose] public section

set_option maxRecDepth 16384

noncomputable section

namespace Cert.ReferenceAdamIdeal.Hand

open Cert.ReferenceAdamIdeal Cert.ReferenceAdamIdeal.Gen Cert.ReferenceAdamIdeal.Read Cert.Maths
open Idealize.ShloMosaic Idealize.ShloMosaic.TcCoe Idealize.SL.Sem

variable (x0 : S1024x320.Idx → EReal) (x1 : S4x1024x320.Idx → EReal) (x2 x3 : S1024x320.Idx → EReal)

/-- The arguments by coordinates. -/
def argsOf : AdamArgs 1024 320 where
  w n k := x0 (ix2 n k)
  p j n k := x1 (ix3 j n k)
  m n k := x2 (ix2 n k)
  v n k := x3 (ix2 n k)

theorem v1_at (n : Fin 1024) (k : Fin 320) : val_main_v1 (F := Ideal) x1 (ix2 n k) = (argsOf x0 x1 x2 x3).grad n k := by
  have e (j : Fin 4) : idx_main_v1 (ix2 n k) j = ix3 j n k := funext fun a => match a with | ⟨0, _⟩ => rfl | ⟨1, _⟩ => rfl | ⟨2, _⟩ => rfl
  rw [val_main_v1_apply]
  refine (congrArg (· + _) Ideal.ofBits_zero_f32).trans ((zero_add _).trans ?_)
  rw [Fin.sum_univ_four, e, e, e, e]
  rfl

theorem v6_at (n : Fin 1024) (k : Fin 320) : val_main_v6 (F := Ideal) x1 x2 (ix2 n k) = (argsOf x0 x1 x2 x3).mom n k := by
  rw [val_main_v6_apply, val_main_v5_apply, v1_at x0 x1 x2 x3]
  rfl

theorem v12_at (n : Fin 1024) (k : Fin 320) : val_main_v12 (F := Ideal) x1 x3 (ix2 n k) = (argsOf x0 x1 x2 x3).var n k := by
  rw [val_main_v12_apply, val_main_v11_apply, val_main_v9_apply, v1_at x0 x1 x2 x3]
  rfl

theorem v25_at (n : Fin 1024) (k : Fin 320) : val_main_v25 (F := Ideal) x0 x1 x2 x3 (ix2 n k) = (argsOf x0 x1 x2 x3).delta n k := by
  rw [val_main_v25_apply, val_main_v23_apply, val_main_v20_apply, val_main_v19_apply, val_main_v17_apply, val_main_v16_apply,
    val_main_v14_apply, v6_at x0 x1 x2 x3, v12_at x0 x1 x2 x3]
  rfl

/-! ## The four results -/

theorem entry (i : S1024x320.Idx) : i = ix2 (i 0) (i 1) := funext fun a => match a with | ⟨0, _⟩ => rfl | ⟨1, _⟩ => rfl

theorem grad_eq : val_main_v1 (F := Ideal) x1 = fun i => (argsOf x0 x1 x2 x3).grad (i 0) (i 1) :=
  funext fun i => (congrArg _ (entry i)).trans (v1_at x0 x1 x2 x3 (i 0) (i 1))
theorem delta_eq : val_main_v25 (F := Ideal) x0 x1 x2 x3 = fun i => (argsOf x0 x1 x2 x3).delta (i 0) (i 1) :=
  funext fun i => (congrArg _ (entry i)).trans (v25_at x0 x1 x2 x3 (i 0) (i 1))
theorem mom_eq : val_main_v6 (F := Ideal) x1 x2 = fun i => (argsOf x0 x1 x2 x3).mom (i 0) (i 1) :=
  funext fun i => (congrArg _ (entry i)).trans (v6_at x0 x1 x2 x3 (i 0) (i 1))
theorem var_eq : val_main_v12 (F := Ideal) x1 x3 = fun i => (argsOf x0 x1 x2 x3).var (i 0) (i 1) :=
  funext fun i => (congrArg _ (entry i)).trans (v12_at x0 x1 x2 x3 (i 0) (i 1))

theorem argsOf_congr {x0 y0 : S1024x320.Idx → EReal} {x1 y1 : S4x1024x320.Idx → EReal} {x2 y2 x3 y3 : S1024x320.Idx → EReal}
    (h0 : x0 = y0) (h1 : x1 = y1) (h2 : x2 = y2) (h3 : x3 = y3) : argsOf x0 x1 x2 x3 = argsOf y0 y1 y2 y3 := by
  subst h0 h1 h2 h3; rfl

/-! ## The run -/

variable (m : (ℓ : Loc nD τ sig) → Buf (Elt Ideal) ℓ) (c : Dev nD)

/-- The arguments a device is launched with. -/
def args : AdamArgs 1024 320 :=
  argsOf (m ((c.tc : Thread nD τ).loc main_arg0)) (m ((c.tc : Thread nD τ).loc main_arg1)) (m ((c.tc : Thread nD τ).loc main_arg2))
    (m ((c.tc : Thread nD τ).loc main_arg3))

def gradArr : S1024x320.Idx → EReal := fun i => (args m c).grad (i 0) (i 1)
def deltaArr : S1024x320.Idx → EReal := fun i => (args m c).delta (i 0) (i 1)
def momArr : S1024x320.Idx → EReal := fun i => (args m c).mom (i 0) (i 1)
def varArr : S1024x320.Idx → EReal := fun i => (args m c).var (i 0) (i 1)

/-- What a memory holds of the results and of the arguments. -/
def Ends (r : PUnit × MemSt nD τ sig (Elt Ideal)) : Prop :=
  r.2.mem ((c.tc : Thread nD τ).loc main_v1) = gradArr m c
    ∧ r.2.mem ((c.tc : Thread nD τ).loc main_v25) = deltaArr m c
    ∧ r.2.mem ((c.tc : Thread nD τ).loc main_v6) = momArr m c
    ∧ r.2.mem ((c.tc : Thread nD τ).loc main_v12) = varArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem run_ends (ρ : Dev nD → PrngReg) :
    θ_run defs (onTc (τ := τ) (main (F := Ideal))) ⟨m, fun _ => 0, ρ⟩ fun r => ∀ c : Dev nD, Ends m c r := by
  refine (θ_run defs _ _).mono (fun r h c => ?_) (Cert.ReferenceAdamIdeal.Value.run (F := Ideal) m ρ)
  obtain ⟨h1, h2, h3, h4, ha⟩ := h c
  refine ⟨?_, ?_, ?_, ?_, ha⟩
  · exact h1.trans ((val_main_v1_eq _).trans (grad_eq _ _ _ _))
  · exact h2.trans ((val_main_v25_eq _ _ _ _).trans (delta_eq _ _ _ _))
  · exact h3.trans ((val_main_v6_eq _ _).trans (mom_eq _ _ _ _))
  · exact h4.trans ((val_main_v12_eq _ _).trans (var_eq _ _ _ _))

end Cert.ReferenceAdamIdeal.Hand

end
-- ==== Proof.AdamOutArr.lean ====
/-
  The optimiser's step on the weights of the projection out of the mixer, as the kernel takes it: what its body leaves at a grid point, an entry at a time, and the
  four results.
-/
module

public import proofs.«01_k».proof.Proof.Gen.KernelAdamOutIdeal.Frame
public import proofs.«01_k».proof.Proof.AdamSpec
public import Idealize.ShloMosaic.Lib.Pipeline.ValueKit
public import Idealize.ShloMosaic.Lib.KernelVsHost
public import Idealize.ShloMosaic.Lib.Pointwise

@[expose] public section

set_option maxRecDepth 16384

noncomputable section

namespace Cert.KernelAdamOutIdeal.Hand

open Cert.KernelAdamOutIdeal Cert.KernelAdamOutIdeal.Gen Cert.Maths
open Idealize.ShloMosaic Idealize.ShloMosaic.TcCoe Idealize.SL.Sem

/-! ## The body at an entry -/

section values
variable (x0 : Vec Ideal S128x1024 .f32) (x1 : Vec Ideal S4x128x1024 .bf16) (x2 x3 : Vec Ideal S128x1024 .f32) (n : Fin 128) (k : Fin 1024)

/-- A store of a whole block leaves what was stored. -/
theorem canon_at (p : Vec Ideal S128x1024 .f32) : View.canon [⟨r0_4, p⟩] (ix2 n k) = p (ix2 n k) := by
  refine View.canon_apply_of_pieces p _ ?_ (ix2 n k) (cover0_4 p _)
  intro pc hpc
  rcases List.mem_cons.mp hpc with rfl | hpc
  · intro x
    refine congrArg p (funext fun a => Fin.ext ?_)
    match a with
    | ⟨0, _⟩ => show (x 0).val = 0 + 1 * (x 0).val; omega
    | ⟨1, _⟩ => show (x 1).val = 0 + 1 * (x 1).val; omega
  · nomatch hpc

theorem whole_at (x : Vec Ideal S128x1024 .f32) : View.ld x r0_4 (ix2 n k) = x (ix2 n k) :=
  View.ld_unit_apply_of x _ _ _ _ _ fun a => match a with | ⟨0, _⟩ => (Nat.zero_add _).symm | ⟨1, _⟩ => (Nat.zero_add _).symm

theorem part0_at : View.ld x1 r0_0 (ix3 0 n k) = x1 (ix3 0 n k) :=
  View.ld_unit_apply_of x1 _ _ _ _ _ fun a => match a with | ⟨0, _⟩ => rfl | ⟨1, _⟩ => (Nat.zero_add _).symm | ⟨2, _⟩ => (Nat.zero_add _).symm
theorem part1_at : View.ld x1 r0_1 (ix3 0 n k) = x1 (ix3 1 n k) :=
  View.ld_unit_apply_of x1 _ _ _ _ _ fun a => match a with | ⟨0, _⟩ => rfl | ⟨1, _⟩ => (Nat.zero_add _).symm | ⟨2, _⟩ => (Nat.zero_add _).symm
theorem part2_at : View.ld x1 r0_2 (ix3 0 n k) = x1 (ix3 2 n k) :=
  View.ld_unit_apply_of x1 _ _ _ _ _ fun a => match a with | ⟨0, _⟩ => rfl | ⟨1, _⟩ => (Nat.zero_add _).symm | ⟨2, _⟩ => (Nat.zero_add _).symm
theorem part3_at : View.ld x1 r0_3 (ix3 0 n k) = x1 (ix3 3 n k) :=
  View.ld_unit_apply_of x1 _ _ _ _ _ fun a => match a with | ⟨0, _⟩ => rfl | ⟨1, _⟩ => (Nat.zero_add _).symm | ⟨2, _⟩ => (Nat.zero_add _).symm

/-- One part as a matrix. -/
theorem cast_at (x : Vec Ideal S1x128x1024 .bf16) :
    shapeCast S128x1024 x shapeCasts_S1x128x1024_S128x1024 (ix2 n k) = x (ix3 0 n k) :=
  shapeCast_apply (s := S1x128x1024) (t := S128x1024) _ _ (ix2 n k) (ix3 0 n k) (by
    rw [Shape.rowMajor_val_three, Shape.rowMajor_val_two]
    show (0 * 128 + n.val) * 1024 + k.val = n.val * 1024 + k.val
    omega)

/-- The gradient at an entry of the block. -/
def gradOf : EReal :=
  (((show EReal from x1 (ix3 0 n k)) + (show EReal from x1 (ix3 1 n k))) + (show EReal from x1 (ix3 2 n k))) + (show EReal from x1 (ix3 3 n k))

theorem pay2_at : k0_pay2 (View.ld x1 r0_0) (View.ld x1 r0_1) (View.ld x1 r0_2) (View.ld x1 r0_3) (ix2 n k) = gradOf x1 n k := by
  unfold k0_pay2
  exact congrArg₂ (fun a b : EReal => a + b)
    (congrArg₂ (fun a b : EReal => a + b)
      (congrArg₂ (fun a b : EReal => a + b) ((cast_at n k _).trans (part0_at x1 n k)) ((cast_at n k _).trans (part1_at x1 n k)))
      ((cast_at n k _).trans (part2_at x1 n k)))
    ((cast_at n k _).trans (part3_at x1 n k))

theorem pay3_at : k0_pay3 (View.ld x1 r0_0) (View.ld x1 r0_1) (View.ld x1 r0_2) (View.ld x1 r0_3) (View.ld x2 r0_4) (ix2 n k)
    = newMom (gradOf x1 n k) (x2 (ix2 n k)) := by
  unfold k0_pay3
  exact congrArg₂ newMom (pay2_at x1 n k) (whole_at n k x2)

theorem pay6_at : k0_pay6 x0 x1 x2 x3 (ix2 n k) = newVar (gradOf x1 n k) (x3 (ix2 n k)) := by
  unfold k0_pay6 k0_pay4
  exact congrArg₂ newVar (pay2_at x1 n k) (whole_at n k x3)

theorem out4_at : out0_4 x0 x1 x2 x3 (ix2 n k) = gradOf x1 n k := by
  unfold out0_4
  exact (canon_at n k _).trans (pay2_at x1 n k)

theorem out5_at : out0_5 x0 x1 x2 x3 (ix2 n k) = change (x0 (ix2 n k)) (gradOf x1 n k) (x2 (ix2 n k)) (x3 (ix2 n k)) := by
  unfold out0_5
  refine (canon_at n k _).trans ?_
  unfold k0_pay1 k0_pay5 change
  refine congrArg (minusRate * ·) (congrArg₂ (fun a b : EReal => a + b) ?_ (congrArg (decay * ·) (whole_at n k x0)))
  exact congrArg₂ (fun a b : EReal => Ideal.div (Ideal.div a biasM) (Ideal.sqrt (Ideal.div b biasV) + rootEps)) (pay3_at x1 x2 n k) (pay6_at x0 x1 x2 x3 n k)

theorem out6_at : out0_6 x0 x1 x2 x3 (ix2 n k) = newMom (gradOf x1 n k) (x2 (ix2 n k)) := by
  unfold out0_6
  exact (canon_at n k _).trans (pay3_at x1 x2 n k)

theorem out7_at : out0_7 x0 x1 x2 x3 (ix2 n k) = newVar (gradOf x1 n k) (x3 (ix2 n k)) := by
  unfold out0_7
  exact (canon_at n k _).trans (pay6_at x0 x1 x2 x3 n k)

end values

/-! ## The windows' blocks -/

variable (m : (ℓ : Loc nD τ sig) → Buf (Elt Ideal) ℓ) (c : Dev nD)

/-- The arguments a device is launched with. -/
def args : AdamArgs 128 1024 where
  w n k := (m ((c : Thread nD τ).loc main_arg0) : S128x1024.Idx → EReal) (ix2 n k)
  p j n k := (m ((c : Thread nD τ).loc main_arg1) : S4x128x1024.Idx → EReal) (ix3 j n k)
  m n k := (m ((c : Thread nD τ).loc main_arg2) : S128x1024.Idx → EReal) (ix2 n k)
  v n k := (m ((c : Thread nD τ).loc main_arg3) : S128x1024.Idx → EReal) (ix2 n k)

theorem points (t : Fin cfg0.N) : t.val < 1 := t.isLt

/-- The row of the matrix that a block's row is. -/
def rowAt (t : ℕ) (ht : t < 1) (n : Fin 128) : Fin 128 := ⟨128 * t + n.val, by omega⟩

theorem idx_in : ∀ t : Fin cfg0.N, win0_0.index t = ![t.val, 0] ∧ win0_1.index t = ![0, t.val, 0] ∧ win0_2.index t = ![t.val, 0] ∧ win0_3.index t = ![t.val, 0] :=
  (by decide +kernel : ∀ t : Fin grid0.N, _)
theorem idx_out : ∀ t : Fin cfg0.N, win0_4.index t = ![t.val, 0] ∧ win0_5.index t = ![t.val, 0] ∧ win0_6.index t = ![t.val, 0] ∧ win0_7.index t = ![t.val, 0] :=
  (by decide +kernel : ∀ t : Fin grid0.N, _)

theorem blk0 (t : Fin cfg0.N) (n : Fin 128) (k : Fin 1024) : (iblk m c 0 t : S128x1024.Idx → EReal) (ix2 n k) = (args m c).w (rowAt t.val (points t) n) k := by
  have ht := points t
  show _ = (m ((c : Thread nD τ).loc main_arg0) : S128x1024.Idx → EReal) _
  rw [← V_main_arg0 m c]
  unfold rowAt
  blk_ext [iblk, (idx_in t).1]
theorem blk1 (t : Fin cfg0.N) (j : Fin 4) (n : Fin 128) (k : Fin 1024) :
    (iblk m c 1 t : S4x128x1024.Idx → EReal) (ix3 j n k) = (args m c).p j (rowAt t.val (points t) n) k := by
  have ht := points t
  show _ = (m ((c : Thread nD τ).loc main_arg1) : S4x128x1024.Idx → EReal) _
  rw [← V_main_arg1 m c]
  unfold rowAt
  blk_ext [iblk, (idx_in t).2.1]
theorem blk2 (t : Fin cfg0.N) (n : Fin 128) (k : Fin 1024) : (iblk m c 2 t : S128x1024.Idx → EReal) (ix2 n k) = (args m c).m (rowAt t.val (points t) n) k := by
  have ht := points t
  show _ = (m ((c : Thread nD τ).loc main_arg2) : S128x1024.Idx → EReal) _
  rw [← V_main_arg2 m c]
  unfold rowAt
  blk_ext [iblk, (idx_in t).2.2.1]
theorem blk3 (t : Fin cfg0.N) (n : Fin 128) (k : Fin 1024) : (iblk m c 3 t : S128x1024.Idx → EReal) (ix2 n k) = (args m c).v (rowAt t.val (points t) n) k := by
  have ht := points t
  show _ = (m ((c : Thread nD τ).loc main_arg3) : S128x1024.Idx → EReal) _
  rw [← V_main_arg3 m c]
  unfold rowAt
  blk_ext [iblk, (idx_in t).2.2.2]

theorem grad_at (t : Fin cfg0.N) (n : Fin 128) (k : Fin 1024) : gradOf (iblk m c 1 t) n k = (args m c).grad (rowAt t.val (points t) n) k :=
  congrArg₂ (fun a b : EReal => a + b)
    (congrArg₂ (fun a b : EReal => a + b)
      (congrArg₂ (fun a b : EReal => a + b) (blk1 m c t 0 n k) (blk1 m c t 1 n k)) (blk1 m c t 2 n k)) (blk1 m c t 3 n k)

theorem mom_at (t : Fin cfg0.N) (n : Fin 128) (k : Fin 1024) :
    newMom (gradOf (iblk m c 1 t) n k) ((iblk m c 2 t : S128x1024.Idx → EReal) (ix2 n k)) = (args m c).mom (rowAt t.val (points t) n) k :=
  congrArg₂ newMom (grad_at m c t n k) (blk2 m c t n k)
theorem var_at (t : Fin cfg0.N) (n : Fin 128) (k : Fin 1024) :
    newVar (gradOf (iblk m c 1 t) n k) ((iblk m c 3 t : S128x1024.Idx → EReal) (ix2 n k)) = (args m c).var (rowAt t.val (points t) n) k :=
  congrArg₂ newVar (grad_at m c t n k) (blk3 m c t n k)
theorem delta_at (t : Fin cfg0.N) (n : Fin 128) (k : Fin 1024) :
    change ((iblk m c 0 t : S128x1024.Idx → EReal) (ix2 n k)) (gradOf (iblk m c 1 t) n k) ((iblk m c 2 t : S128x1024.Idx → EReal) (ix2 n k))
      ((iblk m c 3 t : S128x1024.Idx → EReal) (ix2 n k)) = (args m c).delta (rowAt t.val (points t) n) k := by
  rw [blk0 m c t n k, blk2 m c t n k, blk3 m c t n k, grad_at m c t n k]
  rfl

/-! ## The results -/

theorem by_coords (p : S128x1024.Idx → EReal) (y : S128x1024.Idx) : p y = p (ix2 (y 0) (y 1)) :=
  congrArg p (funext fun a => match a with | ⟨0, _⟩ => rfl | ⟨1, _⟩ => rfl)

def gradArr : S128x1024.Idx → EReal := fun i => (args m c).grad (i 0) (i 1)
def deltaArr : S128x1024.Idx → EReal := fun i => (args m c).delta (i 0) (i 1)
def momArr : S128x1024.Idx → EReal := fun i => (args m c).mom (i 0) (i 1)
def varArr : S128x1024.Idx → EReal := fun i => (args m c).var (i 0) (i 1)

theorem point4 (t : Fin cfg0.N) (y : S128x1024.Idx) :
    (out0_4 (iblk m c 0 t) (iblk m c 1 t) (iblk m c 2 t) (iblk m c 3 t) : S128x1024.Idx → EReal) y = (args m c).grad (rowAt t.val (points t) (y 0)) (y 1) :=
  (by_coords (out0_4 (iblk m c 0 t) (iblk m c 1 t) (iblk m c 2 t) (iblk m c 3 t)) y).trans
    ((out4_at (iblk m c 0 t) (iblk m c 1 t) (iblk m c 2 t) (iblk m c 3 t) (y 0) (y 1)).trans (grad_at m c t (y 0) (y 1)))

theorem entry4 (t : Fin cfg0.N) (y : S128x1024.Idx) :
    (args m c).grad (rowAt t.val (points t) (y 0)) (y 1) = gradArr m c (((cfg0.win 4).blk t).view.emb y) := by
  unfold rowAt gradArr
  refine congrArg₂ (args m c).grad (Fin.ext ?_) (Fin.ext ?_)
  · blk_simp [(idx_out t).1]
    show 128 * 0 + (y 0).val = (y 0).val
    omega
  · blk_simp [(idx_out t).1]

theorem arr4 : (dats m 0 c).arrAt 4 cfg0.N = gradArr m c := by
  refine (dats m 0 c).arrAt_eq_of_covers 4 _ (by decide +kernel) fun t hf y => ?_
  have e := point4 m c t y
  rw [after0_4, show (out0_4 (iblk m c 0 t) (iblk m c 1 t) (iblk m c 2 t) (iblk m c 3 t)) y = _ from e]
  exact entry4 m c t y

theorem point5 (t : Fin cfg0.N) (y : S128x1024.Idx) :
    (out0_5 (iblk m c 0 t) (iblk m c 1 t) (iblk m c 2 t) (iblk m c 3 t) : S128x1024.Idx → EReal) y = (args m c).delta (rowAt t.val (points t) (y 0)) (y 1) :=
  (by_coords (out0_5 (iblk m c 0 t) (iblk m c 1 t) (iblk m c 2 t) (iblk m c 3 t)) y).trans
    ((out5_at (iblk m c 0 t) (iblk m c 1 t) (iblk m c 2 t) (iblk m c 3 t) (y 0) (y 1)).trans (delta_at m c t (y 0) (y 1)))

theorem entry5 (t : Fin cfg0.N) (y : S128x1024.Idx) :
    (args m c).delta (rowAt t.val (points t) (y 0)) (y 1) = deltaArr m c (((cfg0.win 5).blk t).view.emb y) := by
  unfold rowAt deltaArr
  refine congrArg₂ (args m c).delta (Fin.ext ?_) (Fin.ext ?_)
  · blk_simp [(idx_out t).2.1]
    show 128 * 0 + (y 0).val = (y 0).val
    omega
  · blk_simp [(idx_out t).2.1]

theorem arr5 : (dats m 0 c).arrAt 5 cfg0.N = deltaArr m c := by
  refine (dats m 0 c).arrAt_eq_of_covers 5 _ (by decide +kernel) fun t hf y => ?_
  have e := point5 m c t y
  rw [after0_5, show (out0_5 (iblk m c 0 t) (iblk m c 1 t) (iblk m c 2 t) (iblk m c 3 t)) y = _ from e]
  exact entry5 m c t y

theorem point6 (t : Fin cfg0.N) (y : S128x1024.Idx) :
    (out0_6 (iblk m c 0 t) (iblk m c 1 t) (iblk m c 2 t) (iblk m c 3 t) : S128x1024.Idx → EReal) y = (args m c).mom (rowAt t.val (points t) (y 0)) (y 1) :=
  (by_coords (out0_6 (iblk m c 0 t) (iblk m c 1 t) (iblk m c 2 t) (iblk m c 3 t)) y).trans
    ((out6_at (iblk m c 0 t) (iblk m c 1 t) (iblk m c 2 t) (iblk m c 3 t) (y 0) (y 1)).trans (mom_at m c t (y 0) (y 1)))

theorem entry6 (t : Fin cfg0.N) (y : S128x1024.Idx) :
    (args m c).mom (rowAt t.val (points t) (y 0)) (y 1) = momArr m c (((cfg0.win 6).blk t).view.emb y) := by
  unfold rowAt momArr
  refine congrArg₂ (args m c).mom (Fin.ext ?_) (Fin.ext ?_)
  · blk_simp [(idx_out t).2.2.1]
    show 128 * 0 + (y 0).val = (y 0).val
    omega
  · blk_simp [(idx_out t).2.2.1]

theorem arr6 : (dats m 0 c).arrAt 6 cfg0.N = momArr m c := by
  refine (dats m 0 c).arrAt_eq_of_covers 6 _ (by decide +kernel) fun t hf y => ?_
  have e := point6 m c t y
  rw [after0_6, show (out0_6 (iblk m c 0 t) (iblk m c 1 t) (iblk m c 2 t) (iblk m c 3 t)) y = _ from e]
  exact entry6 m c t y

theorem point7 (t : Fin cfg0.N) (y : S128x1024.Idx) :
    (out0_7 (iblk m c 0 t) (iblk m c 1 t) (iblk m c 2 t) (iblk m c 3 t) : S128x1024.Idx → EReal) y = (args m c).var (rowAt t.val (points t) (y 0)) (y 1) :=
  (by_coords (out0_7 (iblk m c 0 t) (iblk m c 1 t) (iblk m c 2 t) (iblk m c 3 t)) y).trans
    ((out7_at (iblk m c 0 t) (iblk m c 1 t) (iblk m c 2 t) (iblk m c 3 t) (y 0) (y 1)).trans (var_at m c t (y 0) (y 1)))

theorem entry7 (t : Fin cfg0.N) (y : S128x1024.Idx) :
    (args m c).var (rowAt t.val (points t) (y 0)) (y 1) = varArr m c (((cfg0.win 7).blk t).view.emb y) := by
  unfold rowAt varArr
  refine congrArg₂ (args m c).var (Fin.ext ?_) (Fin.ext ?_)
  · blk_simp [(idx_out t).2.2.2]
    show 128 * 0 + (y 0).val = (y 0).val
    omega
  · blk_simp [(idx_out t).2.2.2]

theorem arr7 : (dats m 0 c).arrAt 7 cfg0.N = varArr m c := by
  refine (dats m 0 c).arrAt_eq_of_covers 7 _ (by decide +kernel) fun t hf y => ?_
  have e := point7 m c t y
  rw [after0_7, show (out0_7 (iblk m c 0 t) (iblk m c 1 t) (iblk m c 2 t) (iblk m c 3 t)) y = _ from e]
  exact entry7 m c t y

theorem results {r : PUnit × MemSt nD τ sig (Elt Ideal)} (h : Pipeline.FramePost cfgs (dats m) 0 (V m) r) (c : Dev nD) :
    r.2.mem ((c : Thread nD τ).loc main_v0_0) = gradArr m c ∧ r.2.mem ((c : Thread nD τ).loc main_v0_1) = deltaArr m c
      ∧ r.2.mem ((c : Thread nD τ).loc main_v0_2) = momArr m c ∧ r.2.mem ((c : Thread nD τ).loc main_v0_3) = varArr m c :=
  ⟨((h c).1 4).trans (arr4 m c), ((h c).1 5).trans (arr5 m c), ((h c).1 6).trans (arr6 m c), ((h c).1 7).trans (arr7 m c)⟩

end Cert.KernelAdamOutIdeal.Hand

end
-- ==== Proof.RefAdamOut.lean ====
/-
  The reference of the optimiser's step on the weights of the projection out of the mixer: its results, an entry at a time, and its run.
-/
module

public import proofs.«01_k».proof.Proof.Gen.ReferenceAdamOutIdeal.Read
public import proofs.«01_k».proof.Proof.AdamSpec
public import Idealize.ShloMosaic.Lib.KernelVsHost
public import Idealize.ShloMosaic.Lib.Pointwise.Index

@[expose] public section

set_option maxRecDepth 16384

noncomputable section

namespace Cert.ReferenceAdamOutIdeal.Hand

open Cert.ReferenceAdamOutIdeal Cert.ReferenceAdamOutIdeal.Gen Cert.ReferenceAdamOutIdeal.Read Cert.Maths
open Idealize.ShloMosaic Idealize.ShloMosaic.TcCoe Idealize.SL.Sem

variable (x0 : S128x1024.Idx → EReal) (x1 : S4x128x1024.Idx → EReal) (x2 x3 : S128x1024.Idx → EReal)

/-- The arguments by coordinates. -/
def argsOf : AdamArgs 128 1024 where
  w n k := x0 (ix2 n k)
  p j n k := x1 (ix3 j n k)
  m n k := x2 (ix2 n k)
  v n k := x3 (ix2 n k)

theorem v1_at (n : Fin 128) (k : Fin 1024) : val_main_v1 (F := Ideal) x1 (ix2 n k) = (argsOf x0 x1 x2 x3).grad n k := by
  have e (j : Fin 4) : idx_main_v1 (ix2 n k) j = ix3 j n k := funext fun a => match a with | ⟨0, _⟩ => rfl | ⟨1, _⟩ => rfl | ⟨2, _⟩ => rfl
  rw [val_main_v1_apply]
  refine (congrArg (· + _) Ideal.ofBits_zero_f32).trans ((zero_add _).trans ?_)
  rw [Fin.sum_univ_four, e, e, e, e]
  rfl

theorem v6_at (n : Fin 128) (k : Fin 1024) : val_main_v6 (F := Ideal) x1 x2 (ix2 n k) = (argsOf x0 x1 x2 x3).mom n k := by
  rw [val_main_v6_apply, val_main_v5_apply, v1_at x0 x1 x2 x3]
  rfl

theorem v12_at (n : Fin 128) (k : Fin 1024) : val_main_v12 (F := Ideal) x1 x3 (ix2 n k) = (argsOf x0 x1 x2 x3).var n k := by
  rw [val_main_v12_apply, val_main_v11_apply, val_main_v9_apply, v1_at x0 x1 x2 x3]
  rfl

theorem v25_at (n : Fin 128) (k : Fin 1024) : val_main_v25 (F := Ideal) x0 x1 x2 x3 (ix2 n k) = (argsOf x0 x1 x2 x3).delta n k := by
  rw [val_main_v25_apply, val_main_v23_apply, val_main_v20_apply, val_main_v19_apply, val_main_v17_apply, val_main_v16_apply,
    val_main_v14_apply, v6_at x0 x1 x2 x3, v12_at x0 x1 x2 x3]
  rfl

/-! ## The four results -/

theorem entry (i : S128x1024.Idx) : i = ix2 (i 0) (i 1) := funext fun a => match a with | ⟨0, _⟩ => rfl | ⟨1, _⟩ => rfl

theorem grad_eq : val_main_v1 (F := Ideal) x1 = fun i => (argsOf x0 x1 x2 x3).grad (i 0) (i 1) :=
  funext fun i => (congrArg _ (entry i)).trans (v1_at x0 x1 x2 x3 (i 0) (i 1))
theorem delta_eq : val_main_v25 (F := Ideal) x0 x1 x2 x3 = fun i => (argsOf x0 x1 x2 x3).delta (i 0) (i 1) :=
  funext fun i => (congrArg _ (entry i)).trans (v25_at x0 x1 x2 x3 (i 0) (i 1))
theorem mom_eq : val_main_v6 (F := Ideal) x1 x2 = fun i => (argsOf x0 x1 x2 x3).mom (i 0) (i 1) :=
  funext fun i => (congrArg _ (entry i)).trans (v6_at x0 x1 x2 x3 (i 0) (i 1))
theorem var_eq : val_main_v12 (F := Ideal) x1 x3 = fun i => (argsOf x0 x1 x2 x3).var (i 0) (i 1) :=
  funext fun i => (congrArg _ (entry i)).trans (v12_at x0 x1 x2 x3 (i 0) (i 1))

theorem argsOf_congr {x0 y0 : S128x1024.Idx → EReal} {x1 y1 : S4x128x1024.Idx → EReal} {x2 y2 x3 y3 : S128x1024.Idx → EReal}
    (h0 : x0 = y0) (h1 : x1 = y1) (h2 : x2 = y2) (h3 : x3 = y3) : argsOf x0 x1 x2 x3 = argsOf y0 y1 y2 y3 := by
  subst h0 h1 h2 h3; rfl

/-! ## The run -/

variable (m : (ℓ : Loc nD τ sig) → Buf (Elt Ideal) ℓ) (c : Dev nD)

/-- The arguments a device is launched with. -/
def args : AdamArgs 128 1024 :=
  argsOf (m ((c.tc : Thread nD τ).loc main_arg0)) (m ((c.tc : Thread nD τ).loc main_arg1)) (m ((c.tc : Thread nD τ).loc main_arg2))
    (m ((c.tc : Thread nD τ).loc main_arg3))

def gradArr : S128x1024.Idx → EReal := fun i => (args m c).grad (i 0) (i 1)
def deltaArr : S128x1024.Idx → EReal := fun i => (args m c).delta (i 0) (i 1)
def momArr : S128x1024.Idx → EReal := fun i => (args m c).mom (i 0) (i 1)
def varArr : S128x1024.Idx → EReal := fun i => (args m c).var (i 0) (i 1)

/-- What a memory holds of the results and of the arguments. -/
def Ends (r : PUnit × MemSt nD τ sig (Elt Ideal)) : Prop :=
  r.2.mem ((c.tc : Thread nD τ).loc main_v1) = gradArr m c
    ∧ r.2.mem ((c.tc : Thread nD τ).loc main_v25) = deltaArr m c
    ∧ r.2.mem ((c.tc : Thread nD τ).loc main_v6) = momArr m c
    ∧ r.2.mem ((c.tc : Thread nD τ).loc main_v12) = varArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem run_ends (ρ : Dev nD → PrngReg) :
    θ_run defs (onTc (τ := τ) (main (F := Ideal))) ⟨m, fun _ => 0, ρ⟩ fun r => ∀ c : Dev nD, Ends m c r := by
  refine (θ_run defs _ _).mono (fun r h c => ?_) (Cert.ReferenceAdamOutIdeal.Value.run (F := Ideal) m ρ)
  obtain ⟨h1, h2, h3, h4, ha⟩ := h c
  refine ⟨?_, ?_, ?_, ?_, ha⟩
  · exact h1.trans ((val_main_v1_eq _).trans (grad_eq _ _ _ _))
  · exact h2.trans ((val_main_v25_eq _ _ _ _).trans (delta_eq _ _ _ _))
  · exact h3.trans ((val_main_v6_eq _ _).trans (mom_eq _ _ _ _))
  · exact h4.trans ((val_main_v12_eq _ _).trans (var_eq _ _ _ _))

end Cert.ReferenceAdamOutIdeal.Hand

end
-- ==== Proof.lean ====
/-
  The certificate of eight kernels — the feed-forward block's gradient up to the products' cotangents, its up projection's
  gradient, its forward pass, the gradient of the projection into the mixer through the token shift, the first norm's
  gradient, the loss with its gradients, and the optimiser's steps on the weights of the projections into the mixer and out of
  it: of each the frames of the kernel, of its idealization and of the reference, and that the idealization and the reference
  compute the same results.
-/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelRms
public import proofs.«01_k».proof.Proof.Gen.KernelRmsIdeal
public import proofs.«01_k».proof.Proof.Gen.KernelRmsIdeal.Frame
public import proofs.«01_k».proof.Proof.Gen.ReferenceRmsIdeal
public import proofs.«01_k».proof.Proof.Gen.ReferenceRmsIdeal.Run
public import proofs.«01_k».proof.Proof.Gen.ReferenceRmsIdeal.Read
public import proofs.«01_k».proof.Proof.Gen.KernelLoss
public import proofs.«01_k».proof.Proof.Gen.KernelLossIdeal
public import proofs.«01_k».proof.Proof.Gen.KernelLossIdeal.Frame
public import proofs.«01_k».proof.Proof.Gen.ReferenceLossIdeal
public import proofs.«01_k».proof.Proof.Gen.ReferenceLossIdeal.Run
public import proofs.«01_k».proof.Proof.Gen.ReferenceLossIdeal.Read
public import proofs.«01_k».proof.Proof.Gen.KernelAdam
public import proofs.«01_k».proof.Proof.Gen.KernelAdamIdeal
public import proofs.«01_k».proof.Proof.Gen.KernelAdamIdeal.Frame
public import proofs.«01_k».proof.Proof.Gen.ReferenceAdamIdeal
public import proofs.«01_k».proof.Proof.Gen.ReferenceAdamIdeal.Run
public import proofs.«01_k».proof.Proof.Gen.ReferenceAdamIdeal.Read
public import proofs.«01_k».proof.Proof.Gen.KernelAdamOut
public import proofs.«01_k».proof.Proof.Gen.KernelAdamOutIdeal
public import proofs.«01_k».proof.Proof.Gen.KernelAdamOutIdeal.Frame
public import proofs.«01_k».proof.Proof.Gen.ReferenceAdamOutIdeal
public import proofs.«01_k».proof.Proof.Gen.ReferenceAdamOutIdeal.Run
public import proofs.«01_k».proof.Proof.Gen.ReferenceAdamOutIdeal.Read
public import proofs.«01_k».proof.Proof.Gen.KernelFwd
public import proofs.«01_k».proof.Proof.Gen.KernelFwdIdeal
public import proofs.«01_k».proof.Proof.Gen.KernelFwdIdeal.Frame
public import proofs.«01_k».proof.Proof.Gen.KernelFwdIdeal.Value
public import proofs.«01_k».proof.Proof.Gen.ReferenceFwdIdeal
public import proofs.«01_k».proof.Proof.Gen.ReferenceFwdIdeal.Run
public import proofs.«01_k».proof.Proof.Gen.ReferenceFwdIdeal.Read
public import proofs.«01_k».proof.Proof.Frame
public import proofs.«01_k».proof.Proof.Arrays
public import proofs.«01_k».proof.Proof.RefRun
public import proofs.«01_k».proof.Proof.FwdArr
public import proofs.«01_k».proof.Proof.RefFwd
public import proofs.«01_k».proof.Proof.Gen.KernelUp
public import proofs.«01_k».proof.Proof.Gen.KernelUpIdeal
public import proofs.«01_k».proof.Proof.Gen.ReferenceUpIdeal
public import proofs.«01_k».proof.Proof.Gen.ReferenceUpIdeal.Run
public import proofs.«01_k».proof.Proof.Gen.ReferenceUpIdeal.Read
public import proofs.«01_k».proof.Proof.UpArr
public import proofs.«01_k».proof.Proof.RefUp
public import proofs.«01_k».proof.Proof.Gen.KernelIn
public import proofs.«01_k».proof.Proof.Gen.KernelInIdeal
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.ReferenceInIdeal.Read
public import proofs.«01_k».proof.Proof.InArr
public import proofs.«01_k».proof.Proof.RefIn
public import proofs.«01_k».proof.Proof.RmsArr
public import proofs.«01_k».proof.Proof.RefRms
public import proofs.«01_k».proof.Proof.LossArr
public import proofs.«01_k».proof.Proof.RefLoss
public import proofs.«01_k».proof.Proof.AdamArr
public import proofs.«01_k».proof.Proof.RefAdam
public import proofs.«01_k».proof.Proof.AdamOutArr
public import proofs.«01_k».proof.Proof.RefAdamOut
public import Idealize.ShloMosaic.Adequacy
public import Idealize.ShloMosaic.Init

@[expose] public section

set_option maxHeartbeats 4000000
set_option maxRecDepth 10000

noncomputable section

namespace Cert.Proof

open Idealize.ShloMosaic Idealize.SL.Sem Cert.Kernel

/-- The kernel and its idealization are the same text: their bodies at a grid point are one program, -/
theorem same_body (t s) : Cert.KernelIdeal.defs₀ (F := Bits) .tc 0 (t, s) = Cert.Kernel.defs₀ (F := Bits) .tc 0 (t, s) := rfl

/-- so their tables of bodies are one table, -/
theorem same_bodies : Cert.KernelIdeal.defs₀ (F := Bits) = Cert.Kernel.defs₀ (F := Bits) := by
  funext p ℓ a
  match p, ℓ, a with
  | .tc, 0, (t, s) => exact same_body t s
  | .tc, ⟨_ + 1, h⟩, _ => exact absurd h (Nat.not_lt.2 (Nat.le_add_left _ _))
  | .scScalar _, _, _ => rfl
  | .scVector _ _, _, _ => rfl

/-- with the pipeline's labels as well. -/
theorem same_defs : Cert.KernelIdeal.defs (F := Bits) = Cert.Kernel.defs (F := Bits) :=
  congrArg (Pipeline.defs (Cert.Kernel.pcfgs (F := Bits))) same_bodies

/-- So the one run serves both frames: the kernel's at the machine's floats, -/
theorem frame_kernel : Cert.quiescent_Kernel := fun m ρ _ =>
  same_defs ▸ (θ_run Cert.KernelIdeal.defs _ _).mono (fun _ h => Cert.KernelIdeal.Hand.args_kept (F := Bits) m h) (Cert.KernelIdeal.Hand.run_main (F := Bits) m ρ)

/-- and the idealization's at the extended reals. -/
theorem frame_ideal : Cert.quiescent_KernelIdeal := fun m ρ _ =>
  (θ_run Cert.KernelIdeal.defs _ _).mono (fun _ h => Cert.KernelIdeal.Hand.args_kept (F := Ideal) m h) (Cert.KernelIdeal.Hand.run_main (F := Ideal) m ρ)

theorem frame_reference : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- Where the two memories hold the same arguments, the arguments are the same by coordinates. -/
theorem same_args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Hand.args m' c = Cert.KernelIdeal.Hand.args m c :=
  Cert.ReferenceIdeal.Hand.argsOf_congr h0 h5 h1 h2 h3 h4

/-- From equal arguments the two programs end at equal results. -/
theorem algebraic : Cert.algebraic_KernelIdeal_ReferenceIdeal := by
  intro m g m' g' _ hargs
  refine ⟨Cert.KernelIdeal.Hand.dUgArr m, Cert.KernelIdeal.Hand.dUvArr m, Cert.KernelIdeal.Hand.dCwArr m, Cert.KernelIdeal.Hand.dCbArr m,
    Cert.KernelIdeal.Hand.dDownArr m, ?_, ?_⟩
  · refine (θ_run Cert.KernelIdeal.defs _ _).mono (fun r h c => ?_) (Cert.KernelIdeal.Hand.run_main (F := Ideal) m g)
    obtain ⟨r1, r2, r3, r4, r5⟩ := Cert.KernelIdeal.Hand.results m h.1 c
    exact ⟨r1, r2, r3, r4, r5, (Cert.KernelIdeal.Hand.args_kept (F := Ideal) m h).1 c⟩
  · refine (θ_run Cert.ReferenceIdeal.defs _ _).mono (fun r h c => ?_) (Cert.ReferenceIdeal.Hand.run_ends m' g')
    obtain ⟨r1, r2, r3, r4, r5, ra⟩ := h c
    obtain ⟨a0, a1, a2, a3, a4, a5⟩ := hargs c
    have e := same_args m m' c a0 a1 a2 a3 a4 a5
    unfold Cert.ReferenceIdeal.Hand.dUgArr at r1
    unfold Cert.ReferenceIdeal.Hand.dUvArr at r2
    unfold Cert.ReferenceIdeal.Hand.dCwArr at r3
    unfold Cert.ReferenceIdeal.Hand.dCbArr at r4
    unfold Cert.ReferenceIdeal.Hand.dDownArr at r5
    rw [e] at r1 r2 r3 r4 r5
    exact ⟨r1, r2, r3, r4, r5, ra⟩

/-! ## The forward pass -/

theorem fwd_same_body (t s) : Cert.KernelFwdIdeal.defs₀ (F := Bits) .tc 0 (t, s) = Cert.KernelFwd.defs₀ (F := Bits) .tc 0 (t, s) := rfl

theorem fwd_same_bodies : Cert.KernelFwdIdeal.defs₀ (F := Bits) = Cert.KernelFwd.defs₀ (F := Bits) := by
  funext p ℓ a
  match p, ℓ, a with
  | .tc, 0, (t, s) => exact fwd_same_body t s
  | .tc, ⟨_ + 1, h⟩, _ => exact absurd h (Nat.not_lt.2 (Nat.le_add_left _ _))
  | .scScalar _, _, _ => rfl
  | .scVector _ _, _, _ => rfl

theorem fwd_same_defs : Cert.KernelFwdIdeal.defs (F := Bits) = Cert.KernelFwd.defs (F := Bits) :=
  congrArg (Pipeline.defs (Cert.KernelFwd.pcfgs (F := Bits))) fwd_same_bodies

/-- Again one run serves both frames. -/
theorem frame_fwd : Cert.quiescent_KernelFwd := fun m ρ _ => fwd_same_defs ▸ Cert.KernelFwdIdeal.Gen.frame (F := Bits) m ρ

theorem frame_fwd_ideal : Cert.quiescent_KernelFwdIdeal := fun m ρ _ => Cert.KernelFwdIdeal.Gen.frame (F := Ideal) m ρ

theorem frame_fwd_reference : Cert.quiescent_ReferenceFwdIdeal := fun m ρ _ =>
  (θ_run Cert.ReferenceFwdIdeal.defs _ _).mono (fun r h => ⟨fun c => (h c).2,
      Idealize.ShloMosaic.sem_eq_zero_of_no_sems (by decide) r.2⟩)
    (Cert.ReferenceFwdIdeal.Value.run (F := Ideal) m ρ)

theorem fwd_same_args (m : (ℓ : Loc Cert.KernelFwdIdeal.nD Cert.KernelFwdIdeal.τ Cert.KernelFwdIdeal.sig) → Buf (Elt Ideal) ℓ)
    (m' : (ℓ : Loc Cert.ReferenceFwdIdeal.nD Cert.ReferenceFwdIdeal.τ Cert.ReferenceFwdIdeal.sig) → Buf (Elt Ideal) ℓ) (c : Dev Cert.KernelFwdIdeal.nD)
    (h0 : m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0))
    (h1 : m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1))
    (h2 : m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2))
    (h3 : m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3))
    (h4 : m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)) :
    Cert.ReferenceFwdIdeal.Hand.args m' c = Cert.KernelFwdIdeal.Hand.args m c :=
  Cert.ReferenceFwdIdeal.Hand.argsOf_congr h0 h1 h2 h3 h4

/-- From equal arguments the two programs end at the same forward pass. -/
theorem algebraic_fwd : Cert.algebraic_KernelFwdIdeal_ReferenceFwdIdeal := by
  intro m g m' g' _ hargs
  refine ⟨Cert.KernelFwdIdeal.Hand.forwardArr m, ?_, ?_⟩
  · refine (θ_run Cert.KernelFwdIdeal.defs _ _).mono (fun r h c => ?_) (Cert.KernelFwdIdeal.Value.run_blocks (F := Ideal) m g)
    obtain ⟨r1, ra⟩ := h c
    rw [Cert.KernelFwdIdeal.Hand.arr8] at r1
    exact ⟨r1, ra⟩
  · refine (θ_run Cert.ReferenceFwdIdeal.defs _ _).mono (fun r h c => ?_) (Cert.ReferenceFwdIdeal.Hand.run_ends m' g')
    obtain ⟨r1, ra⟩ := h c
    obtain ⟨a0, a1, a2, a3, a4⟩ := hargs c
    have e := fwd_same_args m m' c a0 a1 a2 a3 a4
    unfold Cert.ReferenceFwdIdeal.Hand.forwardArr at r1
    rw [e] at r1
    exact ⟨r1, ra⟩

/-! ## The up projection's gradient -/

theorem up_same_body (t s) : Cert.KernelUpIdeal.defs₀ (F := Bits) .tc 0 (t, s) = Cert.KernelUp.defs₀ (F := Bits) .tc 0 (t, s) := rfl

theorem up_same_bodies : Cert.KernelUpIdeal.defs₀ (F := Bits) = Cert.KernelUp.defs₀ (F := Bits) := by
  funext p ℓ a
  match p, ℓ, a with
  | .tc, 0, (t, s) => exact up_same_body t s
  | .tc, ⟨_ + 1, h⟩, _ => exact absurd h (Nat.not_lt.2 (Nat.le_add_left _ _))
  | .scScalar _, _, _ => rfl
  | .scVector _ _, _, _ => rfl

theorem up_same_defs : Cert.KernelUpIdeal.defs (F := Bits) = Cert.KernelUp.defs (F := Bits) :=
  congrArg (Pipeline.defs (Cert.KernelUp.pcfgs (F := Bits))) up_same_bodies

/-- Again one run serves both frames. -/
theorem frame_up : Cert.quiescent_KernelUp := fun m ρ _ => up_same_defs ▸ Cert.KernelUpIdeal.Hand.frame (F := Bits) m ρ

theorem frame_up_ideal : Cert.quiescent_KernelUpIdeal := fun m ρ _ => Cert.KernelUpIdeal.Hand.frame (F := Ideal) m ρ

theorem frame_up_reference : Cert.quiescent_ReferenceUpIdeal := fun m ρ _ =>
  (θ_run Cert.ReferenceUpIdeal.defs _ _).mono (fun r h => ⟨fun c => (h c).2.2,
      Idealize.ShloMosaic.sem_eq_zero_of_no_sems (by decide) r.2⟩)
    (Cert.ReferenceUpIdeal.Value.run (F := Ideal) m ρ)

theorem up_same_args (m : (ℓ : Loc Cert.KernelUpIdeal.nD Cert.KernelUpIdeal.τ Cert.KernelUpIdeal.sig) → Buf (Elt Ideal) ℓ)
    (m' : (ℓ : Loc Cert.ReferenceUpIdeal.nD Cert.ReferenceUpIdeal.τ Cert.ReferenceUpIdeal.sig) → Buf (Elt Ideal) ℓ) (c : Dev Cert.KernelUpIdeal.nD)
    (h0 : m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0))
    (h1 : m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1))
    (h2 : m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2))
    (h3 : m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)) :
    Cert.ReferenceUpIdeal.Hand.args m' c = Cert.KernelUpIdeal.Hand.args m c :=
  Cert.ReferenceUpIdeal.Hand.argsOf_congr h0 h1 h2 h3

/-- From equal arguments the two programs end at the same two gradients. -/
theorem algebraic_up : Cert.algebraic_KernelUpIdeal_ReferenceUpIdeal := by
  intro m g m' g' _ hargs
  refine ⟨Cert.KernelUpIdeal.Hand.dHArr m, Cert.KernelUpIdeal.Hand.dUpArr m, ?_, ?_⟩
  · refine (θ_run Cert.KernelUpIdeal.defs _ _).mono (fun r h c => ?_) (θ_run_and (Cert.KernelUpIdeal.Hand.results_value m g) (Cert.KernelUpIdeal.Hand.frame (F := Ideal) m g))
    obtain ⟨r1, r2⟩ := h.1 c
    exact ⟨r1, r2, h.2.1 c⟩
  · refine (θ_run Cert.ReferenceUpIdeal.defs _ _).mono (fun r h c => ?_) (Cert.ReferenceUpIdeal.Hand.run_ends m' g')
    obtain ⟨r1, r2, ra⟩ := h c
    obtain ⟨a0, a1, a2, a3⟩ := hargs c
    have e := up_same_args m m' c a0 a1 a2 a3
    unfold Cert.ReferenceUpIdeal.Hand.dHArr at r1
    unfold Cert.ReferenceUpIdeal.Hand.dUpArr at r2
    rw [e] at r1 r2
    exact ⟨r1, r2, ra⟩

/-! ## The input projection's gradient -/

theorem in_same_body (t s) : Cert.KernelInIdeal.defs₀ (F := Bits) .tc 0 (t, s) = Cert.KernelIn.defs₀ (F := Bits) .tc 0 (t, s) := rfl

theorem in_same_bodies : Cert.KernelInIdeal.defs₀ (F := Bits) = Cert.KernelIn.defs₀ (F := Bits) := by
  funext p ℓ a
  match p, ℓ, a with
  | .tc, 0, (t, s) => exact in_same_body t s
  | .tc, ⟨_ + 1, h⟩, _ => exact absurd h (Nat.not_lt.2 (Nat.le_add_left _ _))
  | .scScalar _, _, _ => rfl
  | .scVector _ _, _, _ => rfl

theorem in_same_defs : Cert.KernelInIdeal.defs (F := Bits) = Cert.KernelIn.defs (F := Bits) :=
  congrArg (Pipeline.defs (Cert.KernelIn.pcfgs (F := Bits))) in_same_bodies

/-- Again one run serves both frames. -/
theorem frame_in : Cert.quiescent_KernelIn := fun m ρ _ => in_same_defs ▸ Cert.KernelInIdeal.Gen.frame (F := Bits) m ρ

theorem frame_in_ideal : Cert.quiescent_KernelInIdeal := fun m ρ _ => Cert.KernelInIdeal.Gen.frame (F := Ideal) m ρ

theorem frame_in_reference : Cert.quiescent_ReferenceInIdeal := fun m ρ _ =>
  (θ_run Cert.ReferenceInIdeal.defs _ _).mono (fun r h => ⟨fun c => (h c).2.2.2,
      Idealize.ShloMosaic.sem_eq_zero_of_no_sems (by decide) r.2⟩)
    (Cert.ReferenceInIdeal.Value.run (F := Ideal) m ρ)

theorem in_same_args (m : (ℓ : Loc Cert.KernelInIdeal.nD Cert.KernelInIdeal.τ Cert.KernelInIdeal.sig) → Buf (Elt Ideal) ℓ)
    (m' : (ℓ : Loc Cert.ReferenceInIdeal.nD Cert.ReferenceInIdeal.τ Cert.ReferenceInIdeal.sig) → Buf (Elt Ideal) ℓ) (c : Dev Cert.KernelInIdeal.nD)
    (h0 : m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0))
    (h1 : m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1))
    (h2 : m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2))
    (h3 : m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3))
    (h4 : m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4))
    (h5 : m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)) :
    Cert.ReferenceInIdeal.Hand.args m' c = Cert.KernelInIdeal.Hand.args m c :=
  Cert.ReferenceInIdeal.Hand.argsOf_congr h0 h1 h2 h3 h4 h5

/-- From equal arguments the two programs end at the same three gradients. -/
theorem algebraic_in : Cert.algebraic_KernelInIdeal_ReferenceInIdeal := by
  intro m g m' g' _ hargs
  refine ⟨Cert.KernelInIdeal.Hand.dHArr m, Cert.KernelInIdeal.Hand.dWArr m, Cert.KernelInIdeal.Hand.dMixArr m, ?_, ?_⟩
  · refine (θ_run Cert.KernelInIdeal.defs _ _).mono (fun r h c => ?_) (θ_run_and (Cert.KernelInIdeal.Gen.run_main (F := Ideal) m g) (Cert.KernelInIdeal.Gen.frame (F := Ideal) m g))
    obtain ⟨r1, r2, r3⟩ := Cert.KernelInIdeal.Hand.results m h.1 c
    exact ⟨r1, r2, r3, h.2.1 c⟩
  · refine (θ_run Cert.ReferenceInIdeal.defs _ _).mono (fun r h c => ?_) (Cert.ReferenceInIdeal.Hand.run_ends m' g')
    obtain ⟨r1, r2, r3, ra⟩ := h c
    obtain ⟨a0, a1, a2, a3, a4, a5⟩ := hargs c
    have e := in_same_args m m' c a0 a1 a2 a3 a4 a5
    unfold Cert.ReferenceInIdeal.Hand.dHArr at r1
    unfold Cert.ReferenceInIdeal.Hand.dWArr at r2
    unfold Cert.ReferenceInIdeal.Hand.dMixArr at r3
    rw [e] at r1 r2 r3
    exact ⟨r1, r2, r3, ra⟩

/-! ## The first norm's gradient -/

theorem rms_same_body (t s) : Cert.KernelRmsIdeal.defs₀ (F := Bits) .tc 0 (t, s) = Cert.KernelRms.defs₀ (F := Bits) .tc 0 (t, s) := rfl

theorem rms_same_bodies : Cert.KernelRmsIdeal.defs₀ (F := Bits) = Cert.KernelRms.defs₀ (F := Bits) := by
  funext p ℓ a
  match p, ℓ, a with
  | .tc, 0, (t, s) => exact rms_same_body t s
  | .tc, ⟨_ + 1, h⟩, _ => exact absurd h (Nat.not_lt.2 (Nat.le_add_left _ _))
  | .scScalar _, _, _ => rfl
  | .scVector _ _, _, _ => rfl

theorem rms_same_defs : Cert.KernelRmsIdeal.defs (F := Bits) = Cert.KernelRms.defs (F := Bits) :=
  congrArg (Pipeline.defs (Cert.KernelRms.pcfgs (F := Bits))) rms_same_bodies

/-- Again one run serves both frames. -/
theorem frame_rms : Cert.quiescent_KernelRms := fun m ρ _ => rms_same_defs ▸ Cert.KernelRmsIdeal.Gen.frame (F := Bits) m ρ

theorem frame_rms_ideal : Cert.quiescent_KernelRmsIdeal := fun m ρ _ => Cert.KernelRmsIdeal.Gen.frame (F := Ideal) m ρ

theorem frame_rms_reference : Cert.quiescent_ReferenceRmsIdeal := fun m ρ _ =>
  (θ_run Cert.ReferenceRmsIdeal.defs _ _).mono (fun r h => ⟨fun c => (h c).2.2,
      Idealize.ShloMosaic.sem_eq_zero_of_no_sems (by decide) r.2⟩)
    (Cert.ReferenceRmsIdeal.Value.run (F := Ideal) m ρ)

theorem rms_same_args (m : (ℓ : Loc Cert.KernelRmsIdeal.nD Cert.KernelRmsIdeal.τ Cert.KernelRmsIdeal.sig) → Buf (Elt Ideal) ℓ)
    (m' : (ℓ : Loc Cert.ReferenceRmsIdeal.nD Cert.ReferenceRmsIdeal.τ Cert.ReferenceRmsIdeal.sig) → Buf (Elt Ideal) ℓ) (c : Dev Cert.KernelRmsIdeal.nD)
    (h0 : m' ((c.tc : Thread Cert.ReferenceRmsIdeal.nD Cert.ReferenceRmsIdeal.τ).loc Cert.ReferenceRmsIdeal.main_arg0) = m ((c.tc : Thread Cert.KernelRmsIdeal.nD Cert.KernelRmsIdeal.τ).loc Cert.KernelRmsIdeal.main_arg0))
    (h1 : m' ((c.tc : Thread Cert.ReferenceRmsIdeal.nD Cert.ReferenceRmsIdeal.τ).loc Cert.ReferenceRmsIdeal.main_arg1) = m ((c.tc : Thread Cert.KernelRmsIdeal.nD Cert.KernelRmsIdeal.τ).loc Cert.KernelRmsIdeal.main_arg1))
    (h2 : m' ((c.tc : Thread Cert.ReferenceRmsIdeal.nD Cert.ReferenceRmsIdeal.τ).loc Cert.ReferenceRmsIdeal.main_arg2) = m ((c.tc : Thread Cert.KernelRmsIdeal.nD Cert.KernelRmsIdeal.τ).loc Cert.KernelRmsIdeal.main_arg2))
    (h3 : m' ((c.tc : Thread Cert.ReferenceRmsIdeal.nD Cert.ReferenceRmsIdeal.τ).loc Cert.ReferenceRmsIdeal.main_arg3) = m ((c.tc : Thread Cert.KernelRmsIdeal.nD Cert.KernelRmsIdeal.τ).loc Cert.KernelRmsIdeal.main_arg3)) :
    Cert.ReferenceRmsIdeal.Hand.args m' c = Cert.KernelRmsIdeal.Hand.args m c :=
  Cert.ReferenceRmsIdeal.Hand.argsOf_congr h0 h1 h2 h3

/-- From equal arguments the two programs end at the same two gradients. -/
theorem algebraic_rms : Cert.algebraic_KernelRmsIdeal_ReferenceRmsIdeal := by
  intro m g m' g' _ hargs
  refine ⟨Cert.KernelRmsIdeal.Hand.dXArr m, Cert.KernelRmsIdeal.Hand.dGArr m, ?_, ?_⟩
  · refine (θ_run Cert.KernelRmsIdeal.defs _ _).mono (fun r h c => ?_) (θ_run_and (Cert.KernelRmsIdeal.Gen.run_main (F := Ideal) m g) (Cert.KernelRmsIdeal.Gen.frame (F := Ideal) m g))
    obtain ⟨r1, r2⟩ := Cert.KernelRmsIdeal.Hand.results m h.1 c
    exact ⟨r1, r2, h.2.1 c⟩
  · refine (θ_run Cert.ReferenceRmsIdeal.defs _ _).mono (fun r h c => ?_) (Cert.ReferenceRmsIdeal.Hand.run_ends m' g')
    obtain ⟨r1, r2, ra⟩ := h c
    obtain ⟨a0, a1, a2, a3⟩ := hargs c
    have e := rms_same_args m m' c a0 a1 a2 a3
    unfold Cert.ReferenceRmsIdeal.Hand.dXArr at r1
    unfold Cert.ReferenceRmsIdeal.Hand.dGArr at r2
    rw [e] at r1 r2
    exact ⟨r1, r2, ra⟩

/-! ## The loss -/

theorem loss_same_body (t s) : Cert.KernelLossIdeal.defs₀ (F := Bits) .tc 0 (t, s) = Cert.KernelLoss.defs₀ (F := Bits) .tc 0 (t, s) := rfl

theorem loss_same_bodies : Cert.KernelLossIdeal.defs₀ (F := Bits) = Cert.KernelLoss.defs₀ (F := Bits) := by
  funext p ℓ a
  match p, ℓ, a with
  | .tc, 0, (t, s) => exact loss_same_body t s
  | .tc, ⟨_ + 1, h⟩, _ => exact absurd h (Nat.not_lt.2 (Nat.le_add_left _ _))
  | .scScalar _, _, _ => rfl
  | .scVector _ _, _, _ => rfl

theorem loss_same_defs : Cert.KernelLossIdeal.defs (F := Bits) = Cert.KernelLoss.defs (F := Bits) :=
  congrArg (Pipeline.defs (Cert.KernelLoss.pcfgs (F := Bits))) loss_same_bodies

/-- Again one run serves both frames. -/
theorem frame_loss : Cert.quiescent_KernelLoss := fun m ρ _ => loss_same_defs ▸ Cert.KernelLossIdeal.Gen.frame (F := Bits) m ρ

theorem frame_loss_ideal : Cert.quiescent_KernelLossIdeal := fun m ρ _ => Cert.KernelLossIdeal.Gen.frame (F := Ideal) m ρ

theorem frame_loss_reference : Cert.quiescent_ReferenceLossIdeal := fun m ρ _ =>
  (θ_run Cert.ReferenceLossIdeal.defs _ _).mono (fun r h => ⟨fun c => (h c).2.2.2.2,
      Idealize.ShloMosaic.sem_eq_zero_of_no_sems (by decide) r.2⟩)
    (Cert.ReferenceLossIdeal.Value.run (F := Ideal) m ρ)

theorem loss_same_args (m : (ℓ : Loc Cert.KernelLossIdeal.nD Cert.KernelLossIdeal.τ Cert.KernelLossIdeal.sig) → Buf (Elt Ideal) ℓ)
    (m' : (ℓ : Loc Cert.ReferenceLossIdeal.nD Cert.ReferenceLossIdeal.τ Cert.ReferenceLossIdeal.sig) → Buf (Elt Ideal) ℓ) (c : Dev Cert.KernelLossIdeal.nD)
    (h0 : m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0))
    (h1 : m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1))
    (h2 : m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2))
    (h3 : m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)) :
    Cert.ReferenceLossIdeal.Hand.args m' c = Cert.KernelLossIdeal.Hand.args m c :=
  Cert.ReferenceLossIdeal.Hand.argsOf_congr h0 h1 h2 h3

/-- From equal arguments the two programs end at the same three gradients and the same loss. -/
theorem algebraic_loss : Cert.algebraic_KernelLossIdeal_ReferenceLossIdeal := by
  intro m g m' g' _ hargs
  refine ⟨Cert.KernelLossIdeal.Hand.dXArr m, Cert.KernelLossIdeal.Hand.dFArr m, Cert.KernelLossIdeal.Hand.dGArr m, Cert.KernelLossIdeal.Hand.lossArr m, ?_, ?_⟩
  · refine (θ_run Cert.KernelLossIdeal.defs _ _).mono (fun r h c => ?_) (θ_run_and (Cert.KernelLossIdeal.Gen.run_main (F := Ideal) m g) (Cert.KernelLossIdeal.Gen.frame (F := Ideal) m g))
    obtain ⟨r1, r2, r3, r4⟩ := Cert.KernelLossIdeal.Hand.results m h.1 c
    exact ⟨r1, r2, r3, r4, h.2.1 c⟩
  · refine (θ_run Cert.ReferenceLossIdeal.defs _ _).mono (fun r h c => ?_) (Cert.ReferenceLossIdeal.Hand.run_ends m' g')
    obtain ⟨r1, r2, r3, r4, ra⟩ := h c
    obtain ⟨a0, a1, a2, a3⟩ := hargs c
    have e := loss_same_args m m' c a0 a1 a2 a3
    unfold Cert.ReferenceLossIdeal.Hand.dXArr at r1
    unfold Cert.ReferenceLossIdeal.Hand.dFArr at r2
    unfold Cert.ReferenceLossIdeal.Hand.dGArr at r3
    unfold Cert.ReferenceLossIdeal.Hand.lossArr at r4
    rw [e] at r1 r2 r3 r4
    exact ⟨r1, r2, r3, r4, ra⟩

/-! ## The optimiser, projection in -/

theorem adam_same_body (t s) : Cert.KernelAdamIdeal.defs₀ (F := Bits) .tc 0 (t, s) = Cert.KernelAdam.defs₀ (F := Bits) .tc 0 (t, s) := rfl

theorem adam_same_bodies : Cert.KernelAdamIdeal.defs₀ (F := Bits) = Cert.KernelAdam.defs₀ (F := Bits) := by
  funext p ℓ a
  match p, ℓ, a with
  | .tc, 0, (t, s) => exact adam_same_body t s
  | .tc, ⟨_ + 1, h⟩, _ => exact absurd h (Nat.not_lt.2 (Nat.le_add_left _ _))
  | .scScalar _, _, _ => rfl
  | .scVector _ _, _, _ => rfl

theorem adam_same_defs : Cert.KernelAdamIdeal.defs (F := Bits) = Cert.KernelAdam.defs (F := Bits) :=
  congrArg (Pipeline.defs (Cert.KernelAdam.pcfgs (F := Bits))) adam_same_bodies

/-- Again one run serves both frames. -/
theorem frame_adam : Cert.quiescent_KernelAdam := fun m ρ _ => adam_same_defs ▸ Cert.KernelAdamIdeal.Gen.frame (F := Bits) m ρ

theorem frame_adam_ideal : Cert.quiescent_KernelAdamIdeal := fun m ρ _ => Cert.KernelAdamIdeal.Gen.frame (F := Ideal) m ρ

theorem frame_adam_reference : Cert.quiescent_ReferenceAdamIdeal := fun m ρ _ =>
  (θ_run Cert.ReferenceAdamIdeal.defs _ _).mono (fun r h => ⟨fun c => (h c).2.2.2.2,
      Idealize.ShloMosaic.sem_eq_zero_of_no_sems (by decide) r.2⟩)
    (Cert.ReferenceAdamIdeal.Value.run (F := Ideal) m ρ)

theorem adam_same_args (m : (ℓ : Loc Cert.KernelAdamIdeal.nD Cert.KernelAdamIdeal.τ Cert.KernelAdamIdeal.sig) → Buf (Elt Ideal) ℓ)
    (m' : (ℓ : Loc Cert.ReferenceAdamIdeal.nD Cert.ReferenceAdamIdeal.τ Cert.ReferenceAdamIdeal.sig) → Buf (Elt Ideal) ℓ) (c : Dev Cert.KernelAdamIdeal.nD)
    (h0 : m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0))
    (h1 : m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1))
    (h2 : m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2))
    (h3 : m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)) :
    Cert.ReferenceAdamIdeal.Hand.args m' c = Cert.KernelAdamIdeal.Hand.args m c :=
  Cert.ReferenceAdamIdeal.Hand.argsOf_congr h0 h1 h2 h3

/-- From equal arguments the two programs end at the same gradient, change of the weights and moments. -/
theorem algebraic_adam : Cert.algebraic_KernelAdamIdeal_ReferenceAdamIdeal := by
  intro m g m' g' _ hargs
  refine ⟨Cert.KernelAdamIdeal.Hand.gradArr m, Cert.KernelAdamIdeal.Hand.deltaArr m, Cert.KernelAdamIdeal.Hand.momArr m, Cert.KernelAdamIdeal.Hand.varArr m, ?_, ?_⟩
  · refine (θ_run Cert.KernelAdamIdeal.defs _ _).mono (fun r h c => ?_) (θ_run_and (Cert.KernelAdamIdeal.Gen.run_main (F := Ideal) m g) (Cert.KernelAdamIdeal.Gen.frame (F := Ideal) m g))
    obtain ⟨r1, r2, r3, r4⟩ := Cert.KernelAdamIdeal.Hand.results m h.1 c
    exact ⟨r1, r2, r3, r4, h.2.1 c⟩
  · refine (θ_run Cert.ReferenceAdamIdeal.defs _ _).mono (fun r h c => ?_) (Cert.ReferenceAdamIdeal.Hand.run_ends m' g')
    obtain ⟨r1, r2, r3, r4, ra⟩ := h c
    obtain ⟨a0, a1, a2, a3⟩ := hargs c
    have e := adam_same_args m m' c a0 a1 a2 a3
    unfold Cert.ReferenceAdamIdeal.Hand.gradArr at r1
    unfold Cert.ReferenceAdamIdeal.Hand.deltaArr at r2
    unfold Cert.ReferenceAdamIdeal.Hand.momArr at r3
    unfold Cert.ReferenceAdamIdeal.Hand.varArr at r4
    rw [e] at r1 r2 r3 r4
    exact ⟨r1, r2, r3, r4, ra⟩

/-! ## The optimiser, projection out -/

theorem adam_out_same_body (t s) : Cert.KernelAdamOutIdeal.defs₀ (F := Bits) .tc 0 (t, s) = Cert.KernelAdamOut.defs₀ (F := Bits) .tc 0 (t, s) := rfl

theorem adam_out_same_bodies : Cert.KernelAdamOutIdeal.defs₀ (F := Bits) = Cert.KernelAdamOut.defs₀ (F := Bits) := by
  funext p ℓ a
  match p, ℓ, a with
  | .tc, 0, (t, s) => exact adam_out_same_body t s
  | .tc, ⟨_ + 1, h⟩, _ => exact absurd h (Nat.not_lt.2 (Nat.le_add_left _ _))
  | .scScalar _, _, _ => rfl
  | .scVector _ _, _, _ => rfl

theorem adam_out_same_defs : Cert.KernelAdamOutIdeal.defs (F := Bits) = Cert.KernelAdamOut.defs (F := Bits) :=
  congrArg (Pipeline.defs (Cert.KernelAdamOut.pcfgs (F := Bits))) adam_out_same_bodies

/-- Again one run serves both frames. -/
theorem frame_adam_out : Cert.quiescent_KernelAdamOut := fun m ρ _ => adam_out_same_defs ▸ Cert.KernelAdamOutIdeal.Gen.frame (F := Bits) m ρ

theorem frame_adam_out_ideal : Cert.quiescent_KernelAdamOutIdeal := fun m ρ _ => Cert.KernelAdamOutIdeal.Gen.frame (F := Ideal) m ρ

theorem frame_adam_out_reference : Cert.quiescent_ReferenceAdamOutIdeal := fun m ρ _ =>
  (θ_run Cert.ReferenceAdamOutIdeal.defs _ _).mono (fun r h => ⟨fun c => (h c).2.2.2.2,
      Idealize.ShloMosaic.sem_eq_zero_of_no_sems (by decide) r.2⟩)
    (Cert.ReferenceAdamOutIdeal.Value.run (F := Ideal) m ρ)

theorem adam_out_same_args (m : (ℓ : Loc Cert.KernelAdamOutIdeal.nD Cert.KernelAdamOutIdeal.τ Cert.KernelAdamOutIdeal.sig) → Buf (Elt Ideal) ℓ)
    (m' : (ℓ : Loc Cert.ReferenceAdamOutIdeal.nD Cert.ReferenceAdamOutIdeal.τ Cert.ReferenceAdamOutIdeal.sig) → Buf (Elt Ideal) ℓ) (c : Dev Cert.KernelAdamOutIdeal.nD)
    (h0 : m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0))
    (h1 : m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1))
    (h2 : m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2))
    (h3 : m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) :
    Cert.ReferenceAdamOutIdeal.Hand.args m' c = Cert.KernelAdamOutIdeal.Hand.args m c :=
  Cert.ReferenceAdamOutIdeal.Hand.argsOf_congr h0 h1 h2 h3

/-- From equal arguments the two programs end at the same gradient, change of the weights and moments. -/
theorem algebraic_adam_out : Cert.algebraic_KernelAdamOutIdeal_ReferenceAdamOutIdeal := by
  intro m g m' g' _ hargs
  refine ⟨Cert.KernelAdamOutIdeal.Hand.gradArr m, Cert.KernelAdamOutIdeal.Hand.deltaArr m, Cert.KernelAdamOutIdeal.Hand.momArr m, Cert.KernelAdamOutIdeal.Hand.varArr m, ?_, ?_⟩
  · refine (θ_run Cert.KernelAdamOutIdeal.defs _ _).mono (fun r h c => ?_) (θ_run_and (Cert.KernelAdamOutIdeal.Gen.run_main (F := Ideal) m g) (Cert.KernelAdamOutIdeal.Gen.frame (F := Ideal) m g))
    obtain ⟨r1, r2, r3, r4⟩ := Cert.KernelAdamOutIdeal.Hand.results m h.1 c
    exact ⟨r1, r2, r3, r4, h.2.1 c⟩
  · refine (θ_run Cert.ReferenceAdamOutIdeal.defs _ _).mono (fun r h c => ?_) (Cert.ReferenceAdamOutIdeal.Hand.run_ends m' g')
    obtain ⟨r1, r2, r3, r4, ra⟩ := h c
    obtain ⟨a0, a1, a2, a3⟩ := hargs c
    have e := adam_out_same_args m m' c a0 a1 a2 a3
    unfold Cert.ReferenceAdamOutIdeal.Hand.gradArr at r1
    unfold Cert.ReferenceAdamOutIdeal.Hand.deltaArr at r2
    unfold Cert.ReferenceAdamOutIdeal.Hand.momArr at r3
    unfold Cert.ReferenceAdamOutIdeal.Hand.varArr at r4
    rw [e] at r1 r2 r3 r4
    exact ⟨r1, r2, r3, r4, ra⟩

theorem claim : Cert.Claim :=
  ⟨Cert.Kernel.Gen.facts, Cert.KernelIdeal.Gen.facts, Cert.ReferenceIdeal.Gen.facts, Cert.KernelUp.Gen.facts, Cert.KernelUpIdeal.Gen.facts,
    Cert.ReferenceUpIdeal.Gen.facts, Cert.KernelFwd.Gen.facts, Cert.KernelFwdIdeal.Gen.facts, Cert.ReferenceFwdIdeal.Gen.facts,
    Cert.KernelIn.Gen.facts, Cert.KernelInIdeal.Gen.facts, Cert.ReferenceInIdeal.Gen.facts,
    Cert.KernelRms.Gen.facts, Cert.KernelRmsIdeal.Gen.facts, Cert.ReferenceRmsIdeal.Gen.facts,
    Cert.KernelLoss.Gen.facts, Cert.KernelLossIdeal.Gen.facts, Cert.ReferenceLossIdeal.Gen.facts,
    Cert.KernelAdam.Gen.facts, Cert.KernelAdamIdeal.Gen.facts, Cert.ReferenceAdamIdeal.Gen.facts,
    Cert.KernelAdamOut.Gen.facts, Cert.KernelAdamOutIdeal.Gen.facts, Cert.ReferenceAdamOutIdeal.Gen.facts,
    frame_kernel, frame_ideal, frame_reference, frame_up, frame_up_ideal, frame_up_reference, frame_fwd, frame_fwd_ideal, frame_fwd_reference,
    frame_in, frame_in_ideal, frame_in_reference, frame_rms, frame_rms_ideal, frame_rms_reference,
    frame_loss, frame_loss_ideal, frame_loss_reference, frame_adam, frame_adam_ideal, frame_adam_reference,
    frame_adam_out, frame_adam_out_ideal, frame_adam_out_reference,
    trivial, algebraic, trivial, algebraic_up, trivial, algebraic_fwd, trivial, algebraic_in, trivial, algebraic_rms,
    trivial, algebraic_loss, trivial, algebraic_adam, trivial, algebraic_adam_out⟩

end Cert.Proof

end
